-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)) (v4 : (c : Dev Cert.KernelIdeal.nD) → Buf (Elt Ideal) ((c.tc : Thread Cert.KernelIdeal.nD Cert.KernelIdeal.τ).loc Cert.KernelIdeal.main_v44_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v180) = v3 c
          ∧ r.2.mem ((c.tc : Thread Cert.ReferenceIdeal.nD Cert.ReferenceIdeal.τ).loc Cert.ReferenceIdeal.main_v181) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v91) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v75_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v75_4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S32x16x4096 : Shape := ⟨3, ![32, 16, 4096]⟩
abbrev S1x32x4x512x512 : Shape := ⟨5, ![1, 32, 4, 512, 512]⟩
abbrev S1x32x4x512 : Shape := ⟨4, ![1, 32, 4, 512]⟩
abbrev S1x32x4 : Shape := ⟨3, ![1, 32, 4]⟩
abbrev S1x32x3x2048 : Shape := ⟨4, ![1, 32, 3, 2048]⟩
abbrev S1x4x2048 : Shape := ⟨3, ![1, 4, 2048]⟩
abbrev S1x2048 : Shape := ⟨2, ![1, 2048]⟩
abbrev S1x512x4x4 : Shape := ⟨4, ![1, 512, 4, 4]⟩
abbrev S1x6144x4 : Shape := ⟨3, ![1, 6144, 4]⟩
abbrev S1x4 : Shape := ⟨2, ![1, 4]⟩
abbrev S1x512 : Shape := ⟨2, ![1, 512]⟩
abbrev S_ : Shape := ⟨0, ![]⟩

class Facts : Prop where
  bcast_S_S32x16x4096 : S_.BroadcastsInDim S32x16x4096 (![] : Fin 0 → Fin S32x16x4096.rank)
  bcast_S_S1x32x4x512x512 : S_.BroadcastsInDim S1x32x4x512x512 (![] : Fin 0 → Fin S1x32x4x512x512.rank)
  bcast_S_S1x32x4x512 : S_.BroadcastsInDim S1x32x4x512 (![] : Fin 0 → Fin S1x32x4x512.rank)
  bcast_S_S1x32x4 : S_.BroadcastsInDim S1x32x4 (![] : Fin 0 → Fin S1x32x4.rank)
  bcast_S_S1x32x3x2048 : S_.BroadcastsInDim S1x32x3x2048 (![] : Fin 0 → Fin S1x32x3x2048.rank)
  bcast_S_S1x4x2048 : S_.BroadcastsInDim S1x4x2048 (![] : Fin 0 → Fin S1x4x2048.rank)
  bcast_S_S1x2048 : S_.BroadcastsInDim S1x2048 (![] : Fin 0 → Fin S1x2048.rank)
  bcast_S_S1x512x4x4 : S_.BroadcastsInDim S1x512x4x4 (![] : Fin 0 → Fin S1x512x4x4.rank)
  bcast_S_S1x6144x4 : S_.BroadcastsInDim S1x6144x4 (![] : Fin 0 → Fin S1x6144x4.rank)
  bcast_S_S1x4 : S_.BroadcastsInDim S1x4 (![] : Fin 0 → Fin S1x4.rank)
  bcast_S_S1x512 : S_.BroadcastsInDim S1x512 (![] : Fin 0 → Fin S1x512.rank)

variable [Facts]

def fn_part2 {F : FTy → Type} [FloatOps F] (main_arg12 : FVec F S1x6144x4 .f32) (main_arg13 : FVec F S1x4 .f32) (main_arg14 : FVec F S1x512 .f32) (main_arg15 : FVec F S1x2048 .f32) (main_v2 : IVec S32x16x4096 1) (main_v5 : IVec S1x32x4x512x512 1) (main_v8 : IVec S1x32x4x512 1) (main_v11 : IVec S1x32x4 1) (main_v14 : IVec S1x32x3x2048 1) (main_v17 : IVec S1x4x2048 1) (main_v20 : IVec S1x2048 1) (main_v23 : IVec S1x512x4x4 1) (main_v26 : IVec S1x512x4x4 1) (main_v29 : IVec S1x512x4x4 1) (main_v32 : IVec S1x6144x4 1) (main_v35 : IVec S1x4 1) : IVec S32x16x4096 1 × IVec S1x32x4x512x512 1 × IVec S1x32x4x512 1 × IVec S1x32x4 1 × IVec S1x32x3x2048 1 × IVec S1x4x2048 1 × IVec S1x2048 1 × IVec S1x512x4x4 1 × IVec S1x512x4x4 1 × IVec S1x512x4x4 1 × IVec S1x6144x4 1 × IVec S1x4 1 × IVec S1x6144x4 1 × IVec S1x4 1 × IVec S1x512 1 × IVec S1x2048 1 :=
  let main_v36 : FVec F S1x6144x4 .f32 := Host.absf main_arg12
  let main_cst_11 : FVec F S_ .f32 := constant S_ .f32 0x7F800000#32
  let main_v37 : FVec F S1x6144x4 .f32 := broadcastInDim S1x6144x4 ![] bcast_S_S1x6144x4 main_cst_11
  let main_v38 : IVec S1x6144x4 1 := cmpf .olt main_v36 main_v37
  let main_v39 : FVec F S1x4 .f32 := Host.absf main_arg13
  let main_cst_12 : FVec F S_ .f32 := constant S_ .f32 0x7F800000#32
  let main_v40 : FVec F S1x4 .f32 := broadcastInDim S1x4 ![] bcast_S_S1x4 main_cst_12
  let main_v41 : IVec S1x4 1 := cmpf .olt main_v39 main_v40
  let main_v42 : FVec F S1x512 .f32 := Host.absf main_arg14
  let main_cst_13 : FVec F S_ .f32 := constant S_ .f32 0x7F800000#32
  let main_v43 : FVec F S1x512 .f32 := broadcastInDim S1x512 ![] bcast_S_S1x512 main_cst_13
  let main_v44 : IVec S1x512 1 := cmpf .olt main_v42 main_v43
  let main_v45 : FVec F S1x2048 .f32 := Host.absf main_arg15
  let main_cst_14 : FVec F S_ .f32 := constant S_ .f32 0x7F800000#32
  let main_v46 : FVec F S1x2048 .f32 := broadcastInDim S1x2048 ![] bcast_S_S1x2048 main_cst_14
  let main_v47 : IVec S1x2048 1 := cmpf .olt main_v45 main_v46
  (main_v2, main_v5, main_v8, main_v11, main_v14, main_v17, main_v20, main_v23, main_v26, main_v29, main_v32, main_v35, main_v38, main_v41, main_v44, main_v47)

def fn_part1 {F : FTy → Type} [FloatOps F] (main_arg6 : FVec F S1x2048 .f32) (main_arg7 : FVec F S1x512x4x4 .f32) (main_arg8 : FVec F S1x512x4x4 .f32) (main_arg9 : FVec F S1x512x4x4 .f32) (main_arg10 : FVec F S1x6144x4 .f32) (main_arg11 : FVec F S1x4 .f32) (main_arg12 : FVec F S1x6144x4 .f32) (main_arg13 : FVec F S1x4 .f32) (main_arg14 : FVec F S1x512 .f32) (main_arg15 : FVec F S1x2048 .f32) (main_v2 : IVec S32x16x4096 1) (main_v5 : IVec S1x32x4x512x512 1) (main_v8 : IVec S1x32x4x512 1) (main_v11 : IVec S1x32x4 1) (main_v14 : IVec S1x32x3x2048 1) (main_v17 : IVec S1x4x2048 1) : IVec S32x16x4096 1 × IVec S1x32x4x512x512 1 × IVec S1x32x4x512 1 × IVec S1x32x4 1 × IVec S1x32x3x2048 1 × IVec S1x4x2048 1 × IVec S1x2048 1 × IVec S1x512x4x4 1 × IVec S1x512x4x4 1 × IVec S1x512x4x4 1 × IVec S1x6144x4 1 × IVec S1x4 1 × IVec S1x6144x4 1 × IVec S1x4 1 × IVec S1x512 1 × IVec S1x2048 1 :=
  let main_v18 : FVec F S1x2048 .f32 := Host.absf main_arg6
  let main_cst_5 : FVec F S_ .f32 := constant S_ .f32 0x7F800000#32
  let main_v19 : FVec F S1x2048 .f32 := broadcastInDim S1x2048 ![] bcast_S_S1x2048 main_cst_5
  let main_v20 : IVec S1x2048 1 := cmpf .olt main_v18 main_v19
  let main_v21 : FVec F S1x512x4x4 .f32 := Host.absf main_arg7
  let main_cst_6 : FVec F S_ .f32 := constant S_ .f32 0x7F800000#32
  let main_v22 : FVec F S1x512x4x4 .f32 := broadcastInDim S1x512x4x4 ![] bcast_S_S1x512x4x4 main_cst_6
  let main_v23 : IVec S1x512x4x4 1 := cmpf .olt main_v21 main_v22
  let main_v24 : FVec F S1x512x4x4 .f32 := Host.absf main_arg8
  let main_cst_7 : FVec F S_ .f32 := constant S_ .f32 0x7F800000#32
  let main_v25 : FVec F S1x512x4x4 .f32 := broadcastInDim S1x512x4x4 ![] bcast_S_S1x512x4x4 main_cst_7
  let main_v26 : IVec S1x512x4x4 1 := cmpf .olt main_v24 main_v25
  let main_v27 : FVec F S1x512x4x4 .f32 := Host.absf main_arg9
  let main_cst_8 : FVec F S_ .f32 := constant S_ .f32 0x7F800000#32
  let main_v28 : FVec F S1x512x4x4 .f32 := broadcastInDim S1x512x4x4 ![] bcast_S_S1x512x4x4 main_cst_8
  let main_v29 : IVec S1x512x4x4 1 := cmpf .olt main_v27 main_v28
  let main_v30 : FVec F S1x6144x4 .f32 := Host.absf main_arg10
  let main_cst_9 : FVec F S_ .f32 := constant S_ .f32 0x7F800000#32
  let main_v31 : FVec F S1x6144x4 .f32 := broadcastInDim S1x6144x4 ![] bcast_S_S1x6144x4 main_cst_9
  let main_v32 : IVec S1x6144x4 1 := cmpf .olt main_v30 main_v31
  let main_v33 : FVec F S1x4 .f32 := Host.absf main_arg11
  let main_cst_10 : FVec F S_ .f32 := constant S_ .f32 0x7F800000#32
  let main_v34 : FVec F S1x4 .f32 := broadcastInDim S1x4 ![] bcast_S_S1x4 main_cst_10
  let main_v35 : IVec S1x4 1 := cmpf .olt main_v33 main_v34
  fn_part2 (F := F) main_arg12 main_arg13 main_arg14 main_arg15 main_v2 main_v5 main_v8 main_v11 main_v14 main_v17 main_v20 main_v23 main_v26 main_v29 main_v32 main_v35

def fn {F : FTy → Type} [FloatOps F] (main_arg0 : FVec F S32x16x4096 .f32) (main_arg1 : FVec F S1x32x4x512x512 .f32) (main_arg2 : FVec F S1x32x4x512 .f32) (main_arg3 : FVec F S1x32x4 .f32) (main_arg4 : FVec F S1x32x3x2048 .f32) (main_arg5 : FVec F S1x4x2048 .f32) (main_arg6 : FVec F S1x2048 .f32) (main_arg7 : FVec F S1x512x4x4 .f32) (main_arg8 : FVec F S1x512x4x4 .f32) (main_arg9 : FVec F S1x512x4x4 .f32) (main_arg10 : FVec F S1x6144x4 .f32) (main_arg11 : FVec F S1x4 .f32) (main_arg12 : FVec F S1x6144x4 .f32) (main_arg13 : FVec F S1x4 .f32) (main_arg14 : FVec F S1x512 .f32) (main_arg15 : FVec F S1x2048 .f32) : IVec S32x16x4096 1 × IVec S1x32x4x512x512 1 × IVec S1x32x4x512 1 × IVec S1x32x4 1 × IVec S1x32x3x2048 1 × IVec S1x4x2048 1 × IVec S1x2048 1 × IVec S1x512x4x4 1 × IVec S1x512x4x4 1 × IVec S1x512x4x4 1 × IVec S1x6144x4 1 × IVec S1x4 1 × IVec S1x6144x4 1 × IVec S1x4 1 × IVec S1x512 1 × IVec S1x2048 1 :=
  let main_v0 : FVec F S32x16x4096 .f32 := Host.absf main_arg0
  let main_cst : FVec F S_ .f32 := constant S_ .f32 0x7F800000#32
  let main_v1 : FVec F S32x16x4096 .f32 := broadcastInDim S32x16x4096 ![] bcast_S_S32x16x4096 main_cst
  let main_v2 : IVec S32x16x4096 1 := cmpf .olt main_v0 main_v1
  let main_v3 : FVec F S1x32x4x512x512 .f32 := Host.absf main_arg1
  let main_cst_0 : FVec F S_ .f32 := constant S_ .f32 0x7F800000#32
  let main_v4 : FVec F S1x32x4x512x512 .f32 := broadcastInDim S1x32x4x512x512 ![] bcast_S_S1x32x4x512x512 main_cst_0
  let main_v5 : IVec S1x32x4x512x512 1 := cmpf .olt main_v3 main_v4
  let main_v6 : FVec F S1x32x4x512 .f32 := Host.absf main_arg2
  let main_cst_1 : FVec F S_ .f32 := constant S_ .f32 0x7F800000#32
  let main_v7 : FVec F S1x32x4x512 .f32 := broadcastInDim S1x32x4x512 ![] bcast_S_S1x32x4x512 main_cst_1
  let main_v8 : IVec S1x32x4x512 1 := cmpf .olt main_v6 main_v7
  let main_v9 : FVec F S1x32x4 .f32 := Host.absf main_arg3
  let main_cst_2 : FVec F S_ .f32 := constant S_ .f32 0x7F800000#32
  let main_v10 : FVec F S1x32x4 .f32 := broadcastInDim S1x32x4 ![] bcast_S_S1x32x4 main_cst_2
  let main_v11 : IVec S1x32x4 1 := cmpf .olt main_v9 main_v10
  let main_v12 : FVec F S1x32x3x2048 .f32 := Host.absf main_arg4
  let main_cst_3 : FVec F S_ .f32 := constant S_ .f32 0x7F800000#32
  let main_v13 : FVec F S1x32x3x2048 .f32 := broadcastInDim S1x32x3x2048 ![] bcast_S_S1x32x3x2048 main_cst_3
  let main_v14 : IVec S1x32x3x2048 1 := cmpf .olt main_v12 main_v13
  let main_v15 : FVec F S1x4x2048 .f32 := Host.absf main_arg5
  let main_cst_4 : FVec F S_ .f32 := constant S_ .f32 0x7F800000#32
  let main_v16 : FVec F S1x4x2048 .f32 := broadcastInDim S1x4x2048 ![] bcast_S_S1x4x2048 main_cst_4
  let main_v17 : IVec S1x4x2048 1 := cmpf .olt main_v15 main_v16
  fn_part1 (F := F) main_arg6 main_arg7 main_arg8 main_arg9 main_arg10 main_arg11 main_arg12 main_arg13 main_arg14 main_arg15 main_v2 main_v5 main_v8 main_v11 main_v14 main_v17
-- ==== Pre_finite2.lean ====
abbrev S4x4096x1024 : Shape := ⟨3, ![4, 4096, 1024]⟩
abbrev S16384x2048 : Shape := ⟨2, ![16384, 2048]⟩
abbrev S32x16x1024 : Shape := ⟨3, ![32, 16, 1024]⟩
abbrev S512x2048 : Shape := ⟨2, ![512, 2048]⟩
abbrev S1x2048x1024 : Shape := ⟨3, ![1, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  bcast_S_S16384x2048 : S_.BroadcastsInDim S16384x2048 (![] : Fin 0 → Fin S16384x2048.rank)
  bcast_S_S32x16x1024 : S_.BroadcastsInDim S32x16x1024 (![] : Fin 0 → Fin S32x16x1024.rank)
  bcast_S_S512x2048 : S_.BroadcastsInDim S512x2048 (![] : Fin 0 → Fin S512x2048.rank)
  bcast_S_S1x2048x1024 : S_.BroadcastsInDim S1x2048x1024 (![] : Fin 0 → Fin S1x2048x1024.rank)
  bcast_S_S2x1024 : S_.BroadcastsInDim S2x1024 (![] : Fin 0 → Fin S2x1024.rank)
  bcast_S_S2x1024x2816 : S_.BroadcastsInDim S2x1024x2816 (![] : Fin 0 → Fin S2x1024x2816.rank)

variable [Facts]

def fn_part1 {F : FTy → Type} [FloatOps F] (main_arg6 : FVec F S2x1024x2816 .f32) (main_v2 : IVec S4x4096x1024 1) (main_v5 : IVec S16384x2048 1) (main_v8 : IVec S32x16x1024 1) (main_v11 : IVec S512x2048 1) (main_v14 : IVec S1x2048x1024 1) (main_v17 : IVec S2x1024 1) : IVec S4x4096x1024 1 × IVec S16384x2048 1 × IVec S32x16x1024 1 × IVec S512x2048 1 × IVec S1x2048x1024 1 × IVec S2x1024 1 × IVec S2x1024x2816 1 :=
  let main_v18 : FVec F S2x1024x2816 .f32 := Host.absf main_arg6
  let main_cst_5 : FVec F S_ .f32 := constant S_ .f32 0x7F800000#32
  let main_v19 : FVec F S2x1024x2816 .f32 := broadcastInDim S2x1024x2816 ![] bcast_S_S2x1024x2816 main_cst_5
  let main_v20 : IVec S2x1024x2816 1 := cmpf .olt main_v18 main_v19
  (main_v2, main_v5, main_v8, main_v11, main_v14, main_v17, main_v20)

def fn {F : FTy → Type} [FloatOps F] (main_arg0 : FVec F S4x4096x1024 .f32) (main_arg1 : FVec F S16384x2048 .bf16) (main_arg2 : FVec F S32x16x1024 .f32) (main_arg3 : FVec F S512x2048 .bf16) (main_arg4 : FVec F S1x2048x1024 .f32) (main_arg5 : FVec F S2x1024 .f32) (main_arg6 : FVec F S2x1024x2816 .f32) (main_arg7 : FVec F S2x1024x2816 .f32) (main_arg8 : FVec F S2x2816x1024 .f32) (main_arg9 : FVec F S1024 .f32) : IVec S4x4096x1024 1 × IVec S16384x2048 1 × IVec S32x16x1024 1 × IVec S512x2048 1 × IVec S1x2048x1024 1 × IVec S2x1024 1 × IVec S2x1024x2816 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S16384x2048 .bf16 := Host.absf main_arg1
  let main_cst_0 : FVec F S_ .bf16 := constant S_ .bf16 0x7F80#16
  let main_v4 : FVec F S16384x2048 .bf16 := broadcastInDim S16384x2048 ![] bcast_S_S16384x2048 main_cst_0
  let main_v5 : IVec S16384x2048 1 := cmpf .olt main_v3 main_v4
  let main_v6 : FVec F S32x16x1024 .f32 := Host.absf main_arg2
  let main_cst_1 : FVec F S_ .f32 := constant S_ .f32 0x7F800000#32
  let main_v7 : FVec F S32x16x1024 .f32 := broadcastInDim S32x16x1024 ![] bcast_S_S32x16x1024 main_cst_1
  let main_v8 : IVec S32x16x1024 1 := cmpf .olt main_v6 main_v7
  let main_v9 : FVec F S512x2048 .bf16 := Host.absf main_arg3
  let main_cst_2 : FVec F S_ .bf16 := constant S_ .bf16 0x7F80#16
  let main_v10 : FVec F S512x2048 .bf16 := broadcastInDim S512x2048 ![] bcast_S_S512x2048 main_cst_2
  let main_v11 : IVec S512x2048 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  let main_v15 : FVec F S2x1024 .f32 := Host.absf main_arg5
  let main_cst_4 : FVec F S_ .f32 := constant S_ .f32 0x7F800000#32
  let main_v16 : FVec F S2x1024 .f32 := broadcastInDim S2x1024 ![] bcast_S_S2x1024 main_cst_4
  let main_v17 : IVec S2x1024 1 := cmpf .olt main_v15 main_v16
  fn_part1 (F := F) main_arg6 main_v2 main_v5 main_v8 main_v11 main_v14 main_v17
-- ==== Pre_finite3.lean ====
abbrev S4x4096x1024 : Shape := ⟨3, ![4, 4096, 1024]⟩
abbrev S16384x1024 : Shape := ⟨2, ![16384, 1024]⟩
abbrev S32x16x1024 : Shape := ⟨3, ![32, 16, 1024]⟩
abbrev S512x1024 : Shape := ⟨2, ![512, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  bcast_S_S16384x1024 : S_.BroadcastsInDim S16384x1024 (![] : Fin 0 → Fin S16384x1024.rank)
  bcast_S_S32x16x1024 : S_.BroadcastsInDim S32x16x1024 (![] : Fin 0 → Fin S32x16x1024.rank)
  bcast_S_S512x1024 : S_.BroadcastsInDim S512x1024 (![] : Fin 0 → Fin S512x1024.rank)
  bcast_S_S1x1024x1024 : S_.BroadcastsInDim S1x1024x1024 (![] : Fin 0 → Fin S1x1024x1024.rank)
  bcast_S_S2x1024 : S_.BroadcastsInDim S2x1024 (![] : Fin 0 → Fin S2x1024.rank)
  bcast_S_S2x1024x2816 : S_.BroadcastsInDim S2x1024x2816 (![] : Fin 0 → Fin S2x1024x2816.rank)

variable [Facts]

def fn_part1 {F : FTy → Type} [FloatOps F] (main_arg6 : FVec F S2x1024x2816 .f32) (main_v2 : IVec S4x4096x1024 1) (main_v5 : IVec S16384x1024 1) (main_v8 : IVec S32x16x1024 1) (main_v11 : IVec S512x1024 1) (main_v14 : IVec S1x1024x1024 1) (main_v17 : IVec S2x1024 1) : IVec S4x4096x1024 1 × IVec S16384x1024 1 × IVec S32x16x1024 1 × IVec S512x1024 1 × IVec S1x1024x1024 1 × IVec S2x1024 1 × IVec S2x1024x2816 1 :=
  let main_v18 : FVec F S2x1024x2816 .f32 := Host.absf main_arg6
  let main_cst_5 : FVec F S_ .f32 := constant S_ .f32 0x7F800000#32
  let main_v19 : FVec F S2x1024x2816 .f32 := broadcastInDim S2x1024x2816 ![] bcast_S_S2x1024x2816 main_cst_5
  let main_v20 : IVec S2x1024x2816 1 := cmpf .olt main_v18 main_v19
  (main_v2, main_v5, main_v8, main_v11, main_v14, main_v17, main_v20)

def fn {F : FTy → Type} [FloatOps F] (main_arg0 : FVec F S4x4096x1024 .f32) (main_arg1 : FVec F S16384x1024 .bf16) (main_arg2 : FVec F S32x16x1024 .f32) (main_arg3 : FVec F S512x1024 .bf16) (main_arg4 : FVec F S1x1024x1024 .f32) (main_arg5 : FVec F S2x1024 .f32) (main_arg6 : FVec F S2x1024x2816 .f32) (main_arg7 : FVec F S2x1024x2816 .f32) (main_arg8 : FVec F S2x2816x1024 .f32) (main_arg9 : FVec F S1024 .f32) : IVec S4x4096x1024 1 × IVec S16384x1024 1 × IVec S32x16x1024 1 × IVec S512x1024 1 × IVec S1x1024x1024 1 × IVec S2x1024 1 × IVec S2x1024x2816 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S16384x1024 .bf16 := Host.absf main_arg1
  let main_cst_0 : FVec F S_ .bf16 := constant S_ .bf16 0x7F80#16
  let main_v4 : FVec F S16384x1024 .bf16 := broadcastInDim S16384x1024 ![] bcast_S_S16384x1024 main_cst_0
  let main_v5 : IVec S16384x1024 1 := cmpf .olt main_v3 main_v4
  let main_v6 : FVec F S32x16x1024 .f32 := Host.absf main_arg2
  let main_cst_1 : FVec F S_ .f32 := constant S_ .f32 0x7F800000#32
  let main_v7 : FVec F S32x16x1024 .f32 := broadcastInDim S32x16x1024 ![] bcast_S_S32x16x1024 main_cst_1
  let main_v8 : IVec S32x16x1024 1 := cmpf .olt main_v6 main_v7
  let main_v9 : FVec F S512x1024 .bf16 := Host.absf main_arg3
  let main_cst_2 : FVec F S_ .bf16 := constant S_ .bf16 0x7F80#16
  let main_v10 : FVec F S512x1024 .bf16 := broadcastInDim S512x1024 ![] bcast_S_S512x1024 main_cst_2
  let main_v11 : IVec S512x1024 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S2x1024 .f32 := Host.absf main_arg5
  let main_cst_4 : FVec F S_ .f32 := constant S_ .f32 0x7F800000#32
  let main_v16 : FVec F S2x1024 .f32 := broadcastInDim S2x1024 ![] bcast_S_S2x1024 main_cst_4
  let main_v17 : IVec S2x1024 1 := cmpf .olt main_v15 main_v16
  fn_part1 (F := F) main_arg6 main_v2 main_v5 main_v8 main_v11 main_v14 main_v17
-- ==== Kernel.lean ====
abbrev S32x16x4096 : Shape := ⟨3, ![32, 16, 4096]⟩
abbrev S1x32x4x512x512 : Shape := ⟨5, ![1, 32, 4, 512, 512]⟩
abbrev S1x32x4x512 : Shape := ⟨4, ![1, 32, 4, 512]⟩
abbrev S1x32x4 : Shape := ⟨3, ![1, 32, 4]⟩
abbrev S1x32x3x2048 : Shape := ⟨4, ![1, 32, 3, 2048]⟩
abbrev S1x4x2048 : Shape := ⟨3, ![1, 4, 2048]⟩
abbrev S1x2048 : Shape := ⟨2, ![1, 2048]⟩
abbrev S1x512x4x4 : Shape := ⟨4, ![1, 512, 4, 4]⟩
abbrev S1x6144x4 : Shape := ⟨3, ![1, 6144, 4]⟩
abbrev S1x4 : Shape := ⟨2, ![1, 4]⟩
abbrev S1x512 : Shape := ⟨2, ![1, 512]⟩
abbrev S256x256 : Shape := ⟨2, ![256, 256]⟩
abbrev S32x32 : Shape := ⟨2, ![32, 32]⟩
abbrev S6144x4 : Shape := ⟨2, ![6144, 4]⟩
abbrev S6144x8 : Shape := ⟨2, ![6144, 8]⟩
abbrev S_ : Shape := ⟨0, ![]⟩
abbrev S6144x128 : Shape := ⟨2, ![6144, 128]⟩
abbrev S4 : Shape := ⟨1, ![4]⟩
abbrev S8 : Shape := ⟨1, ![8]⟩
abbrev S128 : Shape := ⟨1, ![128]⟩
abbrev S1x128 : Shape := ⟨2, ![1, 128]⟩
abbrev S4x2048 : Shape := ⟨2, ![4, 2048]⟩
abbrev S2048 : Shape := ⟨1, ![2048]⟩
abbrev S512x4x4 : Shape := ⟨3, ![512, 4, 4]⟩
abbrev S8x256x4 : Shape := ⟨3, ![8, 256, 4]⟩
abbrev S1x8x1x256x1x4 : Shape := ⟨6, ![1, 8, 1, 256, 1, 4]⟩
abbrev S1x8x1x256x64x4 : Shape := ⟨6, ![1, 8, 1, 256, 64, 4]⟩
abbrev S8x256x256 : Shape := ⟨3, ![8, 256, 256]⟩
abbrev S512 : Shape := ⟨1, ![512]⟩
abbrev S512x4096 : Shape := ⟨2, ![512, 4096]⟩
abbrev S32x4x512x512 : Shape := ⟨4, ![32, 4, 512, 512]⟩
abbrev S32x4x512 : Shape := ⟨3, ![32, 4, 512]⟩
abbrev S32x4 : Shape := ⟨2, ![32, 4]⟩
abbrev S32x3x2048 : Shape := ⟨3, ![32, 3, 2048]⟩
abbrev S32x1x4 : Shape := ⟨3, ![32, 1, 4]⟩
abbrev S512x2048 : Shape := ⟨2, ![512, 2048]⟩
abbrev S32x4096 : Shape := ⟨2, ![32, 4096]⟩
abbrev S2x4x512x512 : Shape := ⟨4, ![2, 4, 512, 512]⟩
abbrev S2x4x512 : Shape := ⟨3, ![2, 4, 512]⟩
abbrev S2x1x4 : Shape := ⟨3, ![2, 1, 4]⟩
abbrev S2x3x2048 : Shape := ⟨3, ![2, 3, 2048]⟩
abbrev S32x2048 : Shape := ⟨2, ![32, 2048]⟩
abbrev S2x24x2048 : Shape := ⟨3, ![2, 24, 2048]⟩
abbrev S16x2048 : Shape := ⟨2, ![16, 2048]⟩
abbrev S1x16x2048 : Shape := ⟨3, ![1, 16, 2048]⟩
abbrev S1x3x2048 : Shape := ⟨3, ![1, 3, 2048]⟩
abbrev S3x2048 : Shape := ⟨2, ![3, 2048]⟩
abbrev S32x256 : Shape := ⟨2, ![32, 256]⟩
abbrev S1x256x256 : Shape := ⟨3, ![1, 256, 256]⟩
abbrev S2048x128 : Shape := ⟨2, ![2048, 128]⟩
abbrev S32x128 : Shape := ⟨2, ![32, 128]⟩
abbrev S128x32 : Shape := ⟨2, ![128, 32]⟩
abbrev S16x16 : Shape := ⟨2, ![16, 16]⟩
abbrev S16x1 : Shape := ⟨2, ![16, 1]⟩
abbrev S1x16 : Shape := ⟨2, ![1, 16]⟩
abbrev S1x1x1 : Shape := ⟨3, ![1, 1, 1]⟩
abbrev S1x1 : Shape := ⟨2, ![1, 1]⟩
abbrev S16 : Shape := ⟨1, ![16]⟩
abbrev S1x1x512x512 : Shape := ⟨4, ![1, 1, 512, 512]⟩
abbrev S512x512 : Shape := ⟨2, ![512, 512]⟩
abbrev S1x1x512 : Shape := ⟨3, ![1, 1, 512]⟩
abbrev S16x512 : Shape := ⟨2, ![16, 512]⟩

abbrev nBuf : Space → Nat
  | .hbm => 85
  | .vmem => 31
  | .smem => 0
  | _ => 0

abbrev bufTy : (tb : Table) → Fin (tcTables nBuf tb) → BufTy
  | .hbm, ⟨0, _⟩ => ⟨S32x16x4096, .f32⟩
  | .hbm, ⟨1, _⟩ => ⟨S1x32x4x512x512, .f32⟩
  | .hbm, ⟨2, _⟩ => ⟨S1x32x4x512, .f32⟩
  | .hbm, ⟨3, _⟩ => ⟨S1x32x4, .f32⟩
  | .hbm, ⟨4, _⟩ => ⟨S1x32x3x2048, .f32⟩
  | .hbm, ⟨5, _⟩ => ⟨S1x4x2048, .f32⟩
  | .hbm, ⟨6, _⟩ => ⟨S1x2048, .f32⟩
  | .hbm, ⟨7, _⟩ => ⟨S1x512x4x4, .f32⟩
  | .hbm, ⟨8, _⟩ => ⟨S1x512x4x4, .f32⟩
  | .hbm, ⟨9, _⟩ => ⟨S1x512x4x4, .f32⟩
  | .hbm, ⟨10, _⟩ => ⟨S1x6144x4, .f32⟩
  | .hbm, ⟨11, _⟩ => ⟨S1x4, .f32⟩
  | .hbm, ⟨12, _⟩ => ⟨S1x6144x4, .f32⟩
  | .hbm, ⟨13, _⟩ => ⟨S1x4, .f32⟩
  | .hbm, ⟨14, _⟩ => ⟨S1x512, .f32⟩
  | .hbm, ⟨15, _⟩ => ⟨S1x2048, .f32⟩
  | .hbm, ⟨16, _⟩ => ⟨S256x256, .i1⟩
  | .hbm, ⟨17, _⟩ => ⟨S256x256, .i1⟩
  | .hbm, ⟨18, _⟩ => ⟨S256x256, .i1⟩
  | .hbm, ⟨19, _⟩ => ⟨S32x32, .bf16⟩
  | .hbm, ⟨20, _⟩ => ⟨S6144x4, .f32⟩
  | .hbm, ⟨21, _⟩ => ⟨S6144x4, .f32⟩
  | .hbm, ⟨22, _⟩ => ⟨S6144x8, .f32⟩
  | .hbm, ⟨23, _⟩ => ⟨S_, .i32⟩
  | .hbm, ⟨24, _⟩ => ⟨S_, .f32⟩
  | .hbm, ⟨25, _⟩ => ⟨S6144x128, .f32⟩
  | .hbm, ⟨26, _⟩ => ⟨S6144x128, .bf16⟩
  | .hbm, ⟨27, _⟩ => ⟨S4, .f32⟩
  | .hbm, ⟨28, _⟩ => ⟨S4, .f32⟩
  | .hbm, ⟨29, _⟩ => ⟨S8, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S4x2048, .f32⟩
  | .hbm, ⟨35, _⟩ => ⟨S2048, .f32⟩
  | .hbm, ⟨36, _⟩ => ⟨S512x4x4, .f32⟩
  | .hbm, ⟨37, _⟩ => ⟨S8x256x4, .f32⟩
  | .hbm, ⟨38, _⟩ => ⟨S1x8x1x256x1x4, .f32⟩
  | .hbm, ⟨39, _⟩ => ⟨S1x8x1x256x64x4, .f32⟩
  | .hbm, ⟨40, _⟩ => ⟨S8x256x256, .f32⟩
  | .hbm, ⟨41, _⟩ => ⟨S_, .f32⟩
  | .hbm, ⟨42, _⟩ => ⟨S_, .f32⟩
  | .hbm, ⟨43, _⟩ => ⟨S8x256x256, .i1⟩
  | .hbm, ⟨44, _⟩ => ⟨S8x256x256, .f32⟩
  | .hbm, ⟨45, _⟩ => ⟨S8x256x256, .f32⟩
  | .hbm, ⟨46, _⟩ => ⟨S8x256x256, .bf16⟩
  | .hbm, ⟨47, _⟩ => ⟨S512x4x4, .f32⟩
  | .hbm, ⟨48, _⟩ => ⟨S8x256x4, .f32⟩
  | .hbm, ⟨49, _⟩ => ⟨S1x8x1x256x1x4, .f32⟩
  | .hbm, ⟨50, _⟩ => ⟨S1x8x1x256x64x4, .f32⟩
  | .hbm, ⟨51, _⟩ => ⟨S8x256x256, .f32⟩
  | .hbm, ⟨52, _⟩ => ⟨S_, .f32⟩
  | .hbm, ⟨53, _⟩ => ⟨S_, .f32⟩
  | .hbm, ⟨54, _⟩ => ⟨S8x256x256, .i1⟩
  | .hbm, ⟨55, _⟩ => ⟨S8x256x256, .f32⟩
  | .hbm, ⟨56, _⟩ => ⟨S8x256x256, .f32⟩
  | .hbm, ⟨57, _⟩ => ⟨S8x256x256, .bf16⟩
  | .hbm, ⟨58, _⟩ => ⟨S512x4x4, .f32⟩
  | .hbm, ⟨59, _⟩ => ⟨S8x256x4, .f32⟩
  | .hbm, ⟨60, _⟩ => ⟨S1x8x1x256x1x4, .f32⟩
  | .hbm, ⟨61, _⟩ => ⟨S1x8x1x256x64x4, .f32⟩
  | .hbm, ⟨62, _⟩ => ⟨S8x256x256, .f32⟩
  | .hbm, ⟨63, _⟩ => ⟨S_, .f32⟩
  | .hbm, ⟨64, _⟩ => ⟨S_, .f32⟩
  | .hbm, ⟨65, _⟩ => ⟨S8x256x256, .i1⟩
  | .hbm, ⟨66, _⟩ => ⟨S8x256x256, .f32⟩
  | .hbm, ⟨67, _⟩ => ⟨S8x256x256, .f32⟩
  | .hbm, ⟨68, _⟩ => ⟨S8x256x256, .bf16⟩
  | .hbm, ⟨69, _⟩ => ⟨S512, .f32⟩
  | .hbm, ⟨70, _⟩ => ⟨S2048, .f32⟩
  | .hbm, ⟨71, _⟩ => ⟨S512x4096, .f32⟩
  | .hbm, ⟨72, _⟩ => ⟨S32x4x512x512, .f32⟩
  | .hbm, ⟨73, _⟩ => ⟨S32x4x512, .f32⟩
  | .hbm, ⟨74, _⟩ => ⟨S32x4, .f32⟩
  | .hbm, ⟨75, _⟩ => ⟨S32x3x2048, .f32⟩
  | .hbm, ⟨76, _⟩ => ⟨S1x512, .f32⟩
  | .hbm, ⟨77, _⟩ => ⟨S1x2048, .f32⟩
  | .hbm, ⟨78, _⟩ => ⟨S1x2048, .f32⟩
  | .hbm, ⟨79, _⟩ => ⟨S32x1x4, .f32⟩
  | .hbm, ⟨80, _⟩ => ⟨S512x2048, .bf16⟩
  | .hbm, ⟨81, _⟩ => ⟨S32x4x512x512, .f32⟩
  | .hbm, ⟨82, _⟩ => ⟨S32x4x512, .f32⟩
  | .hbm, ⟨83, _⟩ => ⟨S32x1x4, .f32⟩
  | .hbm, ⟨84, _⟩ => ⟨S32x3x2048, .f32⟩
  | .local _ .vmem, ⟨0, _⟩ => ⟨S32x4096, .f32⟩
  | .local _ .vmem, ⟨1, _⟩ => ⟨S32x4096, .f32⟩
  | .local _ .vmem, ⟨2, _⟩ => ⟨S4x2048, .f32⟩
  | .local _ .vmem, ⟨3, _⟩ => ⟨S1x2048, .f32⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S6144x128, .bf16⟩
  | .local _ .vmem, ⟨8, _⟩ => ⟨S1x128, .f32⟩
  | .local _ .vmem, ⟨9, _⟩ => ⟨S32x32, .bf16⟩
  | .local _ .vmem, ⟨10, _⟩ => ⟨S1x512, .f32⟩
  | .local _ .vmem, ⟨11, _⟩ => ⟨S1x2048, .f32⟩
  | .local _ .vmem, ⟨12, _⟩ => ⟨S2x4x512x512, .f32⟩
  | .local _ .vmem, ⟨13, _⟩ => ⟨S2x4x512x512, .f32⟩
  | .local _ .vmem, ⟨14, _⟩ => ⟨S2x4x512, .f32⟩
  | .local _ .vmem, ⟨15, _⟩ => ⟨S2x4x512, .f32⟩
  | .local _ .vmem, ⟨16, _⟩ => ⟨S2x1x4, .f32⟩
  | .local _ .vmem, ⟨17, _⟩ => ⟨S2x1x4, .f32⟩
  | .local _ .vmem, ⟨18, _⟩ => ⟨S2x3x2048, .f32⟩
  | .local _ .vmem, ⟨19, _⟩ => ⟨S2x3x2048, .f32⟩
  | .local _ .vmem, ⟨20, _⟩ => ⟨S32x2048, .bf16⟩
  | .local _ .vmem, ⟨21, _⟩ => ⟨S32x2048, .bf16⟩
  | .local _ .vmem, ⟨22, _⟩ => ⟨S2x4x512x512, .f32⟩
  | .local _ .vmem, ⟨23, _⟩ => ⟨S2x4x512x512, .f32⟩
  | .local _ .vmem, ⟨24, _⟩ => ⟨S2x4x512, .f32⟩
  | .local _ .vmem, ⟨25, _⟩ => ⟨S2x4x512, .f32⟩
  | .local _ .vmem, ⟨26, _⟩ => ⟨S2x1x4, .f32⟩
  | .local _ .vmem, ⟨27, _⟩ => ⟨S2x1x4, .f32⟩
  | .local _ .vmem, ⟨28, _⟩ => ⟨S2x3x2048, .f32⟩
  | .local _ .vmem, ⟨29, _⟩ => ⟨S2x3x2048, .f32⟩
  | .local _ .vmem, ⟨30, _⟩ => ⟨S2x24x2048, .f32⟩
  | _, _ => ⟨S32x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c_2 : Ref sig .tc := ⟨.hbm, 23, rfl⟩
abbrev main_call0_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_3 : Ref sig .tc := ⟨.hbm, 30, rfl⟩
abbrev main_call1_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_5 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44_0 : Ref sig .tc := ⟨.hbm, 80, rfl⟩
abbrev main_v44_1 : Ref sig .tc := ⟨.hbm, 81, rfl⟩
abbrev main_v44_2 : Ref sig .tc := ⟨.hbm, 82, rfl⟩
abbrev main_v44_3 : Ref sig .tc := ⟨.hbm, 83, rfl⟩
abbrev main_v44_4 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_495 : BitVec 32 := 0#32
  let v1246 : BitVec 1 := Scalar.cmpi .eq arg1 c0_i32_495
  let v1247 : BitVec 32 := Scalar.extui v1246
  let c0_i32_496 : BitVec 32 := 0#32
  let v1248 : BitVec 1 := Scalar.cmpi .ne v1247 c0_i32_496
  v1248

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S6144x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x4x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x4x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x1x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S2x3x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x4x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S2x4x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S2x1x4 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S2x3x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== ReferenceIdeal.lean ====
abbrev S32x16x4096 : Shape := ⟨3, ![32, 16, 4096]⟩
abbrev S1x32x4x512x512 : Shape := ⟨5, ![1, 32, 4, 512, 512]⟩
abbrev S1x32x4x512 : Shape := ⟨4, ![1, 32, 4, 512]⟩
abbrev S1x32x4 : Shape := ⟨3, ![1, 32, 4]⟩
abbrev S1x32x3x2048 : Shape := ⟨4, ![1, 32, 3, 2048]⟩
abbrev S1x4x2048 : Shape := ⟨3, ![1, 4, 2048]⟩
abbrev S1x2048 : Shape := ⟨2, ![1, 2048]⟩
abbrev S1x512x4x4 : Shape := ⟨4, ![1, 512, 4, 4]⟩
abbrev S1x6144x4 : Shape := ⟨3, ![1, 6144, 4]⟩
abbrev S1x4 : Shape := ⟨2, ![1, 4]⟩
abbrev S1x512 : Shape := ⟨2, ![1, 512]⟩
abbrev S32x4x512x512 : Shape := ⟨4, ![32, 4, 512, 512]⟩
abbrev S32x4x512 : Shape := ⟨3, ![32, 4, 512]⟩
abbrev S32x4 : Shape := ⟨2, ![32, 4]⟩
abbrev S32x16x2048 : Shape := ⟨3, ![32, 16, 2048]⟩
abbrev S32x3x2048 : Shape := ⟨3, ![32, 3, 2048]⟩
abbrev S32x19x2048 : Shape := ⟨3, ![32, 19, 2048]⟩
abbrev S4x2048 : Shape := ⟨2, ![4, 2048]⟩
abbrev S2048 : Shape := ⟨1, ![2048]⟩
abbrev S1x1x2048 : Shape := ⟨3, ![1, 1, 2048]⟩
abbrev S_ : Shape := ⟨0, ![]⟩
abbrev S512x4x4 : Shape := ⟨3, ![512, 4, 4]⟩
abbrev S32x16x512x4 : Shape := ⟨4, ![32, 16, 512, 4]⟩
abbrev S512x4x32x16 : Shape := ⟨4, ![512, 4, 32, 16]⟩
abbrev S32x16x6144 : Shape := ⟨3, ![32, 16, 6144]⟩
abbrev S6144x4 : Shape := ⟨2, ![6144, 4]⟩
abbrev S32x16x4 : Shape := ⟨3, ![32, 16, 4]⟩
abbrev S4 : Shape := ⟨1, ![4]⟩
abbrev S1x1x4 : Shape := ⟨3, ![1, 1, 4]⟩
abbrev S32x16x4x512 : Shape := ⟨4, ![32, 16, 4, 512]⟩
abbrev S32x4x16x512 : Shape := ⟨4, ![32, 4, 16, 512]⟩
abbrev S32x4x16 : Shape := ⟨3, ![32, 4, 16]⟩
abbrev S16x16 : Shape := ⟨2, ![16, 16]⟩
abbrev S32x4x16x1 : Shape := ⟨4, ![32, 4, 16, 1]⟩
abbrev S32x4x1x16 : Shape := ⟨4, ![32, 4, 1, 16]⟩
abbrev S32x4x16x16 : Shape := ⟨4, ![32, 4, 16, 16]⟩
abbrev S32x4x1 : Shape := ⟨3, ![32, 4, 1]⟩
abbrev S32x4x1x1 : Shape := ⟨4, ![32, 4, 1, 1]⟩
abbrev S32x16x4x1 : Shape := ⟨4, ![32, 16, 4, 1]⟩
abbrev S512 : Shape := ⟨1, ![512]⟩
abbrev S1x1x1x512 : Shape := ⟨4, ![1, 1, 1, 512]⟩
abbrev S512x2048 : Shape := ⟨2, ![512, 2048]⟩
abbrev S32x1x4 : Shape := ⟨3, ![32, 1, 4]⟩

abbrev nBuf : Space → Nat
  | .hbm => 252
  | .vmem => 0
  | .smem => 0
  | _ => 0

abbrev hbmTy0_0 (i : Nat) : BufTy := match i % 128 with
  | 0 => ⟨S32x16x4096, .f32⟩
  | 1 => ⟨S1x32x4x512x512, .f32⟩
  | 2 => ⟨S1x32x4x512, .f32⟩
  | 3 => ⟨S1x32x4, .f32⟩
  | 4 => ⟨S1x32x3x2048, .f32⟩
  | 5 => ⟨S1x4x2048, .f32⟩
  | 6 => ⟨S1x2048, .f32⟩
  | 7 => ⟨S1x512x4x4, .f32⟩
  | 8 => ⟨S1x512x4x4, .f32⟩
  | 9 => ⟨S1x512x4x4, .f32⟩
  | 10 => ⟨S1x6144x4, .f32⟩
  | 11 => ⟨S1x4, .f32⟩
  | 12 => ⟨S1x6144x4, .f32⟩
  | 13 => ⟨S1x4, .f32⟩
  | 14 => ⟨S1x512, .f32⟩
  | 15 => ⟨S1x2048, .f32⟩
  | 16 => ⟨S32x4x512x512, .f32⟩
  | 17 => ⟨S32x4x512, .f32⟩
  | 18 => ⟨S32x4, .f32⟩
  | 19 => ⟨S32x16x2048, .f32⟩
  | 20 => ⟨S32x16x2048, .f32⟩
  | 21 => ⟨S32x3x2048, .f32⟩
  | 22 => ⟨S32x19x2048, .f32⟩
  | 23 => ⟨S4x2048, .f32⟩
  | 24 => ⟨S2048, .f32⟩
  | 25 => ⟨S32x16x2048, .f32⟩
  | 26 => ⟨S1x2048, .f32⟩
  | 27 => ⟨S2048, .f32⟩
  | 28 => ⟨S1x1x2048, .f32⟩
  | 29 => ⟨S32x16x2048, .f32⟩
  | 30 => ⟨S32x16x2048, .f32⟩
  | 31 => ⟨S1x1x2048, .f32⟩
  | 32 => ⟨S32x16x2048, .f32⟩
  | 33 => ⟨S32x16x2048, .f32⟩
  | 34 => ⟨S32x16x2048, .f32⟩
  | 35 => ⟨S1x2048, .f32⟩
  | 36 => ⟨S2048, .f32⟩
  | 37 => ⟨S1x1x2048, .f32⟩
  | 38 => ⟨S32x16x2048, .f32⟩
  | 39 => ⟨S32x16x2048, .f32⟩
  | 40 => ⟨S32x16x2048, .f32⟩
  | 41 => ⟨S32x16x2048, .f32⟩
  | 42 => ⟨S1x2048, .f32⟩
  | 43 => ⟨S2048, .f32⟩
  | 44 => ⟨S1x1x2048, .f32⟩
  | 45 => ⟨S32x16x2048, .f32⟩
  | 46 => ⟨S32x16x2048, .f32⟩
  | 47 => ⟨S32x16x2048, .f32⟩
  | 48 => ⟨S32x16x2048, .f32⟩
  | 49 => ⟨S1x2048, .f32⟩
  | 50 => ⟨S2048, .f32⟩
  | 51 => ⟨S1x1x2048, .f32⟩
  | 52 => ⟨S32x16x2048, .f32⟩
  | 53 => ⟨S32x16x2048, .f32⟩
  | 54 => ⟨S32x16x2048, .f32⟩
  | 55 => ⟨S32x16x2048, .f32⟩
  | 56 => ⟨S32x16x2048, .f32⟩
  | 57 => ⟨S_, .f32⟩
  | 58 => ⟨S32x16x2048, .f32⟩
  | 59 => ⟨S32x16x2048, .f32⟩
  | 60 => ⟨S_, .f32⟩
  | 61 => ⟨S32x16x2048, .f32⟩
  | 62 => ⟨S32x16x2048, .f32⟩
  | 63 => ⟨S32x16x2048, .f32⟩
  | 64 => ⟨S512x4x4, .f32⟩
  | 65 => ⟨S32x16x512x4, .f32⟩
  | 66 => ⟨S512x4x32x16, .f32⟩
  | 67 => ⟨S32x16x512x4, .f32⟩
  | 68 => ⟨S32x16x2048, .f32⟩
  | 69 => ⟨S512x4x4, .f32⟩
  | 70 => ⟨S32x16x512x4, .f32⟩
  | 71 => ⟨S512x4x32x16, .f32⟩
  | 72 => ⟨S32x16x512x4, .f32⟩
  | 73 => ⟨S32x16x2048, .f32⟩
  | 74 => ⟨S_, .f32⟩
  | 75 => ⟨S32x16x2048, .f32⟩
  | 76 => ⟨S32x16x2048, .f32⟩
  | 77 => ⟨S512x4x4, .f32⟩
  | 78 => ⟨S32x16x512x4, .f32⟩
  | 79 => ⟨S512x4x32x16, .f32⟩
  | 80 => ⟨S32x16x512x4, .f32⟩
  | 81 => ⟨S32x16x2048, .f32⟩
  | 82 => ⟨S32x16x6144, .f32⟩
  | 83 => ⟨S6144x4, .f32⟩
  | 84 => ⟨S32x16x4, .f32⟩
  | 85 => ⟨S4, .f32⟩
  | 86 => ⟨S1x1x4, .f32⟩
  | 87 => ⟨S32x16x4, .f32⟩
  | 88 => ⟨S32x16x4, .f32⟩
  | 89 => ⟨S6144x4, .f32⟩
  | 90 => ⟨S32x16x4, .f32⟩
  | 91 => ⟨S4, .f32⟩
  | 92 => ⟨S1x1x4, .f32⟩
  | 93 => ⟨S32x16x4, .f32⟩
  | 94 => ⟨S32x16x4, .f32⟩
  | 95 => ⟨S32x16x4, .f32⟩
  | 96 => ⟨S_, .f32⟩
  | 97 => ⟨S32x16x4, .f32⟩
  | 98 => ⟨S32x16x4, .f32⟩
  | 99 => ⟨S32x16x4, .f32⟩
  | 100 => ⟨S32x16x4, .f32⟩
  | 101 => ⟨S32x16x4, .i1⟩
  | 102 => ⟨S32x16x4, .f32⟩
  | 103 => ⟨S32x16x4, .f32⟩
  | 104 => ⟨S32x16x4, .f32⟩
  | 105 => ⟨S32x16x4, .f32⟩
  | 106 => ⟨S32x16x4, .f32⟩
  | 107 => ⟨S32x16x4, .f32⟩
  | 108 => ⟨S32x16x4, .f32⟩
  | 109 => ⟨S32x16x4, .f32⟩
  | 110 => ⟨S32x16x4, .f32⟩
  | 111 => ⟨S32x16x4x512, .f32⟩
  | 112 => ⟨S32x4x16x512, .f32⟩
  | 113 => ⟨S32x16x4x512, .f32⟩
  | 114 => ⟨S32x4x16x512, .f32⟩
  | 115 => ⟨S32x16x4x512, .f32⟩
  | 116 => ⟨S32x4x16x512, .f32⟩
  | 117 => ⟨S32x4x16, .f32⟩
  | 118 => ⟨S32x4x16, .f32⟩
  | 119 => ⟨S_, .i1⟩
  | 120 => ⟨S16x16, .i1⟩
  | 121 => ⟨S16x16, .i32⟩
  | 122 => ⟨S_, .i32⟩
  | 123 => ⟨S16x16, .i32⟩
  | 124 => ⟨S16x16, .i32⟩
  | 125 => ⟨S16x16, .i32⟩
  | 126 => ⟨S16x16, .i1⟩
  | 127 => ⟨S_, .i1⟩
  | _ => ⟨S32x16x4096, .f32⟩

abbrev hbmTy0_1 (i : Nat) : BufTy := match i % 128 with
  | 0 => ⟨S16x16, .i1⟩
  | 1 => ⟨S16x16, .i1⟩
  | 2 => ⟨S_, .f32⟩
  | 3 => ⟨S_, .f32⟩
  | 4 => ⟨S32x4x16, .f32⟩
  | 5 => ⟨S32x4x16x1, .f32⟩
  | 6 => ⟨S32x4x1x16, .f32⟩
  | 7 => ⟨S32x4x16x16, .f32⟩
  | 8 => ⟨S32x4x16x16, .f32⟩
  | 9 => ⟨S32x4x16x16, .f32⟩
  | 10 => ⟨S32x4x1x16, .f32⟩
  | 11 => ⟨S32x4x16x16, .f32⟩
  | 12 => ⟨S32x4x16x16, .f32⟩
  | 13 => ⟨S_, .f32⟩
  | 14 => ⟨S_, .f32⟩
  | 15 => ⟨S32x4x16x16, .i1⟩
  | 16 => ⟨S32x4x16x16, .f32⟩
  | 17 => ⟨S32x4x16x16, .f32⟩
  | 18 => ⟨S32x4x1, .f32⟩
  | 19 => ⟨S32x4x16, .f32⟩
  | 20 => ⟨S32x4x16, .f32⟩
  | 21 => ⟨S_, .f32⟩
  | 22 => ⟨S32x4x16, .f32⟩
  | 23 => ⟨S32x4x16, .f32⟩
  | 24 => ⟨S32x4x16x1, .f32⟩
  | 25 => ⟨S32x4x16x16, .f32⟩
  | 26 => ⟨S32x4x16x16, .f32⟩
  | 27 => ⟨S32x4x16x16, .f32⟩
  | 28 => ⟨S32x4x16, .f32⟩
  | 29 => ⟨S32x4x16, .f32⟩
  | 30 => ⟨S32x4x16x16, .f32⟩
  | 31 => ⟨S32x4x16x16, .f32⟩
  | 32 => ⟨S32x4x16x512, .f32⟩
  | 33 => ⟨S32x4x16x1, .f32⟩
  | 34 => ⟨S32x4x16x512, .f32⟩
  | 35 => ⟨S32x4x16x512, .f32⟩
  | 36 => ⟨S32x4x16x512, .f32⟩
  | 37 => ⟨S32x4x16x512, .f32⟩
  | 38 => ⟨S_, .f32⟩
  | 39 => ⟨S32x4x16, .f32⟩
  | 40 => ⟨S32x4x16, .f32⟩
  | 41 => ⟨S32x4x16, .f32⟩
  | 42 => ⟨S32x4x16, .f32⟩
  | 43 => ⟨S32x4x16, .f32⟩
  | 44 => ⟨S32x4x16, .f32⟩
  | 45 => ⟨S32x4x16, .f32⟩
  | 46 => ⟨S32x4x16, .f32⟩
  | 47 => ⟨S32x4x16x1, .f32⟩
  | 48 => ⟨S32x4x16x512, .f32⟩
  | 49 => ⟨S32x4x16x512, .f32⟩
  | 50 => ⟨S32x4x1, .f32⟩
  | 51 => ⟨S32x4, .f32⟩
  | 52 => ⟨S32x4x1, .f32⟩
  | 53 => ⟨S32x4, .f32⟩
  | 54 => ⟨S32x4x1, .f32⟩
  | 55 => ⟨S32x4x16, .f32⟩
  | 56 => ⟨S32x4x16, .f32⟩
  | 57 => ⟨S32x4x16, .f32⟩
  | 58 => ⟨S32x4x1, .f32⟩
  | 59 => ⟨S32x4x16, .f32⟩
  | 60 => ⟨S32x4x16, .f32⟩
  | 61 => ⟨S32x4x16, .f32⟩
  | 62 => ⟨S32x4, .f32⟩
  | 63 => ⟨S32x4, .f32⟩
  | 64 => ⟨S32x4, .f32⟩
  | 65 => ⟨S32x4x1x1, .f32⟩
  | 66 => ⟨S32x4x512x512, .f32⟩
  | 67 => ⟨S32x4x512x512, .f32⟩
  | 68 => ⟨S32x4x16x1, .f32⟩
  | 69 => ⟨S32x4x16x512, .f32⟩
  | 70 => ⟨S32x4x16x512, .f32⟩
  | 71 => ⟨S32x4x512x512, .f32⟩
  | 72 => ⟨S32x4x512x512, .f32⟩
  | 73 => ⟨S32x4x1, .f32⟩
  | 74 => ⟨S32x4x512, .f32⟩
  | 75 => ⟨S32x4x512, .f32⟩
  | 76 => ⟨S32x4x512, .f32⟩
  | 77 => ⟨S32x4x512, .f32⟩
  | 78 => ⟨S32x16x4x512, .f32⟩
  | 79 => ⟨S_, .f32⟩
  | 80 => ⟨S32x16x4, .f32⟩
  | 81 => ⟨S32x16x4x1, .f32⟩
  | 82 => ⟨S_, .f32⟩
  | 83 => ⟨S32x16x4x1, .f32⟩
  | 84 => ⟨S32x16x4x1, .f32⟩
  | 85 => ⟨S32x16x4x512, .f32⟩
  | 86 => ⟨S32x16x4x512, .f32⟩
  | 87 => ⟨S32x16x4x512, .f32⟩
  | 88 => ⟨S_, .f32⟩
  | 89 => ⟨S32x16x4, .f32⟩
  | 90 => ⟨S32x16x4x1, .f32⟩
  | 91 => ⟨S_, .f32⟩
  | 92 => ⟨S32x16x4x1, .f32⟩
  | 93 => ⟨S32x16x4x1, .f32⟩
  | 94 => ⟨S_, .f32⟩
  | 95 => ⟨S32x16x4x1, .f32⟩
  | 96 => ⟨S32x16x4x1, .f32⟩
  | 97 => ⟨S32x16x4x1, .f32⟩
  | 98 => ⟨S32x16x4x512, .f32⟩
  | 99 => ⟨S32x16x4x512, .f32⟩
  | 100 => ⟨S512, .f32⟩
  | 101 => ⟨S1x1x1x512, .f32⟩
  | 102 => ⟨S32x16x4x512, .f32⟩
  | 103 => ⟨S32x16x4x512, .f32⟩
  | 104 => ⟨S32x16x2048, .f32⟩
  | 105 => ⟨S2048, .f32⟩
  | 106 => ⟨S1x1x2048, .f32⟩
  | 107 => ⟨S32x16x2048, .f32⟩
  | 108 => ⟨S32x16x2048, .f32⟩
  | 109 => ⟨S32x16x2048, .f32⟩
  | 110 => ⟨S32x16x2048, .f32⟩
  | 111 => ⟨S32x16x2048, .f32⟩
  | 112 => ⟨S_, .f32⟩
  | 113 => ⟨S32x16x2048, .f32⟩
  | 114 => ⟨S32x16x2048, .f32⟩
  | 115 => ⟨S_, .f32⟩
  | 116 => ⟨S32x16x2048, .f32⟩
  | 117 => ⟨S32x16x2048, .f32⟩
  | 118 => ⟨S32x16x2048, .f32⟩
  | 119 => ⟨S32x16x2048, .f32⟩
  | 120 => ⟨S512x2048, .f32⟩
  | 121 => ⟨S512x2048, .bf16⟩
  | 122 => ⟨S32x1x4, .f32⟩
  | 123 => ⟨S32x3x2048, .f32⟩
  | _ => ⟨S32x16x4096, .f32⟩

abbrev hbmTy (i : Nat) : BufTy := match i / 128 with
  | 0 => hbmTy0_0 i
  | 1 => hbmTy0_1 i
  | _ => ⟨S32x16x4096, .f32⟩

abbrev bufTy : (tb : Table) → Fin (tcTables nBuf tb) → BufTy
  | .hbm, ⟨i, _⟩ => hbmTy i
  | _, _ => ⟨S32x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call1_v0 : Ref sig .tc := ⟨.hbm, 95, rfl⟩
abbrev main_call1_call0_cst : Ref sig .tc := ⟨.hbm, 96, rfl⟩
abbrev main_call1_call0_v0 : Ref sig .tc := ⟨.hbm, 97, rfl⟩
abbrev main_call1_call0_v1 : Ref sig .tc := ⟨.hbm, 98, rfl⟩
abbrev main_call1_call0_v2 : Ref sig .tc := ⟨.hbm, 99, rfl⟩
abbrev main_call1_call0_v3 : Ref sig .tc := ⟨.hbm, 100, rfl⟩
abbrev main_call1_call0_v4 : Ref sig .tc := ⟨.hbm, 101, rfl⟩
abbrev main_call1_call0_v5 : Ref sig .tc := ⟨.hbm, 102, rfl⟩
abbrev main_call1_call0_v6 : Ref sig .tc := ⟨.hbm, 103, rfl⟩
abbrev main_call1_call0_v7 : Ref sig .tc := ⟨.hbm, 104, rfl⟩
abbrev main_call1_call0_v8 : Ref sig .tc := ⟨.hbm, 105, rfl⟩
abbrev main_call1_call0_v9 : Ref sig .tc := ⟨.hbm, 106, rfl⟩
abbrev main_call1_call0_v10 : Ref sig .tc := ⟨.hbm, 107, rfl⟩
abbrev main_call1_call0_v11 : Ref sig .tc := ⟨.hbm, 108, rfl⟩
abbrev main_call1_v1 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c : Ref sig .tc := ⟨.hbm, 119, rfl⟩
abbrev main_v79 : Ref sig .tc := ⟨.hbm, 120, rfl⟩
abbrev main_call2_v0 : Ref sig .tc := ⟨.hbm, 121, rfl⟩
abbrev main_call2_c : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_c_0 : Ref sig .tc := ⟨.hbm, 127, rfl⟩
abbrev main_call2_v5 : Ref sig .tc := ⟨.hbm, 128, rfl⟩
abbrev main_v80 : Ref sig .tc := ⟨.hbm, 129, rfl⟩
abbrev main_call3_call0_cst : Ref sig .tc := ⟨.hbm, 130, rfl⟩
abbrev main_call3_call0_v0 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_0 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_1 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_2 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_3 : Ref sig .tc := ⟨.hbm, 207, rfl⟩
abbrev main_v150 : Ref sig .tc := ⟨.hbm, 208, rfl⟩
abbrev main_v151 : Ref sig .tc := ⟨.hbm, 209, rfl⟩
abbrev main_cst_4 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_5 : Ref sig .tc := ⟨.hbm, 216, rfl⟩
abbrev main_v157 : Ref sig .tc := ⟨.hbm, 217, rfl⟩
abbrev main_v158 : Ref sig .tc := ⟨.hbm, 218, rfl⟩
abbrev main_cst_6 : Ref sig .tc := ⟨.hbm, 219, rfl⟩
abbrev main_v159 : Ref sig .tc := ⟨.hbm, 220, rfl⟩
abbrev main_v160 : Ref sig .tc := ⟨.hbm, 221, rfl⟩
abbrev main_cst_7 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_call5_v0 : Ref sig .tc := ⟨.hbm, 238, rfl⟩
abbrev main_call5_v1 : Ref sig .tc := ⟨.hbm, 239, rfl⟩
abbrev main_call5_cst : Ref sig .tc := ⟨.hbm, 240, rfl⟩
abbrev main_call5_v2 : Ref sig .tc := ⟨.hbm, 241, rfl⟩
abbrev main_call5_v3 : Ref sig .tc := ⟨.hbm, 242, rfl⟩
abbrev main_call5_cst_0 : Ref sig .tc := ⟨.hbm, 243, rfl⟩
abbrev main_call5_v4 : Ref sig .tc := ⟨.hbm, 244, rfl⟩
abbrev main_call5_v5 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩

abbrev nD : Nat := 1
abbrev τ : Topo := Topo.v7x

variable {F : FTy → Type} [FloatOps F]
-- ==== Kernel2.lean ====
abbrev S4x4096x1024 : Shape := ⟨3, ![4, 4096, 1024]⟩
abbrev S16384x2048 : Shape := ⟨2, ![16384, 2048]⟩
abbrev S32x16x1024 : Shape := ⟨3, ![32, 16, 1024]⟩
abbrev S512x2048 : Shape := ⟨2, ![512, 2048]⟩
abbrev S1x2048x1024 : Shape := ⟨3, ![1, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S16384x1024 : Shape := ⟨2, ![16384, 1024]⟩
abbrev S512x1024 : Shape := ⟨2, ![512, 1024]⟩
abbrev S2048x1024 : Shape := ⟨2, ![2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 23
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S16384x2048, .bf16⟩
  | .hbm, ⟨2, _⟩ => ⟨S32x16x1024, .f32⟩
  | .hbm, ⟨3, _⟩ => ⟨S512x2048, .bf16⟩
  | .hbm, ⟨4, _⟩ => ⟨S1x2048x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S1024, .f32⟩
  | .hbm, ⟨10, _⟩ => ⟨S16384x1024, .f32⟩
  | .hbm, ⟨11, _⟩ => ⟨S512x1024, .f32⟩
  | .hbm, ⟨12, _⟩ => ⟨S2048x1024, .f32⟩
  | .hbm, ⟨13, _⟩ => ⟨S2048x1024, .bf16⟩
  | .hbm, ⟨14, _⟩ => ⟨S2x1024x2816, .bf16⟩
  | .hbm, ⟨15, _⟩ => ⟨S2x1024x2816, .bf16⟩
  | .hbm, ⟨16, _⟩ => ⟨S2x2816x1024, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S16384x1024, .f32⟩
  | .hbm, ⟨22, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | .local _ .vmem, ⟨8, _⟩ => ⟨S2048x1024, .bf16⟩
  | .local _ .vmem, ⟨9, _⟩ => ⟨S1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x4096x1024 : Shape := ⟨3, ![4, 4096, 1024]⟩
abbrev S16384x2048 : Shape := ⟨2, ![16384, 2048]⟩
abbrev S32x16x1024 : Shape := ⟨3, ![32, 16, 1024]⟩
abbrev S512x2048 : Shape := ⟨2, ![512, 2048]⟩
abbrev S1x2048x1024 : Shape := ⟨3, ![1, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S4x4096x2048 : Shape := ⟨3, ![4, 4096, 2048]⟩
abbrev S2048x1024 : Shape := ⟨2, ![2048, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x4096x2816 : Shape := ⟨3, ![4, 4096, 2816]⟩
abbrev S1x2816x1024 : Shape := ⟨3, ![1, 2816, 1024]⟩
abbrev S2816x1024 : Shape := ⟨2, ![2816, 1024]⟩
abbrev S16384x1024 : Shape := ⟨2, ![16384, 1024]⟩
abbrev S32x16x2048 : Shape := ⟨3, ![32, 16, 2048]⟩
abbrev S32x16 : Shape := ⟨2, ![32, 16]⟩
abbrev S32x16x1 : Shape := ⟨3, ![32, 16, 1]⟩
abbrev S32x16x2816 : Shape := ⟨3, ![32, 16, 2816]⟩
abbrev S512x1024 : Shape := ⟨2, ![512, 1024]⟩

abbrev nBuf : Space → Nat
  | .hbm => 130
  | .vmem => 0
  | .smem => 0
  | _ => 0

abbrev hbmTy0_0 (i : Nat) : BufTy := match i % 128 with
  | 0 => ⟨S4x4096x1024, .f32⟩
  | 1 => ⟨S16384x2048, .bf16⟩
  | 2 => ⟨S32x16x1024, .f32⟩
  | 3 => ⟨S512x2048, .bf16⟩
  | 4 => ⟨S1x2048x1024, .f32⟩
  | 5 => ⟨S2x1024, .f32⟩
  | 6 => ⟨S2x1024x2816, .f32⟩
  | 7 => ⟨S2x1024x2816, .f32⟩
  | 8 => ⟨S2x2816x1024, .f32⟩
  | 9 => ⟨S1024, .f32⟩
  | 10 => ⟨S4x4096x2048, .bf16⟩
  | 11 => ⟨S4x4096x2048, .f32⟩
  | 12 => ⟨S2048x1024, .f32⟩
  | 13 => ⟨S4x4096x1024, .f32⟩
  | 14 => ⟨S4x4096x1024, .f32⟩
  | 15 => ⟨S1x1024, .f32⟩
  | 16 => ⟨S1024, .f32⟩
  | 17 => ⟨S4x4096x1024, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S_, .f32⟩
  | 25 => ⟨S4x4096x1, .f32⟩
  | 26 => ⟨S4x4096x1, .f32⟩
  | 27 => ⟨S4x4096x1, .f32⟩
  | 28 => ⟨S4x4096x1024, .f32⟩
  | 29 => ⟨S4x4096x1024, .f32⟩
  | 30 => ⟨S1x1x1024, .f32⟩
  | 31 => ⟨S4x4096x1024, .f32⟩
  | 32 => ⟨S4x4096x1024, .f32⟩
  | 33 => ⟨S1x1024x2816, .f32⟩
  | 34 => ⟨S1024x2816, .f32⟩
  | 35 => ⟨S4x4096x2816, .f32⟩
  | 36 => ⟨S4x4096x2816, .f32⟩
  | 37 => ⟨S4x4096x2816, .f32⟩
  | 38 => ⟨S_, .f32⟩
  | 39 => ⟨S4x4096x2816, .f32⟩
  | 40 => ⟨S4x4096x2816, .f32⟩
  | 41 => ⟨S_, .f32⟩
  | 42 => ⟨S4x4096x2816, .f32⟩
  | 43 => ⟨S4x4096x2816, .f32⟩
  | 44 => ⟨S4x4096x2816, .f32⟩
  | 45 => ⟨S1x1024x2816, .f32⟩
  | 46 => ⟨S1024x2816, .f32⟩
  | 47 => ⟨S4x4096x2816, .f32⟩
  | 48 => ⟨S4x4096x2816, .f32⟩
  | 49 => ⟨S1x2816x1024, .f32⟩
  | 50 => ⟨S2816x1024, .f32⟩
  | 51 => ⟨S4x4096x1024, .f32⟩
  | 52 => ⟨S4x4096x1024, .f32⟩
  | 53 => ⟨S4x4096x1024, .f32⟩
  | 54 => ⟨S_, .f32⟩
  | 55 => ⟨S4x4096, .f32⟩
  | 56 => ⟨S4x4096x1, .f32⟩
  | 57 => ⟨S_, .f32⟩
  | 58 => ⟨S4x4096x1, .f32⟩
  | 59 => ⟨S4x4096x1, .f32⟩
  | 60 => ⟨S_, .f32⟩
  | 61 => ⟨S4x4096x1, .f32⟩
  | 62 => ⟨S4x4096x1, .f32⟩
  | 63 => ⟨S4x4096x1, .f32⟩
  | 64 => ⟨S4x4096x1024, .f32⟩
  | 65 => ⟨S4x4096x1024, .f32⟩
  | 66 => ⟨S1x1x1024, .f32⟩
  | 67 => ⟨S4x4096x1024, .f32⟩
  | 68 => ⟨S4x4096x1024, .f32⟩
  | 69 => ⟨S16384x1024, .f32⟩
  | 70 => ⟨S32x16x2048, .bf16⟩
  | 71 => ⟨S32x16x2048, .f32⟩
  | 72 => ⟨S2048x1024, .f32⟩
  | 73 => ⟨S32x16x1024, .f32⟩
  | 74 => ⟨S32x16x1024, .f32⟩
  | 75 => ⟨S1x1024, .f32⟩
  | 76 => ⟨S1024, .f32⟩
  | 77 => ⟨S32x16x1024, .f32⟩
  | 78 => ⟨S_, .f32⟩
  | 79 => ⟨S32x16, .f32⟩
  | 80 => ⟨S32x16x1, .f32⟩
  | 81 => ⟨S_, .f32⟩
  | 82 => ⟨S32x16x1, .f32⟩
  | 83 => ⟨S32x16x1, .f32⟩
  | 84 => ⟨S_, .f32⟩
  | 85 => ⟨S32x16x1, .f32⟩
  | 86 => ⟨S32x16x1, .f32⟩
  | 87 => ⟨S32x16x1, .f32⟩
  | 88 => ⟨S32x16x1024, .f32⟩
  | 89 => ⟨S32x16x1024, .f32⟩
  | 90 => ⟨S1x1x1024, .f32⟩
  | 91 => ⟨S32x16x1024, .f32⟩
  | 92 => ⟨S32x16x1024, .f32⟩
  | 93 => ⟨S1x1024x2816, .f32⟩
  | 94 => ⟨S1024x2816, .f32⟩
  | 95 => ⟨S32x16x2816, .f32⟩
  | 96 => ⟨S32x16x2816, .f32⟩
  | 97 => ⟨S32x16x2816, .f32⟩
  | 98 => ⟨S_, .f32⟩
  | 99 => ⟨S32x16x2816, .f32⟩
  | 100 => ⟨S32x16x2816, .f32⟩
  | 101 => ⟨S_, .f32⟩
  | 102 => ⟨S32x16x2816, .f32⟩
  | 103 => ⟨S32x16x2816, .f32⟩
  | 104 => ⟨S32x16x2816, .f32⟩
  | 105 => ⟨S1x1024x2816, .f32⟩
  | 106 => ⟨S1024x2816, .f32⟩
  | 107 => ⟨S32x16x2816, .f32⟩
  | 108 => ⟨S32x16x2816, .f32⟩
  | 109 => ⟨S1x2816x1024, .f32⟩
  | 110 => ⟨S2816x1024, .f32⟩
  | 111 => ⟨S32x16x1024, .f32⟩
  | 112 => ⟨S32x16x1024, .f32⟩
  | 113 => ⟨S32x16x1024, .f32⟩
  | 114 => ⟨S_, .f32⟩
  | 115 => ⟨S32x16, .f32⟩
  | 116 => ⟨S32x16x1, .f32⟩
  | 117 => ⟨S_, .f32⟩
  | 118 => ⟨S32x16x1, .f32⟩
  | 119 => ⟨S32x16x1, .f32⟩
  | 120 => ⟨S_, .f32⟩
  | 121 => ⟨S32x16x1, .f32⟩
  | 122 => ⟨S32x16x1, .f32⟩
  | 123 => ⟨S32x16x1, .f32⟩
  | 124 => ⟨S32x16x1024, .f32⟩
  | 125 => ⟨S32x16x1024, .f32⟩
  | 126 => ⟨S1x1x1024, .f32⟩
  | 127 => ⟨S32x16x1024, .f32⟩
  | _ => ⟨S4x4096x1024, .f32⟩

abbrev hbmTy0_1 (i : Nat) : BufTy := match i % 128 with
  | 0 => ⟨S32x16x1024, .f32⟩
  | 1 => ⟨S512x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_cst_7 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_8 : Ref sig .tc := ⟨.hbm, 114, rfl⟩
abbrev main_v79 : Ref sig .tc := ⟨.hbm, 115, rfl⟩
abbrev main_v80 : Ref sig .tc := ⟨.hbm, 116, rfl⟩
abbrev main_cst_9 : Ref sig .tc := ⟨.hbm, 117, rfl⟩
abbrev main_v81 : Ref sig .tc := ⟨.hbm, 118, rfl⟩
abbrev main_v82 : Ref sig .tc := ⟨.hbm, 119, rfl⟩
abbrev main_cst_10 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]
-- ==== Kernel3.lean ====
abbrev S4x4096x1024 : Shape := ⟨3, ![4, 4096, 1024]⟩
abbrev S16384x1024 : Shape := ⟨2, ![16384, 1024]⟩
abbrev S32x16x1024 : Shape := ⟨3, ![32, 16, 1024]⟩
abbrev S512x1024 : Shape := ⟨2, ![512, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 23
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S32x16x1024, .f32⟩
  | .hbm, ⟨3, _⟩ => ⟨S512x1024, .bf16⟩
  | .hbm, ⟨4, _⟩ => ⟨S1x1024x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S1024, .f32⟩
  | .hbm, ⟨10, _⟩ => ⟨S16384x1024, .f32⟩
  | .hbm, ⟨11, _⟩ => ⟨S512x1024, .f32⟩
  | .hbm, ⟨12, _⟩ => ⟨S1024x1024, .f32⟩
  | .hbm, ⟨13, _⟩ => ⟨S1024x1024, .bf16⟩
  | .hbm, ⟨14, _⟩ => ⟨S2x1024x2816, .bf16⟩
  | .hbm, ⟨15, _⟩ => ⟨S2x1024x2816, .bf16⟩
  | .hbm, ⟨16, _⟩ => ⟨S2x2816x1024, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S16384x1024, .f32⟩
  | .hbm, ⟨22, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x1024 : Shape := ⟨3, ![4, 4096, 1024]⟩
abbrev S16384x1024 : Shape := ⟨2, ![16384, 1024]⟩
abbrev S32x16x1024 : Shape := ⟨3, ![32, 16, 1024]⟩
abbrev S512x1024 : Shape := ⟨2, ![512, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x4096x2816 : Shape := ⟨3, ![4, 4096, 2816]⟩
abbrev S1x2816x1024 : Shape := ⟨3, ![1, 2816, 1024]⟩
abbrev S2816x1024 : Shape := ⟨2, ![2816, 1024]⟩
abbrev S32x16 : Shape := ⟨2, ![32, 16]⟩
abbrev S32x16x1 : Shape := ⟨3, ![32, 16, 1]⟩
abbrev S32x16x2816 : Shape := ⟨3, ![32, 16, 2816]⟩

abbrev nBuf : Space → Nat
  | .hbm => 98
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S32x16x1024, .f32⟩
  | .hbm, ⟨3, _⟩ => ⟨S512x1024, .bf16⟩
  | .hbm, ⟨4, _⟩ => ⟨S1x1024x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S1024, .f32⟩
  | .hbm, ⟨10, _⟩ => ⟨S4x4096x1024, .bf16⟩
  | .hbm, ⟨11, _⟩ => ⟨S4x4096x1024, .f32⟩
  | .hbm, ⟨12, _⟩ => ⟨S1024x1024, .f32⟩
  | .hbm, ⟨13, _⟩ => ⟨S4x4096x1024, .f32⟩
  | .hbm, ⟨14, _⟩ => ⟨S4x4096x1024, .f32⟩
  | .hbm, ⟨15, _⟩ => ⟨S1x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S1x1024x2816, .f32⟩
  | .hbm, ⟨34, _⟩ => ⟨S1024x2816, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S_, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S1x1024x2816, .f32⟩
  | .hbm, ⟨46, _⟩ => ⟨S1024x2816, .f32⟩
  | .hbm, ⟨47, _⟩ => ⟨S4x4096x2816, .f32⟩
  | .hbm, ⟨48, _⟩ => ⟨S4x4096x2816, .f32⟩
  | .hbm, ⟨49, _⟩ => ⟨S1x2816x1024, .f32⟩
  | .hbm, ⟨50, _⟩ => ⟨S2816x1024, .f32⟩
  | .hbm, ⟨51, _⟩ => ⟨S4x4096x1024, .f32⟩
  | .hbm, ⟨52, _⟩ => ⟨S4x4096x1024, .f32⟩
  | .hbm, ⟨53, _⟩ => ⟨S16384x1024, .f32⟩
  | .hbm, ⟨54, _⟩ => ⟨S32x16x1024, .bf16⟩
  | .hbm, ⟨55, _⟩ => ⟨S32x16x1024, .f32⟩
  | .hbm, ⟨56, _⟩ => ⟨S1024x1024, .f32⟩
  | .hbm, ⟨57, _⟩ => ⟨S32x16x1024, .f32⟩
  | .hbm, ⟨58, _⟩ => ⟨S32x16x1024, .f32⟩
  | .hbm, ⟨59, _⟩ => ⟨S1x1024, .f32⟩
  | .hbm, ⟨60, _⟩ => ⟨S1024, .f32⟩
  | .hbm, ⟨61, _⟩ => ⟨S32x16x1024, .f32⟩
  | .hbm, ⟨62, _⟩ => ⟨S_, .f32⟩
  | .hbm, ⟨63, _⟩ => ⟨S32x16, .f32⟩
  | .hbm, ⟨64, _⟩ => ⟨S32x16x1, .f32⟩
  | .hbm, ⟨65, _⟩ => ⟨S_, .f32⟩
  | .hbm, ⟨66, _⟩ => ⟨S32x16x1, .f32⟩
  | .hbm, ⟨67, _⟩ => ⟨S32x16x1, .f32⟩
  | .hbm, ⟨68, _⟩ => ⟨S_, .f32⟩
  | .hbm, ⟨69, _⟩ => ⟨S32x16x1, .f32⟩
  | .hbm, ⟨70, _⟩ => ⟨S32x16x1, .f32⟩
  | .hbm, ⟨71, _⟩ => ⟨S32x16x1, .f32⟩
  | .hbm, ⟨72, _⟩ => ⟨S32x16x1024, .f32⟩
  | .hbm, ⟨73, _⟩ => ⟨S32x16x1024, .f32⟩
  | .hbm, ⟨74, _⟩ => ⟨S1x1x1024, .f32⟩
  | .hbm, ⟨75, _⟩ => ⟨S32x16x1024, .f32⟩
  | .hbm, ⟨76, _⟩ => ⟨S32x16x1024, .f32⟩
  | .hbm, ⟨77, _⟩ => ⟨S1x1024x2816, .f32⟩
  | .hbm, ⟨78, _⟩ => ⟨S1024x2816, .f32⟩
  | .hbm, ⟨79, _⟩ => ⟨S32x16x2816, .f32⟩
  | .hbm, ⟨80, _⟩ => ⟨S32x16x2816, .f32⟩
  | .hbm, ⟨81, _⟩ => ⟨S32x16x2816, .f32⟩
  | .hbm, ⟨82, _⟩ => ⟨S_, .f32⟩
  | .hbm, ⟨83, _⟩ => ⟨S32x16x2816, .f32⟩
  | .hbm, ⟨84, _⟩ => ⟨S32x16x2816, .f32⟩
  | .hbm, ⟨85, _⟩ => ⟨S_, .f32⟩
  | .hbm, ⟨86, _⟩ => ⟨S32x16x2816, .f32⟩
  | .hbm, ⟨87, _⟩ => ⟨S32x16x2816, .f32⟩
  | .hbm, ⟨88, _⟩ => ⟨S32x16x2816, .f32⟩
  | .hbm, ⟨89, _⟩ => ⟨S1x1024x2816, .f32⟩
  | .hbm, ⟨90, _⟩ => ⟨S1024x2816, .f32⟩
  | .hbm, ⟨91, _⟩ => ⟨S32x16x2816, .f32⟩
  | .hbm, ⟨92, _⟩ => ⟨S32x16x2816, .f32⟩
  | .hbm, ⟨93, _⟩ => ⟨S1x2816x1024, .f32⟩
  | .hbm, ⟨94, _⟩ => ⟨S2816x1024, .f32⟩
  | .hbm, ⟨95, _⟩ => ⟨S32x16x1024, .f32⟩
  | .hbm, ⟨96, _⟩ => ⟨S32x16x1024, .f32⟩
  | .hbm, ⟨97, _⟩ => ⟨S512x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_2 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Kernel4.lean ====
abbrev S32x16x1024 : Shape := ⟨3, ![32, 16, 1024]⟩
abbrev S2x1024 : Shape := ⟨2, ![2, 1024]⟩
abbrev S1x1024x4096 : Shape := ⟨3, ![1, 1024, 4096]⟩
abbrev S512x1024 : Shape := ⟨2, ![512, 1024]⟩
abbrev S1024x4096 : Shape := ⟨2, ![1024, 4096]⟩
abbrev S1x1024 : Shape := ⟨2, ![1, 1024]⟩
abbrev S1024 : Shape := ⟨1, ![1024]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 4
  | .smem => 0
  | _ => 0

abbrev bufTy : (tb : Table) → Fin (tcTables nBuf tb) → BufTy
  | .hbm, ⟨0, _⟩ => ⟨S32x16x1024, .f32⟩
  | .hbm, ⟨1, _⟩ => ⟨S2x1024, .f32⟩
  | .hbm, ⟨2, _⟩ => ⟨S1x1024x4096, .f32⟩
  | .hbm, ⟨3, _⟩ => ⟨S512x1024, .f32⟩
  | .hbm, ⟨4, _⟩ => ⟨S1024x4096, .f32⟩
  | .hbm, ⟨5, _⟩ => ⟨S1024x4096, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S512x4096, .f32⟩
  | .local _ .vmem, ⟨0, _⟩ => ⟨S512x1024, .f32⟩
  | .local _ .vmem, ⟨1, _⟩ => ⟨S1x1024, .f32⟩
  | .local _ .vmem, ⟨2, _⟩ => ⟨S1024x4096, .bf16⟩
  | .local _ .vmem, ⟨3, _⟩ => ⟨S512x4096, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference4Ideal.lean ====
abbrev S32x16x1024 : Shape := ⟨3, ![32, 16, 1024]⟩
abbrev S2x1024 : Shape := ⟨2, ![2, 1024]⟩
abbrev S1x1024x4096 : Shape := ⟨3, ![1, 1024, 4096]⟩
abbrev S1x1024 : Shape := ⟨2, ![1, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S1024x4096 : Shape := ⟨2, ![1024, 4096]⟩
abbrev S32x16x4096 : Shape := ⟨3, ![32, 16, 4096]⟩
abbrev S512x4096 : Shape := ⟨2, ![512, 4096]⟩

abbrev nBuf : Space → Nat
  | .hbm => 24
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S2x1024, .f32⟩
  | .hbm, ⟨2, _⟩ => ⟨S1x1024x4096, .f32⟩
  | .hbm, ⟨3, _⟩ => ⟨S1x1024, .f32⟩
  | .hbm, ⟨4, _⟩ => ⟨S1024, .f32⟩
  | .hbm, ⟨5, _⟩ => ⟨S32x16x1024, .f32⟩
  | .hbm, ⟨6, _⟩ => ⟨S_, .f32⟩
  | .hbm, ⟨7, _⟩ => ⟨S32x16, .f32⟩
  | .hbm, ⟨8, _⟩ => ⟨S32x16x1, .f32⟩
  | .hbm, ⟨9, _⟩ => ⟨S_, .f32⟩
  | .hbm, ⟨10, _⟩ => ⟨S32x16x1, .f32⟩
  | .hbm, ⟨11, _⟩ => ⟨S32x16x1, .f32⟩
  | .hbm, ⟨12, _⟩ => ⟨S_, .f32⟩
  | .hbm, ⟨13, _⟩ => ⟨S32x16x1, .f32⟩
  | .hbm, ⟨14, _⟩ => ⟨S32x16x1, .f32⟩
  | .hbm, ⟨15, _⟩ => ⟨S32x16x1, .f32⟩
  | .hbm, ⟨16, _⟩ => ⟨S32x16x1024, .f32⟩
  | .hbm, ⟨17, _⟩ => ⟨S32x16x1024, .f32⟩
  | .hbm, ⟨18, _⟩ => ⟨S1x1x1024, .f32⟩
  | .hbm, ⟨19, _⟩ => ⟨S32x16x1024, .f32⟩
  | .hbm, ⟨20, _⟩ => ⟨S32x16x1024, .f32⟩
  | .hbm, ⟨21, _⟩ => ⟨S1024x4096, .f32⟩
  | .hbm, ⟨22, _⟩ => ⟨S32x16x4096, .f32⟩
  | .hbm, ⟨23, _⟩ => ⟨S512x4096, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S32x16x1024 : Shape := ⟨3, ![32, 16, 1024]⟩
abbrev S2x1024 : Shape := ⟨2, ![2, 1024]⟩
abbrev S1x1024x4096 : Shape := ⟨3, ![1, 1024, 4096]⟩
abbrev S1024x4096 : Shape := ⟨2, ![1024, 4096]⟩
abbrev S256x4096 : Shape := ⟨2, ![256, 4096]⟩
abbrev S256x128 : Shape := ⟨2, ![256, 128]⟩
abbrev S512x1024 : Shape := ⟨2, ![512, 1024]⟩
abbrev S1x1024 : Shape := ⟨2, ![1, 1024]⟩
abbrev S1024 : Shape := ⟨1, ![1024]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S32x16x1024, .f32⟩
  | .hbm, ⟨1, _⟩ => ⟨S2x1024, .f32⟩
  | .hbm, ⟨2, _⟩ => ⟨S1x1024x4096, .f32⟩
  | .hbm, ⟨3, _⟩ => ⟨S1024x4096, .f32⟩
  | .hbm, ⟨4, _⟩ => ⟨S1024x4096, .bf16⟩
  | .hbm, ⟨5, _⟩ => ⟨S512x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S512x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S512x1024, .f32⟩
  | .local _ .vmem, ⟨5, _⟩ => ⟨S1x1024, .f32⟩
  | .local _ .vmem, ⟨6, _⟩ => ⟨S1024x4096, .bf16⟩
  | .local _ .vmem, ⟨7, _⟩ => ⟨S512x4096, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]
-- ==== Reference5Ideal.lean ====
abbrev S32x16x1024 : Shape := ⟨3, ![32, 16, 1024]⟩
abbrev S2x1024 : Shape := ⟨2, ![2, 1024]⟩
abbrev S1x1024x4096 : Shape := ⟨3, ![1, 1024, 4096]⟩
abbrev S1x1024 : Shape := ⟨2, ![1, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S1024x4096 : Shape := ⟨2, ![1024, 4096]⟩
abbrev S32x16x4096 : Shape := ⟨3, ![32, 16, 4096]⟩
abbrev S512x8x4x128 : Shape := ⟨4, ![512, 8, 4, 128]⟩
abbrev S512x4x8x128 : Shape := ⟨4, ![512, 4, 8, 128]⟩
abbrev S512x4096 : Shape := ⟨2, ![512, 4096]⟩

abbrev nBuf : Space → Nat
  | .hbm => 26
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S2x1024, .f32⟩
  | .hbm, ⟨2, _⟩ => ⟨S1x1024x4096, .f32⟩
  | .hbm, ⟨3, _⟩ => ⟨S1x1024, .f32⟩
  | .hbm, ⟨4, _⟩ => ⟨S1024, .f32⟩
  | .hbm, ⟨5, _⟩ => ⟨S32x16x1024, .f32⟩
  | .hbm, ⟨6, _⟩ => ⟨S_, .f32⟩
  | .hbm, ⟨7, _⟩ => ⟨S32x16, .f32⟩
  | .hbm, ⟨8, _⟩ => ⟨S32x16x1, .f32⟩
  | .hbm, ⟨9, _⟩ => ⟨S_, .f32⟩
  | .hbm, ⟨10, _⟩ => ⟨S32x16x1, .f32⟩
  | .hbm, ⟨11, _⟩ => ⟨S32x16x1, .f32⟩
  | .hbm, ⟨12, _⟩ => ⟨S_, .f32⟩
  | .hbm, ⟨13, _⟩ => ⟨S32x16x1, .f32⟩
  | .hbm, ⟨14, _⟩ => ⟨S32x16x1, .f32⟩
  | .hbm, ⟨15, _⟩ => ⟨S32x16x1, .f32⟩
  | .hbm, ⟨16, _⟩ => ⟨S32x16x1024, .f32⟩
  | .hbm, ⟨17, _⟩ => ⟨S32x16x1024, .f32⟩
  | .hbm, ⟨18, _⟩ => ⟨S1x1x1024, .f32⟩
  | .hbm, ⟨19, _⟩ => ⟨S32x16x1024, .f32⟩
  | .hbm, ⟨20, _⟩ => ⟨S32x16x1024, .f32⟩
  | .hbm, ⟨21, _⟩ => ⟨S1024x4096, .f32⟩
  | .hbm, ⟨22, _⟩ => ⟨S32x16x4096, .f32⟩
  | .hbm, ⟨23, _⟩ => ⟨S512x8x4x128, .f32⟩
  | .hbm, ⟨24, _⟩ => ⟨S512x4x8x128, .f32⟩
  | .hbm, ⟨25, _⟩ => ⟨S512x4096, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel6.lean ====
abbrev S4x4096x1024 : Shape := ⟨3, ![4, 4096, 1024]⟩
abbrev S2x1024 : Shape := ⟨2, ![2, 1024]⟩
abbrev S1x1024x4096 : Shape := ⟨3, ![1, 1024, 4096]⟩
abbrev S1x4x2048 : Shape := ⟨3, ![1, 4, 2048]⟩
abbrev S1x2048 : Shape := ⟨2, ![1, 2048]⟩
abbrev S1x512x4x4 : Shape := ⟨4, ![1, 512, 4, 4]⟩
abbrev S1x6144x4 : Shape := ⟨3, ![1, 6144, 4]⟩
abbrev S1x4 : Shape := ⟨2, ![1, 4]⟩
abbrev S1x512 : Shape := ⟨2, ![1, 512]⟩
abbrev S16384x1024 : Shape := ⟨2, ![16384, 1024]⟩
abbrev S1024x4096 : Shape := ⟨2, ![1024, 4096]⟩
abbrev S6144x4 : Shape := ⟨2, ![6144, 4]⟩
abbrev S6144x8 : Shape := ⟨2, ![6144, 8]⟩
abbrev S_ : Shape := ⟨0, ![]⟩
abbrev S6144x128 : Shape := ⟨2, ![6144, 128]⟩
abbrev S4 : Shape := ⟨1, ![4]⟩
abbrev S8 : Shape := ⟨1, ![8]⟩
abbrev S128 : Shape := ⟨1, ![128]⟩
abbrev S1x128 : Shape := ⟨2, ![1, 128]⟩
abbrev S4x2048 : Shape := ⟨2, ![4, 2048]⟩
abbrev S2048 : Shape := ⟨1, ![2048]⟩
abbrev S512x4x4 : Shape := ⟨3, ![512, 4, 4]⟩
abbrev S8x256x4 : Shape := ⟨3, ![8, 256, 4]⟩
abbrev S1x8x1x256x1x4 : Shape := ⟨6, ![1, 8, 1, 256, 1, 4]⟩
abbrev S1x8x1x256x64x4 : Shape := ⟨6, ![1, 8, 1, 256, 64, 4]⟩
abbrev S8x256x256 : Shape := ⟨3, ![8, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512 : Shape := ⟨1, ![512]⟩
abbrev S1x1024 : Shape := ⟨2, ![1, 1024]⟩
abbrev S1024 : Shape := ⟨1, ![1024]⟩
abbrev S1x1 : Shape := ⟨2, ![1, 1]⟩
abbrev S1x1x1x1 : Shape := ⟨4, ![1, 1, 1, 1]⟩
abbrev S1x256x1x256 : Shape := ⟨4, ![1, 256, 1, 256]⟩
abbrev S16384x2048 : Shape := ⟨2, ![16384, 2048]⟩
abbrev S4x4x512x512 : Shape := ⟨4, ![4, 4, 512, 512]⟩
abbrev S4x4x512 : Shape := ⟨3, ![4, 4, 512]⟩
abbrev S4x1x4 : Shape := ⟨3, ![4, 1, 4]⟩
abbrev S4x3x2048 : Shape := ⟨3, ![4, 3, 2048]⟩
abbrev S256x1024 : Shape := ⟨2, ![256, 1024]⟩
abbrev S256x2048 : Shape := ⟨2, ![256, 2048]⟩
abbrev S1x4x512x512 : Shape := ⟨4, ![1, 4, 512, 512]⟩
abbrev S1x4x512 : Shape := ⟨3, ![1, 4, 512]⟩
abbrev S1x1x4 : Shape := ⟨3, ![1, 1, 4]⟩
abbrev S1x3x2048 : Shape := ⟨3, ![1, 3, 2048]⟩
abbrev S1x264x2048 : Shape := ⟨3, ![1, 264, 2048]⟩
abbrev S1x8x2048 : Shape := ⟨3, ![1, 8, 2048]⟩
abbrev S1024x2048 : Shape := ⟨2, ![1024, 2048]⟩
abbrev S1x256x2048 : Shape := ⟨3, ![1, 256, 2048]⟩
abbrev S3x2048 : Shape := ⟨2, ![3, 2048]⟩
abbrev S1x256x256 : Shape := ⟨3, ![1, 256, 256]⟩
abbrev S2048x128 : Shape := ⟨2, ![2048, 128]⟩
abbrev S256x128 : Shape := ⟨2, ![256, 128]⟩
abbrev S128x256 : Shape := ⟨2, ![128, 256]⟩
abbrev S1x1x1 : Shape := ⟨3, ![1, 1, 1]⟩
abbrev S1x1x512x512 : Shape := ⟨4, ![1, 1, 512, 512]⟩
abbrev S512x512 : Shape := ⟨2, ![512, 512]⟩
abbrev S1x1x512 : Shape := ⟨3, ![1, 1, 512]⟩
abbrev S256x512 : Shape := ⟨2, ![256, 512]⟩

abbrev nBuf : Space → Nat
  | .hbm => 175
  | .vmem => 25
  | .smem => 0
  | _ => 0

abbrev hbmTy0_0 (i : Nat) : BufTy := match i % 128 with
  | 0 => ⟨S4x4096x1024, .f32⟩
  | 1 => ⟨S2x1024, .f32⟩
  | 2 => ⟨S1x1024x4096, .f32⟩
  | 3 => ⟨S1x4x2048, .f32⟩
  | 4 => ⟨S1x2048, .f32⟩
  | 5 => ⟨S1x512x4x4, .f32⟩
  | 6 => ⟨S1x512x4x4, .f32⟩
  | 7 => ⟨S1x512x4x4, .f32⟩
  | 8 => ⟨S1x6144x4, .f32⟩
  | 9 => ⟨S1x4, .f32⟩
  | 10 => ⟨S1x6144x4, .f32⟩
  | 11 => ⟨S1x4, .f32⟩
  | 12 => ⟨S1x512, .f32⟩
  | 13 => ⟨S1x2048, .f32⟩
  | 14 => ⟨S16384x1024, .f32⟩
  | 15 => ⟨S1024x4096, .f32⟩
  | 16 => ⟨S1024x4096, .bf16⟩
  | 17 => ⟨S6144x4, .f32⟩
  | 18 => ⟨S6144x4, .f32⟩
  | 19 => ⟨S6144x8, .f32⟩
  | 20 => ⟨S_, .i32⟩
  | 21 => ⟨S_, .f32⟩
  | 22 => ⟨S6144x128, .f32⟩
  | 23 => ⟨S6144x128, .bf16⟩
  | 24 => ⟨S4, .f32⟩
  | 25 => ⟨S4, .f32⟩
  | 26 => ⟨S8, .f32⟩
  | 27 => ⟨S_, .i32⟩
  | 28 => ⟨S_, .f32⟩
  | 29 => ⟨S128, .f32⟩
  | 30 => ⟨S1x128, .f32⟩
  | 31 => ⟨S4x2048, .f32⟩
  | 32 => ⟨S2048, .f32⟩
  | 33 => ⟨S512x4x4, .f32⟩
  | 34 => ⟨S8x256x4, .f32⟩
  | 35 => ⟨S1x8x1x256x1x4, .f32⟩
  | 36 => ⟨S1x8x1x256x64x4, .f32⟩
  | 37 => ⟨S8x256x256, .f32⟩
  | 38 => ⟨S256, .i32⟩
  | 39 => ⟨S_, .i32⟩
  | 40 => ⟨S_, .i32⟩
  | 41 => ⟨S256, .i32⟩
  | 42 => ⟨S256, .i32⟩
  | 43 => ⟨S256, .i32⟩
  | 44 => ⟨S_, .i32⟩
  | 45 => ⟨S256, .i32⟩
  | 46 => ⟨S256, .i1⟩
  | 47 => ⟨S256, .i32⟩
  | 48 => ⟨S256, .i32⟩
  | 49 => ⟨S_, .i32⟩
  | 50 => ⟨S256, .i32⟩
  | 51 => ⟨S256, .i1⟩
  | 52 => ⟨S256, .i1⟩
  | 53 => ⟨S_, .i32⟩
  | 54 => ⟨S256, .i32⟩
  | 55 => ⟨S256, .i32⟩
  | 56 => ⟨S256, .i32⟩
  | 57 => ⟨S256x1, .i32⟩
  | 58 => ⟨S1x256, .i32⟩
  | 59 => ⟨S256x256, .i32⟩
  | 60 => ⟨S256x256, .i32⟩
  | 61 => ⟨S256x256, .i1⟩
  | 62 => ⟨S_, .f32⟩
  | 63 => ⟨S_, .f32⟩
  | 64 => ⟨S8x256x256, .i1⟩
  | 65 => ⟨S8x256x256, .f32⟩
  | 66 => ⟨S8x256x256, .f32⟩
  | 67 => ⟨S8x256x256, .bf16⟩
  | 68 => ⟨S512x4x4, .f32⟩
  | 69 => ⟨S8x256x4, .f32⟩
  | 70 => ⟨S1x8x1x256x1x4, .f32⟩
  | 71 => ⟨S1x8x1x256x64x4, .f32⟩
  | 72 => ⟨S8x256x256, .f32⟩
  | 73 => ⟨S256, .i32⟩
  | 74 => ⟨S_, .i32⟩
  | 75 => ⟨S_, .i32⟩
  | 76 => ⟨S256, .i32⟩
  | 77 => ⟨S256, .i32⟩
  | 78 => ⟨S256, .i32⟩
  | 79 => ⟨S_, .i32⟩
  | 80 => ⟨S256, .i32⟩
  | 81 => ⟨S256, .i1⟩
  | 82 => ⟨S256, .i32⟩
  | 83 => ⟨S256, .i32⟩
  | 84 => ⟨S_, .i32⟩
  | 85 => ⟨S256, .i32⟩
  | 86 => ⟨S256, .i1⟩
  | 87 => ⟨S256, .i1⟩
  | 88 => ⟨S_, .i32⟩
  | 89 => ⟨S256, .i32⟩
  | 90 => ⟨S256, .i32⟩
  | 91 => ⟨S256, .i32⟩
  | 92 => ⟨S256x1, .i32⟩
  | 93 => ⟨S1x256, .i32⟩
  | 94 => ⟨S256x256, .i32⟩
  | 95 => ⟨S256x256, .i32⟩
  | 96 => ⟨S256x256, .i1⟩
  | 97 => ⟨S_, .f32⟩
  | 98 => ⟨S_, .f32⟩
  | 99 => ⟨S8x256x256, .i1⟩
  | 100 => ⟨S8x256x256, .f32⟩
  | 101 => ⟨S8x256x256, .f32⟩
  | 102 => ⟨S8x256x256, .bf16⟩
  | 103 => ⟨S512x4x4, .f32⟩
  | 104 => ⟨S8x256x4, .f32⟩
  | 105 => ⟨S1x8x1x256x1x4, .f32⟩
  | 106 => ⟨S1x8x1x256x64x4, .f32⟩
  | 107 => ⟨S8x256x256, .f32⟩
  | 108 => ⟨S256, .i32⟩
  | 109 => ⟨S_, .i32⟩
  | 110 => ⟨S_, .i32⟩
  | 111 => ⟨S256, .i32⟩
  | 112 => ⟨S256, .i32⟩
  | 113 => ⟨S256, .i32⟩
  | 114 => ⟨S_, .i32⟩
  | 115 => ⟨S256, .i32⟩
  | 116 => ⟨S256, .i1⟩
  | 117 => ⟨S256, .i32⟩
  | 118 => ⟨S256, .i32⟩
  | 119 => ⟨S_, .i32⟩
  | 120 => ⟨S256, .i32⟩
  | 121 => ⟨S256, .i1⟩
  | 122 => ⟨S256, .i1⟩
  | 123 => ⟨S_, .i32⟩
  | 124 => ⟨S256, .i32⟩
  | 125 => ⟨S256, .i32⟩
  | 126 => ⟨S256, .i32⟩
  | 127 => ⟨S256x1, .i32⟩
  | _ => ⟨S4x4096x1024, .f32⟩

abbrev hbmTy0_1 (i : Nat) : BufTy := match i % 128 with
  | 0 => ⟨S1x256, .i32⟩
  | 1 => ⟨S256x256, .i32⟩
  | 2 => ⟨S256x256, .i32⟩
  | 3 => ⟨S256x256, .i1⟩
  | 4 => ⟨S_, .f32⟩
  | 5 => ⟨S_, .f32⟩
  | 6 => ⟨S8x256x256, .i1⟩
  | 7 => ⟨S8x256x256, .f32⟩
  | 8 => ⟨S8x256x256, .f32⟩
  | 9 => ⟨S8x256x256, .bf16⟩
  | 10 => ⟨S512, .f32⟩
  | 11 => ⟨S2048, .f32⟩
  | 12 => ⟨S1x1024, .f32⟩
  | 13 => ⟨S1024, .f32⟩
  | 14 => ⟨S1x1, .i32⟩
  | 15 => ⟨S1x1, .i32⟩
  | 16 => ⟨S_, .i32⟩
  | 17 => ⟨S1x1, .i32⟩
  | 18 => ⟨S1x1, .i32⟩
  | 19 => ⟨S1x1, .i1⟩
  | 20 => ⟨S1x1, .f32⟩
  | 21 => ⟨S_, .f32⟩
  | 22 => ⟨S256x256, .f32⟩
  | 23 => ⟨S256x256, .i32⟩
  | 24 => ⟨S_, .i32⟩
  | 25 => ⟨S256x256, .i32⟩
  | 26 => ⟨S256x256, .i32⟩
  | 27 => ⟨S256x256, .i32⟩
  | 28 => ⟨S256x256, .i1⟩
  | 29 => ⟨S_, .f32⟩
  | 30 => ⟨S256x256, .f32⟩
  | 31 => ⟨S256x256, .f32⟩
  | 32 => ⟨S1x1x1x1, .f32⟩
  | 33 => ⟨S1x256x1x256, .f32⟩
  | 34 => ⟨S1x256x1x256, .f32⟩
  | 35 => ⟨S1x256x1x256, .f32⟩
  | 36 => ⟨S256x256, .f32⟩
  | 37 => ⟨S256x256, .bf16⟩
  | 38 => ⟨S1x512, .f32⟩
  | 39 => ⟨S1x2048, .f32⟩
  | 40 => ⟨S1x2048, .f32⟩
  | 41 => ⟨S1x1024, .f32⟩
  | 42 => ⟨S16384x2048, .bf16⟩
  | 43 => ⟨S4x4x512x512, .f32⟩
  | 44 => ⟨S4x4x512, .f32⟩
  | 45 => ⟨S4x1x4, .f32⟩
  | 46 => ⟨S4x3x2048, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4x2048, .f32⟩
  | .local _ .vmem, ⟨5, _⟩ => ⟨S1x2048, .f32⟩
  | .local _ .vmem, ⟨6, _⟩ => ⟨S8x256x256, .bf16⟩
  | .local _ .vmem, ⟨7, _⟩ => ⟨S8x256x256, .bf16⟩
  | .local _ .vmem, ⟨8, _⟩ => ⟨S8x256x256, .bf16⟩
  | .local _ .vmem, ⟨9, _⟩ => ⟨S6144x128, .bf16⟩
  | .local _ .vmem, ⟨10, _⟩ => ⟨S1x128, .f32⟩
  | .local _ .vmem, ⟨11, _⟩ => ⟨S256x256, .bf16⟩
  | .local _ .vmem, ⟨12, _⟩ => ⟨S1x512, .f32⟩
  | .local _ .vmem, ⟨13, _⟩ => ⟨S1x2048, .f32⟩
  | .local _ .vmem, ⟨14, _⟩ => ⟨S256x2048, .bf16⟩
  | .local _ .vmem, ⟨15, _⟩ => ⟨S256x2048, .bf16⟩
  | .local _ .vmem, ⟨16, _⟩ => ⟨S1x4x512x512, .f32⟩
  | .local _ .vmem, ⟨17, _⟩ => ⟨S1x4x512x512, .f32⟩
  | .local _ .vmem, ⟨18, _⟩ => ⟨S1x4x512, .f32⟩
  | .local _ .vmem, ⟨19, _⟩ => ⟨S1x4x512, .f32⟩
  | .local _ .vmem, ⟨20, _⟩ => ⟨S1x1x4, .f32⟩
  | .local _ .vmem, ⟨21, _⟩ => ⟨S1x1x4, .f32⟩
  | .local _ .vmem, ⟨22, _⟩ => ⟨S1x3x2048, .f32⟩
  | .local _ .vmem, ⟨23, _⟩ => ⟨S1x3x2048, .f32⟩
  | .local _ .vmem, ⟨24, _⟩ => ⟨S1x264x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_2 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_c : Ref sig .tc := ⟨.hbm, 84, rfl⟩
abbrev main_call4_v9 : Ref sig .tc := ⟨.hbm, 85, rfl⟩
abbrev main_call4_v10 : Ref sig .tc := ⟨.hbm, 86, rfl⟩
abbrev main_call4_v11 : Ref sig .tc := ⟨.hbm, 87, rfl⟩
abbrev main_call4_c_0 : Ref sig .tc := ⟨.hbm, 88, rfl⟩
abbrev main_call4_v12 : Ref sig .tc := ⟨.hbm, 89, rfl⟩
abbrev main_call4_v13 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_cst_3 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_4 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_v5 : Ref sig .tc := ⟨.hbm, 115, rfl⟩
abbrev main_call6_v6 : Ref sig .tc := ⟨.hbm, 116, rfl⟩
abbrev main_call6_v7 : Ref sig .tc := ⟨.hbm, 117, rfl⟩
abbrev main_call6_v8 : Ref sig .tc := ⟨.hbm, 118, rfl⟩
abbrev main_call6_c : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_c_0 : Ref sig .tc := ⟨.hbm, 123, rfl⟩
abbrev main_call6_v12 : Ref sig .tc := ⟨.hbm, 124, rfl⟩
abbrev main_call6_v13 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_cst_5 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_c_6 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_cst_7 : Ref sig .tc := ⟨.hbm, 149, rfl⟩
abbrev main_v67 : Ref sig .tc := ⟨.hbm, 150, rfl⟩
abbrev main_call8_v0 : Ref sig .tc := ⟨.hbm, 151, rfl⟩
abbrev main_call8_c : Ref sig .tc := ⟨.hbm, 152, rfl⟩
abbrev main_call8_v1 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_cst : Ref sig .tc := ⟨.hbm, 157, rfl⟩
abbrev main_call8_v5 : Ref sig .tc := ⟨.hbm, 158, rfl⟩
abbrev main_v68 : Ref sig .tc := ⟨.hbm, 159, rfl⟩
abbrev main_call9_v0 : Ref sig .tc := ⟨.hbm, 160, rfl⟩
abbrev main_call9_v1 : Ref sig .tc := ⟨.hbm, 161, rfl⟩
abbrev main_call9_v2 : Ref sig .tc := ⟨.hbm, 162, rfl⟩
abbrev main_call9_v3 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75_0 : Ref sig .tc := ⟨.hbm, 170, rfl⟩
abbrev main_v75_1 : Ref sig .tc := ⟨.hbm, 171, rfl⟩
abbrev main_v75_2 : Ref sig .tc := ⟨.hbm, 172, rfl⟩
abbrev main_v75_3 : Ref sig .tc := ⟨.hbm, 173, rfl⟩
abbrev main_v75_4 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v722 : BitVec 1 := Scalar.cmpi .eq arg1 c15_i32
  let v723 : BitVec 32 := Scalar.extui v722
  let c0_i32_309 : BitVec 32 := 0#32
  let v724 : BitVec 1 := Scalar.cmpi .ne v723 c0_i32_309
  v724

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S6144x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x4 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x3x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference6Ideal.lean ====
abbrev S4x4096x1024 : Shape := ⟨3, ![4, 4096, 1024]⟩
abbrev S2x1024 : Shape := ⟨2, ![2, 1024]⟩
abbrev S1x1024x4096 : Shape := ⟨3, ![1, 1024, 4096]⟩
abbrev S1x4x2048 : Shape := ⟨3, ![1, 4, 2048]⟩
abbrev S1x2048 : Shape := ⟨2, ![1, 2048]⟩
abbrev S1x512x4x4 : Shape := ⟨4, ![1, 512, 4, 4]⟩
abbrev S1x6144x4 : Shape := ⟨3, ![1, 6144, 4]⟩
abbrev S1x4 : Shape := ⟨2, ![1, 4]⟩
abbrev S1x512 : Shape := ⟨2, ![1, 512]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4096 : Shape := ⟨2, ![1024, 4096]⟩
abbrev S4x4096x4096 : Shape := ⟨3, ![4, 4096, 4096]⟩
abbrev S4x4096x2048 : Shape := ⟨3, ![4, 4096, 2048]⟩
abbrev S4x3x2048 : Shape := ⟨3, ![4, 3, 2048]⟩
abbrev S4x4099x2048 : Shape := ⟨3, ![4, 4099, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x4096, .f32⟩
  | .hbm, ⟨3, _⟩ => ⟨S1x4x2048, .f32⟩
  | .hbm, ⟨4, _⟩ => ⟨S1x2048, .f32⟩
  | .hbm, ⟨5, _⟩ => ⟨S1x512x4x4, .f32⟩
  | .hbm, ⟨6, _⟩ => ⟨S1x512x4x4, .f32⟩
  | .hbm, ⟨7, _⟩ => ⟨S1x512x4x4, .f32⟩
  | .hbm, ⟨8, _⟩ => ⟨S1x6144x4, .f32⟩
  | .hbm, ⟨9, _⟩ => ⟨S1x4, .f32⟩
  | .hbm, ⟨10, _⟩ => ⟨S1x6144x4, .f32⟩
  | .hbm, ⟨11, _⟩ => ⟨S1x4, .f32⟩
  | .hbm, ⟨12, _⟩ => ⟨S1x512, .f32⟩
  | .hbm, ⟨13, _⟩ => ⟨S1x2048, .f32⟩
  | .hbm, ⟨14, _⟩ => ⟨S1x1024, .f32⟩
  | .hbm, ⟨15, _⟩ => ⟨S1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S1024x4096, .f32⟩
  | .hbm, ⟨33, _⟩ => ⟨S4x4096x4096, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x3x2048, .f32⟩
  | .hbm, ⟨38, _⟩ => ⟨S4x4099x2048, .f32⟩
  | .hbm, ⟨39, _⟩ => ⟨S4x3x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Proof.Spec.lean ====
module

public import Idealize.ShloMosaic.Lib.Pointwise

@[expose] public section

set_option maxRecDepth 16384

noncomputable section

/-! # One head of one stream: the stabilised matrix-memory cell, written index by index

A `Head` holds what one head of one stream reads: its queries, keys and values for sixteen tokens, the cumulative log
forget gates, the input gates, and the state before the first token (the stabiliser `mp`, the matrix memory `C`, the
normaliser `n`). The functions below are the cell's formulas over the extended reals. -/

namespace Cert.Spec

open Idealize.ShloMosaic

/-- The inputs of one head of one stream. -/
structure Head where
  q : Fin 16 → Fin 512 → EReal
  k : Fin 16 → Fin 512 → EReal
  v : Fin 16 → Fin 512 → EReal
  bc : Fin 16 → EReal
  ic : Fin 16 → EReal
  mp : EReal
  C : Fin 512 → Fin 512 → EReal
  n : Fin 512 → EReal

variable (U : Head)

/-- The log weight of source token `s` for target token `j`: minus infinity for a later source. -/
def lw (j s : Fin 16) : EReal :=
  if s.val ≤ j.val then U.bc j - U.bc s + U.ic s else Ideal.ofBits .f32 0xFF800000#32

/-- The log weight of the state before the chunk. -/
def lp (j : Fin 16) : EReal := U.bc j + U.mp

/-- The running stabiliser: the largest log weight seen by token `j`. -/
def mj (j : Fin 16) : EReal :=
  max (lp U j) (Finset.univ.fold max (Ideal.ofBits .f32 0xFF800000#32) (fun s => lw U j s))

/-- The stabiliser after the chunk. -/
def mNew : EReal := mj U 15

/-- The stabilised weight of source `s` for target `j`. -/
def wgt (j s : Fin 16) : EReal := Ideal.exp (lw U j s - mj U j)

/-- The stabilised weight of the state before the chunk. -/
def wpr (j : Fin 16) : EReal := Ideal.exp (lp U j - mj U j)

/-- The weighted scores. -/
def sc (j s : Fin 16) : EReal := (∑ d : Fin 512, U.q j d * U.k s d) * wgt U j s

/-- The numerator of the cell's output. -/
def num (j : Fin 16) (v : Fin 512) : EReal :=
  (∑ s : Fin 16, sc U j s * U.v s v) + wpr U j * ∑ d : Fin 512, U.q j d * U.C v d

/-- The normaliser read by token `j`. -/
def den (j : Fin 16) : EReal :=
  (∑ s : Fin 16, sc U j s) + wpr U j * ∑ d : Fin 512, U.q j d * U.n d

/-- The cell's output. -/
def cell (j : Fin 16) (v : Fin 512) : EReal :=
  Ideal.div (num U j v) (max (max (den U j) (-den U j)) (Ideal.exp (-mj U j)))

/-- The weight of token `s` in the state after the chunk. -/
def wsL (s : Fin 16) : EReal := Ideal.exp (U.bc 15 - U.bc s + U.ic s - mNew U)

/-- The weight of the old state in the state after the chunk. -/
def wpL : EReal := Ideal.exp (U.bc 15 + U.mp - mNew U)

/-- The matrix memory after the chunk. -/
def cNew (v d : Fin 512) : EReal :=
  wpL U * U.C v d + ∑ s : Fin 16, wsL U s * U.v s v * U.k s d

/-- The normaliser after the chunk. -/
def nNew (d : Fin 512) : EReal :=
  wpL U * U.n d + ∑ s : Fin 16, wsL U s * U.k s d

/-- The mean over a head's 512 lanes. -/
def mean (f : Fin 512 → EReal) : EReal := Ideal.div (∑ d : Fin 512, f d) (Ideal.ofBits .f32 0x44000000#32)

/-- The head-wise layer normalisation of a row, before its gain. -/
def normed (f : Fin 512 → EReal) (v : Fin 512) : EReal :=
  (f v - mean f) * Ideal.rsqrt (mean (fun d => (f d - mean f) * (f d - mean f)) + Ideal.ofBits .f32 0x358637BD#32)

end Cert.Spec
-- ==== Proof.KUnits.lean ====
module

public import proofs.«01_k».proof.Proof.Gen.KernelIdeal.Skeleton
public import proofs.«01_k».proof.Proof.Spec
public import Idealize.ShloMosaic.Lib.Pointwise

@[expose] public section

set_option maxRecDepth 16384

noncomputable section

/-! One head of one stream of the tile: its stored state and result are the cell's formulas.

A tile holds two streams of sixteen tokens and four heads of 512 lanes. `Q`, `K`, `V` are its queries, keys and values,
`G` its gates (lanes 0-3 the input gates), `B` the cumulative log forget gates (lanes 4-7), `R` the transpose of the two. -/

namespace Cert.KernelIdeal.Cell

open Cert.KernelIdeal Cert.KernelIdeal.Gen Cert.Spec
open Idealize.ShloMosaic Idealize.ShloMosaic.TcCoe Idealize.SL.Sem

variable (Q K V : FVec Ideal S32x2048 .bf16) (G B : FVec Ideal S32x128 .f32) (R : FVec Ideal S128x32 .f32)
  (mp : Vec Ideal S1x1x1 .f32) (cm : Vec Ideal S1x1x512x512 .f32) (nv : Vec Ideal S1x1x512 .f32)

/-- Head `h` of the tile's stream `g`, as the tile's own values hold it. -/
def unit (g : Fin 2) (h : Fin 4) : Head where
  q t d := Q (ix2 ⟨g.val * 16 + t.val, by omega⟩ ⟨h.val * 512 + d.val, by omega⟩)
  k t d := K (ix2 ⟨g.val * 16 + t.val, by omega⟩ ⟨h.val * 512 + d.val, by omega⟩)
  v t d := V (ix2 ⟨g.val * 16 + t.val, by omega⟩ ⟨h.val * 512 + d.val, by omega⟩)
  bc t := B (ix2 ⟨g.val * 16 + t.val, by omega⟩ ⟨4 + h.val, by omega⟩)
  ic t := G (ix2 ⟨g.val * 16 + t.val, by omega⟩ ⟨h.val, by omega⟩)
  mp := mp (ix3 0 0 0)
  C v d := cm (ix4 0 0 v d)
  n d := nv (ix3 0 0 d)

/-- The causal mask at a pair of tokens. -/
theorem mask_at (j s : Fin 16) : k0_pay50 (ix2 j s) = if s.val ≤ j.val then 1#1 else 0#1 := by
  pointwise [k0_pay50]
  revert j s; decide +kernel

/-- A choice by a mask bit is the choice by its condition. -/
theorem select_bit {α : Type} (p : Prop) [Decidable p] (a b : α) :
    Scalar.select (if p then 1#1 else 0#1) a b = if p then a else b := by
  by_cases h : p <;> simp [h, Scalar.select]

/-- Zero minus a number is its negation. -/
theorem zero_minus (x : EReal) : 0 - x = -x := by
  rw [sub_eq_add_neg, zero_add]

variable (hR : ∀ l r, R (ix2 l r) = if l.val < 4 then G (ix2 r l) else B (ix2 r l))
include hR

/-- The stored stabiliser of head 0 of stream 0 of the tile. -/
theorem m_00 : k0_pay224 (k0_pay56 B R mp) (ix3 0 0 0) = mNew (unit Q K V G B mp cm nv 0 0) := by
  unfold mNew mj lp lw unit
  pointwise [k0_pay51, k0_pay52, k0_pay53, k0_pay54, k0_pay55, k0_pay56, k0_pay224, mask_at, hR, select_bit]

/-- The stored stabiliser of head 1 of stream 0 of the tile. -/
theorem m_01 : k0_pay229 (k0_pay75 k0_pay50 (k0_pay67 B) (k0_pay69 R) (k0_pay70 R) mp) (ix3 0 0 0) = mNew (unit Q K V G B mp cm nv 0 1) := by
  unfold mNew mj lp lw unit
  pointwise [k0_pay67, k0_pay69, k0_pay70, k0_pay71, k0_pay72, k0_pay73, k0_pay74, k0_pay75, k0_pay229, mask_at, hR, select_bit]

/-- The stored stabiliser of head 2 of stream 0 of the tile. -/
theorem m_02 : k0_pay234 (k0_pay95 k0_pay50 (k0_pay86 B) (k0_pay88 R) (k0_pay89 mp) (k0_pay90 B) (k0_pay91 R)) (ix3 0 0 0) = mNew (unit Q K V G B mp cm nv 0 2) := by
  unfold mNew mj lp lw unit
  pointwise [k0_pay86, k0_pay88, k0_pay89, k0_pay90, k0_pay91, k0_pay92, k0_pay93, k0_pay94, k0_pay95, k0_pay234, mask_at, hR, select_bit]

/-- The stored stabiliser of head 3 of stream 0 of the tile. -/
theorem m_03 : k0_pay237 (k0_pay113 (k0_pay106 B) (k0_pay109 B R k0_pay50) (k0_pay110 mp)) (ix3 0 0 0) = mNew (unit Q K V G B mp cm nv 0 3) := by
  unfold mNew mj lp lw unit
  pointwise [k0_pay106, k0_pay108, k0_pay109, k0_pay110, k0_pay111, k0_pay112, k0_pay113, k0_pay237, mask_at, hR, select_bit]

/-- The stored stabiliser of head 0 of stream 1 of the tile. -/
theorem m_10 : k0_pay242 (k0_pay130 B R k0_pay50 mp) (ix3 0 0 0) = mNew (unit Q K V G B mp cm nv 1 0) := by
  unfold mNew mj lp lw unit
  pointwise [k0_pay124, k0_pay126, k0_pay127, k0_pay128, k0_pay129, k0_pay130, k0_pay242, mask_at, hR, select_bit]

/-- The stored stabiliser of head 1 of stream 1 of the tile. -/
theorem m_11 : k0_pay247 (k0_pay147 B R k0_pay50 mp) (ix3 0 0 0) = mNew (unit Q K V G B mp cm nv 1 1) := by
  unfold mNew mj lp lw unit
  pointwise [k0_pay141, k0_pay143, k0_pay144, k0_pay145, k0_pay146, k0_pay147, k0_pay247, mask_at, hR, select_bit]

/-- The stored stabiliser of head 2 of stream 1 of the tile. -/
theorem m_12 : k0_pay250 (k0_pay164 B R k0_pay50 mp) (ix3 0 0 0) = mNew (unit Q K V G B mp cm nv 1 2) := by
  unfold mNew mj lp lw unit
  pointwise [k0_pay159, k0_pay160, k0_pay161, k0_pay162, k0_pay163, k0_pay164, k0_pay250, mask_at, hR, select_bit]

/-- The stored stabiliser of head 3 of stream 1 of the tile. -/
theorem m_13 : k0_pay255 (k0_pay180 B R k0_pay50 mp) (ix3 0 0 0) = mNew (unit Q K V G B mp cm nv 1 3) := by
  unfold mNew mj lp lw unit
  pointwise [k0_pay175, k0_pay176, k0_pay177, k0_pay178, k0_pay179, k0_pay180, k0_pay255, mask_at, hR, select_bit]

/-- The output of head 0 of stream 0 of the tile. -/
theorem cell_00 (j : Fin 16) (d : Fin 512) : k0_pay208 (k0_pay55 B R mp) (k0_pay59 B R mp) (k0_pay63 nv) (k0_pay64 Q) (k0_pay191 (k0_pay58 B R mp) (k0_pay64 Q) (k0_pay65 K)) (k0_pay206 (k0_pay58 B R mp) (k0_pay64 Q) (k0_pay65 K) (k0_pay66 V)) (k0_pay207 (k0_pay59 B R mp) (k0_pay62 cm) (k0_pay64 Q)) (ix2 j d) = cell (unit Q K V G B mp cm nv 0 0) j d := by
  unfold cell num den sc wgt wpr mj lp lw unit
  pointwise [k0_pay51, k0_pay52, k0_pay53, k0_pay54, k0_pay55, k0_pay58, k0_pay59, k0_pay62, k0_pay63, k0_pay64, k0_pay65, k0_pay66, k0_pay191, k0_pay206, k0_pay207, k0_pay208, mask_at, hR, select_bit]
  rw [zero_minus]
  rfl

/-- The stored matrix memory of head 0 of stream 0 of the tile. -/
theorem cNew_00 (v d : Fin 512) : k0_pay222 (k0_pay60 G B R mp) (k0_pay61 B R mp) (k0_pay62 cm) (k0_pay65 K) (k0_pay66 V) (ix4 0 0 v d) = cNew (unit Q K V G B mp cm nv 0 0) v d := by
  unfold cNew wsL wpL mNew mj lp lw unit
  pointwise [k0_pay51, k0_pay52, k0_pay53, k0_pay54, k0_pay55, k0_pay56, k0_pay57, k0_pay60, k0_pay61, k0_pay62, k0_pay65, k0_pay66, k0_pay222, mask_at, hR, select_bit]
  exact congrArg _ (Finset.sum_congr rfl fun x _ => congrArg (· * _) (mul_comm _ _))

/-- The stored normaliser of head 0 of stream 0 of the tile. -/
theorem nNew_00 (d : Fin 512) : k0_pay223 (k0_pay60 G B R mp) (k0_pay61 B R mp) (k0_pay63 nv) (k0_pay65 K) (ix3 0 0 d) = nNew (unit Q K V G B mp cm nv 0 0) d := by
  unfold nNew wsL wpL mNew mj lp lw unit
  pointwise [k0_pay51, k0_pay52, k0_pay53, k0_pay54, k0_pay55, k0_pay56, k0_pay57, k0_pay60, k0_pay61, k0_pay63, k0_pay65, k0_pay223, mask_at, hR, select_bit]
  exact congrArg _ (Finset.sum_congr rfl fun x _ => mul_comm _ _)

/-- The output of head 1 of stream 0 of the tile. -/
theorem cell_01 (j : Fin 16) (d : Fin 512) : k0_pay209 (k0_pay74 k0_pay50 (k0_pay67 B) (k0_pay69 R) (k0_pay70 R) mp) (k0_pay78 k0_pay50 (k0_pay67 B) (k0_pay69 R) (k0_pay70 R) mp) (k0_pay82 nv) (k0_pay83 Q) (k0_pay85 V) (k0_pay192 (k0_pay77 k0_pay50 (k0_pay67 B) (k0_pay69 R) (k0_pay70 R) mp) (k0_pay83 Q) (k0_pay84 K)) (k0_pay199 (k0_pay81 cm) (k0_pay83 Q)) (ix2 j d) = cell (unit Q K V G B mp cm nv 0 1) j d := by
  unfold cell num den sc wgt wpr mj lp lw unit
  pointwise [k0_pay67, k0_pay69, k0_pay70, k0_pay71, k0_pay72, k0_pay73, k0_pay74, k0_pay77, k0_pay78, k0_pay81, k0_pay82, k0_pay83, k0_pay84, k0_pay85, k0_pay192, k0_pay199, k0_pay209, mask_at, hR, select_bit]
  rw [zero_minus]
  rfl

/-- The stored matrix memory of head 1 of stream 0 of the tile. -/
theorem cNew_01 (v d : Fin 512) : k0_pay227 (k0_pay84 K) (k0_pay225 (k0_pay79 k0_pay50 (k0_pay67 B) (k0_pay68 G) (k0_pay69 R) (k0_pay70 R) mp) (k0_pay85 V)) (k0_pay226 (k0_pay80 k0_pay50 (k0_pay67 B) (k0_pay69 R) (k0_pay70 R) mp) (k0_pay81 cm)) (ix4 0 0 v d) = cNew (unit Q K V G B mp cm nv 0 1) v d := by
  unfold cNew wsL wpL mNew mj lp lw unit
  pointwise [k0_pay67, k0_pay68, k0_pay69, k0_pay70, k0_pay71, k0_pay72, k0_pay73, k0_pay74, k0_pay75, k0_pay76, k0_pay79, k0_pay80, k0_pay81, k0_pay84, k0_pay85, k0_pay225, k0_pay226, k0_pay227, mask_at, hR, select_bit]
  exact congrArg _ (Finset.sum_congr rfl fun x _ => congrArg (· * _) (mul_comm _ _))

/-- The stored normaliser of head 1 of stream 0 of the tile. -/
theorem nNew_01 (d : Fin 512) : k0_pay228 (k0_pay79 k0_pay50 (k0_pay67 B) (k0_pay68 G) (k0_pay69 R) (k0_pay70 R) mp) (k0_pay80 k0_pay50 (k0_pay67 B) (k0_pay69 R) (k0_pay70 R) mp) (k0_pay82 nv) (k0_pay84 K) (ix3 0 0 d) = nNew (unit Q K V G B mp cm nv 0 1) d := by
  unfold nNew wsL wpL mNew mj lp lw unit
  pointwise [k0_pay67, k0_pay68, k0_pay69, k0_pay70, k0_pay71, k0_pay72, k0_pay73, k0_pay74, k0_pay75, k0_pay76, k0_pay79, k0_pay80, k0_pay82, k0_pay84, k0_pay228, mask_at, hR, select_bit]
  exact congrArg _ (Finset.sum_congr rfl fun x _ => mul_comm _ _)

/-- The output of head 2 of stream 0 of the tile. -/
theorem cell_02 (j : Fin 16) (d : Fin 512) : k0_pay213 (k0_pay94 k0_pay50 (k0_pay86 B) (k0_pay88 R) (k0_pay89 mp) (k0_pay90 B) (k0_pay91 R)) (k0_pay98 k0_pay50 (k0_pay86 B) (k0_pay88 R) (k0_pay89 mp) (k0_pay90 B) (k0_pay91 R)) (k0_pay210 (k0_pay98 k0_pay50 (k0_pay86 B) (k0_pay88 R) (k0_pay89 mp) (k0_pay90 B) (k0_pay91 R)) (k0_pay105 V) (k0_pay193 (k0_pay97 k0_pay50 (k0_pay86 B) (k0_pay88 R) (k0_pay89 mp) (k0_pay90 B) (k0_pay91 R)) (k0_pay103 Q) (k0_pay104 K)) (k0_pay200 (k0_pay101 cm) (k0_pay103 Q))) (k0_pay211 (k0_pay193 (k0_pay97 k0_pay50 (k0_pay86 B) (k0_pay88 R) (k0_pay89 mp) (k0_pay90 B) (k0_pay91 R)) (k0_pay103 Q) (k0_pay104 K))) (k0_pay212 (k0_pay102 nv) (k0_pay103 Q)) (ix2 j d) = cell (unit Q K V G B mp cm nv 0 2) j d := by
  unfold cell num den sc wgt wpr mj lp lw unit
  pointwise [k0_pay86, k0_pay88, k0_pay89, k0_pay90, k0_pay91, k0_pay92, k0_pay93, k0_pay94, k0_pay97, k0_pay98, k0_pay101, k0_pay102, k0_pay103, k0_pay104, k0_pay105, k0_pay193, k0_pay200, k0_pay210, k0_pay211, k0_pay212, k0_pay213, mask_at, hR, select_bit]
  rw [zero_minus]
  rfl

/-- The stored matrix memory of head 2 of stream 0 of the tile. -/
theorem cNew_02 (v d : Fin 512) : k0_pay230 (k0_pay99 k0_pay50 (k0_pay86 B) (k0_pay87 G) (k0_pay88 R) (k0_pay89 mp) (k0_pay90 B) (k0_pay91 R)) (k0_pay100 k0_pay50 (k0_pay86 B) (k0_pay88 R) (k0_pay89 mp) (k0_pay90 B) (k0_pay91 R)) (k0_pay101 cm) (k0_pay104 K) (k0_pay105 V) (ix4 0 0 v d) = cNew (unit Q K V G B mp cm nv 0 2) v d := by
  unfold cNew wsL wpL mNew mj lp lw unit
  pointwise [k0_pay86, k0_pay87, k0_pay88, k0_pay89, k0_pay90, k0_pay91, k0_pay92, k0_pay93, k0_pay94, k0_pay95, k0_pay96, k0_pay99, k0_pay100, k0_pay101, k0_pay104, k0_pay105, k0_pay230, mask_at, hR, select_bit]
  exact congrArg _ (Finset.sum_congr rfl fun x _ => congrArg (· * _) (mul_comm _ _))

/-- The stored normaliser of head 2 of stream 0 of the tile. -/
theorem nNew_02 (d : Fin 512) : k0_pay233 (k0_pay231 (k0_pay100 k0_pay50 (k0_pay86 B) (k0_pay88 R) (k0_pay89 mp) (k0_pay90 B) (k0_pay91 R)) (k0_pay102 nv)) (k0_pay232 (k0_pay99 k0_pay50 (k0_pay86 B) (k0_pay87 G) (k0_pay88 R) (k0_pay89 mp) (k0_pay90 B) (k0_pay91 R)) (k0_pay104 K)) (ix3 0 0 d) = nNew (unit Q K V G B mp cm nv 0 2) d := by
  unfold nNew wsL wpL mNew mj lp lw unit
  pointwise [k0_pay86, k0_pay87, k0_pay88, k0_pay89, k0_pay90, k0_pay91, k0_pay92, k0_pay93, k0_pay94, k0_pay95, k0_pay96, k0_pay99, k0_pay100, k0_pay102, k0_pay104, k0_pay231, k0_pay232, k0_pay233, mask_at, hR, select_bit]
  exact congrArg _ (Finset.sum_congr rfl fun x _ => mul_comm _ _)

/-- The output of head 3 of stream 0 of the tile. -/
theorem cell_03 (j : Fin 16) (d : Fin 512) : k0_pay214 (k0_pay112 (k0_pay106 B) (k0_pay109 B R k0_pay50) (k0_pay110 mp)) (k0_pay116 (k0_pay106 B) (k0_pay109 B R k0_pay50) (k0_pay110 mp)) (k0_pay120 nv) (k0_pay121 Q) (k0_pay123 V) (k0_pay194 (k0_pay115 (k0_pay106 B) (k0_pay109 B R k0_pay50) (k0_pay110 mp)) (k0_pay121 Q) (k0_pay122 K)) (k0_pay201 (k0_pay119 cm) (k0_pay121 Q)) (ix2 j d) = cell (unit Q K V G B mp cm nv 0 3) j d := by
  unfold cell num den sc wgt wpr mj lp lw unit
  pointwise [k0_pay106, k0_pay108, k0_pay109, k0_pay110, k0_pay111, k0_pay112, k0_pay115, k0_pay116, k0_pay119, k0_pay120, k0_pay121, k0_pay122, k0_pay123, k0_pay194, k0_pay201, k0_pay214, mask_at, hR, select_bit]
  rw [zero_minus]
  rfl

/-- The stored matrix memory of head 3 of stream 0 of the tile. -/
theorem cNew_03 (v d : Fin 512) : k0_pay235 (k0_pay117 (k0_pay106 B) (k0_pay107 G) (k0_pay109 B R k0_pay50) (k0_pay110 mp)) (k0_pay118 (k0_pay106 B) (k0_pay108 mp) (k0_pay109 B R k0_pay50) (k0_pay110 mp)) (k0_pay119 cm) (k0_pay122 K) (k0_pay123 V) (ix4 0 0 v d) = cNew (unit Q K V G B mp cm nv 0 3) v d := by
  unfold cNew wsL wpL mNew mj lp lw unit
  pointwise [k0_pay106, k0_pay107, k0_pay108, k0_pay109, k0_pay110, k0_pay111, k0_pay112, k0_pay113, k0_pay114, k0_pay117, k0_pay118, k0_pay119, k0_pay122, k0_pay123, k0_pay235, mask_at, hR, select_bit]
  exact congrArg _ (Finset.sum_congr rfl fun x _ => congrArg (· * _) (mul_comm _ _))

/-- The stored normaliser of head 3 of stream 0 of the tile. -/
theorem nNew_03 (d : Fin 512) : k0_pay236 (k0_pay117 (k0_pay106 B) (k0_pay107 G) (k0_pay109 B R k0_pay50) (k0_pay110 mp)) (k0_pay118 (k0_pay106 B) (k0_pay108 mp) (k0_pay109 B R k0_pay50) (k0_pay110 mp)) (k0_pay120 nv) (k0_pay122 K) (ix3 0 0 d) = nNew (unit Q K V G B mp cm nv 0 3) d := by
  unfold nNew wsL wpL mNew mj lp lw unit
  pointwise [k0_pay106, k0_pay107, k0_pay108, k0_pay109, k0_pay110, k0_pay111, k0_pay112, k0_pay113, k0_pay114, k0_pay117, k0_pay118, k0_pay120, k0_pay122, k0_pay236, mask_at, hR, select_bit]
  exact congrArg _ (Finset.sum_congr rfl fun x _ => mul_comm _ _)

/-- The output of head 0 of stream 1 of the tile. -/
theorem cell_10 (j : Fin 16) (d : Fin 512) : k0_pay215 (k0_pay129 B R k0_pay50 mp) (k0_pay133 (k0_pay128 B mp) (k0_pay129 B R k0_pay50 mp)) (k0_pay137 nv) (k0_pay138 Q) (k0_pay140 V) (k0_pay195 (k0_pay132 (k0_pay127 B R k0_pay50) (k0_pay129 B R k0_pay50 mp)) (k0_pay138 Q) (k0_pay139 K)) (k0_pay202 (k0_pay136 cm) (k0_pay138 Q)) (ix2 j d) = cell (unit Q K V G B mp cm nv 1 0) j d := by
  unfold cell num den sc wgt wpr mj lp lw unit
  pointwise [k0_pay124, k0_pay126, k0_pay127, k0_pay128, k0_pay129, k0_pay132, k0_pay133, k0_pay136, k0_pay137, k0_pay138, k0_pay139, k0_pay140, k0_pay195, k0_pay202, k0_pay215, mask_at, hR, select_bit]
  rw [zero_minus]
  rfl

/-- The stored matrix memory of head 0 of stream 1 of the tile. -/
theorem cNew_10 (v d : Fin 512) : k0_pay240 (k0_pay139 K) (k0_pay238 (k0_pay134 (k0_pay124 B) (k0_pay125 G) (k0_pay130 B R k0_pay50 mp) (k0_pay131 B)) (k0_pay140 V)) (k0_pay239 (k0_pay135 (k0_pay126 mp) (k0_pay130 B R k0_pay50 mp) (k0_pay131 B)) (k0_pay136 cm)) (ix4 0 0 v d) = cNew (unit Q K V G B mp cm nv 1 0) v d := by
  unfold cNew wsL wpL mNew mj lp lw unit
  pointwise [k0_pay124, k0_pay125, k0_pay126, k0_pay127, k0_pay128, k0_pay129, k0_pay130, k0_pay131, k0_pay134, k0_pay135, k0_pay136, k0_pay139, k0_pay140, k0_pay238, k0_pay239, k0_pay240, mask_at, hR, select_bit]
  exact congrArg _ (Finset.sum_congr rfl fun x _ => congrArg (· * _) (mul_comm _ _))

/-- The stored normaliser of head 0 of stream 1 of the tile. -/
theorem nNew_10 (d : Fin 512) : k0_pay241 (k0_pay134 (k0_pay124 B) (k0_pay125 G) (k0_pay130 B R k0_pay50 mp) (k0_pay131 B)) (k0_pay135 (k0_pay126 mp) (k0_pay130 B R k0_pay50 mp) (k0_pay131 B)) (k0_pay137 nv) (k0_pay139 K) (ix3 0 0 d) = nNew (unit Q K V G B mp cm nv 1 0) d := by
  unfold nNew wsL wpL mNew mj lp lw unit
  pointwise [k0_pay124, k0_pay125, k0_pay126, k0_pay127, k0_pay128, k0_pay129, k0_pay130, k0_pay131, k0_pay134, k0_pay135, k0_pay137, k0_pay139, k0_pay241, mask_at, hR, select_bit]
  exact congrArg _ (Finset.sum_congr rfl fun x _ => mul_comm _ _)

/-- The output of head 1 of stream 1 of the tile. -/
theorem cell_11 (j : Fin 16) (d : Fin 512) : k0_pay216 (k0_pay146 B R k0_pay50 mp) (k0_pay150 B R k0_pay50 mp) (k0_pay155 nv) (k0_pay156 Q) (k0_pay158 V) (k0_pay196 (k0_pay149 B R k0_pay50 mp) (k0_pay156 Q) (k0_pay157 K)) (k0_pay203 (k0_pay154 cm) (k0_pay156 Q)) (ix2 j d) = cell (unit Q K V G B mp cm nv 1 1) j d := by
  unfold cell num den sc wgt wpr mj lp lw unit
  pointwise [k0_pay141, k0_pay143, k0_pay144, k0_pay145, k0_pay146, k0_pay149, k0_pay150, k0_pay154, k0_pay155, k0_pay156, k0_pay157, k0_pay158, k0_pay196, k0_pay203, k0_pay216, mask_at, hR, select_bit]
  rw [zero_minus]
  rfl

/-- The stored matrix memory of head 1 of stream 1 of the tile. -/
theorem cNew_11 (v d : Fin 512) : k0_pay243 (k0_pay152 (k0_pay142 G) (k0_pay147 B R k0_pay50 mp) (k0_pay151 B)) (k0_pay153 (k0_pay143 mp) (k0_pay147 B R k0_pay50 mp) (k0_pay148 B)) (k0_pay154 cm) (k0_pay157 K) (k0_pay158 V) (ix4 0 0 v d) = cNew (unit Q K V G B mp cm nv 1 1) v d := by
  unfold cNew wsL wpL mNew mj lp lw unit
  pointwise [k0_pay141, k0_pay142, k0_pay143, k0_pay144, k0_pay145, k0_pay146, k0_pay147, k0_pay148, k0_pay151, k0_pay152, k0_pay153, k0_pay154, k0_pay157, k0_pay158, k0_pay243, mask_at, hR, select_bit]
  exact congrArg _ (Finset.sum_congr rfl fun x _ => congrArg (· * _) (mul_comm _ _))

/-- The stored normaliser of head 1 of stream 1 of the tile. -/
theorem nNew_11 (d : Fin 512) : k0_pay246 (k0_pay244 (k0_pay153 (k0_pay143 mp) (k0_pay147 B R k0_pay50 mp) (k0_pay148 B)) (k0_pay155 nv)) (k0_pay245 (k0_pay152 (k0_pay142 G) (k0_pay147 B R k0_pay50 mp) (k0_pay151 B)) (k0_pay157 K)) (ix3 0 0 d) = nNew (unit Q K V G B mp cm nv 1 1) d := by
  unfold nNew wsL wpL mNew mj lp lw unit
  pointwise [k0_pay141, k0_pay142, k0_pay143, k0_pay144, k0_pay145, k0_pay146, k0_pay147, k0_pay148, k0_pay151, k0_pay152, k0_pay153, k0_pay155, k0_pay157, k0_pay244, k0_pay245, k0_pay246, mask_at, hR, select_bit]
  exact congrArg _ (Finset.sum_congr rfl fun x _ => mul_comm _ _)

/-- The output of head 2 of stream 1 of the tile. -/
theorem cell_12 (j : Fin 16) (d : Fin 512) : k0_pay217 (k0_pay163 B R k0_pay50 mp) (k0_pay167 B R k0_pay50 mp) (k0_pay171 nv) (k0_pay172 Q) (k0_pay174 V) (k0_pay197 (k0_pay166 B R k0_pay50 mp) (k0_pay172 Q) (k0_pay173 K)) (k0_pay204 (k0_pay170 cm) (k0_pay172 Q)) (ix2 j d) = cell (unit Q K V G B mp cm nv 1 2) j d := by
  unfold cell num den sc wgt wpr mj lp lw unit
  pointwise [k0_pay159, k0_pay160, k0_pay161, k0_pay162, k0_pay163, k0_pay166, k0_pay167, k0_pay170, k0_pay171, k0_pay172, k0_pay173, k0_pay174, k0_pay197, k0_pay204, k0_pay217, mask_at, hR, select_bit]
  rw [zero_minus]
  rfl

/-- The stored matrix memory of head 2 of stream 1 of the tile. -/
theorem cNew_12 (v d : Fin 512) : k0_pay248 (k0_pay168 G B R k0_pay50 mp) (k0_pay169 B R k0_pay50 mp) (k0_pay170 cm) (k0_pay173 K) (k0_pay174 V) (ix4 0 0 v d) = cNew (unit Q K V G B mp cm nv 1 2) v d := by
  unfold cNew wsL wpL mNew mj lp lw unit
  pointwise [k0_pay159, k0_pay160, k0_pay161, k0_pay162, k0_pay163, k0_pay164, k0_pay165, k0_pay168, k0_pay169, k0_pay170, k0_pay173, k0_pay174, k0_pay248, mask_at, hR, select_bit]
  exact congrArg _ (Finset.sum_congr rfl fun x _ => congrArg (· * _) (mul_comm _ _))

/-- The stored normaliser of head 2 of stream 1 of the tile. -/
theorem nNew_12 (d : Fin 512) : k0_pay249 (k0_pay168 G B R k0_pay50 mp) (k0_pay169 B R k0_pay50 mp) (k0_pay171 nv) (k0_pay173 K) (ix3 0 0 d) = nNew (unit Q K V G B mp cm nv 1 2) d := by
  unfold nNew wsL wpL mNew mj lp lw unit
  pointwise [k0_pay159, k0_pay160, k0_pay161, k0_pay162, k0_pay163, k0_pay164, k0_pay165, k0_pay168, k0_pay169, k0_pay171, k0_pay173, k0_pay249, mask_at, hR, select_bit]
  exact congrArg _ (Finset.sum_congr rfl fun x _ => mul_comm _ _)

/-- The output of head 3 of stream 1 of the tile. -/
theorem cell_13 (j : Fin 16) (d : Fin 512) : k0_pay221 (k0_pay179 B R k0_pay50 mp) (k0_pay183 B R k0_pay50 mp) (k0_pay187 nv) (k0_pay218 (k0_pay183 B R k0_pay50 mp) (k0_pay190 V) (k0_pay198 Q K (k0_pay182 B R k0_pay50 mp)) (k0_pay205 Q (k0_pay186 cm))) (k0_pay219 (k0_pay198 Q K (k0_pay182 B R k0_pay50 mp))) (k0_pay220 (k0_pay188 Q)) (ix2 j d) = cell (unit Q K V G B mp cm nv 1 3) j d := by
  unfold cell num den sc wgt wpr mj lp lw unit
  pointwise [k0_pay175, k0_pay176, k0_pay177, k0_pay178, k0_pay179, k0_pay182, k0_pay183, k0_pay186, k0_pay187, k0_pay188, k0_pay189, k0_pay190, k0_pay198, k0_pay205, k0_pay218, k0_pay219, k0_pay220, k0_pay221, mask_at, hR, select_bit]
  rw [zero_minus]
  rfl

/-- The stored matrix memory of head 3 of stream 1 of the tile. -/
theorem cNew_13 (v d : Fin 512) : k0_pay253 (k0_pay189 K) (k0_pay251 (k0_pay184 G B R k0_pay50 mp) (k0_pay190 V)) (k0_pay252 (k0_pay185 B R k0_pay50 mp) (k0_pay186 cm)) (ix4 0 0 v d) = cNew (unit Q K V G B mp cm nv 1 3) v d := by
  unfold cNew wsL wpL mNew mj lp lw unit
  pointwise [k0_pay175, k0_pay176, k0_pay177, k0_pay178, k0_pay179, k0_pay180, k0_pay181, k0_pay184, k0_pay185, k0_pay186, k0_pay189, k0_pay190, k0_pay251, k0_pay252, k0_pay253, mask_at, hR, select_bit]
  exact congrArg _ (Finset.sum_congr rfl fun x _ => congrArg (· * _) (mul_comm _ _))

/-- The stored normaliser of head 3 of stream 1 of the tile. -/
theorem nNew_13 (d : Fin 512) : k0_pay254 (k0_pay184 G B R k0_pay50 mp) (k0_pay185 B R k0_pay50 mp) (k0_pay187 nv) (k0_pay189 K) (ix3 0 0 d) = nNew (unit Q K V G B mp cm nv 1 3) d := by
  unfold nNew wsL wpL mNew mj lp lw unit
  pointwise [k0_pay175, k0_pay176, k0_pay177, k0_pay178, k0_pay179, k0_pay180, k0_pay181, k0_pay184, k0_pay185, k0_pay187, k0_pay189, k0_pay254, mask_at, hR, select_bit]
  exact congrArg _ (Finset.sum_congr rfl fun x _ => mul_comm _ _)

omit hR

variable (X Z : FVec Ideal S32x2048 .f32) (ce : FVec Ideal S16x512 .f32) (gn sk : Vec Ideal S1x512 .f32)

/-- The kernel's form of the gate function: a half of `z`, times its hyperbolic tangent, plus the half. -/
def halfGate (z : EReal) : EReal :=
  Ideal.ofBits .f32 0x3F000000#32 * z * Ideal.tanh (Ideal.ofBits .f32 0x3F000000#32 * z) + Ideal.ofBits .f32 0x3F000000#32 * z

/-- The stored result of head 0 of stream 0 of the tile: the normalised output with its gain, the skip, and the gate. -/
theorem out_00 (j : Fin 16) (d : Fin 512) : k0_pay258 Z X (k0_pay256 ce) (k0_pay257 gn) sk (ix2 j d)
    = (normed (fun v => ce (ix2 j v)) d * gn (ix2 0 d) + sk (ix2 0 d) * X (ix2 ⟨0 + j.val, by omega⟩ ⟨0 + d.val, by omega⟩))
      * halfGate (Z (ix2 ⟨0 + j.val, by omega⟩ ⟨0 + d.val, by omega⟩)) := by
  unfold normed mean halfGate
  pointwise [k0_pay256, k0_pay257, k0_pay258]

/-- The stored result of head 1 of stream 0 of the tile: the normalised output with its gain, the skip, and the gate. -/
theorem out_01 (j : Fin 16) (d : Fin 512) : k0_pay261 (k0_pay259 X ce gn sk) (k0_pay260 Z) (Scalar.ofBits .f32 0x3F000000#32) (ix2 j d)
    = (normed (fun v => ce (ix2 j v)) d * gn (ix2 0 d) + sk (ix2 0 d) * X (ix2 ⟨0 + j.val, by omega⟩ ⟨512 + d.val, by omega⟩))
      * halfGate (Z (ix2 ⟨0 + j.val, by omega⟩ ⟨512 + d.val, by omega⟩)) := by
  unfold normed mean halfGate
  pointwise [k0_pay259, k0_pay260, k0_pay261]

/-- The stored result of head 2 of stream 0 of the tile: the normalised output with its gain, the skip, and the gate. -/
theorem out_02 (j : Fin 16) (d : Fin 512) : k0_pay262 Z X ce gn sk (ix2 j d)
    = (normed (fun v => ce (ix2 j v)) d * gn (ix2 0 d) + sk (ix2 0 d) * X (ix2 ⟨0 + j.val, by omega⟩ ⟨1024 + d.val, by omega⟩))
      * halfGate (Z (ix2 ⟨0 + j.val, by omega⟩ ⟨1024 + d.val, by omega⟩)) := by
  unfold normed mean halfGate
  pointwise [k0_pay262]

/-- The stored result of head 3 of stream 0 of the tile: the normalised output with its gain, the skip, and the gate. -/
theorem out_03 (j : Fin 16) (d : Fin 512) : k0_pay263 Z X ce gn sk (ix2 j d)
    = (normed (fun v => ce (ix2 j v)) d * gn (ix2 0 d) + sk (ix2 0 d) * X (ix2 ⟨0 + j.val, by omega⟩ ⟨1536 + d.val, by omega⟩))
      * halfGate (Z (ix2 ⟨0 + j.val, by omega⟩ ⟨1536 + d.val, by omega⟩)) := by
  unfold normed mean halfGate
  pointwise [k0_pay263]

/-- The stored result of head 0 of stream 1 of the tile: the normalised output with its gain, the skip, and the gate. -/
theorem out_10 (j : Fin 16) (d : Fin 512) : k0_pay266 Z X (k0_pay264 ce) (k0_pay265 ce) (Scalar.ofBits .f32 0x44000000#32) gn sk (ix2 j d)
    = (normed (fun v => ce (ix2 j v)) d * gn (ix2 0 d) + sk (ix2 0 d) * X (ix2 ⟨16 + j.val, by omega⟩ ⟨0 + d.val, by omega⟩))
      * halfGate (Z (ix2 ⟨16 + j.val, by omega⟩ ⟨0 + d.val, by omega⟩)) := by
  unfold normed mean halfGate
  pointwise [k0_pay264, k0_pay265, k0_pay266]

/-- The stored result of head 1 of stream 1 of the tile: the normalised output with its gain, the skip, and the gate. -/
theorem out_11 (j : Fin 16) (d : Fin 512) : k0_pay269 Z X (k0_pay267 ce) (k0_pay268 gn) sk (ix2 j d)
    = (normed (fun v => ce (ix2 j v)) d * gn (ix2 0 d) + sk (ix2 0 d) * X (ix2 ⟨16 + j.val, by omega⟩ ⟨512 + d.val, by omega⟩))
      * halfGate (Z (ix2 ⟨16 + j.val, by omega⟩ ⟨512 + d.val, by omega⟩)) := by
  unfold normed mean halfGate
  pointwise [k0_pay267, k0_pay268, k0_pay269]

/-- The stored result of head 2 of stream 1 of the tile: the normalised output with its gain, the skip, and the gate. -/
theorem out_12 (j : Fin 16) (d : Fin 512) : k0_pay272 (k0_pay270 X ce gn sk) (k0_pay271 Z) (Scalar.ofBits .f32 0x3F000000#32) (ix2 j d)
    = (normed (fun v => ce (ix2 j v)) d * gn (ix2 0 d) + sk (ix2 0 d) * X (ix2 ⟨16 + j.val, by omega⟩ ⟨1024 + d.val, by omega⟩))
      * halfGate (Z (ix2 ⟨16 + j.val, by omega⟩ ⟨1024 + d.val, by omega⟩)) := by
  unfold normed mean halfGate
  pointwise [k0_pay270, k0_pay271, k0_pay272]

/-- The stored result of head 3 of stream 1 of the tile: the normalised output with its gain, the skip, and the gate. -/
theorem out_13 (j : Fin 16) (d : Fin 512) : k0_pay273 Z X ce gn sk (ix2 j d)
    = (normed (fun v => ce (ix2 j v)) d * gn (ix2 0 d) + sk (ix2 0 d) * X (ix2 ⟨16 + j.val, by omega⟩ ⟨1536 + d.val, by omega⟩))
      * halfGate (Z (ix2 ⟨16 + j.val, by omega⟩ ⟨1536 + d.val, by omega⟩)) := by
  unfold normed mean halfGate
  pointwise [k0_pay273]

end Cert.KernelIdeal.Cell
-- ==== Proof.KFront.lean ====
module

public import proofs.«01_k».proof.Proof.Gen.KernelIdeal.Frame
public import Idealize.ShloMosaic.Lib.Pipeline.ValueKit
public import Idealize.ShloMosaic.Lib.Pointwise
public import proofs.«01_k».proof.Proof.KUnits

@[expose] public section

set_option maxRecDepth 16384

noncomputable section

namespace Cert.KernelIdeal.Front

open Cert.KernelIdeal Cert.KernelIdeal.Gen Cert.KernelIdeal.Cell
open Idealize.ShloMosaic Idealize.ShloMosaic.TcCoe Idealize.SL.Sem
open Idealize.ShloMosaic.Pipeline (Dat)

variable (b0 : Vec Ideal S32x4096 .f32) (b14 : Vec Ideal S2x3x2048 .f32)

/-- Row `n` of stream `g`'s tape: the three carried rows, then the tile's sixteen tokens. -/
def tape (g : Fin 2) (n : Fin 19) (c : Fin 2048) : EReal :=
  if h : n.val < 3 then b14 (ix3 g ⟨n.val, h⟩ c)
  else b0 (ix2 ⟨g.val * 16 + (n.val - 3), by omega⟩ ⟨c.val, by omega⟩)

/-- The left half of the tile: the tokens the convolution reads. -/
abbrev left : Vec Ideal S32x2048 .f32 := View.ld b0 (Rect.unit ![0, 0] ![32, 2048] inb_S32x4096_S32x2048_0_0)

/-- What the scratch holds when stream 0 is read. -/
abbrev stored0 : List (View.Piece (Elt Ideal) S2x24x2048 .f32) :=
  [⟨Rect.unit ![0, 8, 0] ![1, 16, 2048] inb_S2x24x2048_S1x16x2048_0_8_0, k0_pay7 (left b0)⟩,
    ⟨Rect.unit ![0, 5, 0] ![2, 3, 2048] inb_S2x24x2048_S2x3x2048_0_5_0, k0_pay3 b14⟩]

/-- The last rows of stream 0's tape, carried on. -/
abbrev tail0 : Vec Ideal S1x3x2048 .f32 :=
  (View.whole cc0_scratch0).readCov (stored0 b0 b14) (Rect.unit (s := S2x24x2048) ![0, 21, 0] ![1, 3, 2048] inb_S2x24x2048_S1x3x2048_0_21_0).toLoadRect

/-- What the scratch holds when stream 1 is read. -/
abbrev stored1 : List (View.Piece (Elt Ideal) S2x24x2048 .f32) :=
  ⟨Rect.unit ![1, 8, 0] ![1, 16, 2048] inb_S2x24x2048_S1x16x2048_1_8_0, k0_pay13 (k0_pay4 (left b0))⟩ ::
    ⟨Rect.unit ![0, 5, 0] ![1, 3, 2048] inb_S2x24x2048_S1x3x2048_0_5_0, k0_pay11 (tail0 b0 b14)⟩ :: stored0 b0 b14

/-- The last rows of stream 1's tape. -/
abbrev tail1 : Vec Ideal S1x3x2048 .f32 :=
  (View.whole cc0_scratch0).readCov (stored1 b0 b14) (Rect.unit (s := S2x24x2048) ![1, 21, 0] ![1, 3, 2048] inb_S2x24x2048_S1x3x2048_1_21_0).toLoadRect

/-- A row of the left half. -/
theorem left_at (r : Fin 32) (c : Fin 2048) : left b0 (ix2 r c) = b0 (ix2 r ⟨c.val, by omega⟩) := by
  pointwise [left]

/-- The rows stream 0 stores behind its carried rows. -/
theorem pay7_at (a : Fin 1) (r : Fin 16) (c : Fin 2048) :
    k0_pay7 (left b0) (ix3 a r c) = tape b0 b14 0 ⟨3 + r.val, by omega⟩ c := by
  rw [Subsingleton.elim a 0]
  pointwise [k0_pay7, k0_pay6, k0_pay4, left, tape]

/-- The rows stream 1 stores behind its carried rows. -/
theorem pay13_at (a : Fin 1) (r : Fin 16) (c : Fin 2048) :
    k0_pay13 (k0_pay4 (left b0)) (ix3 a r c) = tape b0 b14 1 ⟨3 + r.val, by omega⟩ c := by
  rw [Subsingleton.elim a 0]
  pointwise [k0_pay13, k0_pay12, k0_pay4, left, tape]

/-- The carried rows of both streams. -/
theorem pay3_at (g : Fin 2) (r : Fin 3) (c : Fin 2048) :
    k0_pay3 b14 (ix3 g r c) = tape b0 b14 g ⟨r.val, by omega⟩ c := by
  pointwise [k0_pay3, tape]

/-- The scratch's rows of stream 0 are its tape. -/
theorem canon0 (n : Fin 19) (c : Fin 2048) (y : S2x24x2048.Idx) (h0 : (y 0).val = 0)
    (h1 : (y 1).val = 5 + n.val) (h2 : (y 2).val = c.val) : View.canon (stored0 b0 b14) y = tape b0 b14 0 n c := by
  have hc : ∃ p ∈ stored0 b0 b14, y ∈ p.1.set := by
    by_cases hn : n.val < 3
    · refine ⟨_, List.mem_cons_of_mem _ (List.mem_cons_self ..), ?_⟩
      rw [Rect.mem_set_unit, Fin.forall_fin_succ, Fin.forall_fin_two]
      simp
      omega
    · refine ⟨_, List.mem_cons_self .., ?_⟩
      rw [Rect.mem_set_unit, Fin.forall_fin_succ, Fin.forall_fin_two]
      simp
      omega
  canon_tiles x h using hc
  · rw [eq_ix3 x]
    refine (pay7_at b0 b14 _ _ _).trans ?_
    congr 1 <;> apply Fin.ext <;> simp <;> omega
  · rw [eq_ix3 x]
    refine (pay3_at b0 b14 _ _ _).trans ?_
    congr 1 <;> apply Fin.ext <;> simp <;> omega

/-- The scratch's rows of stream 1 are its tape. -/
theorem canon1 (n : Fin 19) (c : Fin 2048) (y : S2x24x2048.Idx) (h0 : (y 0).val = 1)
    (h1 : (y 1).val = 5 + n.val) (h2 : (y 2).val = c.val) : View.canon (stored1 b0 b14) y = tape b0 b14 1 n c := by
  have hc : ∃ p ∈ stored1 b0 b14, y ∈ p.1.set := by
    by_cases hn : n.val < 3
    · refine ⟨_, List.mem_cons_of_mem _ (List.mem_cons_of_mem _ (List.mem_cons_of_mem _ (List.mem_cons_self ..))), ?_⟩
      rw [Rect.mem_set_unit, Fin.forall_fin_succ, Fin.forall_fin_two]
      simp
      omega
    · refine ⟨_, List.mem_cons_self .., ?_⟩
      rw [Rect.mem_set_unit, Fin.forall_fin_succ, Fin.forall_fin_two]
      simp
      omega
  canon_tiles x h using hc
  · rw [eq_ix3 x]
    refine (pay13_at b0 b14 _ _ _).trans ?_
    congr 1 <;> apply Fin.ext <;> simp <;> omega
  · exfalso; omega
  · exfalso; omega
  · rw [eq_ix3 x]
    refine (pay3_at b0 b14 _ _ _).trans ?_
    congr 1 <;> apply Fin.ext <;> simp <;> omega

/-- Stream 0's tape, 0 rows on. -/
abbrev tap00 : Vec Ideal S1x16x2048 .f32 :=
  (View.whole cc0_scratch0).readCov (stored0 b0 b14) (Rect.unit (s := S2x24x2048) ![0, 5, 0] ![1, 16, 2048] inb_S2x24x2048_S1x16x2048_0_5_0).toLoadRect

/-- A row of it. -/
theorem tap00_at (t : Fin 16) (c : Fin 2048) :
    tap00 b0 b14 (ix3 0 t c) = tape b0 b14 0 ⟨0 + t.val, by omega⟩ c := by
  unfold tap00
  rw [View.readCov_eq_canon']
  refine canon0 b0 b14 _ _ _ ?_ ?_ ?_ <;> simp [LoadRect.idx] <;> omega

/-- Stream 0's tape, 1 rows on. -/
abbrev tap01 : Vec Ideal S1x16x2048 .f32 :=
  (View.whole cc0_scratch0).readCov (stored0 b0 b14) (Rect.unit (s := S2x24x2048) ![0, 6, 0] ![1, 16, 2048] inb_S2x24x2048_S1x16x2048_0_6_0).toLoadRect

/-- A row of it. -/
theorem tap01_at (t : Fin 16) (c : Fin 2048) :
    tap01 b0 b14 (ix3 0 t c) = tape b0 b14 0 ⟨1 + t.val, by omega⟩ c := by
  unfold tap01
  rw [View.readCov_eq_canon']
  refine canon0 b0 b14 _ _ _ ?_ ?_ ?_ <;> simp [LoadRect.idx] <;> omega

/-- Stream 0's tape, 2 rows on. -/
abbrev tap02 : Vec Ideal S1x16x2048 .f32 :=
  (View.whole cc0_scratch0).readCov (stored0 b0 b14) (Rect.unit (s := S2x24x2048) ![0, 7, 0] ![1, 16, 2048] inb_S2x24x2048_S1x16x2048_0_7_0).toLoadRect

/-- A row of it. -/
theorem tap02_at (t : Fin 16) (c : Fin 2048) :
    tap02 b0 b14 (ix3 0 t c) = tape b0 b14 0 ⟨2 + t.val, by omega⟩ c := by
  unfold tap02
  rw [View.readCov_eq_canon']
  refine canon0 b0 b14 _ _ _ ?_ ?_ ?_ <;> simp [LoadRect.idx] <;> omega

/-- A row of stream 0's carried tail. -/
theorem tail0_at (r : Fin 3) (c : Fin 2048) :
    tail0 b0 b14 (ix3 0 r c) = tape b0 b14 0 ⟨16 + r.val, by omega⟩ c := by
  unfold tail0
  rw [View.readCov_eq_canon']
  refine canon0 b0 b14 _ _ _ ?_ ?_ ?_ <;> simp [LoadRect.idx] <;> omega

/-- Stream 1's tape, 0 rows on. -/
abbrev tap10 : Vec Ideal S1x16x2048 .f32 :=
  (View.whole cc0_scratch0).readCov (stored1 b0 b14) (Rect.unit (s := S2x24x2048) ![1, 5, 0] ![1, 16, 2048] inb_S2x24x2048_S1x16x2048_1_5_0).toLoadRect

/-- A row of it. -/
theorem tap10_at (t : Fin 16) (c : Fin 2048) :
    tap10 b0 b14 (ix3 0 t c) = tape b0 b14 1 ⟨0 + t.val, by omega⟩ c := by
  unfold tap10
  rw [View.readCov_eq_canon']
  refine canon1 b0 b14 _ _ _ ?_ ?_ ?_ <;> simp [LoadRect.idx] <;> omega

/-- Stream 1's tape, 1 rows on. -/
abbrev tap11 : Vec Ideal S1x16x2048 .f32 :=
  (View.whole cc0_scratch0).readCov (stored1 b0 b14) (Rect.unit (s := S2x24x2048) ![1, 6, 0] ![1, 16, 2048] inb_S2x24x2048_S1x16x2048_1_6_0).toLoadRect

/-- A row of it. -/
theorem tap11_at (t : Fin 16) (c : Fin 2048) :
    tap11 b0 b14 (ix3 0 t c) = tape b0 b14 1 ⟨1 + t.val, by omega⟩ c := by
  unfold tap11
  rw [View.readCov_eq_canon']
  refine canon1 b0 b14 _ _ _ ?_ ?_ ?_ <;> simp [LoadRect.idx] <;> omega

/-- Stream 1's tape, 2 rows on. -/
abbrev tap12 : Vec Ideal S1x16x2048 .f32 :=
  (View.whole cc0_scratch0).readCov (stored1 b0 b14) (Rect.unit (s := S2x24x2048) ![1, 7, 0] ![1, 16, 2048] inb_S2x24x2048_S1x16x2048_1_7_0).toLoadRect

/-- A row of it. -/
theorem tap12_at (t : Fin 16) (c : Fin 2048) :
    tap12 b0 b14 (ix3 0 t c) = tape b0 b14 1 ⟨2 + t.val, by omega⟩ c := by
  unfold tap12
  rw [View.readCov_eq_canon']
  refine canon1 b0 b14 _ _ _ ?_ ?_ ?_ <;> simp [LoadRect.idx] <;> omega

/-- A row of stream 1's carried tail. -/
theorem tail1_at (r : Fin 3) (c : Fin 2048) :
    tail1 b0 b14 (ix3 0 r c) = tape b0 b14 1 ⟨16 + r.val, by omega⟩ c := by
  unfold tail1
  rw [View.readCov_eq_canon']
  refine canon1 b0 b14 _ _ _ ?_ ?_ ?_ <;> simp [LoadRect.idx] <;> omega

variable (b1 : Vec Ideal S4x2048 .f32) (b2 : Vec Ideal S1x2048 .f32)

abbrev cw0 : Vec Ideal S1x2048 .f32 := View.ld b1 (Rect.unit ![0, 0] ![1, 2048] inb_S4x2048_S1x2048_0_0)
abbrev cw1 : Vec Ideal S1x2048 .f32 := View.ld b1 (Rect.unit ![1, 0] ![1, 2048] inb_S4x2048_S1x2048_1_0)
abbrev cw2 : Vec Ideal S1x2048 .f32 := View.ld b1 (Rect.unit ![2, 0] ![1, 2048] inb_S4x2048_S1x2048_2_0)
abbrev cw3 : Vec Ideal S1x2048 .f32 := View.ld b1 (Rect.unit ![3, 0] ![1, 2048] inb_S4x2048_S1x2048_3_0)

/-- Stream 0's convolution, as the tile computes it. -/
abbrev convA : FVec Ideal S16x2048 .f32 :=
  k0_pay9 (k0_pay8 (left b0) b2 (cw3 b1) (tap00 b0 b14) (cw0 b1) (tap01 b0 b14) (cw1 b1)) (tap02 b0 b14) (cw2 b1)

/-- The first terms of stream 1's convolution, as the tile computes them. -/
abbrev convB : FVec Ideal S16x2048 .f32 :=
  k0_pay14 (k0_pay4 (left b0)) b2 (cw3 b1) (tap10 b0 b14) (cw0 b1)

/-- Both streams' convolved tokens. -/
abbrev Xw : FVec Ideal S32x2048 .f32 :=
  k0_pay17 (convA b0 b14 b1 b2) (convB b0 b14 b1 b2) (tap11 b0 b14) (cw1 b1) (tap12 b0 b14) (cw2 b1)

/-- The convolution at a token: the bias, the token's own tap, the three before it. -/
def conv (g : Fin 2) (t : Fin 16) (c : Fin 2048) : EReal :=
  b2 (ix2 0 c) + tape b0 b14 g ⟨3 + t.val, by omega⟩ c * b1 (ix2 3 c) + tape b0 b14 g ⟨t.val, by omega⟩ c * b1 (ix2 0 c)
    + tape b0 b14 g ⟨1 + t.val, by omega⟩ c * b1 (ix2 1 c) + tape b0 b14 g ⟨2 + t.val, by omega⟩ c * b1 (ix2 2 c)

/-- The first tap's weights are row 0 of the weights. -/
theorem cw0_at (c : Fin 2048) : cw0 b1 (ix2 0 c) = b1 (ix2 0 c) := by pointwise [cw0]
/-- The second tap's weights are row 1 of the weights. -/
theorem cw1_at (c : Fin 2048) : cw1 b1 (ix2 0 c) = b1 (ix2 1 c) := by pointwise [cw1]
/-- The third tap's weights are row 2 of the weights. -/
theorem cw2_at (c : Fin 2048) : cw2 b1 (ix2 0 c) = b1 (ix2 2 c) := by pointwise [cw2]
/-- The fourth tap's weights are row 3 of the weights. -/
theorem cw3_at (c : Fin 2048) : cw3 b1 (ix2 0 c) = b1 (ix2 3 c) := by pointwise [cw3]

/-- A token of stream 0 of the left half is its tape's. -/
theorem left0 (t : Fin 16) (c : Fin 2048) :
    left b0 (ix2 ⟨t.val, by omega⟩ c) = tape b0 b14 0 ⟨3 + t.val, by omega⟩ c := by
  rw [left_at, tape, dif_neg (by simp)]
  congr 2; apply Fin.ext; simp

/-- A token of stream 1 of the left half is its tape's. -/
theorem left1 (t : Fin 16) (c : Fin 2048) :
    left b0 (ix2 ⟨16 + t.val, by omega⟩ c) = tape b0 b14 1 ⟨3 + t.val, by omega⟩ c := by
  rw [left_at, tape, dif_neg (by simp)]
  congr 2; apply Fin.ext; simp

/-- The first stream's convolution at a token and column. -/
theorem convA_at (t : Fin 16) (c : Fin 2048) : convA b0 b14 b1 b2 (ix2 t c) = conv b0 b14 b1 b2 0 t c := by
  pointwise [convA, k0_pay9, k0_pay8, k0_pay4, k0_pay6, tap00_at b0 b14, tap01_at b0 b14, tap02_at b0 b14, cw0_at b1, cw1_at b1, cw2_at b1, cw3_at b1, left0 b0 b14, conv]

/-- A convolved and gated token of stream 0. -/
theorem X0_at (t : Fin 16) (c : Fin 2048) : Xw b0 b14 b1 b2 (ix2 ⟨t.val, by omega⟩ c) = halfGate (conv b0 b14 b1 b2 0 t c) := by
  have ht : t.val < 16 := t.isLt
  pointwise [Xw, convB, k0_pay17, k0_pay14, k0_pay4, k0_pay6, k0_pay12, tap11_at b0 b14, tap12_at b0 b14, convA_at b0 b14 b1 b2]
  rfl

/-- A convolved and gated token of stream 1. -/
theorem X1_at (t : Fin 16) (c : Fin 2048) : Xw b0 b14 b1 b2 (ix2 ⟨16 + t.val, by omega⟩ c) = halfGate (conv b0 b14 b1 b2 1 t c) := by
  have ht : ¬ 16 + t.val < 16 := by omega
  have e : 16 + t.val - 16 = t.val := by omega
  pointwise [Xw, convB, k0_pay17, k0_pay14, k0_pay4, k0_pay6, k0_pay12, tap10_at b0 b14, tap11_at b0 b14, tap12_at b0 b14, cw0_at b1, cw1_at b1, cw2_at b1, cw3_at b1, convA_at b0 b14 b1 b2]
  simp only [dif_neg ht, e, left1 b0 b14]
  rfl

/-- The convolved and gated token `t` of stream `g`. -/
theorem X_at (g : Fin 2) (t : Fin 16) (c : Fin 2048) :
    Xw b0 b14 b1 b2 (ix2 ⟨g.val * 16 + t.val, by omega⟩ c) = halfGate (conv b0 b14 b1 b2 g t c) := by
  match g with
  | 0 => exact (congrArg (fun r => Xw b0 b14 b1 b2 (ix2 r c)) (Fin.ext (by simp))).trans (X0_at b0 b14 b1 b2 t c)
  | 1 => exact (congrArg (fun r => Xw b0 b14 b1 b2 (ix2 r c)) (Fin.ext (by simp))).trans (X1_at b0 b14 b1 b2 t c)

/-- The same, rounded for the products. -/
abbrev Xb : FVec Ideal S32x2048 .bf16 :=
  k0_pay18 (convA b0 b14 b1 b2) (convB b0 b14 b1 b2) (tap11 b0 b14) (cw1 b1) (tap12 b0 b14) (cw2 b1)

/-- The left half, rounded for the products. -/
abbrev Lb : FVec Ideal S32x2048 .bf16 := k0_pay19 (k0_pay4 (left b0))

variable (b3 b4 b5 : Vec Ideal S8x256x256 .bf16)

/-- Weight tile 0. -/
abbrev wt0 (w : Vec Ideal S8x256x256 .bf16) : Vec Ideal S1x256x256 .bf16 :=
  View.ld w (Rect.unit ![0, 0, 0] ![1, 256, 256] inb_S8x256x256_S1x256x256_0_0_0)

/-- Weight tile 1. -/
abbrev wt1 (w : Vec Ideal S8x256x256 .bf16) : Vec Ideal S1x256x256 .bf16 :=
  View.ld w (Rect.unit ![1, 0, 0] ![1, 256, 256] inb_S8x256x256_S1x256x256_1_0_0)

/-- Weight tile 2. -/
abbrev wt2 (w : Vec Ideal S8x256x256 .bf16) : Vec Ideal S1x256x256 .bf16 :=
  View.ld w (Rect.unit ![2, 0, 0] ![1, 256, 256] inb_S8x256x256_S1x256x256_2_0_0)

/-- Weight tile 3. -/
abbrev wt3 (w : Vec Ideal S8x256x256 .bf16) : Vec Ideal S1x256x256 .bf16 :=
  View.ld w (Rect.unit ![3, 0, 0] ![1, 256, 256] inb_S8x256x256_S1x256x256_3_0_0)

/-- Weight tile 4. -/
abbrev wt4 (w : Vec Ideal S8x256x256 .bf16) : Vec Ideal S1x256x256 .bf16 :=
  View.ld w (Rect.unit ![4, 0, 0] ![1, 256, 256] inb_S8x256x256_S1x256x256_4_0_0)

/-- Weight tile 5. -/
abbrev wt5 (w : Vec Ideal S8x256x256 .bf16) : Vec Ideal S1x256x256 .bf16 :=
  View.ld w (Rect.unit ![5, 0, 0] ![1, 256, 256] inb_S8x256x256_S1x256x256_5_0_0)

/-- Weight tile 6. -/
abbrev wt6 (w : Vec Ideal S8x256x256 .bf16) : Vec Ideal S1x256x256 .bf16 :=
  View.ld w (Rect.unit ![6, 0, 0] ![1, 256, 256] inb_S8x256x256_S1x256x256_6_0_0)

/-- Weight tile 7. -/
abbrev wt7 (w : Vec Ideal S8x256x256 .bf16) : Vec Ideal S1x256x256 .bf16 :=
  View.ld w (Rect.unit ![7, 0, 0] ![1, 256, 256] inb_S8x256x256_S1x256x256_7_0_0)

/-- The tile's queries. -/
abbrev Qw : FVec Ideal S32x2048 .bf16 :=
  k0_pay44 (Xb b0 b14 b1 b2) (k0_pay20 (convA b0 b14 b1 b2) (convB b0 b14 b1 b2) (tap11 b0 b14) (cw1 b1) (tap12 b0 b14) (cw2 b1) (wt0 b3)) (k0_pay24 (Xb b0 b14 b1 b2) (wt1 b3)) (k0_pay27 (Xb b0 b14 b1 b2) (wt2 b3)) (k0_pay32 (k0_pay30 (Xb b0 b14 b1 b2)) (k0_pay31 (wt3 b3)) (constant S32x256 .f32 0x00000000#32)) (k0_pay35 (Xb b0 b14 b1 b2) (wt4 b3)) (k0_pay38 (Xb b0 b14 b1 b2) (wt5 b3)) (wt6 b3) (wt7 b3)

/-- The tile's keys. -/
abbrev Kw : FVec Ideal S32x2048 .bf16 :=
  k0_pay45 (Xb b0 b14 b1 b2) (k0_pay21 (convA b0 b14 b1 b2) (convB b0 b14 b1 b2) (tap11 b0 b14) (cw1 b1) (tap12 b0 b14) (cw2 b1) (wt0 b4)) (k0_pay25 (Xb b0 b14 b1 b2) (wt1 b4)) (k0_pay28 (Xb b0 b14 b1 b2) (wt2 b4)) (k0_pay33 (Xb b0 b14 b1 b2) (wt3 b4)) (k0_pay36 (Xb b0 b14 b1 b2) (wt4 b4)) (k0_pay39 (Xb b0 b14 b1 b2) (wt5 b4)) (wt6 b4) (wt7 b4)

/-- The tile's values. -/
abbrev Vw : FVec Ideal S32x2048 .bf16 :=
  k0_pay46 (k0_pay23 (k0_pay22 (k0_pay4 (left b0))) (wt0 b5)) (k0_pay26 (Lb b0) (wt1 b5)) (k0_pay29 (Lb b0) (wt2 b5)) (k0_pay34 (Lb b0) (wt3 b5)) (k0_pay37 (Lb b0) (wt4 b5)) (k0_pay41 (k0_pay40 (Lb b0)) (wt5 b5)) (k0_pay42 (Lb b0) (wt6 b5)) (k0_pay43 (Lb b0) (wt7 b5))

variable (b6 : Vec Ideal S6144x128 .bf16) (b7 : Vec Ideal S1x128 .f32) (b8 : Vec Ideal S32x32 .bf16)

abbrev Gw : FVec Ideal S32x128 .f32 :=
  k0_pay47 (k0_pay23 (k0_pay22 (k0_pay4 (left b0))) (wt0 b5)) (k0_pay26 (Lb b0) (wt1 b5)) (k0_pay29 (Lb b0) (wt2 b5)) (k0_pay34 (Lb b0) (wt3 b5)) (k0_pay37 (Lb b0) (wt4 b5)) (k0_pay41 (k0_pay40 (Lb b0)) (wt5 b5)) (k0_pay42 (Lb b0) (wt6 b5)) (k0_pay43 (Lb b0) (wt7 b5)) (Qw b0 b14 b1 b2 b3) (Kw b0 b14 b1 b2 b4) (View.ld b6 (Rect.unit ![0, 0] ![2048, 128] inb_S6144x128_S2048x128_0_0)) (View.ld b6 (Rect.unit ![2048, 0] ![2048, 128] inb_S6144x128_S2048x128_2048_0)) (View.ld b6 (Rect.unit ![4096, 0] ![2048, 128] inb_S6144x128_S2048x128_4096_0)) b7

abbrev Bw : FVec Ideal S32x128 .f32 :=
  k0_pay48 (k0_pay23 (k0_pay22 (k0_pay4 (left b0))) (wt0 b5)) (k0_pay26 (Lb b0) (wt1 b5)) (k0_pay29 (Lb b0) (wt2 b5)) (k0_pay34 (Lb b0) (wt3 b5)) (k0_pay37 (Lb b0) (wt4 b5)) (k0_pay41 (k0_pay40 (Lb b0)) (wt5 b5)) (k0_pay42 (Lb b0) (wt6 b5)) (k0_pay43 (Lb b0) (wt7 b5)) (Qw b0 b14 b1 b2 b3) (Kw b0 b14 b1 b2 b4) (View.ld b6 (Rect.unit ![0, 0] ![2048, 128] inb_S6144x128_S2048x128_0_0)) (View.ld b6 (Rect.unit ![2048, 0] ![2048, 128] inb_S6144x128_S2048x128_2048_0)) (View.ld b6 (Rect.unit ![4096, 0] ![2048, 128] inb_S6144x128_S2048x128_4096_0)) b7 b8

abbrev Rw : FVec Ideal S128x32 .f32 :=
  k0_pay49 (k0_pay23 (k0_pay22 (k0_pay4 (left b0))) (wt0 b5)) (k0_pay26 (Lb b0) (wt1 b5)) (k0_pay29 (Lb b0) (wt2 b5)) (k0_pay34 (Lb b0) (wt3 b5)) (k0_pay37 (Lb b0) (wt4 b5)) (k0_pay41 (k0_pay40 (Lb b0)) (wt5 b5)) (k0_pay42 (Lb b0) (wt6 b5)) (k0_pay43 (Lb b0) (wt7 b5)) (Qw b0 b14 b1 b2 b3) (Kw b0 b14 b1 b2 b4) (View.ld b6 (Rect.unit ![0, 0] ![2048, 128] inb_S6144x128_S2048x128_0_0)) (View.ld b6 (Rect.unit ![2048, 0] ![2048, 128] inb_S6144x128_S2048x128_2048_0)) (View.ld b6 (Rect.unit ![4096, 0] ![2048, 128] inb_S6144x128_S2048x128_4096_0)) b7 b8

/-- The kernel's logarithm of a logistic gate. -/
def logGate (z : EReal) : EReal := min z 0 - Ideal.log (1 + Ideal.exp (0 - max z (-z)))

/-- The comparison of a lane's number with four, as words. -/
theorem lane_at : ∀ l : Fin 128, IntOp.cmpi CmpIPredicate.slt (BitVec.ofNat 32 l.val) 4#32 = if l.val < 4 then 1#1 else 0#1 := by
  decide +kernel

/-- The packed rows: the first four lanes hold the input gates, the others the summed forget gates. -/
theorem rows_at (l : Fin 128) (r : Fin 32) : Rw b0 b14 b1 b2 b3 b4 b5 b6 b7 b8 (ix2 l r)
    = if l.val < 4 then Gw b0 b14 b1 b2 b3 b4 b5 b6 b7 (ix2 r l) else Bw b0 b14 b1 b2 b3 b4 b5 b6 b7 b8 (ix2 r l) := by
  pointwise [Rw, k0_pay49]
  rw [lane_at, select_bit]

/-- The gates' preactivations: queries, keys and values times their parts of the packed weights, and the bias. -/
theorem G_at (r : Fin 32) (l : Fin 128) : Gw b0 b14 b1 b2 b3 b4 b5 b6 b7 (ix2 r l)
    = ∑ x : Fin 2048, Qw b0 b14 b1 b2 b3 (ix2 r x) * b6 (ix2 ⟨x.val, by omega⟩ l)
      + ∑ x : Fin 2048, Kw b0 b14 b1 b2 b4 (ix2 r x) * b6 (ix2 ⟨2048 + x.val, by omega⟩ l)
      + ∑ x : Fin 2048, Vw b0 b5 (ix2 r x) * b6 (ix2 ⟨4096 + x.val, by omega⟩ l)
      + b7 (ix2 0 l) := by
  pointwise [Gw, k0_pay47]

/-- The summed logarithms of the forget gates: a product with the triangle of the coarse part, and one of the rest. -/
theorem B_at (r : Fin 32) (l : Fin 128) : Bw b0 b14 b1 b2 b3 b4 b5 b6 b7 b8 (ix2 r l)
    = ∑ x : Fin 32, b8 (ix2 r x) * logGate (Gw b0 b14 b1 b2 b3 b4 b5 b6 b7 (ix2 x l))
      + ∑ x : Fin 32, b8 (ix2 r x) * (logGate (Gw b0 b14 b1 b2 b3 b4 b5 b6 b7 (ix2 x l)) - logGate (Gw b0 b14 b1 b2 b3 b4 b5 b6 b7 (ix2 x l))) := by
  pointwise [Bw, k0_pay48]
  rfl

/-- Tile 0 of a packed weight. -/
theorem wt0_at (w : Vec Ideal S8x256x256 .bf16) (x l : Fin 256) : wt0 w (ix3 0 x l) = w (ix3 0 x l) := by
  pointwise [wt0]

/-- Tile 1 of a packed weight. -/
theorem wt1_at (w : Vec Ideal S8x256x256 .bf16) (x l : Fin 256) : wt1 w (ix3 0 x l) = w (ix3 1 x l) := by
  pointwise [wt1]

/-- Tile 2 of a packed weight. -/
theorem wt2_at (w : Vec Ideal S8x256x256 .bf16) (x l : Fin 256) : wt2 w (ix3 0 x l) = w (ix3 2 x l) := by
  pointwise [wt2]

/-- Tile 3 of a packed weight. -/
theorem wt3_at (w : Vec Ideal S8x256x256 .bf16) (x l : Fin 256) : wt3 w (ix3 0 x l) = w (ix3 3 x l) := by
  pointwise [wt3]

/-- Tile 4 of a packed weight. -/
theorem wt4_at (w : Vec Ideal S8x256x256 .bf16) (x l : Fin 256) : wt4 w (ix3 0 x l) = w (ix3 4 x l) := by
  pointwise [wt4]

/-- Tile 5 of a packed weight. -/
theorem wt5_at (w : Vec Ideal S8x256x256 .bf16) (x l : Fin 256) : wt5 w (ix3 0 x l) = w (ix3 5 x l) := by
  pointwise [wt5]

/-- Tile 6 of a packed weight. -/
theorem wt6_at (w : Vec Ideal S8x256x256 .bf16) (x l : Fin 256) : wt6 w (ix3 0 x l) = w (ix3 6 x l) := by
  pointwise [wt6]

/-- Tile 7 of a packed weight. -/
theorem wt7_at (w : Vec Ideal S8x256x256 .bf16) (x l : Fin 256) : wt7 w (ix3 0 x l) = w (ix3 7 x l) := by
  pointwise [wt7]

/-- One product of a dense tile, its indices rewritten. -/
theorem term (X : S32x2048.Idx → EReal) (w : S8x256x256.Idx → EReal) (r : Fin 32) (a a' : Fin 2048) (j j' : Fin 8)
    (x l l' : Fin 256) (ha : a.val = a'.val) (hj : j.val = j'.val) (hl : l.val = l'.val) :
    X (ix2 r a) * w (ix3 j x l) = X (ix2 r a') * w (ix3 j' x l') := by
  rw [Fin.ext ha, Fin.ext hj, Fin.ext hl]

/-- A row laid together from eight tiles of 256 lanes, read at lane `c`. -/
theorem ladder (f0 f1 f2 f3 f4 f5 f6 f7 : Fin 256 → EReal) (g : Fin 8 → Fin 256 → EReal)
    (h0 : ∀ l, f0 l = g 0 l) (h1 : ∀ l, f1 l = g 1 l) (h2 : ∀ l, f2 l = g 2 l) (h3 : ∀ l, f3 l = g 3 l)
    (h4 : ∀ l, f4 l = g 4 l) (h5 : ∀ l, f5 l = g 5 l) (h6 : ∀ l, f6 l = g 6 l) (h7 : ∀ l, f7 l = g 7 l)
    (c : ℕ) (hc : c < 2048) :
    (if h : c < 256 then f0 ⟨c, h⟩ else if h : c - 256 < 256 then f1 ⟨c - 256, h⟩ else if h : c - 256 - 256 < 256 then f2 ⟨c - 256 - 256, h⟩ else if h : c - 256 - 256 - 256 < 256 then f3 ⟨c - 256 - 256 - 256, h⟩ else if h : c - 256 - 256 - 256 - 256 < 256 then f4 ⟨c - 256 - 256 - 256 - 256, h⟩ else if h : c - 256 - 256 - 256 - 256 - 256 < 256 then f5 ⟨c - 256 - 256 - 256 - 256 - 256, h⟩ else if h : c - 256 - 256 - 256 - 256 - 256 - 256 < 256 then f6 ⟨c - 256 - 256 - 256 - 256 - 256 - 256, h⟩ else f7 ⟨c - 256 - 256 - 256 - 256 - 256 - 256 - 256, by omega⟩)
      = g ⟨c / 256, by omega⟩ ⟨c % 256, by omega⟩ := by
  have key : ∀ (a a' : Fin 8) (l l' : Fin 256), a.val = a'.val → l.val = l'.val → g a l = g a' l' := by
    intro a a' l l' e e'; rw [Fin.ext e, Fin.ext e']
  split_ifs <;> simp only [h0, h1, h2, h3, h4, h5, h6, h7] <;> refine key _ _ _ _ ?_ ?_ <;> simp <;> omega

/-- A query: a token's tile of 256 columns times the tile's dense weights. -/
theorem Q_at (r : Fin 32) (c : Fin 2048) : Qw b0 b14 b1 b2 b3 (ix2 r c)
    = (∑ x : Fin 256, Xw b0 b14 b1 b2 (ix2 r ⟨c.val / 256 * 256 + x.val, by omega⟩) * b3 (ix3 ⟨c.val / 256, by omega⟩ x ⟨c.val % 256, by omega⟩)) := by
  pointwise [Qw, k0_pay44, k0_pay20, k0_pay24, k0_pay27, k0_pay32, k0_pay30, k0_pay31, k0_pay35, k0_pay38, k0_pay18, wt0_at b3, wt1_at b3, wt2_at b3, wt3_at b3, wt4_at b3, wt5_at b3, wt6_at b3, wt7_at b3]
  refine ladder (fun l => ∑ x : Fin 256, Xw b0 b14 b1 b2 (ix2 r ⟨x.val, by omega⟩) * b3 (ix3 0 x l)) (fun l => ∑ x : Fin 256, Xw b0 b14 b1 b2 (ix2 r ⟨256 + x.val, by omega⟩) * b3 (ix3 1 x l)) (fun l => ∑ x : Fin 256, Xw b0 b14 b1 b2 (ix2 r ⟨512 + x.val, by omega⟩) * b3 (ix3 2 x l)) (fun l => ∑ x : Fin 256, Xw b0 b14 b1 b2 (ix2 r ⟨768 + x.val, by omega⟩) * b3 (ix3 3 x l)) (fun l => ∑ x : Fin 256, Xw b0 b14 b1 b2 (ix2 r ⟨1024 + x.val, by omega⟩) * b3 (ix3 4 x l)) (fun l => ∑ x : Fin 256, Xw b0 b14 b1 b2 (ix2 r ⟨1280 + x.val, by omega⟩) * b3 (ix3 5 x l)) (fun l => ∑ x : Fin 256, Xw b0 b14 b1 b2 (ix2 r ⟨1536 + x.val, by omega⟩) * b3 (ix3 6 x l)) (fun l => ∑ x : Fin 256, Xw b0 b14 b1 b2 (ix2 r ⟨1792 + x.val, by omega⟩) * b3 (ix3 7 x l))
    (fun j l => ∑ x : Fin 256, Xw b0 b14 b1 b2 (ix2 r ⟨j.val * 256 + x.val, by omega⟩) * b3 (ix3 j x l)) ?_ ?_ ?_ ?_ ?_ ?_ ?_ ?_ c.val c.isLt <;>
  exact fun l => Finset.sum_congr rfl fun x _ => term _ _ _ _ _ _ _ _ _ _ (by simp) rfl rfl

/-- A key: a token's tile of 256 columns times the tile's dense weights, scaled. -/
theorem K_at (r : Fin 32) (c : Fin 2048) : Kw b0 b14 b1 b2 b4 (ix2 r c)
    = (∑ x : Fin 256, Xw b0 b14 b1 b2 (ix2 r ⟨c.val / 256 * 256 + x.val, by omega⟩) * b4 (ix3 ⟨c.val / 256, by omega⟩ x ⟨c.val % 256, by omega⟩)) * Ideal.ofBits .f32 1026884851#32 := by
  pointwise [Kw, k0_pay45, k0_pay21, k0_pay25, k0_pay28, k0_pay33, k0_pay36, k0_pay39, k0_pay18, wt0_at b4, wt1_at b4, wt2_at b4, wt3_at b4, wt4_at b4, wt5_at b4, wt6_at b4, wt7_at b4]
  congr 1
  refine ladder (fun l => ∑ x : Fin 256, Xw b0 b14 b1 b2 (ix2 r ⟨x.val, by omega⟩) * b4 (ix3 0 x l)) (fun l => ∑ x : Fin 256, Xw b0 b14 b1 b2 (ix2 r ⟨256 + x.val, by omega⟩) * b4 (ix3 1 x l)) (fun l => ∑ x : Fin 256, Xw b0 b14 b1 b2 (ix2 r ⟨512 + x.val, by omega⟩) * b4 (ix3 2 x l)) (fun l => ∑ x : Fin 256, Xw b0 b14 b1 b2 (ix2 r ⟨768 + x.val, by omega⟩) * b4 (ix3 3 x l)) (fun l => ∑ x : Fin 256, Xw b0 b14 b1 b2 (ix2 r ⟨1024 + x.val, by omega⟩) * b4 (ix3 4 x l)) (fun l => ∑ x : Fin 256, Xw b0 b14 b1 b2 (ix2 r ⟨1280 + x.val, by omega⟩) * b4 (ix3 5 x l)) (fun l => ∑ x : Fin 256, Xw b0 b14 b1 b2 (ix2 r ⟨1536 + x.val, by omega⟩) * b4 (ix3 6 x l)) (fun l => ∑ x : Fin 256, Xw b0 b14 b1 b2 (ix2 r ⟨1792 + x.val, by omega⟩) * b4 (ix3 7 x l))
    (fun j l => ∑ x : Fin 256, Xw b0 b14 b1 b2 (ix2 r ⟨j.val * 256 + x.val, by omega⟩) * b4 (ix3 j x l)) ?_ ?_ ?_ ?_ ?_ ?_ ?_ ?_ c.val c.isLt <;>
  exact fun l => Finset.sum_congr rfl fun x _ => term _ _ _ _ _ _ _ _ _ _ (by simp) rfl rfl

/-- A value: the unconvolved token's tile of 256 columns times the tile's dense weights. -/
theorem V_at (r : Fin 32) (c : Fin 2048) : Vw b0 b5 (ix2 r c)
    = (∑ x : Fin 256, left b0 (ix2 r ⟨c.val / 256 * 256 + x.val, by omega⟩) * b5 (ix3 ⟨c.val / 256, by omega⟩ x ⟨c.val % 256, by omega⟩)) := by
  pointwise [Vw, k0_pay46, k0_pay23, k0_pay22, k0_pay26, k0_pay29, k0_pay34, k0_pay37, k0_pay41, k0_pay40, k0_pay42, k0_pay43, k0_pay19, k0_pay4, wt0_at b5, wt1_at b5, wt2_at b5, wt3_at b5, wt4_at b5, wt5_at b5, wt6_at b5, wt7_at b5]
  refine ladder (fun l => ∑ x : Fin 256, left b0 (ix2 r ⟨x.val, by omega⟩) * b5 (ix3 0 x l)) (fun l => ∑ x : Fin 256, left b0 (ix2 r ⟨256 + x.val, by omega⟩) * b5 (ix3 1 x l)) (fun l => ∑ x : Fin 256, left b0 (ix2 r ⟨512 + x.val, by omega⟩) * b5 (ix3 2 x l)) (fun l => ∑ x : Fin 256, left b0 (ix2 r ⟨768 + x.val, by omega⟩) * b5 (ix3 3 x l)) (fun l => ∑ x : Fin 256, left b0 (ix2 r ⟨1024 + x.val, by omega⟩) * b5 (ix3 4 x l)) (fun l => ∑ x : Fin 256, left b0 (ix2 r ⟨1280 + x.val, by omega⟩) * b5 (ix3 5 x l)) (fun l => ∑ x : Fin 256, left b0 (ix2 r ⟨1536 + x.val, by omega⟩) * b5 (ix3 6 x l)) (fun l => ∑ x : Fin 256, left b0 (ix2 r ⟨1792 + x.val, by omega⟩) * b5 (ix3 7 x l))
    (fun j l => ∑ x : Fin 256, left b0 (ix2 r ⟨j.val * 256 + x.val, by omega⟩) * b5 (ix3 j x l)) ?_ ?_ ?_ ?_ ?_ ?_ ?_ ?_ c.val c.isLt <;>
  exact fun l => Finset.sum_congr rfl fun x _ => term _ _ _ _ _ _ _ _ _ _ (by simp) rfl rfl

end Cert.KernelIdeal.Front
-- ==== Proof.RefFront.lean ====
module

public import proofs.«01_k».proof.Proof.Gen.ReferenceIdeal.Read
public import proofs.«01_k».proof.Proof.Spec

@[expose] public section

set_option maxRecDepth 16384

noncomputable section

namespace Cert.ReferenceIdeal.Front

open Cert.ReferenceIdeal Cert.ReferenceIdeal.Gen Cert.ReferenceIdeal.Read Cert.Spec
open Idealize.ShloMosaic Idealize.ShloMosaic.TcCoe Idealize.SL.Sem

variable (x0 : FVec Ideal S32x16x4096 .f32) (x1 : FVec Ideal S1x32x4x512x512 .f32) (x2 : FVec Ideal S1x32x4x512 .f32)
  (x3 : FVec Ideal S1x32x4 .f32) (x4 : FVec Ideal S1x32x3x2048 .f32) (x5 : FVec Ideal S1x4x2048 .f32)
  (x6 : FVec Ideal S1x2048 .f32) (x7 x8 x9 : FVec Ideal S1x512x4x4 .f32) (x10 : FVec Ideal S1x6144x4 .f32)
  (x11 : FVec Ideal S1x4 .f32) (x12 : FVec Ideal S1x6144x4 .f32) (x13 : FVec Ideal S1x4 .f32)
  (x14 : FVec Ideal S1x512 .f32) (x15 : FVec Ideal S1x2048 .f32)

/-- A left fold that adds is the initial value plus the sum. -/
theorem foldl_sum {n : ℕ} (g : Fin n → EReal) (v : EReal) :
    (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

/-- The entries a window that ends at `t` reads are the ones up to `t`. -/
theorem window_prefix (f : Fin 16 → EReal) (t : Fin 16) :
    (∑ c : Fin 16, if h : 15 ≤ t.val + c.val then f ⟨t.val + c.val - 15, by omega⟩ else 0)
      = ∑ s : Fin 16, if s.val ≤ t.val then f s else 0 := by
  rw [← Equiv.sum_comp (Equiv.addRight (t + 1)) (fun s : Fin 16 => if s.val ≤ t.val then f s else 0)]
  refine Finset.sum_congr rfl fun c _ => ?_
  have hv : ((Equiv.addRight (t + 1)) c).val = (c.val + (t.val + 1)) % 16 := by
    simp [Fin.val_add, Nat.add_assoc]
  by_cases h : 15 ≤ t.val + c.val
  · have e : (Equiv.addRight (t + 1)) c = ⟨t.val + c.val - 15, by omega⟩ := Fin.ext (hv.trans (by simp; omega))
    rw [dif_pos h, e, if_pos (by simp; omega)]
  · rw [dif_neg h, if_neg (by rw [hv]; omega)]

/-- Where a window at `(b, h, t)` reads at its position `y`, in the padded array. -/
def reach (b : Fin 32) (h : Fin 4) (t : Fin 16) (y : (⟨3, ![1, 1, 16]⟩ : Shape).Idx) (a : Fin 3) : ℕ :=
  ((ix3 b h t : S32x4x16.Idx) a).val * (![1, 1, 1] : Fin 3 → ℕ) a + (y a).val

/-- A running sum along the last axis: entry `t` sums the entries up to `t`. -/
theorem window_sum (x : S32x4x16.Idx → EReal) (b : Fin 32) (h : Fin 4) (t : Fin 16) :
    Ideal.hostReduceWindowAdd ![1, 1, 16] ![1, 1, 1] ![0, 0, 15] ![0, 0, 0] (t := S32x4x16)
        reduceWindows_S32x4x16_S32x4x16_w1s1p0_0_w1s1p0_0_w16s1p15_0 x 0 (ix3 b h t)
      = ∑ s : Fin 16, if s.val ≤ t.val then x (ix3 b h s) else 0 := by
  rw [← window_prefix (fun s => x (ix3 b h s)) t]
  unfold Ideal.hostReduceWindowAdd Host.reduceWindow
  refine (foldl_sum _ _).trans ?_
  rw [zero_add]
  refine (Finset.sum_congr rfl fun n _ => ?_).trans ((Equiv.sum_comp (Shape.rowMajor ⟨3, ![1, 1, 16]⟩).symm (fun y =>
    if hin : ∀ a : Fin 3, (![0, 0, 15] : Fin 3 → ℕ) a ≤ reach b h t y a ∧ reach b h t y a - (![0, 0, 15] : Fin 3 → ℕ) a < S32x4x16.size a
      then x (fun a => ⟨reach b h t y a - (![0, 0, 15] : Fin 3 → ℕ) a, (hin a).2⟩) else 0)).trans ?_)
  · by_cases hp : ∀ a : Fin 3, (![0, 0, 15] : Fin 3 → ℕ) a ≤ reach b h t ((Shape.rowMajor ⟨3, ![1, 1, 16]⟩).symm n) a
        ∧ reach b h t ((Shape.rowMajor ⟨3, ![1, 1, 16]⟩).symm n) a - (![0, 0, 15] : Fin 3 → ℕ) a < S32x4x16.size a
    · exact (dif_pos hp).trans (Eq.symm (by refine (dif_pos hp).trans ?_; rfl))
    · exact (dif_neg hp).trans (Eq.symm (by refine (dif_neg hp).trans ?_; rfl))
  rw [sum_idx3]
  simp only [Fin.sum_univ_one, Finset.univ_unique, Finset.sum_singleton]
  refine Finset.sum_congr rfl fun c _ => ?_
  by_cases hc : 15 ≤ t.val + c.val
  · rw [dif_pos hc, dif_pos (by
      rw [Fin.forall_fin_succ, Fin.forall_fin_two]
      simp [reach]
      omega)]
    refine congrArg x (funext fun a => ?_)
    match a with
    | ⟨0, _⟩ => apply Fin.ext; simp [reach]
    | ⟨1, _⟩ => apply Fin.ext; simp [reach]
    | ⟨2, _⟩ => apply Fin.ext; simp [reach]
  · rw [dif_neg hc, dif_neg]
    intro hin
    have := (hin 2).1
    simp [reach] at this
    omega

/-- The padded tokens: three carried rows, then the stream's own. -/
theorem xp_at (b : Fin 32) (n : Fin 19) (c : Fin 2048) : val_main_v6 (F := Ideal) x0 x4 (ix3 b n c)
    = if h : n.val < 3 then x4 (ix4 0 b ⟨n.val, h⟩ c) else x0 (ix3 b ⟨n.val - 3, by omega⟩ ⟨c.val, by omega⟩) := by
  pointwise [val_main_v6, val_main_v5, val_main_v3]

/-- The causal convolution at a token: the bias and four taps. -/
theorem conv_at (b : Fin 32) (t : Fin 16) (c : Fin 2048) : val_main_v38 (F := Ideal) x0 x4 x5 x6 (ix3 b t c)
    = x6 (ix2 0 c) + val_main_v6 (F := Ideal) x0 x4 (ix3 b ⟨t.val, by omega⟩ c) * x5 (ix3 0 0 c)
      + val_main_v6 (F := Ideal) x0 x4 (ix3 b ⟨1 + t.val, by omega⟩ c) * x5 (ix3 0 1 c)
      + val_main_v6 (F := Ideal) x0 x4 (ix3 b ⟨2 + t.val, by omega⟩ c) * x5 (ix3 0 2 c)
      + val_main_v6 (F := Ideal) x0 x4 (ix3 b ⟨3 + t.val, by omega⟩ c) * x5 (ix3 0 3 c) := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7]

/-- The convolved token through the logistic gate. -/
theorem xc_at (b : Fin 32) (t : Fin 16) (c : Fin 2048) : val_main_v39 (F := Ideal) x0 x4 x5 x6 (ix3 b t c)
    = val_main_v38 (F := Ideal) x0 x4 x5 x6 (ix3 b t c) * Ideal.logistic (val_main_v38 (F := Ideal) x0 x4 x5 x6 (ix3 b t c)) := by
  unfold Ideal.logistic
  pointwise [val_main_v39, val_main_call0_v5, val_main_call0_v4, val_main_call0_v3, val_main_call0_v2, val_main_call0_v1, val_main_call0_v0, val_main_call0_cst, val_main_call0_cst_0]

/-- The flat queries: each block of four lanes through its own small matrix. -/
theorem qf_at (b : Fin 32) (t : Fin 16) (c : Fin 2048) : val_main_v44 (F := Ideal) x0 x4 x5 x6 x7 (ix3 b t c)
    = ∑ x : Fin 4, x7 (ix4 0 ⟨c.val / 4, by omega⟩ x ⟨c.val % 4, by omega⟩) * val_main_v39 (F := Ideal) x0 x4 x5 x6 (ix3 b t ⟨c.val / 4 * 4 + x.val, by omega⟩) := by
  pointwise [val_main_v44, val_main_v43, val_main_v42, val_main_v41, val_main_v40]

/-- The flat keys, scaled. -/
theorem kf_at (b : Fin 32) (t : Fin 16) (c : Fin 2048) : val_main_v51 (F := Ideal) x0 x4 x5 x6 x8 (ix3 b t c)
    = (∑ x : Fin 4, x8 (ix4 0 ⟨c.val / 4, by omega⟩ x ⟨c.val % 4, by omega⟩) * val_main_v39 (F := Ideal) x0 x4 x5 x6 (ix3 b t ⟨c.val / 4 * 4 + x.val, by omega⟩))
      * Ideal.ofBits .f32 1026884851#32 := by
  pointwise [val_main_v51, val_main_v50, val_main_v49, val_main_v48, val_main_v47, val_main_v46, val_main_v45, val_main_cst]

/-- The flat values. -/
theorem vf_at (b : Fin 32) (t : Fin 16) (c : Fin 2048) : val_main_v56 (F := Ideal) x0 x9 (ix3 b t c)
    = ∑ x : Fin 4, x9 (ix4 0 ⟨c.val / 4, by omega⟩ x ⟨c.val % 4, by omega⟩) * x0 (ix3 b t ⟨c.val / 4 * 4 + x.val, by omega⟩) := by
  pointwise [val_main_v56, val_main_v55, val_main_v54, val_main_v53, val_main_v52, val_main_v3]

/-- A head's query is a stretch of the flat ones. -/
theorem q_at (b : Fin 32) (t : Fin 16) (h : Fin 4) (d : Fin 512) : val_main_v72 (F := Ideal) x0 x4 x5 x6 x7 (ix4 b h t d)
    = val_main_v44 (F := Ideal) x0 x4 x5 x6 x7 (ix3 b t ⟨h.val * 512 + d.val, by omega⟩) := by
  pointwise [val_main_v72, val_main_v71]

/-- A head's key is a stretch of the flat ones. -/
theorem k_at (b : Fin 32) (t : Fin 16) (h : Fin 4) (d : Fin 512) : val_main_v74 (F := Ideal) x0 x4 x5 x6 x8 (ix4 b h t d)
    = val_main_v51 (F := Ideal) x0 x4 x5 x6 x8 (ix3 b t ⟨h.val * 512 + d.val, by omega⟩) := by
  pointwise [val_main_v74, val_main_v73]

/-- A head's value is a stretch of the flat ones. -/
theorem v_at (b : Fin 32) (t : Fin 16) (h : Fin 4) (d : Fin 512) : val_main_v76 (F := Ideal) x0 x9 (ix4 b h t d)
    = val_main_v56 (F := Ideal) x0 x9 (ix3 b t ⟨h.val * 512 + d.val, by omega⟩) := by
  pointwise [val_main_v76, val_main_v75]

/-- A gate before its nonlinearity: queries, keys and values through their rows of the gate's weights, and the bias. -/
def gate (w : FVec Ideal S1x6144x4 .f32) (wb : FVec Ideal S1x4 .f32) (b : Fin 32) (t : Fin 16) (h : Fin 4) : EReal :=
  ∑ x : Fin 2048, val_main_v44 (F := Ideal) x0 x4 x5 x6 x7 (ix3 b t x) * w (ix3 0 ⟨x.val, by omega⟩ h)
    + ∑ x : Fin 2048, val_main_v51 (F := Ideal) x0 x4 x5 x6 x8 (ix3 b t x) * w (ix3 0 ⟨2048 + x.val, by omega⟩ h)
    + ∑ x : Fin 2048, val_main_v56 (F := Ideal) x0 x9 (ix3 b t x) * w (ix3 0 ⟨4096 + x.val, by omega⟩ h)
    + wb (ix2 0 h)

/-- A sum over three rows laid end to end, split. -/
theorem sum_three (f g k : Fin 2048 → EReal) (w : Fin 6144 → EReal) :
    (∑ x : Fin 6144, (if h : x.val < 2048 then f ⟨x.val, h⟩ else if h : x.val - 2048 < 2048 then g ⟨x.val - 2048, h⟩ else k ⟨x.val - 2048 - 2048, by omega⟩) * w x)
      = ∑ x : Fin 2048, f x * w ⟨x.val, by omega⟩ + ∑ x : Fin 2048, g x * w ⟨2048 + x.val, by omega⟩
        + ∑ x : Fin 2048, k x * w ⟨4096 + x.val, by omega⟩ := by
  refine (Fin.sum_univ_add (a := 4096) (b := 2048) _).trans ?_
  refine congrArg₂ (· + ·) ((Fin.sum_univ_add (a := 2048) (b := 2048) _).trans (congrArg₂ (· + ·) ?_ ?_)) ?_
  · refine Finset.sum_congr rfl fun x _ => ?_
    rw [dif_pos (show (Fin.castAdd 2048 (Fin.castAdd 2048 x)).val < 2048 from x.isLt)]
    rfl
  · refine Finset.sum_congr rfl fun x _ => ?_
    have hv : (Fin.castAdd 2048 (Fin.natAdd 2048 x)).val = 2048 + x.val := rfl
    rw [dif_neg (by rw [hv]; omega), dif_pos (by rw [hv]; omega)]
    refine congrArg₂ (· * ·) (congrArg g (Fin.ext ?_)) rfl
    show 2048 + x.val - 2048 = x.val
    omega
  · refine Finset.sum_congr rfl fun x _ => ?_
    have hv : (Fin.natAdd 4096 x).val = 4096 + x.val := rfl
    rw [dif_neg (by rw [hv]; omega), dif_neg (by rw [hv]; omega)]
    refine congrArg₂ (· * ·) (congrArg k (Fin.ext ?_)) rfl
    show 4096 + x.val - 2048 - 2048 = x.val
    omega

/-- The input gates. -/
theorem ig_at (b : Fin 32) (t : Fin 16) (h : Fin 4) : val_main_v77 (F := Ideal) x0 x4 x5 x6 x7 x8 x9 x10 x11 (ix3 b h t)
    = gate x0 x4 x5 x6 x7 x8 x9 x10 x11 b t h := by
  unfold gate
  rw [← sum_three (fun x => val_main_v44 (F := Ideal) x0 x4 x5 x6 x7 (ix3 b t x)) (fun x => val_main_v51 (F := Ideal) x0 x4 x5 x6 x8 (ix3 b t x))
    (fun x => val_main_v56 (F := Ideal) x0 x9 (ix3 b t x)) (fun x => x10 (ix3 0 x h))]
  pointwise [val_main_v77, val_main_v63, val_main_v62, val_main_v61, val_main_v60, val_main_v59, val_main_v58, val_main_v57]

/-- The forget gates before the log-sigmoid. -/
theorem fg_at (b : Fin 32) (t : Fin 16) (h : Fin 4) : val_main_v69 (F := Ideal) x0 x4 x5 x6 x7 x8 x9 x12 x13 (ix3 b t h)
    = gate x0 x4 x5 x6 x7 x8 x9 x12 x13 b t h := by
  unfold gate
  rw [← sum_three (fun x => val_main_v44 (F := Ideal) x0 x4 x5 x6 x7 (ix3 b t x)) (fun x => val_main_v51 (F := Ideal) x0 x4 x5 x6 x8 (ix3 b t x))
    (fun x => val_main_v56 (F := Ideal) x0 x9 (ix3 b t x)) (fun x => x12 (ix3 0 x h))]
  pointwise [val_main_v69, val_main_v68, val_main_v67, val_main_v66, val_main_v65, val_main_v64, val_main_v57]

/-- The logarithm of the logistic function as the reference writes it. -/
def logSig (z : EReal) : EReal :=
  -(if (-z : EReal) ≠ -z then -z else max (-z) 0 + Ideal.log1p (Ideal.exp (-(max (-z) (-(-z))))))

/-- The log forget gates. -/
theorem lf_at (b : Fin 32) (t : Fin 16) (h : Fin 4) : val_main_v78 (F := Ideal) x0 x4 x5 x6 x7 x8 x9 x12 x13 (ix3 b h t)
    = logSig (val_main_v69 (F := Ideal) x0 x4 x5 x6 x7 x8 x9 x12 x13 (ix3 b t h)) := by
  pointwise [val_main_v78, val_main_v70, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0]
  rfl

/-- The cumulative log forget gates. -/
theorem bc_at (b : Fin 32) (t : Fin 16) (h : Fin 4) : val_main_v81 (F := Ideal) x0 x4 x5 x6 x7 x8 x9 x12 x13 (ix3 b h t)
    = ∑ s : Fin 16, if s.val ≤ t.val then val_main_v78 (F := Ideal) x0 x4 x5 x6 x7 x8 x9 x12 x13 (ix3 b h s) else 0 := by
  refine Eq.trans ?_ (window_sum _ b h t)
  unfold val_main_v81 Host.reduceWindowAdd
  have e : val_main_call3_call0_v0 (F := Ideal) (Shape.Idx.first h_S_) = 0 := by
    rw [show Shape.Idx.first h_S_ = ix0 from funext fun a => a.elim0]
    pointwise [val_main_call3_call0_v0, val_main_call3_call0_cst]
  rw [e]
  rfl

end Cert.ReferenceIdeal.Front
-- ==== Proof.Reals.lean ====
module

public import Idealize.ShloMosaic.PureOps.Ideal.Laws

@[expose] public section

set_option maxRecDepth 16384

noncomputable section

/-! # Finite values, and the gate on them -/

namespace Cert.Spec

open Idealize.ShloMosaic

/-- A finite extended real. -/
def IsReal (x : EReal) : Prop := ∃ r : ℝ, x = (r : EReal)

/-- The magnitude below infinity makes a value finite. -/
theorem isReal_of_abs {x : EReal} (h : max x (-x) < ⊤) : IsReal x := by
  induction x using EReal.rec with
  | bot => exact absurd h (by simp)
  | coe r => exact ⟨r, rfl⟩
  | top => exact absurd h (by simp)

/-- Sums of finite values are finite. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- Products of finite values are finite. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- Zero is finite. -/
theorem isReal_zero : IsReal 0 := ⟨0, rfl⟩

/-- A finite sum of finite values is finite. -/
theorem IsReal.sum {ι : Type} (s : Finset ι) {f : ι → EReal} (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- A finite value less itself is zero. -/
theorem IsReal.sub_self {x : EReal} (hx : IsReal x) : x - x = 0 := by
  obtain ⟨r, rfl⟩ := hx
  rw [← EReal.coe_sub, _root_.sub_self]
  rfl

/-- The word of one half. -/
theorem half_word : Ideal.ofBits .f32 0x3F000000#32 = ((1 / 2 : ℝ) : EReal) := by
  simp [Ideal.ofBits, Ideal.ieee]
  rw [← EReal.coe_mul]
  congr 1
  norm_num

/-- On the reals: a half of `r`, times its hyperbolic tangent, plus the half, is `r` times its logistic. -/
theorem half_tanh (r : ℝ) : 1 / 2 * r * Real.tanh (1 / 2 * r) + 1 / 2 * r = r * (1 + Real.exp (-r))⁻¹ := by
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have ha : a = b⁻¹ := eq_inv_of_mul_eq_one_left h2
  subst ha
  field_simp
  ring

/-- Half a finite value, times its hyperbolic tangent, plus the half, is the value times its logistic. -/
theorem half_gate {z : EReal} (hz : IsReal z) :
    Ideal.ofBits .f32 0x3F000000#32 * z * Ideal.tanh (Ideal.ofBits .f32 0x3F000000#32 * z) + Ideal.ofBits .f32 0x3F000000#32 * z
      = z * Ideal.logistic z := by
  obtain ⟨r, rfl⟩ := hz
  rw [half_word, ← EReal.coe_mul, Ideal.tanh_coe, ← EReal.coe_mul, ← EReal.coe_add, Ideal.logistic_coe, ← EReal.coe_mul, half_tanh]

/-- The gate of a finite value is finite. -/
theorem gated_real {z : EReal} (hz : IsReal z) : IsReal (z * Ideal.logistic z) := by
  obtain ⟨r, rfl⟩ := hz
  rw [Ideal.logistic_coe, ← EReal.coe_mul]
  exact ⟨_, rfl⟩

end Cert.Spec

end
-- ==== Proof.Scalars.lean ====
module

public import proofs.«01_k».proof.Proof.KFront
public import proofs.«01_k».proof.Proof.RefFront
public import proofs.«01_k».proof.Proof.Reals

@[expose] public section

set_option maxRecDepth 16384

noncomputable section

/-! # The scalar identities between the two programs, on finite values -/

namespace Cert.Spec

open Idealize.ShloMosaic

/-- The larger of two reals, as an extended real. -/
theorem coe_max' (a b : ℝ) : ((max a b : ℝ) : EReal) = max (a : EReal) (b : EReal) := EReal.coe_strictMono.monotone.map_max

/-- The smaller of two reals, as an extended real. -/
theorem coe_min' (a b : ℝ) : ((min a b : ℝ) : EReal) = min (a : EReal) (b : EReal) := EReal.coe_strictMono.monotone.map_min

/-- The word of the keys' scale is finite. -/
theorem scale_real : IsReal (Ideal.ofBits .f32 1026884851#32) := by
  simp [Ideal.ofBits, Ideal.ieee]
  exact ⟨_, (EReal.coe_mul _ _).symm⟩

/-- The kernel's gate is the reference's, on a finite value. -/
theorem halfGate_eq {z : EReal} (hz : IsReal z) : Cert.KernelIdeal.Cell.halfGate z = z * Ideal.logistic z := by
  unfold Cert.KernelIdeal.Cell.halfGate
  exact half_gate hz

/-- The kernel's log-sigmoid on a finite value. -/
theorem logGate_coe (r : ℝ) : Cert.KernelIdeal.Front.logGate (r : EReal)
    = ((min r 0 - Real.log (1 + Real.exp (-max r (-r))) : ℝ) : EReal) := by
  unfold Cert.KernelIdeal.Front.logGate
  have hp : ¬ (1 + Real.exp (-max r (-r)) ≤ 0) := by have := Real.exp_pos (-max r (-r)); linarith
  have e : (0 : EReal) - max (r : EReal) (-(r : EReal)) = ((-max r (-r) : ℝ) : EReal) := by
    rw [zero_sub, ← EReal.coe_neg, ← coe_max', ← EReal.coe_neg]
  have e1 : (1 : EReal) + ((Real.exp (-max r (-r)) : ℝ) : EReal) = ((1 + Real.exp (-max r (-r)) : ℝ) : EReal) := by
    rw [EReal.coe_add]; rfl
  have e2 : min (r : EReal) 0 = ((min r 0 : ℝ) : EReal) := by rw [coe_min']; rfl
  rw [e, Ideal.exp_coe, e1, Ideal.log_coe, if_neg hp, e2, EReal.coe_sub]

/-- The two log-sigmoids agree on a finite value. -/
theorem logGate_eq {z : EReal} (hz : IsReal z) : Cert.KernelIdeal.Front.logGate z = Cert.ReferenceIdeal.Front.logSig z := by
  obtain ⟨r, rfl⟩ := hz
  rw [logGate_coe]
  unfold Cert.ReferenceIdeal.Front.logSig Ideal.log1p
  have hp : ¬ (1 + Real.exp (-max r (-r)) ≤ 0) := by have := Real.exp_pos (-max r (-r)); linarith
  have e : -(max (-(r : EReal)) (-(-(r : EReal)))) = ((-max r (-r) : ℝ) : EReal) := by
    rw [neg_neg, max_comm, ← EReal.coe_neg, ← coe_max', ← EReal.coe_neg]
  have e1 : (1 : EReal) + ((Real.exp (-max r (-r)) : ℝ) : EReal) = ((1 + Real.exp (-max r (-r)) : ℝ) : EReal) := by
    rw [EReal.coe_add]; rfl
  have e2 : max (-(r : EReal)) 0 = ((max (-r) 0 : ℝ) : EReal) := by rw [coe_max', EReal.coe_neg]; rfl
  rw [if_neg (by simp), e, Ideal.exp_coe, e1, Ideal.log_coe, if_neg hp, e2, ← EReal.coe_add, ← EReal.coe_neg]
  congr 1
  have : min r 0 = -max (-r) 0 := by rw [← neg_zero (G := ℝ), max_neg_neg]; simp
  rw [this]
  ring

/-- The log-sigmoid of a finite value is finite. -/
theorem logGate_real {z : EReal} (hz : IsReal z) : IsReal (Cert.KernelIdeal.Front.logGate z) := by
  obtain ⟨r, rfl⟩ := hz
  exact ⟨_, logGate_coe r⟩

/-- A sum over 256 lanes that vanishes outside one block of four. -/
theorem block_sum (f : Fin 256 → EReal) (l : Fin 256) (hf : ∀ x : Fin 256, x.val / 4 ≠ l.val / 4 → f x = 0) :
    ∑ x, f x = ∑ y : Fin 4, f ⟨l.val / 4 * 4 + y.val, by omega⟩ := by
  refine (Finset.sum_of_injOn (fun y : Fin 4 => (⟨l.val / 4 * 4 + y.val, by omega⟩ : Fin 256)) ?_ ?_ ?_ ?_).symm
  · intro a _ b _ h
    have := congrArg Fin.val h
    simp at this
    exact Fin.ext this
  · intro a _
    simp
  · intro x _ hx
    refine hf x fun h => hx ⟨⟨x.val % 4, by omega⟩, by simp, ?_⟩
    apply Fin.ext
    simp
    omega
  · intro a _
    rfl

/-- A lower triangle of ones sums the entries up to its row, in its own half of the thirty-two rows. -/
theorem tri_sum (L : Fin 32 → EReal) (g : Fin 2) (t : Fin 16) :
    (∑ x : Fin 32, (if (g.val * 16 + t.val) / 16 = x.val / 16 ∧ x.val ≤ g.val * 16 + t.val then (1 : EReal) else 0) * L x)
      = ∑ s : Fin 16, if s.val ≤ t.val then L ⟨g.val * 16 + s.val, by omega⟩ else 0 := by
  refine (Finset.sum_of_injOn (fun s : Fin 16 => (⟨g.val * 16 + s.val, by omega⟩ : Fin 32)) ?_ ?_ ?_ ?_).symm
  · intro a _ b _ h
    have := congrArg Fin.val h
    simp at this
    exact Fin.ext this
  · intro a _
    simp
  · intro x _ hx
    rw [if_neg, zero_mul]
    intro h
    refine hx ⟨⟨x.val % 16, by omega⟩, by simp, ?_⟩
    apply Fin.ext
    simp
    omega
  · intro s _
    by_cases h : s.val ≤ t.val
    · rw [if_pos h, if_pos (by simp; omega), one_mul]
    · rw [if_neg h, if_neg (by simp; omega), zero_mul]

end Cert.Spec
-- ==== Proof.RefCell.lean ====
module

public import proofs.«01_k».proof.Proof.Gen.ReferenceIdeal.Read
public import proofs.«01_k».proof.Proof.Spec

@[expose] public section

set_option maxRecDepth 16384

noncomputable section

namespace Cert.ReferenceIdeal.Cell

open Cert.ReferenceIdeal Cert.ReferenceIdeal.Gen Cert.ReferenceIdeal.Read Cert.Spec
open Idealize.ShloMosaic Idealize.ShloMosaic.TcCoe Idealize.SL.Sem

variable (x0 : FVec Ideal S32x16x4096 .f32) (x1 : FVec Ideal S1x32x4x512x512 .f32) (x2 : FVec Ideal S1x32x4x512 .f32)
  (x3 : FVec Ideal S1x32x4 .f32) (x4 : FVec Ideal S1x32x3x2048 .f32) (x5 : FVec Ideal S1x4x2048 .f32)
  (x6 : FVec Ideal S1x2048 .f32) (x7 x8 x9 : FVec Ideal S1x512x4x4 .f32) (x10 : FVec Ideal S1x6144x4 .f32)
  (x11 : FVec Ideal S1x4 .f32) (x12 : FVec Ideal S1x6144x4 .f32) (x13 : FVec Ideal S1x4 .f32)
  (x14 : FVec Ideal S1x512 .f32) (x15 : FVec Ideal S1x2048 .f32)

/-- Head `h` of stream `b` as the reference's own arrays hold it. -/
def head (b : Fin 32) (h : Fin 4) : Head where
  q t d := val_main_v72 (F := Ideal) x0 x4 x5 x6 x7 (ix4 b h t d)
  k t d := val_main_v74 (F := Ideal) x0 x4 x5 x6 x8 (ix4 b h t d)
  v t d := val_main_v76 (F := Ideal) x0 x9 (ix4 b h t d)
  bc t := val_main_v81 (F := Ideal) x0 x4 x5 x6 x7 x8 x9 x12 x13 (ix3 b h t)
  ic t := val_main_v77 (F := Ideal) x0 x4 x5 x6 x7 x8 x9 x10 x11 (ix3 b h t)
  mp := x3 (ix3 0 b h)
  C v d := x1 (ix5 0 b h v d)
  n d := x2 (ix4 0 b h d)

/-- The causal mask at a pair of tokens: the comparison of their positions as words. -/
theorem mask_at (j s : Fin 16) :
    IntOp.cmpi CmpIPredicate.sge (IntOp.addi (BitVec.ofNat 32 ↑j) 0#32) (BitVec.ofNat 32 ↑s)
      = if s.val ≤ j.val then 1#1 else 0#1 := by
  revert j s; decide +kernel

/-- The masked log weights are the head's: the causal pairs carry the decay and the input gate, the others the bottom. -/
theorem lw_at (b : Fin 32) (h : Fin 4) (j s : Fin 16) :
    val_main_v90 (F := Ideal) x0 x4 x5 x6 x7 x8 x9 x10 x11 x12 x13 (ix4 b h j s) = lw (head x0 x1 x2 x3 x4 x5 x6 x7 x8 x9 x10 x11 x12 x13 b h) j s := by
  unfold val_main_v90 lw head
  pointwise [val_main_call4_v1, val_main_call4_v0, val_main_call4_v2, val_main_v80, val_main_call2_v5, val_main_call2_v4,
    val_main_call2_c, val_main_call2_v3, val_main_call2_v2, val_main_call2_v1, val_main_call2_v0, val_main_call2_c_0, val_main_v79, val_main_c,
    val_main_v89, val_main_v88, val_main_v87, val_main_v86, val_main_v85, val_main_v84, val_main_v83, val_main_v82, val_main_cst_0, mask_at]
  by_cases hjs : s.val ≤ j.val
  · simp only [hjs, ↓reduceIte]; rfl
  · simp only [hjs, ↓reduceIte]; rfl

/-- The stabiliser of a token is the head's: the larger of the carried state's log weight and the largest of its pairs. -/
theorem mj_at (b : Fin 32) (h : Fin 4) (j : Fin 16) :
    val_main_v95 (F := Ideal) x0 x3 x4 x5 x6 x7 x8 x9 x10 x11 x12 x13 (ix3 b h j) = mj (head x0 x1 x2 x3 x4 x5 x6 x7 x8 x9 x10 x11 x12 x13 b h) j := by
  unfold mj lp
  simp only [← lw_at]
  unfold head
  pointwise [val_main_v95, val_main_v94, val_main_v93, val_main_v92, val_main_v91, val_main_v2, val_main_cst_1]

/-- The weight of a pair of tokens is the head's exponential of its log weight less the stabiliser. -/
theorem wgt_at (b : Fin 32) (h : Fin 4) (j s : Fin 16) :
    val_main_v99 (F := Ideal) x0 x3 x4 x5 x6 x7 x8 x9 x10 x11 x12 x13 (ix4 b h j s) = wgt (head x0 x1 x2 x3 x4 x5 x6 x7 x8 x9 x10 x11 x12 x13 b h) j s := by
  unfold wgt
  rw [← lw_at, ← mj_at]
  pointwise [val_main_v99, val_main_v98, val_main_v97, val_main_v96]

/-- The weight of the carried state at a token is the head's. -/
theorem wpr_at (b : Fin 32) (h : Fin 4) (j : Fin 16) :
    val_main_v101 (F := Ideal) x0 x3 x4 x5 x6 x7 x8 x9 x10 x11 x12 x13 (ix3 b h j) = wpr (head x0 x1 x2 x3 x4 x5 x6 x7 x8 x9 x10 x11 x12 x13 b h) j := by
  unfold wpr lp
  rw [← mj_at]
  unfold head
  pointwise [val_main_v101, val_main_v100, val_main_v93, val_main_v92, val_main_v91, val_main_v2]

/-- The weighted score of a pair of tokens is the head's product of query and key times their weight. -/
theorem sc_at (b : Fin 32) (h : Fin 4) (j s : Fin 16) :
    val_main_v103 (F := Ideal) x0 x3 x4 x5 x6 x7 x8 x9 x10 x11 x12 x13 (ix4 b h j s) = sc (head x0 x1 x2 x3 x4 x5 x6 x7 x8 x9 x10 x11 x12 x13 b h) j s := by
  unfold sc
  rw [← wgt_at]
  unfold head
  pointwise [val_main_v103, val_main_v102]

/-- The numerator at a token is the head's: the scores on the values, and the carried memory read by the query. -/
theorem num_at (b : Fin 32) (h : Fin 4) (j : Fin 16) (v : Fin 512) :
    val_main_v109 (F := Ideal) x0 x1 x3 x4 x5 x6 x7 x8 x9 x10 x11 x12 x13 (ix4 b h j v) = num (head x0 x1 x2 x3 x4 x5 x6 x7 x8 x9 x10 x11 x12 x13 b h) j v := by
  unfold num
  simp only [← sc_at, ← wpr_at]
  unfold head
  pointwise [val_main_v109, val_main_v108, val_main_v107, val_main_v106, val_main_v105, val_main_v104, val_main_v0]

/-- The denominator at a token is the head's: the scores' sum, and the carried normaliser read by the query. -/
theorem den_at (b : Fin 32) (h : Fin 4) (j : Fin 16) :
    val_main_v113 (F := Ideal) x0 x2 x3 x4 x5 x6 x7 x8 x9 x10 x11 x12 x13 (ix3 b h j) = den (head x0 x1 x2 x3 x4 x5 x6 x7 x8 x9 x10 x11 x12 x13 b h) j := by
  unfold den
  simp only [← sc_at, ← wpr_at]
  unfold head
  pointwise [val_main_v113, val_main_v112, val_main_v111, val_main_v110, val_main_cst_2, val_main_v1]
  exact congrArg _ (congrArg _ (Finset.sum_congr rfl fun d _ => mul_comm _ _))

/-- The cell at a token is the head's numerator over its stabilised denominator. -/
theorem cell_at (b : Fin 32) (h : Fin 4) (j : Fin 16) (v : Fin 512) :
    val_main_v120 (F := Ideal) x0 x1 x2 x3 x4 x5 x6 x7 x8 x9 x10 x11 x12 x13 (ix4 b h j v) = cell (head x0 x1 x2 x3 x4 x5 x6 x7 x8 x9 x10 x11 x12 x13 b h) j v := by
  unfold cell
  rw [← num_at, ← den_at, ← mj_at]
  pointwise [val_main_v120, val_main_v119, val_main_v118, val_main_v117, val_main_v116, val_main_v115, val_main_v114]
  rfl

/-- The new stabiliser is the last token's. -/
theorem mNew_at (b : Fin 32) (h : Fin 4) :
    val_main_v122 (F := Ideal) x0 x3 x4 x5 x6 x7 x8 x9 x10 x11 x12 x13 (ix2 b h) = mNew (head x0 x1 x2 x3 x4 x5 x6 x7 x8 x9 x10 x11 x12 x13 b h) := by
  unfold mNew
  rw [← mj_at]
  pointwise [val_main_v122, val_main_v121]

/-- The weight of a token in the new state is the head's. -/
theorem wsL_at (b : Fin 32) (h : Fin 4) (s : Fin 16) :
    val_main_v132 (F := Ideal) x0 x3 x4 x5 x6 x7 x8 x9 x10 x11 x12 x13 (ix3 b h s) = wsL (head x0 x1 x2 x3 x4 x5 x6 x7 x8 x9 x10 x11 x12 x13 b h) s := by
  unfold wsL
  rw [← mNew_at]
  unfold head
  pointwise [val_main_v132, val_main_v131, val_main_v130, val_main_v129, val_main_v128, val_main_v127, val_main_v126, val_main_v125, val_main_v124, val_main_v123]

/-- The weight of the old state in the new one is the head's. -/
theorem wpL_at (b : Fin 32) (h : Fin 4) :
    val_main_v135 (F := Ideal) x0 x3 x4 x5 x6 x7 x8 x9 x10 x11 x12 x13 (ix2 b h) = wpL (head x0 x1 x2 x3 x4 x5 x6 x7 x8 x9 x10 x11 x12 x13 b h) := by
  unfold wpL
  rw [← mNew_at]
  unfold head
  pointwise [val_main_v135, val_main_v134, val_main_v133, val_main_v124, val_main_v123, val_main_v2]

/-- The new memory is the head's: the old one by its weight, and the tokens' weighted products of value and key. -/
theorem cNew_at (b : Fin 32) (h : Fin 4) (v d : Fin 512) :
    val_main_v143 (F := Ideal) x0 x1 x3 x4 x5 x6 x7 x8 x9 x10 x11 x12 x13 (ix4 b h v d) = cNew (head x0 x1 x2 x3 x4 x5 x6 x7 x8 x9 x10 x11 x12 x13 b h) v d := by
  unfold cNew
  simp only [← wsL_at, ← wpL_at]
  unfold head
  pointwise [val_main_v143, val_main_v142, val_main_v141, val_main_v140, val_main_v139, val_main_v138, val_main_v137, val_main_v136, val_main_v0]

/-- The new normaliser is the head's: the old one by its weight, and the tokens' weighted keys. -/
theorem nNew_at (b : Fin 32) (h : Fin 4) (d : Fin 512) :
    val_main_v148 (F := Ideal) x0 x2 x3 x4 x5 x6 x7 x8 x9 x10 x11 x12 x13 (ix3 b h d) = nNew (head x0 x1 x2 x3 x4 x5 x6 x7 x8 x9 x10 x11 x12 x13 b h) d := by
  unfold nNew
  simp only [← wsL_at, ← wpL_at]
  unfold head
  pointwise [val_main_v148, val_main_v147, val_main_v146, val_main_v145, val_main_v144, val_main_v1]

/-- The gated output at a row and column: the normed cell, its gain and the skip, times the gate's silu. -/
theorem out_at (b : Fin 32) (t : Fin 16) (h : Fin 4) (d : Fin 512) (r : Fin 512) (c : Fin 2048)
    (hr : r.val = b.val * 16 + t.val) (hc : c.val = h.val * 512 + d.val) :
    val_main_v179 (F := Ideal) x0 x1 x2 x3 x4 x5 x6 x7 x8 x9 x10 x11 x12 x13 x14 x15 (ix2 r c)
      = (normed (cell (head x0 x1 x2 x3 x4 x5 x6 x7 x8 x9 x10 x11 x12 x13 b h) t) d * x14 (ix2 0 d) + x15 (ix2 0 c) * val_main_v39 (F := Ideal) x0 x4 x5 x6 (ix3 b t c))
        * (x0 (ix3 b t ⟨2048 + c.val, by omega⟩) * Ideal.logistic (x0 (ix3 b t ⟨2048 + c.val, by omega⟩))) := by
  have eb : (⟨r.val / 16, by omega⟩ : Fin 32) = b := Fin.ext (by simp only; omega)
  have et : (⟨r.val % 16, by omega⟩ : Fin 16) = t := Fin.ext (by simp only; omega)
  have eh : (⟨c.val / 512, by omega⟩ : Fin 4) = h := Fin.ext (by simp only; omega)
  have ed : (⟨c.val % 512, by omega⟩ : Fin 512) = d := Fin.ext (by simp only; omega)
  unfold normed mean
  simp only [← cell_at, Ideal.logistic]
  pointwise [val_main_v179, val_main_v178, val_main_v177, val_main_v176, val_main_call5_v5, val_main_call5_v4, val_main_call5_v3, val_main_call5_v2, val_main_call5_v1, val_main_call5_v0, val_main_call5_cst, val_main_call5_cst_0, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_cst_3, val_main_cst_4, val_main_cst_5, val_main_cst_6, val_main_cst_7, val_main_v4]
  simp only [eb, et, eh, ed]

end Cert.ReferenceIdeal.Cell
-- ==== Proof.Match.lean ====
module

public import proofs.«01_k».proof.Proof.Scalars
public import proofs.«01_k».proof.Proof.RefCell

@[expose] public section

set_option maxRecDepth 16384

noncomputable section

/-! # The tile's front words are the reference's arrays, on finite operands -/

namespace Cert.KernelIdeal.Match

open Cert.KernelIdeal Cert.KernelIdeal.Gen Cert.KernelIdeal.Cell Cert.KernelIdeal.Front Cert.Spec
open Idealize.ShloMosaic Idealize.ShloMosaic.TcCoe Idealize.SL.Sem

/-- The reference's operands that the front reads. -/
structure Args where
  x0 : FVec Ideal Cert.ReferenceIdeal.S32x16x4096 .f32
  x4 : FVec Ideal Cert.ReferenceIdeal.S1x32x3x2048 .f32
  x5 : FVec Ideal Cert.ReferenceIdeal.S1x4x2048 .f32
  x6 : FVec Ideal Cert.ReferenceIdeal.S1x2048 .f32
  x7 : FVec Ideal Cert.ReferenceIdeal.S1x512x4x4 .f32
  x8 : FVec Ideal Cert.ReferenceIdeal.S1x512x4x4 .f32
  x9 : FVec Ideal Cert.ReferenceIdeal.S1x512x4x4 .f32
  x10 : FVec Ideal Cert.ReferenceIdeal.S1x6144x4 .f32
  x11 : FVec Ideal Cert.ReferenceIdeal.S1x4 .f32
  x12 : FVec Ideal Cert.ReferenceIdeal.S1x6144x4 .f32
  x13 : FVec Ideal Cert.ReferenceIdeal.S1x4 .f32

/-- The tile's blocks that the front reads. -/
structure Blocks where
  b0 : Vec Ideal S32x4096 .f32
  b14 : Vec Ideal S2x3x2048 .f32
  b1 : Vec Ideal S4x2048 .f32
  b2 : Vec Ideal S1x2048 .f32
  b3 : Vec Ideal S8x256x256 .bf16
  b4 : Vec Ideal S8x256x256 .bf16
  b5 : Vec Ideal S8x256x256 .bf16
  b6 : Vec Ideal S6144x128 .bf16
  b7 : Vec Ideal S1x128 .f32
  b8 : Vec Ideal S32x32 .bf16

/-- Every operand is finite everywhere. -/
structure Args.Finite (A : Args) : Prop where
  x0 : ∀ i, IsReal (A.x0 i)
  x4 : ∀ i, IsReal (A.x4 i)
  x5 : ∀ i, IsReal (A.x5 i)
  x6 : ∀ i, IsReal (A.x6 i)
  x7 : ∀ i, IsReal (A.x7 i)
  x8 : ∀ i, IsReal (A.x8 i)
  x9 : ∀ i, IsReal (A.x9 i)
  x10 : ∀ i, IsReal (A.x10 i)
  x11 : ∀ i, IsReal (A.x11 i)
  x12 : ∀ i, IsReal (A.x12 i)
  x13 : ∀ i, IsReal (A.x13 i)

/-- The blocks hold the operands' entries of streams `S 0` and `S 1`; the weights are laid block-diagonally. -/
structure Feeds (A : Args) (b : Blocks) (S : Fin 2 → Fin 32) : Prop where
  h0 : ∀ (g : Fin 2) (r : Fin 16) (l : Fin 4096), b.b0 (ix2 ⟨g.val * 16 + r.val, by omega⟩ l) = A.x0 (ix3 (S g) r l)
  h14 : ∀ (g : Fin 2) (r : Fin 3) (l : Fin 2048), b.b14 (ix3 g r l) = A.x4 (ix4 0 (S g) r l)
  h1 : ∀ (r : Fin 4) (l : Fin 2048), b.b1 (ix2 r l) = A.x5 (ix3 0 r l)
  h2 : ∀ l : Fin 2048, b.b2 (ix2 0 l) = A.x6 (ix2 0 l)
  h3 : ∀ (g : Fin 8) (r l : Fin 256), b.b3 (ix3 g r l)
    = if r.val / 4 = l.val / 4 then A.x7 (ix4 0 ⟨g.val * 64 + r.val / 4, by omega⟩ ⟨r.val % 4, by omega⟩ ⟨l.val % 4, by omega⟩) else 0
  h4 : ∀ (g : Fin 8) (r l : Fin 256), b.b4 (ix3 g r l)
    = if r.val / 4 = l.val / 4 then A.x8 (ix4 0 ⟨g.val * 64 + r.val / 4, by omega⟩ ⟨r.val % 4, by omega⟩ ⟨l.val % 4, by omega⟩) else 0
  h5 : ∀ (g : Fin 8) (r l : Fin 256), b.b5 (ix3 g r l)
    = if r.val / 4 = l.val / 4 then A.x9 (ix4 0 ⟨g.val * 64 + r.val / 4, by omega⟩ ⟨r.val % 4, by omega⟩ ⟨l.val % 4, by omega⟩) else 0
  h6i : ∀ (r : Fin 6144) (h : Fin 4), b.b6 (ix2 r ⟨h.val, by omega⟩) = A.x10 (ix3 0 r h)
  h6f : ∀ (r : Fin 6144) (h : Fin 4), b.b6 (ix2 r ⟨4 + h.val, by omega⟩) = A.x12 (ix3 0 r h)
  h7i : ∀ h : Fin 4, b.b7 (ix2 0 ⟨h.val, by omega⟩) = A.x11 (ix2 0 h)
  h7f : ∀ h : Fin 4, b.b7 (ix2 0 ⟨4 + h.val, by omega⟩) = A.x13 (ix2 0 h)
  h8 : ∀ r l : Fin 32, b.b8 (ix2 r l) = if r.val / 16 = l.val / 16 ∧ l.val ≤ r.val then (1 : EReal) else 0

open Cert.ReferenceIdeal.Read Cert.ReferenceIdeal.Front

variable {A : Args} {b : Blocks} {S : Fin 2 → Fin 32} (hF : Feeds A b S) (hA : A.Finite)

section
include hF

/-- The tape is the reference's padded tokens. -/
theorem tape_eq (g : Fin 2) (n : Fin 19) (c : Fin 2048) :
    tape b.b0 b.b14 g n c = val_main_v6 (F := Ideal) A.x0 A.x4 (ix3 (S g) n c) := by
  rw [xp_at]
  unfold tape
  by_cases h : n.val < 3
  · rw [dif_pos h, dif_pos h, hF.h14]
  · rw [dif_neg h, dif_neg h]
    exact hF.h0 g ⟨n.val - 3, by omega⟩ ⟨c.val, by omega⟩

/-- The tile's convolution is the reference's: the same five terms in another order. -/
theorem conv_eq (g : Fin 2) (t : Fin 16) (c : Fin 2048) :
    conv b.b0 b.b14 b.b1 b.b2 g t c = val_main_v38 (F := Ideal) A.x0 A.x4 A.x5 A.x6 (ix3 (S g) t c) := by
  rw [conv_at]
  unfold conv
  simp only [tape_eq hF, hF.h1, hF.h2]
  ac_rfl

end

section
include hA

/-- The padded tokens are finite. -/
theorem xp_real (s : Fin 32) (n : Fin 19) (c : Fin 2048) : IsReal (val_main_v6 (F := Ideal) A.x0 A.x4 (ix3 s n c)) := by
  rw [xp_at]
  split
  · exact hA.x4 _
  · exact hA.x0 _

/-- The convolution is finite. -/
theorem conv_real (s : Fin 32) (t : Fin 16) (c : Fin 2048) : IsReal (val_main_v38 (F := Ideal) A.x0 A.x4 A.x5 A.x6 (ix3 s t c)) := by
  rw [conv_at]
  exact (((((hA.x6 _).add ((xp_real hA _ _ _).mul (hA.x5 _))).add ((xp_real hA _ _ _).mul (hA.x5 _))).add
    ((xp_real hA _ _ _).mul (hA.x5 _))).add ((xp_real hA _ _ _).mul (hA.x5 _)))

/-- The gated convolution is finite. -/
theorem xc_real (s : Fin 32) (t : Fin 16) (c : Fin 2048) : IsReal (val_main_v39 (F := Ideal) A.x0 A.x4 A.x5 A.x6 (ix3 s t c)) := by
  rw [xc_at]
  exact gated_real (conv_real hA s t c)

/-- The queries are finite. -/
theorem qf_real (s : Fin 32) (t : Fin 16) (c : Fin 2048) : IsReal (val_main_v44 (F := Ideal) A.x0 A.x4 A.x5 A.x6 A.x7 (ix3 s t c)) := by
  rw [qf_at]
  exact IsReal.sum _ fun x => (hA.x7 _).mul (xc_real hA _ _ _)

/-- The keys are finite. -/
theorem kf_real (s : Fin 32) (t : Fin 16) (c : Fin 2048) : IsReal (val_main_v51 (F := Ideal) A.x0 A.x4 A.x5 A.x6 A.x8 (ix3 s t c)) := by
  rw [kf_at]
  exact (IsReal.sum _ fun x => (hA.x8 _).mul (xc_real hA _ _ _)).mul scale_real

/-- The values are finite. -/
theorem vf_real (s : Fin 32) (t : Fin 16) (c : Fin 2048) : IsReal (val_main_v56 (F := Ideal) A.x0 A.x9 (ix3 s t c)) := by
  rw [vf_at]
  exact IsReal.sum _ fun x => (hA.x9 _).mul (hA.x0 _)

/-- A gate before its nonlinearity is finite. -/
theorem gate_real (w : FVec Ideal Cert.ReferenceIdeal.S1x6144x4 .f32) (wb : FVec Ideal Cert.ReferenceIdeal.S1x4 .f32)
    (hw : ∀ i, IsReal (w i)) (hb : ∀ i, IsReal (wb i)) (s : Fin 32) (t : Fin 16) (h : Fin 4) :
    IsReal (gate A.x0 A.x4 A.x5 A.x6 A.x7 A.x8 A.x9 w wb s t h) := by
  unfold gate
  exact (((IsReal.sum _ fun x => (qf_real hA _ _ _).mul (hw _)).add (IsReal.sum _ fun x => (kf_real hA _ _ _).mul (hw _))).add
    (IsReal.sum _ fun x => (vf_real hA _ _ _).mul (hw _))).add (hb _)

end

include hF hA

/-- The gated convolution of the tile is the reference's. -/
theorem X_eq (g : Fin 2) (t : Fin 16) (c : Fin 2048) : Xw b.b0 b.b14 b.b1 b.b2 (ix2 ⟨g.val * 16 + t.val, by omega⟩ c)
    = val_main_v39 (F := Ideal) A.x0 A.x4 A.x5 A.x6 (ix3 (S g) t c) := by
  rw [X_at, conv_eq hF, xc_at]
  exact halfGate_eq (conv_real hA _ _ _)

/-- The tile's queries are the reference's. -/
theorem Q_eq (g : Fin 2) (t : Fin 16) (c : Fin 2048) : Qw b.b0 b.b14 b.b1 b.b2 b.b3 (ix2 ⟨g.val * 16 + t.val, by omega⟩ c)
    = val_main_v44 (F := Ideal) A.x0 A.x4 A.x5 A.x6 A.x7 (ix3 (S g) t c) := by
  rw [Q_at, qf_at]
  refine (block_sum _ ⟨c.val % 256, by omega⟩ fun x hx => ?_).trans (Finset.sum_congr rfl fun y _ => ?_)
  · rw [hF.h3, if_neg hx, mul_zero]
  · rw [hF.h3, X_eq hF hA, if_pos (by simp; omega), mul_comm]
    refine congrArg₂ (· * ·) (congrArg A.x7 ?_) (congrArg (val_main_v39 (F := Ideal) A.x0 A.x4 A.x5 A.x6) ?_) <;>
    · congr 1 <;> apply Fin.ext <;> simp <;> omega

/-- The tile's keys are the reference's. -/
theorem K_eq (g : Fin 2) (t : Fin 16) (c : Fin 2048) : Kw b.b0 b.b14 b.b1 b.b2 b.b4 (ix2 ⟨g.val * 16 + t.val, by omega⟩ c)
    = val_main_v51 (F := Ideal) A.x0 A.x4 A.x5 A.x6 A.x8 (ix3 (S g) t c) := by
  rw [K_at, kf_at]
  refine congrArg₂ (· * ·) ?_ rfl
  refine (block_sum _ ⟨c.val % 256, by omega⟩ fun x hx => ?_).trans (Finset.sum_congr rfl fun y _ => ?_)
  · rw [hF.h4, if_neg hx, mul_zero]
  · rw [hF.h4, X_eq hF hA, if_pos (by simp; omega), mul_comm]
    refine congrArg₂ (· * ·) (congrArg A.x8 ?_) (congrArg (val_main_v39 (F := Ideal) A.x0 A.x4 A.x5 A.x6) ?_) <;>
    · congr 1 <;> apply Fin.ext <;> simp <;> omega

/-- The left half of the tile holds the streams' tokens. -/
theorem left_eq (g : Fin 2) (t : Fin 16) (c : Fin 2048) : left b.b0 (ix2 ⟨g.val * 16 + t.val, by omega⟩ c)
    = A.x0 (ix3 (S g) t ⟨c.val, by omega⟩) := by
  rw [left_at]
  exact hF.h0 g t ⟨c.val, by omega⟩

/-- The tile's values are the reference's. -/
theorem V_eq (g : Fin 2) (t : Fin 16) (c : Fin 2048) : Vw b.b0 b.b5 (ix2 ⟨g.val * 16 + t.val, by omega⟩ c)
    = val_main_v56 (F := Ideal) A.x0 A.x9 (ix3 (S g) t c) := by
  rw [V_at, vf_at]
  refine (block_sum _ ⟨c.val % 256, by omega⟩ fun x hx => ?_).trans (Finset.sum_congr rfl fun y _ => ?_)
  · rw [hF.h5, if_neg hx, mul_zero]
  · rw [hF.h5, left_eq hF hA, if_pos (by simp; omega), mul_comm]
    refine congrArg₂ (· * ·) (congrArg A.x9 ?_) (congrArg (A.x0) ?_) <;>
    · congr 1 <;> apply Fin.ext <;> simp <;> omega

/-- The tile's input gates before their nonlinearity are the reference's. -/
theorem Gi_eq (g : Fin 2) (t : Fin 16) (h : Fin 4) :
    Gw b.b0 b.b14 b.b1 b.b2 b.b3 b.b4 b.b5 b.b6 b.b7 (ix2 ⟨g.val * 16 + t.val, by omega⟩ ⟨h.val, by omega⟩)
      = gate A.x0 A.x4 A.x5 A.x6 A.x7 A.x8 A.x9 A.x10 A.x11 (S g) t h := by
  rw [G_at]
  unfold gate
  simp only [Q_eq hF hA, K_eq hF hA, V_eq hF hA, hF.h6i, hF.h7i]

/-- The tile's forget gates before their nonlinearity are the reference's. -/
theorem Gf_eq (g : Fin 2) (t : Fin 16) (h : Fin 4) :
    Gw b.b0 b.b14 b.b1 b.b2 b.b3 b.b4 b.b5 b.b6 b.b7 (ix2 ⟨g.val * 16 + t.val, by omega⟩ ⟨4 + h.val, by omega⟩)
      = gate A.x0 A.x4 A.x5 A.x6 A.x7 A.x8 A.x9 A.x12 A.x13 (S g) t h := by
  rw [G_at]
  unfold gate
  simp only [Q_eq hF hA, K_eq hF hA, V_eq hF hA, hF.h6f, hF.h7f]

/-- The tile's cumulative log forget gates are the reference's. -/
theorem B_eq (g : Fin 2) (t : Fin 16) (h : Fin 4) :
    Bw b.b0 b.b14 b.b1 b.b2 b.b3 b.b4 b.b5 b.b6 b.b7 b.b8 (ix2 ⟨g.val * 16 + t.val, by omega⟩ ⟨4 + h.val, by omega⟩)
      = val_main_v81 (F := Ideal) A.x0 A.x4 A.x5 A.x6 A.x7 A.x8 A.x9 A.x12 A.x13 (ix3 (S g) h t) := by
  have hG : ∀ x : Fin 32, IsReal (Gw b.b0 b.b14 b.b1 b.b2 b.b3 b.b4 b.b5 b.b6 b.b7 (ix2 x ⟨4 + h.val, by omega⟩)) := by
    intro x
    have e : x = ⟨(⟨x.val / 16, by omega⟩ : Fin 2).val * 16 + (⟨x.val % 16, by omega⟩ : Fin 16).val, by simp; omega⟩ :=
      Fin.ext (by simp; omega)
    rw [e, Gf_eq hF hA]
    exact gate_real hA _ _ hA.x12 hA.x13 _ _ _
  rw [B_at, bc_at]
  have z : ∀ x : Fin 32, logGate (Gw b.b0 b.b14 b.b1 b.b2 b.b3 b.b4 b.b5 b.b6 b.b7 (ix2 x ⟨4 + h.val, by omega⟩))
      - logGate (Gw b.b0 b.b14 b.b1 b.b2 b.b3 b.b4 b.b5 b.b6 b.b7 (ix2 x ⟨4 + h.val, by omega⟩)) = 0 :=
    fun x => (logGate_real (hG x)).sub_self
  simp only [z, mul_zero, Finset.sum_const_zero, add_zero, hF.h8]
  refine (tri_sum (fun x => logGate (Gw b.b0 b.b14 b.b1 b.b2 b.b3 b.b4 b.b5 b.b6 b.b7 (ix2 x ⟨4 + h.val, by omega⟩))) g t).trans
    (Finset.sum_congr rfl fun s _ => ?_)
  refine if_congr Iff.rfl ?_ rfl
  rw [lf_at, fg_at, Gf_eq hF hA]
  exact logGate_eq (gate_real hA _ _ hA.x12 hA.x13 _ _ _)

end Cert.KernelIdeal.Match
-- ==== Proof.Feed.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Feed

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Where every window sits at point `t`. -/
theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0, 0]
    ∧ win0_6.index t = ![0, 0] ∧ win0_7.index t = ![0, 0] ∧ win0_8.index t = ![0, 0] ∧ win0_9.index t = ![0, 0]
    ∧ win0_10.index t = ![0, 0] ∧ win0_11.index t = ![t.val, 0, 0, 0] ∧ win0_12.index t = ![t.val, 0, 0]
    ∧ win0_13.index t = ![t.val, 0, 0] ∧ win0_14.index t = ![t.val, 0, 0]
    ∧ win0_15.index t = ![t.val, 0] ∧ win0_16.index t = ![t.val, 0, 0, 0] ∧ win0_17.index t = ![t.val, 0, 0]
    ∧ win0_18.index t = ![t.val, 0, 0] ∧ win0_19.index t = ![t.val, 0, 0] ∧ t.val < 16 :=
  (by decide +kernel : ∀ t : Fin grid0.N, _)

variable (c : Dev nD) (t : Fin cfg0.N)

/-- The padding word of the masked weights. -/
theorem zero_word : (id (constant (F := Ideal) S_ FTy.f32 0#32) ix0 : EReal) = 0 := Ideal.ofBits_zero_f32

/-- What window 0 feeds the body. -/
theorem feed0 (g : Fin 2) (r : Fin 16) (l : Fin 4096) : iblk m c 0 t (ix2 ⟨g.val * 16 + r.val, by omega⟩ l)
    = m (c, Proc.tc.devRef main_arg0) (ix3 ⟨t.val * 2 + g.val, by have := (idx t).2.2.2.2.2.2.2.2.2.2.2.2.2.2.2.2.2.2.2.2; omega⟩ r l) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  all_goals (congr 1; congr 1 <;> apply Fin.ext <;> (first | (blk_simp [idx t]; done) | (simp; omega)))

/-- What window 1 feeds the body. -/
theorem feed1 (r : Fin 4) (l : Fin 2048) : iblk m c 1 t (ix2 r l)
    = m (c, Proc.tc.devRef main_arg5) (ix3 0 r l) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  all_goals (congr 1; congr 1 <;> (try apply Fin.ext) <;> blk_simp [idx t])

/-- What window 2 feeds the body. -/
theorem feed2 (l : Fin 2048) : iblk m c 2 t (ix2 0 l)
    = m (c, Proc.tc.devRef main_arg6) (ix2 0 l) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  rw [eq_ix2 ((win0_2.blk t).view.emb (ix2 0 l))]
  congr 1; congr 1 <;> apply Fin.ext <;> blk_simp [idx t]

/-- What window 8 feeds the body. -/
theorem feed8 (r l : Fin 32) : iblk m c 8 t (ix2 r l)
    = (FloatOps.ofBits (F := Ideal) .bf16 (lit3 (S32x32.rowMajor (ix2 r l))) : EReal) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  have e : (win0_8.blk t).view.emb (ix2 r l) = ix2 r l := by
    rw [eq_ix2 ((win0_8.blk t).view.emb (ix2 r l))]
    congr 1 <;> apply Fin.ext <;> blk_simp [idx t]
  exact congrArg (fun i => FloatOps.ofBits (F := Ideal) .bf16 (lit3 (S32x32.rowMajor i))) e

/-- What window 9 feeds the body. -/
theorem feed9 (l : Fin 512) : iblk m c 9 t (ix2 0 l)
    = m (c, Proc.tc.devRef main_arg14) (ix2 0 l) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  rw [eq_ix2 ((win0_9.blk t).view.emb (ix2 0 l))]
  congr 1; congr 1 <;> apply Fin.ext <;> blk_simp [idx t]

/-- What window 10 feeds the body. -/
theorem feed10 (l : Fin 2048) : iblk m c 10 t (ix2 0 l)
    = m (c, Proc.tc.devRef main_arg15) (ix2 0 l) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  rw [eq_ix2 ((win0_10.blk t).view.emb (ix2 0 l))]
  congr 1; congr 1 <;> apply Fin.ext <;> blk_simp [idx t]

/-- What window 11 feeds the body. -/
theorem feed11 (g : Fin 2) (h : Fin 4) (v d : Fin 512) : iblk m c 11 t (ix4 g h v d)
    = m (c, Proc.tc.devRef main_arg1) (ix5 0 ⟨t.val * 2 + g.val, by have := (idx t).2.2.2.2.2.2.2.2.2.2.2.2.2.2.2.2.2.2.2.2; omega⟩ h v d) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  all_goals (congr 1; congr 1 <;> (try apply Fin.ext) <;> blk_simp [idx t])

/-- What window 12 feeds the body. -/
theorem feed12 (g : Fin 2) (h : Fin 4) (d : Fin 512) : iblk m c 12 t (ix3 g h d)
    = m (c, Proc.tc.devRef main_arg2) (ix4 0 ⟨t.val * 2 + g.val, by have := (idx t).2.2.2.2.2.2.2.2.2.2.2.2.2.2.2.2.2.2.2.2; omega⟩ h d) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  all_goals (congr 1; congr 1 <;> (try apply Fin.ext) <;> blk_simp [idx t])

/-- What window 13 feeds the body. -/
theorem feed13 (g : Fin 2) (h : Fin 4) : iblk m c 13 t (ix3 g 0 h)
    = m (c, Proc.tc.devRef main_arg3) (ix3 0 ⟨t.val * 2 + g.val, by have := (idx t).2.2.2.2.2.2.2.2.2.2.2.2.2.2.2.2.2.2.2.2; omega⟩ h) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  all_goals (congr 1; congr 1 <;> (try apply Fin.ext) <;> blk_simp [idx t])

/-- What window 14 feeds the body. -/
theorem feed14 (g : Fin 2) (r : Fin 3) (l : Fin 2048) : iblk m c 14 t (ix3 g r l)
    = m (c, Proc.tc.devRef main_arg4) (ix4 0 ⟨t.val * 2 + g.val, by have := (idx t).2.2.2.2.2.2.2.2.2.2.2.2.2.2.2.2.2.2.2.2; omega⟩ r l) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  all_goals (congr 1; congr 1 <;> (try apply Fin.ext) <;> blk_simp [idx t])

/-- What window 3 feeds the body. -/
theorem feed3 (g : Fin 8) (r l : Fin 256) : iblk m c 3 t (ix3 g r l)
    = Scalar.select (lit0 (S256x256.rowMajor (ix2 r l))) (m (c, Proc.tc.devRef main_arg7) (ix4 0 ⟨g.val * 64 + r.val / 4, by omega⟩ ⟨r.val % 4, by omega⟩ ⟨l.val % 4, by omega⟩)) (0 : EReal) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  refine congrArg₂ (fun a b => Scalar.select a _ b) ?_ ?_
  · congr 2
    congr 1 <;> apply Fin.ext <;> blk_simp [idx t]
  · exact zero_word

/-- What window 4 feeds the body. -/
theorem feed4 (g : Fin 8) (r l : Fin 256) : iblk m c 4 t (ix3 g r l)
    = Scalar.select (lit1 (S256x256.rowMajor (ix2 r l))) (m (c, Proc.tc.devRef main_arg8) (ix4 0 ⟨g.val * 64 + r.val / 4, by omega⟩ ⟨r.val % 4, by omega⟩ ⟨l.val % 4, by omega⟩)) (0 : EReal) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  refine congrArg₂ (fun a b => Scalar.select a _ b) ?_ ?_
  · congr 2
    congr 1 <;> apply Fin.ext <;> blk_simp [idx t]
  · exact zero_word

/-- What window 5 feeds the body. -/
theorem feed5 (g : Fin 8) (r l : Fin 256) : iblk m c 5 t (ix3 g r l)
    = Scalar.select (lit2 (S256x256.rowMajor (ix2 r l))) (m (c, Proc.tc.devRef main_arg9) (ix4 0 ⟨g.val * 64 + r.val / 4, by omega⟩ ⟨r.val % 4, by omega⟩ ⟨l.val % 4, by omega⟩)) (0 : EReal) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  refine congrArg₂ (fun a b => Scalar.select a _ b) ?_ ?_
  · congr 2
    congr 1 <;> apply Fin.ext <;> blk_simp [idx t]
  · exact zero_word

/-- What window 6 feeds the body. -/
theorem feed6 (r : Fin 6144) (l : Fin 128) : iblk m c 6 t (ix2 r l)
    = if h : l.val < 8 then (if h' : l.val < 4 then m (c, Proc.tc.devRef main_arg10) (ix3 0 r ⟨l.val, h'⟩) else m (c, Proc.tc.devRef main_arg12) (ix3 0 r ⟨l.val - 4, by omega⟩)) else (FloatOps.sitofp (F := Ideal) FTy.f32 0#32 : EReal) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]
  have e : (win0_6.blk t).view.emb (ix2 r l) 0 = r := by
    apply Fin.ext; blk_simp [idx t]
  simp only [e]

/-- What window 7 feeds the body. -/
theorem feed7 (l : Fin 128) : iblk m c 7 t (ix2 0 l)
    = if h : l.val < 8 then (if h' : l.val < 4 then m (c, Proc.tc.devRef main_arg11) (ix2 0 ⟨l.val, h'⟩) else m (c, Proc.tc.devRef main_arg13) (ix2 0 ⟨l.val - 4, by omega⟩)) else (FloatOps.sitofp (F := Ideal) FTy.f32 0#32 : EReal) := by
  have ht := (idx t).2.2.2.2.2.2.2.2.2.2.2.2.2.2.2.2.2.2.2.2
  blk_simp [iblk, idx t]
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10]
  after_results
  try simp only [StableHlo.TRef.toBuf, StableHlo.TRef.ofBuf, cast_cast, cast_eq]
  pointwise
  blk_simp [idx t]

end Cert.KernelIdeal.Feed
-- ==== Proof.MaskPatterns.lean ====
module

public import proofs.«01_k».proof.Proof.Gen.KernelIdeal.Skeleton

@[expose] public section

set_option maxRecDepth 16384

noncomputable section

/-! # The masks of the three block-diagonal weights

The three literal tables are one table. It is read in rows of 128 entries: each is either empty or the same four lanes
as one of thirty-two patterns. -/

namespace Cert.KernelIdeal.Mask

open Cert.KernelIdeal
open Idealize.ShloMosaic Idealize.ShloMosaic.TcCoe

/-- The keys' mask is the queries'. -/
theorem mask1_eq : lit1t = lit0t := rfl

/-- The values' mask is the queries'. -/
theorem mask2_eq : lit2t = lit0t := rfl

/-- An empty stretch. -/
theorem pat_none (i : ℕ) : lit0t0_1 i = 0#1 := by
  have e : lit0t0_1 i = lit0t0_1 (i % 128) := by unfold lit0t0_1; rw [Nat.mod_mod]
  have k : ∀ l : Fin 128, lit0t0_1 l.val = 0#1 := by decide +kernel
  exact e.trans (k ⟨i % 128, Nat.mod_lt _ (by decide)⟩)

/-- A stretch with lanes 0 to 3. -/
theorem pat_0 (i : ℕ) : lit0t0_0 i = if i % 128 / 4 = 0 then 1#1 else 0#1 := by
  have e : lit0t0_0 i = lit0t0_0 (i % 128) := by unfold lit0t0_0; rw [Nat.mod_mod]
  have k : ∀ l : Fin 128, lit0t0_0 l.val = if l.val / 4 = 0 then 1#1 else 0#1 := by decide +kernel
  exact e.trans (k ⟨i % 128, Nat.mod_lt _ (by decide)⟩)

/-- A stretch with lanes 4 to 7. -/
theorem pat_1 (i : ℕ) : lit0t0_8 i = if i % 128 / 4 = 1 then 1#1 else 0#1 := by
  have e : lit0t0_8 i = lit0t0_8 (i % 128) := by unfold lit0t0_8; rw [Nat.mod_mod]
  have k : ∀ l : Fin 128, lit0t0_8 l.val = if l.val / 4 = 1 then 1#1 else 0#1 := by decide +kernel
  exact e.trans (k ⟨i % 128, Nat.mod_lt _ (by decide)⟩)

/-- A stretch with lanes 8 to 11. -/
theorem pat_2 (i : ℕ) : lit0t0_16 i = if i % 128 / 4 = 2 then 1#1 else 0#1 := by
  have e : lit0t0_16 i = lit0t0_16 (i % 128) := by unfold lit0t0_16; rw [Nat.mod_mod]
  have k : ∀ l : Fin 128, lit0t0_16 l.val = if l.val / 4 = 2 then 1#1 else 0#1 := by decide +kernel
  exact e.trans (k ⟨i % 128, Nat.mod_lt _ (by decide)⟩)

/-- A stretch with lanes 12 to 15. -/
theorem pat_3 (i : ℕ) : lit0t0_24 i = if i % 128 / 4 = 3 then 1#1 else 0#1 := by
  have e : lit0t0_24 i = lit0t0_24 (i % 128) := by unfold lit0t0_24; rw [Nat.mod_mod]
  have k : ∀ l : Fin 128, lit0t0_24 l.val = if l.val / 4 = 3 then 1#1 else 0#1 := by decide +kernel
  exact e.trans (k ⟨i % 128, Nat.mod_lt _ (by decide)⟩)

/-- A stretch with lanes 16 to 19. -/
theorem pat_4 (i : ℕ) : lit0t0_32 i = if i % 128 / 4 = 4 then 1#1 else 0#1 := by
  have e : lit0t0_32 i = lit0t0_32 (i % 128) := by unfold lit0t0_32; rw [Nat.mod_mod]
  have k : ∀ l : Fin 128, lit0t0_32 l.val = if l.val / 4 = 4 then 1#1 else 0#1 := by decide +kernel
  exact e.trans (k ⟨i % 128, Nat.mod_lt _ (by decide)⟩)

/-- A stretch with lanes 20 to 23. -/
theorem pat_5 (i : ℕ) : lit0t0_40 i = if i % 128 / 4 = 5 then 1#1 else 0#1 := by
  have e : lit0t0_40 i = lit0t0_40 (i % 128) := by unfold lit0t0_40; rw [Nat.mod_mod]
  have k : ∀ l : Fin 128, lit0t0_40 l.val = if l.val / 4 = 5 then 1#1 else 0#1 := by decide +kernel
  exact e.trans (k ⟨i % 128, Nat.mod_lt _ (by decide)⟩)

/-- A stretch with lanes 24 to 27. -/
theorem pat_6 (i : ℕ) : lit0t0_48 i = if i % 128 / 4 = 6 then 1#1 else 0#1 := by
  have e : lit0t0_48 i = lit0t0_48 (i % 128) := by unfold lit0t0_48; rw [Nat.mod_mod]
  have k : ∀ l : Fin 128, lit0t0_48 l.val = if l.val / 4 = 6 then 1#1 else 0#1 := by decide +kernel
  exact e.trans (k ⟨i % 128, Nat.mod_lt _ (by decide)⟩)

/-- A stretch with lanes 28 to 31. -/
theorem pat_7 (i : ℕ) : lit0t0_56 i = if i % 128 / 4 = 7 then 1#1 else 0#1 := by
  have e : lit0t0_56 i = lit0t0_56 (i % 128) := by unfold lit0t0_56; rw [Nat.mod_mod]
  have k : ∀ l : Fin 128, lit0t0_56 l.val = if l.val / 4 = 7 then 1#1 else 0#1 := by decide +kernel
  exact e.trans (k ⟨i % 128, Nat.mod_lt _ (by decide)⟩)

/-- A stretch with lanes 32 to 35. -/
theorem pat_8 (i : ℕ) : lit0t0_64 i = if i % 128 / 4 = 8 then 1#1 else 0#1 := by
  have e : lit0t0_64 i = lit0t0_64 (i % 128) := by unfold lit0t0_64; rw [Nat.mod_mod]
  have k : ∀ l : Fin 128, lit0t0_64 l.val = if l.val / 4 = 8 then 1#1 else 0#1 := by decide +kernel
  exact e.trans (k ⟨i % 128, Nat.mod_lt _ (by decide)⟩)

/-- A stretch with lanes 36 to 39. -/
theorem pat_9 (i : ℕ) : lit0t0_72 i = if i % 128 / 4 = 9 then 1#1 else 0#1 := by
  have e : lit0t0_72 i = lit0t0_72 (i % 128) := by unfold lit0t0_72; rw [Nat.mod_mod]
  have k : ∀ l : Fin 128, lit0t0_72 l.val = if l.val / 4 = 9 then 1#1 else 0#1 := by decide +kernel
  exact e.trans (k ⟨i % 128, Nat.mod_lt _ (by decide)⟩)

/-- A stretch with lanes 40 to 43. -/
theorem pat_10 (i : ℕ) : lit0t0_80 i = if i % 128 / 4 = 10 then 1#1 else 0#1 := by
  have e : lit0t0_80 i = lit0t0_80 (i % 128) := by unfold lit0t0_80; rw [Nat.mod_mod]
  have k : ∀ l : Fin 128, lit0t0_80 l.val = if l.val / 4 = 10 then 1#1 else 0#1 := by decide +kernel
  exact e.trans (k ⟨i % 128, Nat.mod_lt _ (by decide)⟩)

/-- A stretch with lanes 44 to 47. -/
theorem pat_11 (i : ℕ) : lit0t0_88 i = if i % 128 / 4 = 11 then 1#1 else 0#1 := by
  have e : lit0t0_88 i = lit0t0_88 (i % 128) := by unfold lit0t0_88; rw [Nat.mod_mod]
  have k : ∀ l : Fin 128, lit0t0_88 l.val = if l.val / 4 = 11 then 1#1 else 0#1 := by decide +kernel
  exact e.trans (k ⟨i % 128, Nat.mod_lt _ (by decide)⟩)

/-- A stretch with lanes 48 to 51. -/
theorem pat_12 (i : ℕ) : lit0t0_96 i = if i % 128 / 4 = 12 then 1#1 else 0#1 := by
  have e : lit0t0_96 i = lit0t0_96 (i % 128) := by unfold lit0t0_96; rw [Nat.mod_mod]
  have k : ∀ l : Fin 128, lit0t0_96 l.val = if l.val / 4 = 12 then 1#1 else 0#1 := by decide +kernel
  exact e.trans (k ⟨i % 128, Nat.mod_lt _ (by decide)⟩)

/-- A stretch with lanes 52 to 55. -/
theorem pat_13 (i : ℕ) : lit0t0_104 i = if i % 128 / 4 = 13 then 1#1 else 0#1 := by
  have e : lit0t0_104 i = lit0t0_104 (i % 128) := by unfold lit0t0_104; rw [Nat.mod_mod]
  have k : ∀ l : Fin 128, lit0t0_104 l.val = if l.val / 4 = 13 then 1#1 else 0#1 := by decide +kernel
  exact e.trans (k ⟨i % 128, Nat.mod_lt _ (by decide)⟩)

/-- A stretch with lanes 56 to 59. -/
theorem pat_14 (i : ℕ) : lit0t0_112 i = if i % 128 / 4 = 14 then 1#1 else 0#1 := by
  have e : lit0t0_112 i = lit0t0_112 (i % 128) := by unfold lit0t0_112; rw [Nat.mod_mod]
  have k : ∀ l : Fin 128, lit0t0_112 l.val = if l.val / 4 = 14 then 1#1 else 0#1 := by decide +kernel
  exact e.trans (k ⟨i % 128, Nat.mod_lt _ (by decide)⟩)

/-- A stretch with lanes 60 to 63. -/
theorem pat_15 (i : ℕ) : lit0t0_120 i = if i % 128 / 4 = 15 then 1#1 else 0#1 := by
  have e : lit0t0_120 i = lit0t0_120 (i % 128) := by unfold lit0t0_120; rw [Nat.mod_mod]
  have k : ∀ l : Fin 128, lit0t0_120 l.val = if l.val / 4 = 15 then 1#1 else 0#1 := by decide +kernel
  exact e.trans (k ⟨i % 128, Nat.mod_lt _ (by decide)⟩)

/-- A stretch with lanes 64 to 67. -/
theorem pat_16 (i : ℕ) : lit0t0_128 i = if i % 128 / 4 = 16 then 1#1 else 0#1 := by
  have e : lit0t0_128 i = lit0t0_128 (i % 128) := by unfold lit0t0_128; rw [Nat.mod_mod]
  have k : ∀ l : Fin 128, lit0t0_128 l.val = if l.val / 4 = 16 then 1#1 else 0#1 := by decide +kernel
  exact e.trans (k ⟨i % 128, Nat.mod_lt _ (by decide)⟩)

/-- A stretch with lanes 68 to 71. -/
theorem pat_17 (i : ℕ) : lit0t0_136 i = if i % 128 / 4 = 17 then 1#1 else 0#1 := by
  have e : lit0t0_136 i = lit0t0_136 (i % 128) := by unfold lit0t0_136; rw [Nat.mod_mod]
  have k : ∀ l : Fin 128, lit0t0_136 l.val = if l.val / 4 = 17 then 1#1 else 0#1 := by decide +kernel
  exact e.trans (k ⟨i % 128, Nat.mod_lt _ (by decide)⟩)

/-- A stretch with lanes 72 to 75. -/
theorem pat_18 (i : ℕ) : lit0t0_144 i = if i % 128 / 4 = 18 then 1#1 else 0#1 := by
  have e : lit0t0_144 i = lit0t0_144 (i % 128) := by unfold lit0t0_144; rw [Nat.mod_mod]
  have k : ∀ l : Fin 128, lit0t0_144 l.val = if l.val / 4 = 18 then 1#1 else 0#1 := by decide +kernel
  exact e.trans (k ⟨i % 128, Nat.mod_lt _ (by decide)⟩)

/-- A stretch with lanes 76 to 79. -/
theorem pat_19 (i : ℕ) : lit0t0_152 i = if i % 128 / 4 = 19 then 1#1 else 0#1 := by
  have e : lit0t0_152 i = lit0t0_152 (i % 128) := by unfold lit0t0_152; rw [Nat.mod_mod]
  have k : ∀ l : Fin 128, lit0t0_152 l.val = if l.val / 4 = 19 then 1#1 else 0#1 := by decide +kernel
  exact e.trans (k ⟨i % 128, Nat.mod_lt _ (by decide)⟩)

/-- A stretch with lanes 80 to 83. -/
theorem pat_20 (i : ℕ) : lit0t0_160 i = if i % 128 / 4 = 20 then 1#1 else 0#1 := by
  have e : lit0t0_160 i = lit0t0_160 (i % 128) := by unfold lit0t0_160; rw [Nat.mod_mod]
  have k : ∀ l : Fin 128, lit0t0_160 l.val = if l.val / 4 = 20 then 1#1 else 0#1 := by decide +kernel
  exact e.trans (k ⟨i % 128, Nat.mod_lt _ (by decide)⟩)

/-- A stretch with lanes 84 to 87. -/
theorem pat_21 (i : ℕ) : lit0t0_168 i = if i % 128 / 4 = 21 then 1#1 else 0#1 := by
  have e : lit0t0_168 i = lit0t0_168 (i % 128) := by unfold lit0t0_168; rw [Nat.mod_mod]
  have k : ∀ l : Fin 128, lit0t0_168 l.val = if l.val / 4 = 21 then 1#1 else 0#1 := by decide +kernel
  exact e.trans (k ⟨i % 128, Nat.mod_lt _ (by decide)⟩)

/-- A stretch with lanes 88 to 91. -/
theorem pat_22 (i : ℕ) : lit0t0_176 i = if i % 128 / 4 = 22 then 1#1 else 0#1 := by
  have e : lit0t0_176 i = lit0t0_176 (i % 128) := by unfold lit0t0_176; rw [Nat.mod_mod]
  have k : ∀ l : Fin 128, lit0t0_176 l.val = if l.val / 4 = 22 then 1#1 else 0#1 := by decide +kernel
  exact e.trans (k ⟨i % 128, Nat.mod_lt _ (by decide)⟩)

/-- A stretch with lanes 92 to 95. -/
theorem pat_23 (i : ℕ) : lit0t0_184 i = if i % 128 / 4 = 23 then 1#1 else 0#1 := by
  have e : lit0t0_184 i = lit0t0_184 (i % 128) := by unfold lit0t0_184; rw [Nat.mod_mod]
  have k : ∀ l : Fin 128, lit0t0_184 l.val = if l.val / 4 = 23 then 1#1 else 0#1 := by decide +kernel
  exact e.trans (k ⟨i % 128, Nat.mod_lt _ (by decide)⟩)

/-- A stretch with lanes 96 to 99. -/
theorem pat_24 (i : ℕ) : lit0t0_192 i = if i % 128 / 4 = 24 then 1#1 else 0#1 := by
  have e : lit0t0_192 i = lit0t0_192 (i % 128) := by unfold lit0t0_192; rw [Nat.mod_mod]
  have k : ∀ l : Fin 128, lit0t0_192 l.val = if l.val / 4 = 24 then 1#1 else 0#1 := by decide +kernel
  exact e.trans (k ⟨i % 128, Nat.mod_lt _ (by decide)⟩)

/-- A stretch with lanes 100 to 103. -/
theorem pat_25 (i : ℕ) : lit0t0_200 i = if i % 128 / 4 = 25 then 1#1 else 0#1 := by
  have e : lit0t0_200 i = lit0t0_200 (i % 128) := by unfold lit0t0_200; rw [Nat.mod_mod]
  have k : ∀ l : Fin 128, lit0t0_200 l.val = if l.val / 4 = 25 then 1#1 else 0#1 := by decide +kernel
  exact e.trans (k ⟨i % 128, Nat.mod_lt _ (by decide)⟩)

/-- A stretch with lanes 104 to 107. -/
theorem pat_26 (i : ℕ) : lit0t0_208 i = if i % 128 / 4 = 26 then 1#1 else 0#1 := by
  have e : lit0t0_208 i = lit0t0_208 (i % 128) := by unfold lit0t0_208; rw [Nat.mod_mod]
  have k : ∀ l : Fin 128, lit0t0_208 l.val = if l.val / 4 = 26 then 1#1 else 0#1 := by decide +kernel
  exact e.trans (k ⟨i % 128, Nat.mod_lt _ (by decide)⟩)

/-- A stretch with lanes 108 to 111. -/
theorem pat_27 (i : ℕ) : lit0t0_216 i = if i % 128 / 4 = 27 then 1#1 else 0#1 := by
  have e : lit0t0_216 i = lit0t0_216 (i % 128) := by unfold lit0t0_216; rw [Nat.mod_mod]
  have k : ∀ l : Fin 128, lit0t0_216 l.val = if l.val / 4 = 27 then 1#1 else 0#1 := by decide +kernel
  exact e.trans (k ⟨i % 128, Nat.mod_lt _ (by decide)⟩)

/-- A stretch with lanes 112 to 115. -/
theorem pat_28 (i : ℕ) : lit0t0_224 i = if i % 128 / 4 = 28 then 1#1 else 0#1 := by
  have e : lit0t0_224 i = lit0t0_224 (i % 128) := by unfold lit0t0_224; rw [Nat.mod_mod]
  have k : ∀ l : Fin 128, lit0t0_224 l.val = if l.val / 4 = 28 then 1#1 else 0#1 := by decide +kernel
  exact e.trans (k ⟨i % 128, Nat.mod_lt _ (by decide)⟩)

/-- A stretch with lanes 116 to 119. -/
theorem pat_29 (i : ℕ) : lit0t0_232 i = if i % 128 / 4 = 29 then 1#1 else 0#1 := by
  have e : lit0t0_232 i = lit0t0_232 (i % 128) := by unfold lit0t0_232; rw [Nat.mod_mod]
  have k : ∀ l : Fin 128, lit0t0_232 l.val = if l.val / 4 = 29 then 1#1 else 0#1 := by decide +kernel
  exact e.trans (k ⟨i % 128, Nat.mod_lt _ (by decide)⟩)

/-- A stretch with lanes 120 to 123. -/
theorem pat_30 (i : ℕ) : lit0t0_240 i = if i % 128 / 4 = 30 then 1#1 else 0#1 := by
  have e : lit0t0_240 i = lit0t0_240 (i % 128) := by unfold lit0t0_240; rw [Nat.mod_mod]
  have k : ∀ l : Fin 128, lit0t0_240 l.val = if l.val / 4 = 30 then 1#1 else 0#1 := by decide +kernel
  exact e.trans (k ⟨i % 128, Nat.mod_lt _ (by decide)⟩)

/-- A stretch with lanes 124 to 127. -/
theorem pat_31 (i : ℕ) : lit0t0_248 i = if i % 128 / 4 = 31 then 1#1 else 0#1 := by
  have e : lit0t0_248 i = lit0t0_248 (i % 128) := by unfold lit0t0_248; rw [Nat.mod_mod]
  have k : ∀ l : Fin 128, lit0t0_248 l.val = if l.val / 4 = 31 then 1#1 else 0#1 := by decide +kernel
  exact e.trans (k ⟨i % 128, Nat.mod_lt _ (by decide)⟩)

/-- The entry at `i` is a one exactly where row and lane share a block of four. -/
def Good (i : ℕ) : Prop := lit0t i = if i / 1024 = i % 256 / 4 then 1#1 else 0#1

/-- An entry of a stretch with lanes. -/
theorem hit {f : ℕ → BitVec 1} {p : ℕ} (hf : ∀ i, f i = if i % 128 / 4 = p then 1#1 else 0#1) {i : ℕ} (e : lit0t i = f i)
    (h : i % 128 / 4 = p ↔ i / 1024 = i % 256 / 4) : Good i := (e.trans (hf i)).trans (if_congr h rfl rfl)

/-- An entry of an empty stretch. -/
theorem miss {i : ℕ} (e : lit0t i = lit0t0_1 i) (h : ¬ i / 1024 = i % 256 / 4) : Good i :=
  (e.trans (pat_none i)).trans (if_neg h).symm

/-- Quarter 0 of the table. -/
theorem quarter_0 {i : ℕ} (h : i / 16384 = 0) : lit0t i = lit0t1_0 i := by
  unfold lit0t; rw [h]; rfl

/-- Quarter 1 of the table. -/
theorem quarter_1 {i : ℕ} (h : i / 16384 = 1) : lit0t i = lit0t1_1 i := by
  unfold lit0t; rw [h]; rfl

/-- Quarter 2 of the table. -/
theorem quarter_2 {i : ℕ} (h : i / 16384 = 2) : lit0t i = lit0t1_2 i := by
  unfold lit0t; rw [h]; rfl

/-- Quarter 3 of the table. -/
theorem quarter_3 {i : ℕ} (h : i / 16384 = 3) : lit0t i = lit0t1_3 i := by
  unfold lit0t; rw [h]; rfl

end Cert.KernelIdeal.Mask
-- ==== Proof.MaskUpper.lean ====
module

public import proofs.«01_k».proof.Proof.MaskPatterns

@[expose] public section

set_option maxRecDepth 16384

noncomputable section

/-! # The masks' first 128 rows -/

namespace Cert.KernelIdeal.Mask

open Cert.KernelIdeal
open Idealize.ShloMosaic Idealize.ShloMosaic.TcCoe

/-- Stretch 0. -/
theorem row_0 (i : ℕ) (h : i / 128 = 0) : Good i :=
  hit pat_0 ((quarter_0 (by omega)).trans (by unfold lit0t1_0; rw [show i / 128 % 128 = 0 by omega]; rfl)) (by omega)

/-- Stretch 1. -/
theorem row_1 (i : ℕ) (h : i / 128 = 1) : Good i :=
  miss ((quarter_0 (by omega)).trans (by unfold lit0t1_0; rw [show i / 128 % 128 = 1 by omega]; rfl)) (by omega)

/-- Stretch 2. -/
theorem row_2 (i : ℕ) (h : i / 128 = 2) : Good i :=
  hit pat_0 ((quarter_0 (by omega)).trans (by unfold lit0t1_0; rw [show i / 128 % 128 = 2 by omega]; rfl)) (by omega)

/-- Stretch 3. -/
theorem row_3 (i : ℕ) (h : i / 128 = 3) : Good i :=
  miss ((quarter_0 (by omega)).trans (by unfold lit0t1_0; rw [show i / 128 % 128 = 3 by omega]; rfl)) (by omega)

/-- Stretch 4. -/
theorem row_4 (i : ℕ) (h : i / 128 = 4) : Good i :=
  hit pat_0 ((quarter_0 (by omega)).trans (by unfold lit0t1_0; rw [show i / 128 % 128 = 4 by omega]; rfl)) (by omega)

/-- Stretch 5. -/
theorem row_5 (i : ℕ) (h : i / 128 = 5) : Good i :=
  miss ((quarter_0 (by omega)).trans (by unfold lit0t1_0; rw [show i / 128 % 128 = 5 by omega]; rfl)) (by omega)

/-- Stretch 6. -/
theorem row_6 (i : ℕ) (h : i / 128 = 6) : Good i :=
  hit pat_0 ((quarter_0 (by omega)).trans (by unfold lit0t1_0; rw [show i / 128 % 128 = 6 by omega]; rfl)) (by omega)

/-- Stretch 7. -/
theorem row_7 (i : ℕ) (h : i / 128 = 7) : Good i :=
  miss ((quarter_0 (by omega)).trans (by unfold lit0t1_0; rw [show i / 128 % 128 = 7 by omega]; rfl)) (by omega)

/-- Stretch 8. -/
theorem row_8 (i : ℕ) (h : i / 128 = 8) : Good i :=
  hit pat_1 ((quarter_0 (by omega)).trans (by unfold lit0t1_0; rw [show i / 128 % 128 = 8 by omega]; rfl)) (by omega)

/-- Stretch 9. -/
theorem row_9 (i : ℕ) (h : i / 128 = 9) : Good i :=
  miss ((quarter_0 (by omega)).trans (by unfold lit0t1_0; rw [show i / 128 % 128 = 9 by omega]; rfl)) (by omega)

/-- Stretch 10. -/
theorem row_10 (i : ℕ) (h : i / 128 = 10) : Good i :=
  hit pat_1 ((quarter_0 (by omega)).trans (by unfold lit0t1_0; rw [show i / 128 % 128 = 10 by omega]; rfl)) (by omega)

/-- Stretch 11. -/
theorem row_11 (i : ℕ) (h : i / 128 = 11) : Good i :=
  miss ((quarter_0 (by omega)).trans (by unfold lit0t1_0; rw [show i / 128 % 128 = 11 by omega]; rfl)) (by omega)

/-- Stretch 12. -/
theorem row_12 (i : ℕ) (h : i / 128 = 12) : Good i :=
  hit pat_1 ((quarter_0 (by omega)).trans (by unfold lit0t1_0; rw [show i / 128 % 128 = 12 by omega]; rfl)) (by omega)

/-- Stretch 13. -/
theorem row_13 (i : ℕ) (h : i / 128 = 13) : Good i :=
  miss ((quarter_0 (by omega)).trans (by unfold lit0t1_0; rw [show i / 128 % 128 = 13 by omega]; rfl)) (by omega)

/-- Stretch 14. -/
theorem row_14 (i : ℕ) (h : i / 128 = 14) : Good i :=
  hit pat_1 ((quarter_0 (by omega)).trans (by unfold lit0t1_0; rw [show i / 128 % 128 = 14 by omega]; rfl)) (by omega)

/-- Stretch 15. -/
theorem row_15 (i : ℕ) (h : i / 128 = 15) : Good i :=
  miss ((quarter_0 (by omega)).trans (by unfold lit0t1_0; rw [show i / 128 % 128 = 15 by omega]; rfl)) (by omega)

/-- Stretch 16. -/
theorem row_16 (i : ℕ) (h : i / 128 = 16) : Good i :=
  hit pat_2 ((quarter_0 (by omega)).trans (by unfold lit0t1_0; rw [show i / 128 % 128 = 16 by omega]; rfl)) (by omega)

/-- Stretch 17. -/
theorem row_17 (i : ℕ) (h : i / 128 = 17) : Good i :=
  miss ((quarter_0 (by omega)).trans (by unfold lit0t1_0; rw [show i / 128 % 128 = 17 by omega]; rfl)) (by omega)

/-- Stretch 18. -/
theorem row_18 (i : ℕ) (h : i / 128 = 18) : Good i :=
  hit pat_2 ((quarter_0 (by omega)).trans (by unfold lit0t1_0; rw [show i / 128 % 128 = 18 by omega]; rfl)) (by omega)

/-- Stretch 19. -/
theorem row_19 (i : ℕ) (h : i / 128 = 19) : Good i :=
  miss ((quarter_0 (by omega)).trans (by unfold lit0t1_0; rw [show i / 128 % 128 = 19 by omega]; rfl)) (by omega)

/-- Stretch 20. -/
theorem row_20 (i : ℕ) (h : i / 128 = 20) : Good i :=
  hit pat_2 ((quarter_0 (by omega)).trans (by unfold lit0t1_0; rw [show i / 128 % 128 = 20 by omega]; rfl)) (by omega)

/-- Stretch 21. -/
theorem row_21 (i : ℕ) (h : i / 128 = 21) : Good i :=
  miss ((quarter_0 (by omega)).trans (by unfold lit0t1_0; rw [show i / 128 % 128 = 21 by omega]; rfl)) (by omega)

/-- Stretch 22. -/
theorem row_22 (i : ℕ) (h : i / 128 = 22) : Good i :=
  hit pat_2 ((quarter_0 (by omega)).trans (by unfold lit0t1_0; rw [show i / 128 % 128 = 22 by omega]; rfl)) (by omega)

/-- Stretch 23. -/
theorem row_23 (i : ℕ) (h : i / 128 = 23) : Good i :=
  miss ((quarter_0 (by omega)).trans (by unfold lit0t1_0; rw [show i / 128 % 128 = 23 by omega]; rfl)) (by omega)

/-- Stretch 24. -/
theorem row_24 (i : ℕ) (h : i / 128 = 24) : Good i :=
  hit pat_3 ((quarter_0 (by omega)).trans (by unfold lit0t1_0; rw [show i / 128 % 128 = 24 by omega]; rfl)) (by omega)

/-- Stretch 25. -/
theorem row_25 (i : ℕ) (h : i / 128 = 25) : Good i :=
  miss ((quarter_0 (by omega)).trans (by unfold lit0t1_0; rw [show i / 128 % 128 = 25 by omega]; rfl)) (by omega)

/-- Stretch 26. -/
theorem row_26 (i : ℕ) (h : i / 128 = 26) : Good i :=
  hit pat_3 ((quarter_0 (by omega)).trans (by unfold lit0t1_0; rw [show i / 128 % 128 = 26 by omega]; rfl)) (by omega)

/-- Stretch 27. -/
theorem row_27 (i : ℕ) (h : i / 128 = 27) : Good i :=
  miss ((quarter_0 (by omega)).trans (by unfold lit0t1_0; rw [show i / 128 % 128 = 27 by omega]; rfl)) (by omega)

/-- Stretch 28. -/
theorem row_28 (i : ℕ) (h : i / 128 = 28) : Good i :=
  hit pat_3 ((quarter_0 (by omega)).trans (by unfold lit0t1_0; rw [show i / 128 % 128 = 28 by omega]; rfl)) (by omega)

/-- Stretch 29. -/
theorem row_29 (i : ℕ) (h : i / 128 = 29) : Good i :=
  miss ((quarter_0 (by omega)).trans (by unfold lit0t1_0; rw [show i / 128 % 128 = 29 by omega]; rfl)) (by omega)

/-- Stretch 30. -/
theorem row_30 (i : ℕ) (h : i / 128 = 30) : Good i :=
  hit pat_3 ((quarter_0 (by omega)).trans (by unfold lit0t1_0; rw [show i / 128 % 128 = 30 by omega]; rfl)) (by omega)

/-- Stretch 31. -/
theorem row_31 (i : ℕ) (h : i / 128 = 31) : Good i :=
  miss ((quarter_0 (by omega)).trans (by unfold lit0t1_0; rw [show i / 128 % 128 = 31 by omega]; rfl)) (by omega)

/-- Stretch 32. -/
theorem row_32 (i : ℕ) (h : i / 128 = 32) : Good i :=
  hit pat_4 ((quarter_0 (by omega)).trans (by unfold lit0t1_0; rw [show i / 128 % 128 = 32 by omega]; rfl)) (by omega)

/-- Stretch 33. -/
theorem row_33 (i : ℕ) (h : i / 128 = 33) : Good i :=
  miss ((quarter_0 (by omega)).trans (by unfold lit0t1_0; rw [show i / 128 % 128 = 33 by omega]; rfl)) (by omega)

/-- Stretch 34. -/
theorem row_34 (i : ℕ) (h : i / 128 = 34) : Good i :=
  hit pat_4 ((quarter_0 (by omega)).trans (by unfold lit0t1_0; rw [show i / 128 % 128 = 34 by omega]; rfl)) (by omega)

/-- Stretch 35. -/
theorem row_35 (i : ℕ) (h : i / 128 = 35) : Good i :=
  miss ((quarter_0 (by omega)).trans (by unfold lit0t1_0; rw [show i / 128 % 128 = 35 by omega]; rfl)) (by omega)

/-- Stretch 36. -/
theorem row_36 (i : ℕ) (h : i / 128 = 36) : Good i :=
  hit pat_4 ((quarter_0 (by omega)).trans (by unfold lit0t1_0; rw [show i / 128 % 128 = 36 by omega]; rfl)) (by omega)

/-- Stretch 37. -/
theorem row_37 (i : ℕ) (h : i / 128 = 37) : Good i :=
  miss ((quarter_0 (by omega)).trans (by unfold lit0t1_0; rw [show i / 128 % 128 = 37 by omega]; rfl)) (by omega)

/-- Stretch 38. -/
theorem row_38 (i : ℕ) (h : i / 128 = 38) : Good i :=
  hit pat_4 ((quarter_0 (by omega)).trans (by unfold lit0t1_0; rw [show i / 128 % 128 = 38 by omega]; rfl)) (by omega)

/-- Stretch 39. -/
theorem row_39 (i : ℕ) (h : i / 128 = 39) : Good i :=
  miss ((quarter_0 (by omega)).trans (by unfold lit0t1_0; rw [show i / 128 % 128 = 39 by omega]; rfl)) (by omega)

/-- Stretch 40. -/
theorem row_40 (i : ℕ) (h : i / 128 = 40) : Good i :=
  hit pat_5 ((quarter_0 (by omega)).trans (by unfold lit0t1_0; rw [show i / 128 % 128 = 40 by omega]; rfl)) (by omega)

/-- Stretch 41. -/
theorem row_41 (i : ℕ) (h : i / 128 = 41) : Good i :=
  miss ((quarter_0 (by omega)).trans (by unfold lit0t1_0; rw [show i / 128 % 128 = 41 by omega]; rfl)) (by omega)

/-- Stretch 42. -/
theorem row_42 (i : ℕ) (h : i / 128 = 42) : Good i :=
  hit pat_5 ((quarter_0 (by omega)).trans (by unfold lit0t1_0; rw [show i / 128 % 128 = 42 by omega]; rfl)) (by omega)

/-- Stretch 43. -/
theorem row_43 (i : ℕ) (h : i / 128 = 43) : Good i :=
  miss ((quarter_0 (by omega)).trans (by unfold lit0t1_0; rw [show i / 128 % 128 = 43 by omega]; rfl)) (by omega)

/-- Stretch 44. -/
theorem row_44 (i : ℕ) (h : i / 128 = 44) : Good i :=
  hit pat_5 ((quarter_0 (by omega)).trans (by unfold lit0t1_0; rw [show i / 128 % 128 = 44 by omega]; rfl)) (by omega)

/-- Stretch 45. -/
theorem row_45 (i : ℕ) (h : i / 128 = 45) : Good i :=
  miss ((quarter_0 (by omega)).trans (by unfold lit0t1_0; rw [show i / 128 % 128 = 45 by omega]; rfl)) (by omega)

/-- Stretch 46. -/
theorem row_46 (i : ℕ) (h : i / 128 = 46) : Good i :=
  hit pat_5 ((quarter_0 (by omega)).trans (by unfold lit0t1_0; rw [show i / 128 % 128 = 46 by omega]; rfl)) (by omega)

/-- Stretch 47. -/
theorem row_47 (i : ℕ) (h : i / 128 = 47) : Good i :=
  miss ((quarter_0 (by omega)).trans (by unfold lit0t1_0; rw [show i / 128 % 128 = 47 by omega]; rfl)) (by omega)

/-- Stretch 48. -/
theorem row_48 (i : ℕ) (h : i / 128 = 48) : Good i :=
  hit pat_6 ((quarter_0 (by omega)).trans (by unfold lit0t1_0; rw [show i / 128 % 128 = 48 by omega]; rfl)) (by omega)

/-- Stretch 49. -/
theorem row_49 (i : ℕ) (h : i / 128 = 49) : Good i :=
  miss ((quarter_0 (by omega)).trans (by unfold lit0t1_0; rw [show i / 128 % 128 = 49 by omega]; rfl)) (by omega)

/-- Stretch 50. -/
theorem row_50 (i : ℕ) (h : i / 128 = 50) : Good i :=
  hit pat_6 ((quarter_0 (by omega)).trans (by unfold lit0t1_0; rw [show i / 128 % 128 = 50 by omega]; rfl)) (by omega)

/-- Stretch 51. -/
theorem row_51 (i : ℕ) (h : i / 128 = 51) : Good i :=
  miss ((quarter_0 (by omega)).trans (by unfold lit0t1_0; rw [show i / 128 % 128 = 51 by omega]; rfl)) (by omega)

/-- Stretch 52. -/
theorem row_52 (i : ℕ) (h : i / 128 = 52) : Good i :=
  hit pat_6 ((quarter_0 (by omega)).trans (by unfold lit0t1_0; rw [show i / 128 % 128 = 52 by omega]; rfl)) (by omega)

/-- Stretch 53. -/
theorem row_53 (i : ℕ) (h : i / 128 = 53) : Good i :=
  miss ((quarter_0 (by omega)).trans (by unfold lit0t1_0; rw [show i / 128 % 128 = 53 by omega]; rfl)) (by omega)

/-- Stretch 54. -/
theorem row_54 (i : ℕ) (h : i / 128 = 54) : Good i :=
  hit pat_6 ((quarter_0 (by omega)).trans (by unfold lit0t1_0; rw [show i / 128 % 128 = 54 by omega]; rfl)) (by omega)

/-- Stretch 55. -/
theorem row_55 (i : ℕ) (h : i / 128 = 55) : Good i :=
  miss ((quarter_0 (by omega)).trans (by unfold lit0t1_0; rw [show i / 128 % 128 = 55 by omega]; rfl)) (by omega)

/-- Stretch 56. -/
theorem row_56 (i : ℕ) (h : i / 128 = 56) : Good i :=
  hit pat_7 ((quarter_0 (by omega)).trans (by unfold lit0t1_0; rw [show i / 128 % 128 = 56 by omega]; rfl)) (by omega)

/-- Stretch 57. -/
theorem row_57 (i : ℕ) (h : i / 128 = 57) : Good i :=
  miss ((quarter_0 (by omega)).trans (by unfold lit0t1_0; rw [show i / 128 % 128 = 57 by omega]; rfl)) (by omega)

/-- Stretch 58. -/
theorem row_58 (i : ℕ) (h : i / 128 = 58) : Good i :=
  hit pat_7 ((quarter_0 (by omega)).trans (by unfold lit0t1_0; rw [show i / 128 % 128 = 58 by omega]; rfl)) (by omega)

/-- Stretch 59. -/
theorem row_59 (i : ℕ) (h : i / 128 = 59) : Good i :=
  miss ((quarter_0 (by omega)).trans (by unfold lit0t1_0; rw [show i / 128 % 128 = 59 by omega]; rfl)) (by omega)

/-- Stretch 60. -/
theorem row_60 (i : ℕ) (h : i / 128 = 60) : Good i :=
  hit pat_7 ((quarter_0 (by omega)).trans (by unfold lit0t1_0; rw [show i / 128 % 128 = 60 by omega]; rfl)) (by omega)

/-- Stretch 61. -/
theorem row_61 (i : ℕ) (h : i / 128 = 61) : Good i :=
  miss ((quarter_0 (by omega)).trans (by unfold lit0t1_0; rw [show i / 128 % 128 = 61 by omega]; rfl)) (by omega)

/-- Stretch 62. -/
theorem row_62 (i : ℕ) (h : i / 128 = 62) : Good i :=
  hit pat_7 ((quarter_0 (by omega)).trans (by unfold lit0t1_0; rw [show i / 128 % 128 = 62 by omega]; rfl)) (by omega)

/-- Stretch 63. -/
theorem row_63 (i : ℕ) (h : i / 128 = 63) : Good i :=
  miss ((quarter_0 (by omega)).trans (by unfold lit0t1_0; rw [show i / 128 % 128 = 63 by omega]; rfl)) (by omega)

/-- Stretch 64. -/
theorem row_64 (i : ℕ) (h : i / 128 = 64) : Good i :=
  hit pat_8 ((quarter_0 (by omega)).trans (by unfold lit0t1_0; rw [show i / 128 % 128 = 64 by omega]; rfl)) (by omega)

/-- Stretch 65. -/
theorem row_65 (i : ℕ) (h : i / 128 = 65) : Good i :=
  miss ((quarter_0 (by omega)).trans (by unfold lit0t1_0; rw [show i / 128 % 128 = 65 by omega]; rfl)) (by omega)

/-- Stretch 66. -/
theorem row_66 (i : ℕ) (h : i / 128 = 66) : Good i :=
  hit pat_8 ((quarter_0 (by omega)).trans (by unfold lit0t1_0; rw [show i / 128 % 128 = 66 by omega]; rfl)) (by omega)

/-- Stretch 67. -/
theorem row_67 (i : ℕ) (h : i / 128 = 67) : Good i :=
  miss ((quarter_0 (by omega)).trans (by unfold lit0t1_0; rw [show i / 128 % 128 = 67 by omega]; rfl)) (by omega)

/-- Stretch 68. -/
theorem row_68 (i : ℕ) (h : i / 128 = 68) : Good i :=
  hit pat_8 ((quarter_0 (by omega)).trans (by unfold lit0t1_0; rw [show i / 128 % 128 = 68 by omega]; rfl)) (by omega)

/-- Stretch 69. -/
theorem row_69 (i : ℕ) (h : i / 128 = 69) : Good i :=
  miss ((quarter_0 (by omega)).trans (by unfold lit0t1_0; rw [show i / 128 % 128 = 69 by omega]; rfl)) (by omega)

/-- Stretch 70. -/
theorem row_70 (i : ℕ) (h : i / 128 = 70) : Good i :=
  hit pat_8 ((quarter_0 (by omega)).trans (by unfold lit0t1_0; rw [show i / 128 % 128 = 70 by omega]; rfl)) (by omega)

/-- Stretch 71. -/
theorem row_71 (i : ℕ) (h : i / 128 = 71) : Good i :=
  miss ((quarter_0 (by omega)).trans (by unfold lit0t1_0; rw [show i / 128 % 128 = 71 by omega]; rfl)) (by omega)

/-- Stretch 72. -/
theorem row_72 (i : ℕ) (h : i / 128 = 72) : Good i :=
  hit pat_9 ((quarter_0 (by omega)).trans (by unfold lit0t1_0; rw [show i / 128 % 128 = 72 by omega]; rfl)) (by omega)

/-- Stretch 73. -/
theorem row_73 (i : ℕ) (h : i / 128 = 73) : Good i :=
  miss ((quarter_0 (by omega)).trans (by unfold lit0t1_0; rw [show i / 128 % 128 = 73 by omega]; rfl)) (by omega)

/-- Stretch 74. -/
theorem row_74 (i : ℕ) (h : i / 128 = 74) : Good i :=
  hit pat_9 ((quarter_0 (by omega)).trans (by unfold lit0t1_0; rw [show i / 128 % 128 = 74 by omega]; rfl)) (by omega)

/-- Stretch 75. -/
theorem row_75 (i : ℕ) (h : i / 128 = 75) : Good i :=
  miss ((quarter_0 (by omega)).trans (by unfold lit0t1_0; rw [show i / 128 % 128 = 75 by omega]; rfl)) (by omega)

/-- Stretch 76. -/
theorem row_76 (i : ℕ) (h : i / 128 = 76) : Good i :=
  hit pat_9 ((quarter_0 (by omega)).trans (by unfold lit0t1_0; rw [show i / 128 % 128 = 76 by omega]; rfl)) (by omega)

/-- Stretch 77. -/
theorem row_77 (i : ℕ) (h : i / 128 = 77) : Good i :=
  miss ((quarter_0 (by omega)).trans (by unfold lit0t1_0; rw [show i / 128 % 128 = 77 by omega]; rfl)) (by omega)

/-- Stretch 78. -/
theorem row_78 (i : ℕ) (h : i / 128 = 78) : Good i :=
  hit pat_9 ((quarter_0 (by omega)).trans (by unfold lit0t1_0; rw [show i / 128 % 128 = 78 by omega]; rfl)) (by omega)

/-- Stretch 79. -/
theorem row_79 (i : ℕ) (h : i / 128 = 79) : Good i :=
  miss ((quarter_0 (by omega)).trans (by unfold lit0t1_0; rw [show i / 128 % 128 = 79 by omega]; rfl)) (by omega)

/-- Stretch 80. -/
theorem row_80 (i : ℕ) (h : i / 128 = 80) : Good i :=
  hit pat_10 ((quarter_0 (by omega)).trans (by unfold lit0t1_0; rw [show i / 128 % 128 = 80 by omega]; rfl)) (by omega)

/-- Stretch 81. -/
theorem row_81 (i : ℕ) (h : i / 128 = 81) : Good i :=
  miss ((quarter_0 (by omega)).trans (by unfold lit0t1_0; rw [show i / 128 % 128 = 81 by omega]; rfl)) (by omega)

/-- Stretch 82. -/
theorem row_82 (i : ℕ) (h : i / 128 = 82) : Good i :=
  hit pat_10 ((quarter_0 (by omega)).trans (by unfold lit0t1_0; rw [show i / 128 % 128 = 82 by omega]; rfl)) (by omega)

/-- Stretch 83. -/
theorem row_83 (i : ℕ) (h : i / 128 = 83) : Good i :=
  miss ((quarter_0 (by omega)).trans (by unfold lit0t1_0; rw [show i / 128 % 128 = 83 by omega]; rfl)) (by omega)

/-- Stretch 84. -/
theorem row_84 (i : ℕ) (h : i / 128 = 84) : Good i :=
  hit pat_10 ((quarter_0 (by omega)).trans (by unfold lit0t1_0; rw [show i / 128 % 128 = 84 by omega]; rfl)) (by omega)

/-- Stretch 85. -/
theorem row_85 (i : ℕ) (h : i / 128 = 85) : Good i :=
  miss ((quarter_0 (by omega)).trans (by unfold lit0t1_0; rw [show i / 128 % 128 = 85 by omega]; rfl)) (by omega)

/-- Stretch 86. -/
theorem row_86 (i : ℕ) (h : i / 128 = 86) : Good i :=
  hit pat_10 ((quarter_0 (by omega)).trans (by unfold lit0t1_0; rw [show i / 128 % 128 = 86 by omega]; rfl)) (by omega)

/-- Stretch 87. -/
theorem row_87 (i : ℕ) (h : i / 128 = 87) : Good i :=
  miss ((quarter_0 (by omega)).trans (by unfold lit0t1_0; rw [show i / 128 % 128 = 87 by omega]; rfl)) (by omega)

/-- Stretch 88. -/
theorem row_88 (i : ℕ) (h : i / 128 = 88) : Good i :=
  hit pat_11 ((quarter_0 (by omega)).trans (by unfold lit0t1_0; rw [show i / 128 % 128 = 88 by omega]; rfl)) (by omega)

/-- Stretch 89. -/
theorem row_89 (i : ℕ) (h : i / 128 = 89) : Good i :=
  miss ((quarter_0 (by omega)).trans (by unfold lit0t1_0; rw [show i / 128 % 128 = 89 by omega]; rfl)) (by omega)

/-- Stretch 90. -/
theorem row_90 (i : ℕ) (h : i / 128 = 90) : Good i :=
  hit pat_11 ((quarter_0 (by omega)).trans (by unfold lit0t1_0; rw [show i / 128 % 128 = 90 by omega]; rfl)) (by omega)

/-- Stretch 91. -/
theorem row_91 (i : ℕ) (h : i / 128 = 91) : Good i :=
  miss ((quarter_0 (by omega)).trans (by unfold lit0t1_0; rw [show i / 128 % 128 = 91 by omega]; rfl)) (by omega)

/-- Stretch 92. -/
theorem row_92 (i : ℕ) (h : i / 128 = 92) : Good i :=
  hit pat_11 ((quarter_0 (by omega)).trans (by unfold lit0t1_0; rw [show i / 128 % 128 = 92 by omega]; rfl)) (by omega)

/-- Stretch 93. -/
theorem row_93 (i : ℕ) (h : i / 128 = 93) : Good i :=
  miss ((quarter_0 (by omega)).trans (by unfold lit0t1_0; rw [show i / 128 % 128 = 93 by omega]; rfl)) (by omega)

/-- Stretch 94. -/
theorem row_94 (i : ℕ) (h : i / 128 = 94) : Good i :=
  hit pat_11 ((quarter_0 (by omega)).trans (by unfold lit0t1_0; rw [show i / 128 % 128 = 94 by omega]; rfl)) (by omega)

/-- Stretch 95. -/
theorem row_95 (i : ℕ) (h : i / 128 = 95) : Good i :=
  miss ((quarter_0 (by omega)).trans (by unfold lit0t1_0; rw [show i / 128 % 128 = 95 by omega]; rfl)) (by omega)

/-- Stretch 96. -/
theorem row_96 (i : ℕ) (h : i / 128 = 96) : Good i :=
  hit pat_12 ((quarter_0 (by omega)).trans (by unfold lit0t1_0; rw [show i / 128 % 128 = 96 by omega]; rfl)) (by omega)

/-- Stretch 97. -/
theorem row_97 (i : ℕ) (h : i / 128 = 97) : Good i :=
  miss ((quarter_0 (by omega)).trans (by unfold lit0t1_0; rw [show i / 128 % 128 = 97 by omega]; rfl)) (by omega)

/-- Stretch 98. -/
theorem row_98 (i : ℕ) (h : i / 128 = 98) : Good i :=
  hit pat_12 ((quarter_0 (by omega)).trans (by unfold lit0t1_0; rw [show i / 128 % 128 = 98 by omega]; rfl)) (by omega)

/-- Stretch 99. -/
theorem row_99 (i : ℕ) (h : i / 128 = 99) : Good i :=
  miss ((quarter_0 (by omega)).trans (by unfold lit0t1_0; rw [show i / 128 % 128 = 99 by omega]; rfl)) (by omega)

/-- Stretch 100. -/
theorem row_100 (i : ℕ) (h : i / 128 = 100) : Good i :=
  hit pat_12 ((quarter_0 (by omega)).trans (by unfold lit0t1_0; rw [show i / 128 % 128 = 100 by omega]; rfl)) (by omega)

/-- Stretch 101. -/
theorem row_101 (i : ℕ) (h : i / 128 = 101) : Good i :=
  miss ((quarter_0 (by omega)).trans (by unfold lit0t1_0; rw [show i / 128 % 128 = 101 by omega]; rfl)) (by omega)

/-- Stretch 102. -/
theorem row_102 (i : ℕ) (h : i / 128 = 102) : Good i :=
  hit pat_12 ((quarter_0 (by omega)).trans (by unfold lit0t1_0; rw [show i / 128 % 128 = 102 by omega]; rfl)) (by omega)

/-- Stretch 103. -/
theorem row_103 (i : ℕ) (h : i / 128 = 103) : Good i :=
  miss ((quarter_0 (by omega)).trans (by unfold lit0t1_0; rw [show i / 128 % 128 = 103 by omega]; rfl)) (by omega)

/-- Stretch 104. -/
theorem row_104 (i : ℕ) (h : i / 128 = 104) : Good i :=
  hit pat_13 ((quarter_0 (by omega)).trans (by unfold lit0t1_0; rw [show i / 128 % 128 = 104 by omega]; rfl)) (by omega)

/-- Stretch 105. -/
theorem row_105 (i : ℕ) (h : i / 128 = 105) : Good i :=
  miss ((quarter_0 (by omega)).trans (by unfold lit0t1_0; rw [show i / 128 % 128 = 105 by omega]; rfl)) (by omega)

/-- Stretch 106. -/
theorem row_106 (i : ℕ) (h : i / 128 = 106) : Good i :=
  hit pat_13 ((quarter_0 (by omega)).trans (by unfold lit0t1_0; rw [show i / 128 % 128 = 106 by omega]; rfl)) (by omega)

/-- Stretch 107. -/
theorem row_107 (i : ℕ) (h : i / 128 = 107) : Good i :=
  miss ((quarter_0 (by omega)).trans (by unfold lit0t1_0; rw [show i / 128 % 128 = 107 by omega]; rfl)) (by omega)

/-- Stretch 108. -/
theorem row_108 (i : ℕ) (h : i / 128 = 108) : Good i :=
  hit pat_13 ((quarter_0 (by omega)).trans (by unfold lit0t1_0; rw [show i / 128 % 128 = 108 by omega]; rfl)) (by omega)

/-- Stretch 109. -/
theorem row_109 (i : ℕ) (h : i / 128 = 109) : Good i :=
  miss ((quarter_0 (by omega)).trans (by unfold lit0t1_0; rw [show i / 128 % 128 = 109 by omega]; rfl)) (by omega)

/-- Stretch 110. -/
theorem row_110 (i : ℕ) (h : i / 128 = 110) : Good i :=
  hit pat_13 ((quarter_0 (by omega)).trans (by unfold lit0t1_0; rw [show i / 128 % 128 = 110 by omega]; rfl)) (by omega)

/-- Stretch 111. -/
theorem row_111 (i : ℕ) (h : i / 128 = 111) : Good i :=
  miss ((quarter_0 (by omega)).trans (by unfold lit0t1_0; rw [show i / 128 % 128 = 111 by omega]; rfl)) (by omega)

/-- Stretch 112. -/
theorem row_112 (i : ℕ) (h : i / 128 = 112) : Good i :=
  hit pat_14 ((quarter_0 (by omega)).trans (by unfold lit0t1_0; rw [show i / 128 % 128 = 112 by omega]; rfl)) (by omega)

/-- Stretch 113. -/
theorem row_113 (i : ℕ) (h : i / 128 = 113) : Good i :=
  miss ((quarter_0 (by omega)).trans (by unfold lit0t1_0; rw [show i / 128 % 128 = 113 by omega]; rfl)) (by omega)

/-- Stretch 114. -/
theorem row_114 (i : ℕ) (h : i / 128 = 114) : Good i :=
  hit pat_14 ((quarter_0 (by omega)).trans (by unfold lit0t1_0; rw [show i / 128 % 128 = 114 by omega]; rfl)) (by omega)

/-- Stretch 115. -/
theorem row_115 (i : ℕ) (h : i / 128 = 115) : Good i :=
  miss ((quarter_0 (by omega)).trans (by unfold lit0t1_0; rw [show i / 128 % 128 = 115 by omega]; rfl)) (by omega)

/-- Stretch 116. -/
theorem row_116 (i : ℕ) (h : i / 128 = 116) : Good i :=
  hit pat_14 ((quarter_0 (by omega)).trans (by unfold lit0t1_0; rw [show i / 128 % 128 = 116 by omega]; rfl)) (by omega)

/-- Stretch 117. -/
theorem row_117 (i : ℕ) (h : i / 128 = 117) : Good i :=
  miss ((quarter_0 (by omega)).trans (by unfold lit0t1_0; rw [show i / 128 % 128 = 117 by omega]; rfl)) (by omega)

/-- Stretch 118. -/
theorem row_118 (i : ℕ) (h : i / 128 = 118) : Good i :=
  hit pat_14 ((quarter_0 (by omega)).trans (by unfold lit0t1_0; rw [show i / 128 % 128 = 118 by omega]; rfl)) (by omega)

/-- Stretch 119. -/
theorem row_119 (i : ℕ) (h : i / 128 = 119) : Good i :=
  miss ((quarter_0 (by omega)).trans (by unfold lit0t1_0; rw [show i / 128 % 128 = 119 by omega]; rfl)) (by omega)

/-- Stretch 120. -/
theorem row_120 (i : ℕ) (h : i / 128 = 120) : Good i :=
  hit pat_15 ((quarter_0 (by omega)).trans (by unfold lit0t1_0; rw [show i / 128 % 128 = 120 by omega]; rfl)) (by omega)

/-- Stretch 121. -/
theorem row_121 (i : ℕ) (h : i / 128 = 121) : Good i :=
  miss ((quarter_0 (by omega)).trans (by unfold lit0t1_0; rw [show i / 128 % 128 = 121 by omega]; rfl)) (by omega)

/-- Stretch 122. -/
theorem row_122 (i : ℕ) (h : i / 128 = 122) : Good i :=
  hit pat_15 ((quarter_0 (by omega)).trans (by unfold lit0t1_0; rw [show i / 128 % 128 = 122 by omega]; rfl)) (by omega)

/-- Stretch 123. -/
theorem row_123 (i : ℕ) (h : i / 128 = 123) : Good i :=
  miss ((quarter_0 (by omega)).trans (by unfold lit0t1_0; rw [show i / 128 % 128 = 123 by omega]; rfl)) (by omega)

/-- Stretch 124. -/
theorem row_124 (i : ℕ) (h : i / 128 = 124) : Good i :=
  hit pat_15 ((quarter_0 (by omega)).trans (by unfold lit0t1_0; rw [show i / 128 % 128 = 124 by omega]; rfl)) (by omega)

/-- Stretch 125. -/
theorem row_125 (i : ℕ) (h : i / 128 = 125) : Good i :=
  miss ((quarter_0 (by omega)).trans (by unfold lit0t1_0; rw [show i / 128 % 128 = 125 by omega]; rfl)) (by omega)

/-- Stretch 126. -/
theorem row_126 (i : ℕ) (h : i / 128 = 126) : Good i :=
  hit pat_15 ((quarter_0 (by omega)).trans (by unfold lit0t1_0; rw [show i / 128 % 128 = 126 by omega]; rfl)) (by omega)

/-- Stretch 127. -/
theorem row_127 (i : ℕ) (h : i / 128 = 127) : Good i :=
  miss ((quarter_0 (by omega)).trans (by unfold lit0t1_0; rw [show i / 128 % 128 = 127 by omega]; rfl)) (by omega)

/-- Stretch 128. -/
theorem row_128 (i : ℕ) (h : i / 128 = 128) : Good i :=
  hit pat_16 ((quarter_1 (by omega)).trans (by unfold lit0t1_1; rw [show i / 128 % 128 = 0 by omega]; rfl)) (by omega)

/-- Stretch 129. -/
theorem row_129 (i : ℕ) (h : i / 128 = 129) : Good i :=
  miss ((quarter_1 (by omega)).trans (by unfold lit0t1_1; rw [show i / 128 % 128 = 1 by omega]; rfl)) (by omega)

/-- Stretch 130. -/
theorem row_130 (i : ℕ) (h : i / 128 = 130) : Good i :=
  hit pat_16 ((quarter_1 (by omega)).trans (by unfold lit0t1_1; rw [show i / 128 % 128 = 2 by omega]; rfl)) (by omega)

/-- Stretch 131. -/
theorem row_131 (i : ℕ) (h : i / 128 = 131) : Good i :=
  miss ((quarter_1 (by omega)).trans (by unfold lit0t1_1; rw [show i / 128 % 128 = 3 by omega]; rfl)) (by omega)

/-- Stretch 132. -/
theorem row_132 (i : ℕ) (h : i / 128 = 132) : Good i :=
  hit pat_16 ((quarter_1 (by omega)).trans (by unfold lit0t1_1; rw [show i / 128 % 128 = 4 by omega]; rfl)) (by omega)

/-- Stretch 133. -/
theorem row_133 (i : ℕ) (h : i / 128 = 133) : Good i :=
  miss ((quarter_1 (by omega)).trans (by unfold lit0t1_1; rw [show i / 128 % 128 = 5 by omega]; rfl)) (by omega)

/-- Stretch 134. -/
theorem row_134 (i : ℕ) (h : i / 128 = 134) : Good i :=
  hit pat_16 ((quarter_1 (by omega)).trans (by unfold lit0t1_1; rw [show i / 128 % 128 = 6 by omega]; rfl)) (by omega)

/-- Stretch 135. -/
theorem row_135 (i : ℕ) (h : i / 128 = 135) : Good i :=
  miss ((quarter_1 (by omega)).trans (by unfold lit0t1_1; rw [show i / 128 % 128 = 7 by omega]; rfl)) (by omega)

/-- Stretch 136. -/
theorem row_136 (i : ℕ) (h : i / 128 = 136) : Good i :=
  hit pat_17 ((quarter_1 (by omega)).trans (by unfold lit0t1_1; rw [show i / 128 % 128 = 8 by omega]; rfl)) (by omega)

/-- Stretch 137. -/
theorem row_137 (i : ℕ) (h : i / 128 = 137) : Good i :=
  miss ((quarter_1 (by omega)).trans (by unfold lit0t1_1; rw [show i / 128 % 128 = 9 by omega]; rfl)) (by omega)

/-- Stretch 138. -/
theorem row_138 (i : ℕ) (h : i / 128 = 138) : Good i :=
  hit pat_17 ((quarter_1 (by omega)).trans (by unfold lit0t1_1; rw [show i / 128 % 128 = 10 by omega]; rfl)) (by omega)

/-- Stretch 139. -/
theorem row_139 (i : ℕ) (h : i / 128 = 139) : Good i :=
  miss ((quarter_1 (by omega)).trans (by unfold lit0t1_1; rw [show i / 128 % 128 = 11 by omega]; rfl)) (by omega)

/-- Stretch 140. -/
theorem row_140 (i : ℕ) (h : i / 128 = 140) : Good i :=
  hit pat_17 ((quarter_1 (by omega)).trans (by unfold lit0t1_1; rw [show i / 128 % 128 = 12 by omega]; rfl)) (by omega)

/-- Stretch 141. -/
theorem row_141 (i : ℕ) (h : i / 128 = 141) : Good i :=
  miss ((quarter_1 (by omega)).trans (by unfold lit0t1_1; rw [show i / 128 % 128 = 13 by omega]; rfl)) (by omega)

/-- Stretch 142. -/
theorem row_142 (i : ℕ) (h : i / 128 = 142) : Good i :=
  hit pat_17 ((quarter_1 (by omega)).trans (by unfold lit0t1_1; rw [show i / 128 % 128 = 14 by omega]; rfl)) (by omega)

/-- Stretch 143. -/
theorem row_143 (i : ℕ) (h : i / 128 = 143) : Good i :=
  miss ((quarter_1 (by omega)).trans (by unfold lit0t1_1; rw [show i / 128 % 128 = 15 by omega]; rfl)) (by omega)

/-- Stretch 144. -/
theorem row_144 (i : ℕ) (h : i / 128 = 144) : Good i :=
  hit pat_18 ((quarter_1 (by omega)).trans (by unfold lit0t1_1; rw [show i / 128 % 128 = 16 by omega]; rfl)) (by omega)

/-- Stretch 145. -/
theorem row_145 (i : ℕ) (h : i / 128 = 145) : Good i :=
  miss ((quarter_1 (by omega)).trans (by unfold lit0t1_1; rw [show i / 128 % 128 = 17 by omega]; rfl)) (by omega)

/-- Stretch 146. -/
theorem row_146 (i : ℕ) (h : i / 128 = 146) : Good i :=
  hit pat_18 ((quarter_1 (by omega)).trans (by unfold lit0t1_1; rw [show i / 128 % 128 = 18 by omega]; rfl)) (by omega)

/-- Stretch 147. -/
theorem row_147 (i : ℕ) (h : i / 128 = 147) : Good i :=
  miss ((quarter_1 (by omega)).trans (by unfold lit0t1_1; rw [show i / 128 % 128 = 19 by omega]; rfl)) (by omega)

/-- Stretch 148. -/
theorem row_148 (i : ℕ) (h : i / 128 = 148) : Good i :=
  hit pat_18 ((quarter_1 (by omega)).trans (by unfold lit0t1_1; rw [show i / 128 % 128 = 20 by omega]; rfl)) (by omega)

/-- Stretch 149. -/
theorem row_149 (i : ℕ) (h : i / 128 = 149) : Good i :=
  miss ((quarter_1 (by omega)).trans (by unfold lit0t1_1; rw [show i / 128 % 128 = 21 by omega]; rfl)) (by omega)

/-- Stretch 150. -/
theorem row_150 (i : ℕ) (h : i / 128 = 150) : Good i :=
  hit pat_18 ((quarter_1 (by omega)).trans (by unfold lit0t1_1; rw [show i / 128 % 128 = 22 by omega]; rfl)) (by omega)

/-- Stretch 151. -/
theorem row_151 (i : ℕ) (h : i / 128 = 151) : Good i :=
  miss ((quarter_1 (by omega)).trans (by unfold lit0t1_1; rw [show i / 128 % 128 = 23 by omega]; rfl)) (by omega)

/-- Stretch 152. -/
theorem row_152 (i : ℕ) (h : i / 128 = 152) : Good i :=
  hit pat_19 ((quarter_1 (by omega)).trans (by unfold lit0t1_1; rw [show i / 128 % 128 = 24 by omega]; rfl)) (by omega)

/-- Stretch 153. -/
theorem row_153 (i : ℕ) (h : i / 128 = 153) : Good i :=
  miss ((quarter_1 (by omega)).trans (by unfold lit0t1_1; rw [show i / 128 % 128 = 25 by omega]; rfl)) (by omega)

/-- Stretch 154. -/
theorem row_154 (i : ℕ) (h : i / 128 = 154) : Good i :=
  hit pat_19 ((quarter_1 (by omega)).trans (by unfold lit0t1_1; rw [show i / 128 % 128 = 26 by omega]; rfl)) (by omega)

/-- Stretch 155. -/
theorem row_155 (i : ℕ) (h : i / 128 = 155) : Good i :=
  miss ((quarter_1 (by omega)).trans (by unfold lit0t1_1; rw [show i / 128 % 128 = 27 by omega]; rfl)) (by omega)

/-- Stretch 156. -/
theorem row_156 (i : ℕ) (h : i / 128 = 156) : Good i :=
  hit pat_19 ((quarter_1 (by omega)).trans (by unfold lit0t1_1; rw [show i / 128 % 128 = 28 by omega]; rfl)) (by omega)

/-- Stretch 157. -/
theorem row_157 (i : ℕ) (h : i / 128 = 157) : Good i :=
  miss ((quarter_1 (by omega)).trans (by unfold lit0t1_1; rw [show i / 128 % 128 = 29 by omega]; rfl)) (by omega)

/-- Stretch 158. -/
theorem row_158 (i : ℕ) (h : i / 128 = 158) : Good i :=
  hit pat_19 ((quarter_1 (by omega)).trans (by unfold lit0t1_1; rw [show i / 128 % 128 = 30 by omega]; rfl)) (by omega)

/-- Stretch 159. -/
theorem row_159 (i : ℕ) (h : i / 128 = 159) : Good i :=
  miss ((quarter_1 (by omega)).trans (by unfold lit0t1_1; rw [show i / 128 % 128 = 31 by omega]; rfl)) (by omega)

/-- Stretch 160. -/
theorem row_160 (i : ℕ) (h : i / 128 = 160) : Good i :=
  hit pat_20 ((quarter_1 (by omega)).trans (by unfold lit0t1_1; rw [show i / 128 % 128 = 32 by omega]; rfl)) (by omega)

/-- Stretch 161. -/
theorem row_161 (i : ℕ) (h : i / 128 = 161) : Good i :=
  miss ((quarter_1 (by omega)).trans (by unfold lit0t1_1; rw [show i / 128 % 128 = 33 by omega]; rfl)) (by omega)

/-- Stretch 162. -/
theorem row_162 (i : ℕ) (h : i / 128 = 162) : Good i :=
  hit pat_20 ((quarter_1 (by omega)).trans (by unfold lit0t1_1; rw [show i / 128 % 128 = 34 by omega]; rfl)) (by omega)

/-- Stretch 163. -/
theorem row_163 (i : ℕ) (h : i / 128 = 163) : Good i :=
  miss ((quarter_1 (by omega)).trans (by unfold lit0t1_1; rw [show i / 128 % 128 = 35 by omega]; rfl)) (by omega)

/-- Stretch 164. -/
theorem row_164 (i : ℕ) (h : i / 128 = 164) : Good i :=
  hit pat_20 ((quarter_1 (by omega)).trans (by unfold lit0t1_1; rw [show i / 128 % 128 = 36 by omega]; rfl)) (by omega)

/-- Stretch 165. -/
theorem row_165 (i : ℕ) (h : i / 128 = 165) : Good i :=
  miss ((quarter_1 (by omega)).trans (by unfold lit0t1_1; rw [show i / 128 % 128 = 37 by omega]; rfl)) (by omega)

/-- Stretch 166. -/
theorem row_166 (i : ℕ) (h : i / 128 = 166) : Good i :=
  hit pat_20 ((quarter_1 (by omega)).trans (by unfold lit0t1_1; rw [show i / 128 % 128 = 38 by omega]; rfl)) (by omega)

/-- Stretch 167. -/
theorem row_167 (i : ℕ) (h : i / 128 = 167) : Good i :=
  miss ((quarter_1 (by omega)).trans (by unfold lit0t1_1; rw [show i / 128 % 128 = 39 by omega]; rfl)) (by omega)

/-- Stretch 168. -/
theorem row_168 (i : ℕ) (h : i / 128 = 168) : Good i :=
  hit pat_21 ((quarter_1 (by omega)).trans (by unfold lit0t1_1; rw [show i / 128 % 128 = 40 by omega]; rfl)) (by omega)

/-- Stretch 169. -/
theorem row_169 (i : ℕ) (h : i / 128 = 169) : Good i :=
  miss ((quarter_1 (by omega)).trans (by unfold lit0t1_1; rw [show i / 128 % 128 = 41 by omega]; rfl)) (by omega)

/-- Stretch 170. -/
theorem row_170 (i : ℕ) (h : i / 128 = 170) : Good i :=
  hit pat_21 ((quarter_1 (by omega)).trans (by unfold lit0t1_1; rw [show i / 128 % 128 = 42 by omega]; rfl)) (by omega)

/-- Stretch 171. -/
theorem row_171 (i : ℕ) (h : i / 128 = 171) : Good i :=
  miss ((quarter_1 (by omega)).trans (by unfold lit0t1_1; rw [show i / 128 % 128 = 43 by omega]; rfl)) (by omega)

/-- Stretch 172. -/
theorem row_172 (i : ℕ) (h : i / 128 = 172) : Good i :=
  hit pat_21 ((quarter_1 (by omega)).trans (by unfold lit0t1_1; rw [show i / 128 % 128 = 44 by omega]; rfl)) (by omega)

/-- Stretch 173. -/
theorem row_173 (i : ℕ) (h : i / 128 = 173) : Good i :=
  miss ((quarter_1 (by omega)).trans (by unfold lit0t1_1; rw [show i / 128 % 128 = 45 by omega]; rfl)) (by omega)

/-- Stretch 174. -/
theorem row_174 (i : ℕ) (h : i / 128 = 174) : Good i :=
  hit pat_21 ((quarter_1 (by omega)).trans (by unfold lit0t1_1; rw [show i / 128 % 128 = 46 by omega]; rfl)) (by omega)

/-- Stretch 175. -/
theorem row_175 (i : ℕ) (h : i / 128 = 175) : Good i :=
  miss ((quarter_1 (by omega)).trans (by unfold lit0t1_1; rw [show i / 128 % 128 = 47 by omega]; rfl)) (by omega)

/-- Stretch 176. -/
theorem row_176 (i : ℕ) (h : i / 128 = 176) : Good i :=
  hit pat_22 ((quarter_1 (by omega)).trans (by unfold lit0t1_1; rw [show i / 128 % 128 = 48 by omega]; rfl)) (by omega)

/-- Stretch 177. -/
theorem row_177 (i : ℕ) (h : i / 128 = 177) : Good i :=
  miss ((quarter_1 (by omega)).trans (by unfold lit0t1_1; rw [show i / 128 % 128 = 49 by omega]; rfl)) (by omega)

/-- Stretch 178. -/
theorem row_178 (i : ℕ) (h : i / 128 = 178) : Good i :=
  hit pat_22 ((quarter_1 (by omega)).trans (by unfold lit0t1_1; rw [show i / 128 % 128 = 50 by omega]; rfl)) (by omega)

/-- Stretch 179. -/
theorem row_179 (i : ℕ) (h : i / 128 = 179) : Good i :=
  miss ((quarter_1 (by omega)).trans (by unfold lit0t1_1; rw [show i / 128 % 128 = 51 by omega]; rfl)) (by omega)

/-- Stretch 180. -/
theorem row_180 (i : ℕ) (h : i / 128 = 180) : Good i :=
  hit pat_22 ((quarter_1 (by omega)).trans (by unfold lit0t1_1; rw [show i / 128 % 128 = 52 by omega]; rfl)) (by omega)

/-- Stretch 181. -/
theorem row_181 (i : ℕ) (h : i / 128 = 181) : Good i :=
  miss ((quarter_1 (by omega)).trans (by unfold lit0t1_1; rw [show i / 128 % 128 = 53 by omega]; rfl)) (by omega)

/-- Stretch 182. -/
theorem row_182 (i : ℕ) (h : i / 128 = 182) : Good i :=
  hit pat_22 ((quarter_1 (by omega)).trans (by unfold lit0t1_1; rw [show i / 128 % 128 = 54 by omega]; rfl)) (by omega)

/-- Stretch 183. -/
theorem row_183 (i : ℕ) (h : i / 128 = 183) : Good i :=
  miss ((quarter_1 (by omega)).trans (by unfold lit0t1_1; rw [show i / 128 % 128 = 55 by omega]; rfl)) (by omega)

/-- Stretch 184. -/
theorem row_184 (i : ℕ) (h : i / 128 = 184) : Good i :=
  hit pat_23 ((quarter_1 (by omega)).trans (by unfold lit0t1_1; rw [show i / 128 % 128 = 56 by omega]; rfl)) (by omega)

/-- Stretch 185. -/
theorem row_185 (i : ℕ) (h : i / 128 = 185) : Good i :=
  miss ((quarter_1 (by omega)).trans (by unfold lit0t1_1; rw [show i / 128 % 128 = 57 by omega]; rfl)) (by omega)

/-- Stretch 186. -/
theorem row_186 (i : ℕ) (h : i / 128 = 186) : Good i :=
  hit pat_23 ((quarter_1 (by omega)).trans (by unfold lit0t1_1; rw [show i / 128 % 128 = 58 by omega]; rfl)) (by omega)

/-- Stretch 187. -/
theorem row_187 (i : ℕ) (h : i / 128 = 187) : Good i :=
  miss ((quarter_1 (by omega)).trans (by unfold lit0t1_1; rw [show i / 128 % 128 = 59 by omega]; rfl)) (by omega)

/-- Stretch 188. -/
theorem row_188 (i : ℕ) (h : i / 128 = 188) : Good i :=
  hit pat_23 ((quarter_1 (by omega)).trans (by unfold lit0t1_1; rw [show i / 128 % 128 = 60 by omega]; rfl)) (by omega)

/-- Stretch 189. -/
theorem row_189 (i : ℕ) (h : i / 128 = 189) : Good i :=
  miss ((quarter_1 (by omega)).trans (by unfold lit0t1_1; rw [show i / 128 % 128 = 61 by omega]; rfl)) (by omega)

/-- Stretch 190. -/
theorem row_190 (i : ℕ) (h : i / 128 = 190) : Good i :=
  hit pat_23 ((quarter_1 (by omega)).trans (by unfold lit0t1_1; rw [show i / 128 % 128 = 62 by omega]; rfl)) (by omega)

/-- Stretch 191. -/
theorem row_191 (i : ℕ) (h : i / 128 = 191) : Good i :=
  miss ((quarter_1 (by omega)).trans (by unfold lit0t1_1; rw [show i / 128 % 128 = 63 by omega]; rfl)) (by omega)

/-- Stretch 192. -/
theorem row_192 (i : ℕ) (h : i / 128 = 192) : Good i :=
  hit pat_24 ((quarter_1 (by omega)).trans (by unfold lit0t1_1; rw [show i / 128 % 128 = 64 by omega]; rfl)) (by omega)

/-- Stretch 193. -/
theorem row_193 (i : ℕ) (h : i / 128 = 193) : Good i :=
  miss ((quarter_1 (by omega)).trans (by unfold lit0t1_1; rw [show i / 128 % 128 = 65 by omega]; rfl)) (by omega)

/-- Stretch 194. -/
theorem row_194 (i : ℕ) (h : i / 128 = 194) : Good i :=
  hit pat_24 ((quarter_1 (by omega)).trans (by unfold lit0t1_1; rw [show i / 128 % 128 = 66 by omega]; rfl)) (by omega)

/-- Stretch 195. -/
theorem row_195 (i : ℕ) (h : i / 128 = 195) : Good i :=
  miss ((quarter_1 (by omega)).trans (by unfold lit0t1_1; rw [show i / 128 % 128 = 67 by omega]; rfl)) (by omega)

/-- Stretch 196. -/
theorem row_196 (i : ℕ) (h : i / 128 = 196) : Good i :=
  hit pat_24 ((quarter_1 (by omega)).trans (by unfold lit0t1_1; rw [show i / 128 % 128 = 68 by omega]; rfl)) (by omega)

/-- Stretch 197. -/
theorem row_197 (i : ℕ) (h : i / 128 = 197) : Good i :=
  miss ((quarter_1 (by omega)).trans (by unfold lit0t1_1; rw [show i / 128 % 128 = 69 by omega]; rfl)) (by omega)

/-- Stretch 198. -/
theorem row_198 (i : ℕ) (h : i / 128 = 198) : Good i :=
  hit pat_24 ((quarter_1 (by omega)).trans (by unfold lit0t1_1; rw [show i / 128 % 128 = 70 by omega]; rfl)) (by omega)

/-- Stretch 199. -/
theorem row_199 (i : ℕ) (h : i / 128 = 199) : Good i :=
  miss ((quarter_1 (by omega)).trans (by unfold lit0t1_1; rw [show i / 128 % 128 = 71 by omega]; rfl)) (by omega)

/-- Stretch 200. -/
theorem row_200 (i : ℕ) (h : i / 128 = 200) : Good i :=
  hit pat_25 ((quarter_1 (by omega)).trans (by unfold lit0t1_1; rw [show i / 128 % 128 = 72 by omega]; rfl)) (by omega)

/-- Stretch 201. -/
theorem row_201 (i : ℕ) (h : i / 128 = 201) : Good i :=
  miss ((quarter_1 (by omega)).trans (by unfold lit0t1_1; rw [show i / 128 % 128 = 73 by omega]; rfl)) (by omega)

/-- Stretch 202. -/
theorem row_202 (i : ℕ) (h : i / 128 = 202) : Good i :=
  hit pat_25 ((quarter_1 (by omega)).trans (by unfold lit0t1_1; rw [show i / 128 % 128 = 74 by omega]; rfl)) (by omega)

/-- Stretch 203. -/
theorem row_203 (i : ℕ) (h : i / 128 = 203) : Good i :=
  miss ((quarter_1 (by omega)).trans (by unfold lit0t1_1; rw [show i / 128 % 128 = 75 by omega]; rfl)) (by omega)

/-- Stretch 204. -/
theorem row_204 (i : ℕ) (h : i / 128 = 204) : Good i :=
  hit pat_25 ((quarter_1 (by omega)).trans (by unfold lit0t1_1; rw [show i / 128 % 128 = 76 by omega]; rfl)) (by omega)

/-- Stretch 205. -/
theorem row_205 (i : ℕ) (h : i / 128 = 205) : Good i :=
  miss ((quarter_1 (by omega)).trans (by unfold lit0t1_1; rw [show i / 128 % 128 = 77 by omega]; rfl)) (by omega)

/-- Stretch 206. -/
theorem row_206 (i : ℕ) (h : i / 128 = 206) : Good i :=
  hit pat_25 ((quarter_1 (by omega)).trans (by unfold lit0t1_1; rw [show i / 128 % 128 = 78 by omega]; rfl)) (by omega)

/-- Stretch 207. -/
theorem row_207 (i : ℕ) (h : i / 128 = 207) : Good i :=
  miss ((quarter_1 (by omega)).trans (by unfold lit0t1_1; rw [show i / 128 % 128 = 79 by omega]; rfl)) (by omega)

/-- Stretch 208. -/
theorem row_208 (i : ℕ) (h : i / 128 = 208) : Good i :=
  hit pat_26 ((quarter_1 (by omega)).trans (by unfold lit0t1_1; rw [show i / 128 % 128 = 80 by omega]; rfl)) (by omega)

/-- Stretch 209. -/
theorem row_209 (i : ℕ) (h : i / 128 = 209) : Good i :=
  miss ((quarter_1 (by omega)).trans (by unfold lit0t1_1; rw [show i / 128 % 128 = 81 by omega]; rfl)) (by omega)

/-- Stretch 210. -/
theorem row_210 (i : ℕ) (h : i / 128 = 210) : Good i :=
  hit pat_26 ((quarter_1 (by omega)).trans (by unfold lit0t1_1; rw [show i / 128 % 128 = 82 by omega]; rfl)) (by omega)

/-- Stretch 211. -/
theorem row_211 (i : ℕ) (h : i / 128 = 211) : Good i :=
  miss ((quarter_1 (by omega)).trans (by unfold lit0t1_1; rw [show i / 128 % 128 = 83 by omega]; rfl)) (by omega)

/-- Stretch 212. -/
theorem row_212 (i : ℕ) (h : i / 128 = 212) : Good i :=
  hit pat_26 ((quarter_1 (by omega)).trans (by unfold lit0t1_1; rw [show i / 128 % 128 = 84 by omega]; rfl)) (by omega)

/-- Stretch 213. -/
theorem row_213 (i : ℕ) (h : i / 128 = 213) : Good i :=
  miss ((quarter_1 (by omega)).trans (by unfold lit0t1_1; rw [show i / 128 % 128 = 85 by omega]; rfl)) (by omega)

/-- Stretch 214. -/
theorem row_214 (i : ℕ) (h : i / 128 = 214) : Good i :=
  hit pat_26 ((quarter_1 (by omega)).trans (by unfold lit0t1_1; rw [show i / 128 % 128 = 86 by omega]; rfl)) (by omega)

/-- Stretch 215. -/
theorem row_215 (i : ℕ) (h : i / 128 = 215) : Good i :=
  miss ((quarter_1 (by omega)).trans (by unfold lit0t1_1; rw [show i / 128 % 128 = 87 by omega]; rfl)) (by omega)

/-- Stretch 216. -/
theorem row_216 (i : ℕ) (h : i / 128 = 216) : Good i :=
  hit pat_27 ((quarter_1 (by omega)).trans (by unfold lit0t1_1; rw [show i / 128 % 128 = 88 by omega]; rfl)) (by omega)

/-- Stretch 217. -/
theorem row_217 (i : ℕ) (h : i / 128 = 217) : Good i :=
  miss ((quarter_1 (by omega)).trans (by unfold lit0t1_1; rw [show i / 128 % 128 = 89 by omega]; rfl)) (by omega)

/-- Stretch 218. -/
theorem row_218 (i : ℕ) (h : i / 128 = 218) : Good i :=
  hit pat_27 ((quarter_1 (by omega)).trans (by unfold lit0t1_1; rw [show i / 128 % 128 = 90 by omega]; rfl)) (by omega)

/-- Stretch 219. -/
theorem row_219 (i : ℕ) (h : i / 128 = 219) : Good i :=
  miss ((quarter_1 (by omega)).trans (by unfold lit0t1_1; rw [show i / 128 % 128 = 91 by omega]; rfl)) (by omega)

/-- Stretch 220. -/
theorem row_220 (i : ℕ) (h : i / 128 = 220) : Good i :=
  hit pat_27 ((quarter_1 (by omega)).trans (by unfold lit0t1_1; rw [show i / 128 % 128 = 92 by omega]; rfl)) (by omega)

/-- Stretch 221. -/
theorem row_221 (i : ℕ) (h : i / 128 = 221) : Good i :=
  miss ((quarter_1 (by omega)).trans (by unfold lit0t1_1; rw [show i / 128 % 128 = 93 by omega]; rfl)) (by omega)

/-- Stretch 222. -/
theorem row_222 (i : ℕ) (h : i / 128 = 222) : Good i :=
  hit pat_27 ((quarter_1 (by omega)).trans (by unfold lit0t1_1; rw [show i / 128 % 128 = 94 by omega]; rfl)) (by omega)

/-- Stretch 223. -/
theorem row_223 (i : ℕ) (h : i / 128 = 223) : Good i :=
  miss ((quarter_1 (by omega)).trans (by unfold lit0t1_1; rw [show i / 128 % 128 = 95 by omega]; rfl)) (by omega)

/-- Stretch 224. -/
theorem row_224 (i : ℕ) (h : i / 128 = 224) : Good i :=
  hit pat_28 ((quarter_1 (by omega)).trans (by unfold lit0t1_1; rw [show i / 128 % 128 = 96 by omega]; rfl)) (by omega)

/-- Stretch 225. -/
theorem row_225 (i : ℕ) (h : i / 128 = 225) : Good i :=
  miss ((quarter_1 (by omega)).trans (by unfold lit0t1_1; rw [show i / 128 % 128 = 97 by omega]; rfl)) (by omega)

/-- Stretch 226. -/
theorem row_226 (i : ℕ) (h : i / 128 = 226) : Good i :=
  hit pat_28 ((quarter_1 (by omega)).trans (by unfold lit0t1_1; rw [show i / 128 % 128 = 98 by omega]; rfl)) (by omega)

/-- Stretch 227. -/
theorem row_227 (i : ℕ) (h : i / 128 = 227) : Good i :=
  miss ((quarter_1 (by omega)).trans (by unfold lit0t1_1; rw [show i / 128 % 128 = 99 by omega]; rfl)) (by omega)

/-- Stretch 228. -/
theorem row_228 (i : ℕ) (h : i / 128 = 228) : Good i :=
  hit pat_28 ((quarter_1 (by omega)).trans (by unfold lit0t1_1; rw [show i / 128 % 128 = 100 by omega]; rfl)) (by omega)

/-- Stretch 229. -/
theorem row_229 (i : ℕ) (h : i / 128 = 229) : Good i :=
  miss ((quarter_1 (by omega)).trans (by unfold lit0t1_1; rw [show i / 128 % 128 = 101 by omega]; rfl)) (by omega)

/-- Stretch 230. -/
theorem row_230 (i : ℕ) (h : i / 128 = 230) : Good i :=
  hit pat_28 ((quarter_1 (by omega)).trans (by unfold lit0t1_1; rw [show i / 128 % 128 = 102 by omega]; rfl)) (by omega)

/-- Stretch 231. -/
theorem row_231 (i : ℕ) (h : i / 128 = 231) : Good i :=
  miss ((quarter_1 (by omega)).trans (by unfold lit0t1_1; rw [show i / 128 % 128 = 103 by omega]; rfl)) (by omega)

/-- Stretch 232. -/
theorem row_232 (i : ℕ) (h : i / 128 = 232) : Good i :=
  hit pat_29 ((quarter_1 (by omega)).trans (by unfold lit0t1_1; rw [show i / 128 % 128 = 104 by omega]; rfl)) (by omega)

/-- Stretch 233. -/
theorem row_233 (i : ℕ) (h : i / 128 = 233) : Good i :=
  miss ((quarter_1 (by omega)).trans (by unfold lit0t1_1; rw [show i / 128 % 128 = 105 by omega]; rfl)) (by omega)

/-- Stretch 234. -/
theorem row_234 (i : ℕ) (h : i / 128 = 234) : Good i :=
  hit pat_29 ((quarter_1 (by omega)).trans (by unfold lit0t1_1; rw [show i / 128 % 128 = 106 by omega]; rfl)) (by omega)

/-- Stretch 235. -/
theorem row_235 (i : ℕ) (h : i / 128 = 235) : Good i :=
  miss ((quarter_1 (by omega)).trans (by unfold lit0t1_1; rw [show i / 128 % 128 = 107 by omega]; rfl)) (by omega)

/-- Stretch 236. -/
theorem row_236 (i : ℕ) (h : i / 128 = 236) : Good i :=
  hit pat_29 ((quarter_1 (by omega)).trans (by unfold lit0t1_1; rw [show i / 128 % 128 = 108 by omega]; rfl)) (by omega)

/-- Stretch 237. -/
theorem row_237 (i : ℕ) (h : i / 128 = 237) : Good i :=
  miss ((quarter_1 (by omega)).trans (by unfold lit0t1_1; rw [show i / 128 % 128 = 109 by omega]; rfl)) (by omega)

/-- Stretch 238. -/
theorem row_238 (i : ℕ) (h : i / 128 = 238) : Good i :=
  hit pat_29 ((quarter_1 (by omega)).trans (by unfold lit0t1_1; rw [show i / 128 % 128 = 110 by omega]; rfl)) (by omega)

/-- Stretch 239. -/
theorem row_239 (i : ℕ) (h : i / 128 = 239) : Good i :=
  miss ((quarter_1 (by omega)).trans (by unfold lit0t1_1; rw [show i / 128 % 128 = 111 by omega]; rfl)) (by omega)

/-- Stretch 240. -/
theorem row_240 (i : ℕ) (h : i / 128 = 240) : Good i :=
  hit pat_30 ((quarter_1 (by omega)).trans (by unfold lit0t1_1; rw [show i / 128 % 128 = 112 by omega]; rfl)) (by omega)

/-- Stretch 241. -/
theorem row_241 (i : ℕ) (h : i / 128 = 241) : Good i :=
  miss ((quarter_1 (by omega)).trans (by unfold lit0t1_1; rw [show i / 128 % 128 = 113 by omega]; rfl)) (by omega)

/-- Stretch 242. -/
theorem row_242 (i : ℕ) (h : i / 128 = 242) : Good i :=
  hit pat_30 ((quarter_1 (by omega)).trans (by unfold lit0t1_1; rw [show i / 128 % 128 = 114 by omega]; rfl)) (by omega)

/-- Stretch 243. -/
theorem row_243 (i : ℕ) (h : i / 128 = 243) : Good i :=
  miss ((quarter_1 (by omega)).trans (by unfold lit0t1_1; rw [show i / 128 % 128 = 115 by omega]; rfl)) (by omega)

/-- Stretch 244. -/
theorem row_244 (i : ℕ) (h : i / 128 = 244) : Good i :=
  hit pat_30 ((quarter_1 (by omega)).trans (by unfold lit0t1_1; rw [show i / 128 % 128 = 116 by omega]; rfl)) (by omega)

/-- Stretch 245. -/
theorem row_245 (i : ℕ) (h : i / 128 = 245) : Good i :=
  miss ((quarter_1 (by omega)).trans (by unfold lit0t1_1; rw [show i / 128 % 128 = 117 by omega]; rfl)) (by omega)

/-- Stretch 246. -/
theorem row_246 (i : ℕ) (h : i / 128 = 246) : Good i :=
  hit pat_30 ((quarter_1 (by omega)).trans (by unfold lit0t1_1; rw [show i / 128 % 128 = 118 by omega]; rfl)) (by omega)

/-- Stretch 247. -/
theorem row_247 (i : ℕ) (h : i / 128 = 247) : Good i :=
  miss ((quarter_1 (by omega)).trans (by unfold lit0t1_1; rw [show i / 128 % 128 = 119 by omega]; rfl)) (by omega)

/-- Stretch 248. -/
theorem row_248 (i : ℕ) (h : i / 128 = 248) : Good i :=
  hit pat_31 ((quarter_1 (by omega)).trans (by unfold lit0t1_1; rw [show i / 128 % 128 = 120 by omega]; rfl)) (by omega)

/-- Stretch 249. -/
theorem row_249 (i : ℕ) (h : i / 128 = 249) : Good i :=
  miss ((quarter_1 (by omega)).trans (by unfold lit0t1_1; rw [show i / 128 % 128 = 121 by omega]; rfl)) (by omega)

/-- Stretch 250. -/
theorem row_250 (i : ℕ) (h : i / 128 = 250) : Good i :=
  hit pat_31 ((quarter_1 (by omega)).trans (by unfold lit0t1_1; rw [show i / 128 % 128 = 122 by omega]; rfl)) (by omega)

/-- Stretch 251. -/
theorem row_251 (i : ℕ) (h : i / 128 = 251) : Good i :=
  miss ((quarter_1 (by omega)).trans (by unfold lit0t1_1; rw [show i / 128 % 128 = 123 by omega]; rfl)) (by omega)

/-- Stretch 252. -/
theorem row_252 (i : ℕ) (h : i / 128 = 252) : Good i :=
  hit pat_31 ((quarter_1 (by omega)).trans (by unfold lit0t1_1; rw [show i / 128 % 128 = 124 by omega]; rfl)) (by omega)

/-- Stretch 253. -/
theorem row_253 (i : ℕ) (h : i / 128 = 253) : Good i :=
  miss ((quarter_1 (by omega)).trans (by unfold lit0t1_1; rw [show i / 128 % 128 = 125 by omega]; rfl)) (by omega)

/-- Stretch 254. -/
theorem row_254 (i : ℕ) (h : i / 128 = 254) : Good i :=
  hit pat_31 ((quarter_1 (by omega)).trans (by unfold lit0t1_1; rw [show i / 128 % 128 = 126 by omega]; rfl)) (by omega)

/-- Stretch 255. -/
theorem row_255 (i : ℕ) (h : i / 128 = 255) : Good i :=
  miss ((quarter_1 (by omega)).trans (by unfold lit0t1_1; rw [show i / 128 % 128 = 127 by omega]; rfl)) (by omega)

/-- Stretches 0 to 7. -/
theorem rows8_0 (i : ℕ) (h : i / 128 < 8 ∧ 0 ≤ i / 128) : Good i := by
  have d : i / 128 = 0 ∨ i / 128 = 1 ∨ i / 128 = 2 ∨ i / 128 = 3 ∨ i / 128 = 4 ∨ i / 128 = 5 ∨ i / 128 = 6 ∨ i / 128 = 7 := by omega
  rcases d with h | h | h | h | h | h | h | h
  · exact row_0 i h
  · exact row_1 i h
  · exact row_2 i h
  · exact row_3 i h
  · exact row_4 i h
  · exact row_5 i h
  · exact row_6 i h
  · exact row_7 i h

/-- Stretches 8 to 15. -/
theorem rows8_1 (i : ℕ) (h : i / 128 < 16 ∧ 8 ≤ i / 128) : Good i := by
  have d : i / 128 = 8 ∨ i / 128 = 9 ∨ i / 128 = 10 ∨ i / 128 = 11 ∨ i / 128 = 12 ∨ i / 128 = 13 ∨ i / 128 = 14 ∨ i / 128 = 15 := by omega
  rcases d with h | h | h | h | h | h | h | h
  · exact row_8 i h
  · exact row_9 i h
  · exact row_10 i h
  · exact row_11 i h
  · exact row_12 i h
  · exact row_13 i h
  · exact row_14 i h
  · exact row_15 i h

/-- Stretches 16 to 23. -/
theorem rows8_2 (i : ℕ) (h : i / 128 < 24 ∧ 16 ≤ i / 128) : Good i := by
  have d : i / 128 = 16 ∨ i / 128 = 17 ∨ i / 128 = 18 ∨ i / 128 = 19 ∨ i / 128 = 20 ∨ i / 128 = 21 ∨ i / 128 = 22 ∨ i / 128 = 23 := by omega
  rcases d with h | h | h | h | h | h | h | h
  · exact row_16 i h
  · exact row_17 i h
  · exact row_18 i h
  · exact row_19 i h
  · exact row_20 i h
  · exact row_21 i h
  · exact row_22 i h
  · exact row_23 i h

/-- Stretches 24 to 31. -/
theorem rows8_3 (i : ℕ) (h : i / 128 < 32 ∧ 24 ≤ i / 128) : Good i := by
  have d : i / 128 = 24 ∨ i / 128 = 25 ∨ i / 128 = 26 ∨ i / 128 = 27 ∨ i / 128 = 28 ∨ i / 128 = 29 ∨ i / 128 = 30 ∨ i / 128 = 31 := by omega
  rcases d with h | h | h | h | h | h | h | h
  · exact row_24 i h
  · exact row_25 i h
  · exact row_26 i h
  · exact row_27 i h
  · exact row_28 i h
  · exact row_29 i h
  · exact row_30 i h
  · exact row_31 i h

/-- Stretches 32 to 39. -/
theorem rows8_4 (i : ℕ) (h : i / 128 < 40 ∧ 32 ≤ i / 128) : Good i := by
  have d : i / 128 = 32 ∨ i / 128 = 33 ∨ i / 128 = 34 ∨ i / 128 = 35 ∨ i / 128 = 36 ∨ i / 128 = 37 ∨ i / 128 = 38 ∨ i / 128 = 39 := by omega
  rcases d with h | h | h | h | h | h | h | h
  · exact row_32 i h
  · exact row_33 i h
  · exact row_34 i h
  · exact row_35 i h
  · exact row_36 i h
  · exact row_37 i h
  · exact row_38 i h
  · exact row_39 i h

/-- Stretches 40 to 47. -/
theorem rows8_5 (i : ℕ) (h : i / 128 < 48 ∧ 40 ≤ i / 128) : Good i := by
  have d : i / 128 = 40 ∨ i / 128 = 41 ∨ i / 128 = 42 ∨ i / 128 = 43 ∨ i / 128 = 44 ∨ i / 128 = 45 ∨ i / 128 = 46 ∨ i / 128 = 47 := by omega
  rcases d with h | h | h | h | h | h | h | h
  · exact row_40 i h
  · exact row_41 i h
  · exact row_42 i h
  · exact row_43 i h
  · exact row_44 i h
  · exact row_45 i h
  · exact row_46 i h
  · exact row_47 i h

/-- Stretches 48 to 55. -/
theorem rows8_6 (i : ℕ) (h : i / 128 < 56 ∧ 48 ≤ i / 128) : Good i := by
  have d : i / 128 = 48 ∨ i / 128 = 49 ∨ i / 128 = 50 ∨ i / 128 = 51 ∨ i / 128 = 52 ∨ i / 128 = 53 ∨ i / 128 = 54 ∨ i / 128 = 55 := by omega
  rcases d with h | h | h | h | h | h | h | h
  · exact row_48 i h
  · exact row_49 i h
  · exact row_50 i h
  · exact row_51 i h
  · exact row_52 i h
  · exact row_53 i h
  · exact row_54 i h
  · exact row_55 i h

/-- Stretches 56 to 63. -/
theorem rows8_7 (i : ℕ) (h : i / 128 < 64 ∧ 56 ≤ i / 128) : Good i := by
  have d : i / 128 = 56 ∨ i / 128 = 57 ∨ i / 128 = 58 ∨ i / 128 = 59 ∨ i / 128 = 60 ∨ i / 128 = 61 ∨ i / 128 = 62 ∨ i / 128 = 63 := by omega
  rcases d with h | h | h | h | h | h | h | h
  · exact row_56 i h
  · exact row_57 i h
  · exact row_58 i h
  · exact row_59 i h
  · exact row_60 i h
  · exact row_61 i h
  · exact row_62 i h
  · exact row_63 i h

/-- Stretches 64 to 71. -/
theorem rows8_8 (i : ℕ) (h : i / 128 < 72 ∧ 64 ≤ i / 128) : Good i := by
  have d : i / 128 = 64 ∨ i / 128 = 65 ∨ i / 128 = 66 ∨ i / 128 = 67 ∨ i / 128 = 68 ∨ i / 128 = 69 ∨ i / 128 = 70 ∨ i / 128 = 71 := by omega
  rcases d with h | h | h | h | h | h | h | h
  · exact row_64 i h
  · exact row_65 i h
  · exact row_66 i h
  · exact row_67 i h
  · exact row_68 i h
  · exact row_69 i h
  · exact row_70 i h
  · exact row_71 i h

/-- Stretches 72 to 79. -/
theorem rows8_9 (i : ℕ) (h : i / 128 < 80 ∧ 72 ≤ i / 128) : Good i := by
  have d : i / 128 = 72 ∨ i / 128 = 73 ∨ i / 128 = 74 ∨ i / 128 = 75 ∨ i / 128 = 76 ∨ i / 128 = 77 ∨ i / 128 = 78 ∨ i / 128 = 79 := by omega
  rcases d with h | h | h | h | h | h | h | h
  · exact row_72 i h
  · exact row_73 i h
  · exact row_74 i h
  · exact row_75 i h
  · exact row_76 i h
  · exact row_77 i h
  · exact row_78 i h
  · exact row_79 i h

/-- Stretches 80 to 87. -/
theorem rows8_10 (i : ℕ) (h : i / 128 < 88 ∧ 80 ≤ i / 128) : Good i := by
  have d : i / 128 = 80 ∨ i / 128 = 81 ∨ i / 128 = 82 ∨ i / 128 = 83 ∨ i / 128 = 84 ∨ i / 128 = 85 ∨ i / 128 = 86 ∨ i / 128 = 87 := by omega
  rcases d with h | h | h | h | h | h | h | h
  · exact row_80 i h
  · exact row_81 i h
  · exact row_82 i h
  · exact row_83 i h
  · exact row_84 i h
  · exact row_85 i h
  · exact row_86 i h
  · exact row_87 i h

/-- Stretches 88 to 95. -/
theorem rows8_11 (i : ℕ) (h : i / 128 < 96 ∧ 88 ≤ i / 128) : Good i := by
  have d : i / 128 = 88 ∨ i / 128 = 89 ∨ i / 128 = 90 ∨ i / 128 = 91 ∨ i / 128 = 92 ∨ i / 128 = 93 ∨ i / 128 = 94 ∨ i / 128 = 95 := by omega
  rcases d with h | h | h | h | h | h | h | h
  · exact row_88 i h
  · exact row_89 i h
  · exact row_90 i h
  · exact row_91 i h
  · exact row_92 i h
  · exact row_93 i h
  · exact row_94 i h
  · exact row_95 i h

/-- Stretches 96 to 103. -/
theorem rows8_12 (i : ℕ) (h : i / 128 < 104 ∧ 96 ≤ i / 128) : Good i := by
  have d : i / 128 = 96 ∨ i / 128 = 97 ∨ i / 128 = 98 ∨ i / 128 = 99 ∨ i / 128 = 100 ∨ i / 128 = 101 ∨ i / 128 = 102 ∨ i / 128 = 103 := by omega
  rcases d with h | h | h | h | h | h | h | h
  · exact row_96 i h
  · exact row_97 i h
  · exact row_98 i h
  · exact row_99 i h
  · exact row_100 i h
  · exact row_101 i h
  · exact row_102 i h
  · exact row_103 i h

/-- Stretches 104 to 111. -/
theorem rows8_13 (i : ℕ) (h : i / 128 < 112 ∧ 104 ≤ i / 128) : Good i := by
  have d : i / 128 = 104 ∨ i / 128 = 105 ∨ i / 128 = 106 ∨ i / 128 = 107 ∨ i / 128 = 108 ∨ i / 128 = 109 ∨ i / 128 = 110 ∨ i / 128 = 111 := by omega
  rcases d with h | h | h | h | h | h | h | h
  · exact row_104 i h
  · exact row_105 i h
  · exact row_106 i h
  · exact row_107 i h
  · exact row_108 i h
  · exact row_109 i h
  · exact row_110 i h
  · exact row_111 i h

/-- Stretches 112 to 119. -/
theorem rows8_14 (i : ℕ) (h : i / 128 < 120 ∧ 112 ≤ i / 128) : Good i := by
  have d : i / 128 = 112 ∨ i / 128 = 113 ∨ i / 128 = 114 ∨ i / 128 = 115 ∨ i / 128 = 116 ∨ i / 128 = 117 ∨ i / 128 = 118 ∨ i / 128 = 119 := by omega
  rcases d with h | h | h | h | h | h | h | h
  · exact row_112 i h
  · exact row_113 i h
  · exact row_114 i h
  · exact row_115 i h
  · exact row_116 i h
  · exact row_117 i h
  · exact row_118 i h
  · exact row_119 i h

/-- Stretches 120 to 127. -/
theorem rows8_15 (i : ℕ) (h : i / 128 < 128 ∧ 120 ≤ i / 128) : Good i := by
  have d : i / 128 = 120 ∨ i / 128 = 121 ∨ i / 128 = 122 ∨ i / 128 = 123 ∨ i / 128 = 124 ∨ i / 128 = 125 ∨ i / 128 = 126 ∨ i / 128 = 127 := by omega
  rcases d with h | h | h | h | h | h | h | h
  · exact row_120 i h
  · exact row_121 i h
  · exact row_122 i h
  · exact row_123 i h
  · exact row_124 i h
  · exact row_125 i h
  · exact row_126 i h
  · exact row_127 i h

/-- Stretches 128 to 135. -/
theorem rows8_16 (i : ℕ) (h : i / 128 < 136 ∧ 128 ≤ i / 128) : Good i := by
  have d : i / 128 = 128 ∨ i / 128 = 129 ∨ i / 128 = 130 ∨ i / 128 = 131 ∨ i / 128 = 132 ∨ i / 128 = 133 ∨ i / 128 = 134 ∨ i / 128 = 135 := by omega
  rcases d with h | h | h | h | h | h | h | h
  · exact row_128 i h
  · exact row_129 i h
  · exact row_130 i h
  · exact row_131 i h
  · exact row_132 i h
  · exact row_133 i h
  · exact row_134 i h
  · exact row_135 i h

/-- Stretches 136 to 143. -/
theorem rows8_17 (i : ℕ) (h : i / 128 < 144 ∧ 136 ≤ i / 128) : Good i := by
  have d : i / 128 = 136 ∨ i / 128 = 137 ∨ i / 128 = 138 ∨ i / 128 = 139 ∨ i / 128 = 140 ∨ i / 128 = 141 ∨ i / 128 = 142 ∨ i / 128 = 143 := by omega
  rcases d with h | h | h | h | h | h | h | h
  · exact row_136 i h
  · exact row_137 i h
  · exact row_138 i h
  · exact row_139 i h
  · exact row_140 i h
  · exact row_141 i h
  · exact row_142 i h
  · exact row_143 i h

/-- Stretches 144 to 151. -/
theorem rows8_18 (i : ℕ) (h : i / 128 < 152 ∧ 144 ≤ i / 128) : Good i := by
  have d : i / 128 = 144 ∨ i / 128 = 145 ∨ i / 128 = 146 ∨ i / 128 = 147 ∨ i / 128 = 148 ∨ i / 128 = 149 ∨ i / 128 = 150 ∨ i / 128 = 151 := by omega
  rcases d with h | h | h | h | h | h | h | h
  · exact row_144 i h
  · exact row_145 i h
  · exact row_146 i h
  · exact row_147 i h
  · exact row_148 i h
  · exact row_149 i h
  · exact row_150 i h
  · exact row_151 i h

/-- Stretches 152 to 159. -/
theorem rows8_19 (i : ℕ) (h : i / 128 < 160 ∧ 152 ≤ i / 128) : Good i := by
  have d : i / 128 = 152 ∨ i / 128 = 153 ∨ i / 128 = 154 ∨ i / 128 = 155 ∨ i / 128 = 156 ∨ i / 128 = 157 ∨ i / 128 = 158 ∨ i / 128 = 159 := by omega
  rcases d with h | h | h | h | h | h | h | h
  · exact row_152 i h
  · exact row_153 i h
  · exact row_154 i h
  · exact row_155 i h
  · exact row_156 i h
  · exact row_157 i h
  · exact row_158 i h
  · exact row_159 i h

/-- Stretches 160 to 167. -/
theorem rows8_20 (i : ℕ) (h : i / 128 < 168 ∧ 160 ≤ i / 128) : Good i := by
  have d : i / 128 = 160 ∨ i / 128 = 161 ∨ i / 128 = 162 ∨ i / 128 = 163 ∨ i / 128 = 164 ∨ i / 128 = 165 ∨ i / 128 = 166 ∨ i / 128 = 167 := by omega
  rcases d with h | h | h | h | h | h | h | h
  · exact row_160 i h
  · exact row_161 i h
  · exact row_162 i h
  · exact row_163 i h
  · exact row_164 i h
  · exact row_165 i h
  · exact row_166 i h
  · exact row_167 i h

/-- Stretches 168 to 175. -/
theorem rows8_21 (i : ℕ) (h : i / 128 < 176 ∧ 168 ≤ i / 128) : Good i := by
  have d : i / 128 = 168 ∨ i / 128 = 169 ∨ i / 128 = 170 ∨ i / 128 = 171 ∨ i / 128 = 172 ∨ i / 128 = 173 ∨ i / 128 = 174 ∨ i / 128 = 175 := by omega
  rcases d with h | h | h | h | h | h | h | h
  · exact row_168 i h
  · exact row_169 i h
  · exact row_170 i h
  · exact row_171 i h
  · exact row_172 i h
  · exact row_173 i h
  · exact row_174 i h
  · exact row_175 i h

/-- Stretches 176 to 183. -/
theorem rows8_22 (i : ℕ) (h : i / 128 < 184 ∧ 176 ≤ i / 128) : Good i := by
  have d : i / 128 = 176 ∨ i / 128 = 177 ∨ i / 128 = 178 ∨ i / 128 = 179 ∨ i / 128 = 180 ∨ i / 128 = 181 ∨ i / 128 = 182 ∨ i / 128 = 183 := by omega
  rcases d with h | h | h | h | h | h | h | h
  · exact row_176 i h
  · exact row_177 i h
  · exact row_178 i h
  · exact row_179 i h
  · exact row_180 i h
  · exact row_181 i h
  · exact row_182 i h
  · exact row_183 i h

/-- Stretches 184 to 191. -/
theorem rows8_23 (i : ℕ) (h : i / 128 < 192 ∧ 184 ≤ i / 128) : Good i := by
  have d : i / 128 = 184 ∨ i / 128 = 185 ∨ i / 128 = 186 ∨ i / 128 = 187 ∨ i / 128 = 188 ∨ i / 128 = 189 ∨ i / 128 = 190 ∨ i / 128 = 191 := by omega
  rcases d with h | h | h | h | h | h | h | h
  · exact row_184 i h
  · exact row_185 i h
  · exact row_186 i h
  · exact row_187 i h
  · exact row_188 i h
  · exact row_189 i h
  · exact row_190 i h
  · exact row_191 i h

/-- Stretches 192 to 199. -/
theorem rows8_24 (i : ℕ) (h : i / 128 < 200 ∧ 192 ≤ i / 128) : Good i := by
  have d : i / 128 = 192 ∨ i / 128 = 193 ∨ i / 128 = 194 ∨ i / 128 = 195 ∨ i / 128 = 196 ∨ i / 128 = 197 ∨ i / 128 = 198 ∨ i / 128 = 199 := by omega
  rcases d with h | h | h | h | h | h | h | h
  · exact row_192 i h
  · exact row_193 i h
  · exact row_194 i h
  · exact row_195 i h
  · exact row_196 i h
  · exact row_197 i h
  · exact row_198 i h
  · exact row_199 i h

/-- Stretches 200 to 207. -/
theorem rows8_25 (i : ℕ) (h : i / 128 < 208 ∧ 200 ≤ i / 128) : Good i := by
  have d : i / 128 = 200 ∨ i / 128 = 201 ∨ i / 128 = 202 ∨ i / 128 = 203 ∨ i / 128 = 204 ∨ i / 128 = 205 ∨ i / 128 = 206 ∨ i / 128 = 207 := by omega
  rcases d with h | h | h | h | h | h | h | h
  · exact row_200 i h
  · exact row_201 i h
  · exact row_202 i h
  · exact row_203 i h
  · exact row_204 i h
  · exact row_205 i h
  · exact row_206 i h
  · exact row_207 i h

/-- Stretches 208 to 215. -/
theorem rows8_26 (i : ℕ) (h : i / 128 < 216 ∧ 208 ≤ i / 128) : Good i := by
  have d : i / 128 = 208 ∨ i / 128 = 209 ∨ i / 128 = 210 ∨ i / 128 = 211 ∨ i / 128 = 212 ∨ i / 128 = 213 ∨ i / 128 = 214 ∨ i / 128 = 215 := by omega
  rcases d with h | h | h | h | h | h | h | h
  · exact row_208 i h
  · exact row_209 i h
  · exact row_210 i h
  · exact row_211 i h
  · exact row_212 i h
  · exact row_213 i h
  · exact row_214 i h
  · exact row_215 i h

/-- Stretches 216 to 223. -/
theorem rows8_27 (i : ℕ) (h : i / 128 < 224 ∧ 216 ≤ i / 128) : Good i := by
  have d : i / 128 = 216 ∨ i / 128 = 217 ∨ i / 128 = 218 ∨ i / 128 = 219 ∨ i / 128 = 220 ∨ i / 128 = 221 ∨ i / 128 = 222 ∨ i / 128 = 223 := by omega
  rcases d with h | h | h | h | h | h | h | h
  · exact row_216 i h
  · exact row_217 i h
  · exact row_218 i h
  · exact row_219 i h
  · exact row_220 i h
  · exact row_221 i h
  · exact row_222 i h
  · exact row_223 i h

/-- Stretches 224 to 231. -/
theorem rows8_28 (i : ℕ) (h : i / 128 < 232 ∧ 224 ≤ i / 128) : Good i := by
  have d : i / 128 = 224 ∨ i / 128 = 225 ∨ i / 128 = 226 ∨ i / 128 = 227 ∨ i / 128 = 228 ∨ i / 128 = 229 ∨ i / 128 = 230 ∨ i / 128 = 231 := by omega
  rcases d with h | h | h | h | h | h | h | h
  · exact row_224 i h
  · exact row_225 i h
  · exact row_226 i h
  · exact row_227 i h
  · exact row_228 i h
  · exact row_229 i h
  · exact row_230 i h
  · exact row_231 i h

/-- Stretches 232 to 239. -/
theorem rows8_29 (i : ℕ) (h : i / 128 < 240 ∧ 232 ≤ i / 128) : Good i := by
  have d : i / 128 = 232 ∨ i / 128 = 233 ∨ i / 128 = 234 ∨ i / 128 = 235 ∨ i / 128 = 236 ∨ i / 128 = 237 ∨ i / 128 = 238 ∨ i / 128 = 239 := by omega
  rcases d with h | h | h | h | h | h | h | h
  · exact row_232 i h
  · exact row_233 i h
  · exact row_234 i h
  · exact row_235 i h
  · exact row_236 i h
  · exact row_237 i h
  · exact row_238 i h
  · exact row_239 i h

/-- Stretches 240 to 247. -/
theorem rows8_30 (i : ℕ) (h : i / 128 < 248 ∧ 240 ≤ i / 128) : Good i := by
  have d : i / 128 = 240 ∨ i / 128 = 241 ∨ i / 128 = 242 ∨ i / 128 = 243 ∨ i / 128 = 244 ∨ i / 128 = 245 ∨ i / 128 = 246 ∨ i / 128 = 247 := by omega
  rcases d with h | h | h | h | h | h | h | h
  · exact row_240 i h
  · exact row_241 i h
  · exact row_242 i h
  · exact row_243 i h
  · exact row_244 i h
  · exact row_245 i h
  · exact row_246 i h
  · exact row_247 i h

/-- Stretches 248 to 255. -/
theorem rows8_31 (i : ℕ) (h : i / 128 < 256 ∧ 248 ≤ i / 128) : Good i := by
  have d : i / 128 = 248 ∨ i / 128 = 249 ∨ i / 128 = 250 ∨ i / 128 = 251 ∨ i / 128 = 252 ∨ i / 128 = 253 ∨ i / 128 = 254 ∨ i / 128 = 255 := by omega
  rcases d with h | h | h | h | h | h | h | h
  · exact row_248 i h
  · exact row_249 i h
  · exact row_250 i h
  · exact row_251 i h
  · exact row_252 i h
  · exact row_253 i h
  · exact row_254 i h
  · exact row_255 i h

/-- Stretches 0 to 63. -/
theorem rows64_0 (i : ℕ) (h : i / 128 < 64 ∧ 0 ≤ i / 128) : Good i := by
  have d : (i / 128 < 8 ∧ 0 ≤ i / 128) ∨ (i / 128 < 16 ∧ 8 ≤ i / 128) ∨ (i / 128 < 24 ∧ 16 ≤ i / 128) ∨ (i / 128 < 32 ∧ 24 ≤ i / 128) ∨ (i / 128 < 40 ∧ 32 ≤ i / 128) ∨ (i / 128 < 48 ∧ 40 ≤ i / 128) ∨ (i / 128 < 56 ∧ 48 ≤ i / 128) ∨ (i / 128 < 64 ∧ 56 ≤ i / 128) := by omega
  rcases d with h | h | h | h | h | h | h | h
  · exact rows8_0 i h
  · exact rows8_1 i h
  · exact rows8_2 i h
  · exact rows8_3 i h
  · exact rows8_4 i h
  · exact rows8_5 i h
  · exact rows8_6 i h
  · exact rows8_7 i h

/-- Stretches 64 to 127. -/
theorem rows64_1 (i : ℕ) (h : i / 128 < 128 ∧ 64 ≤ i / 128) : Good i := by
  have d : (i / 128 < 72 ∧ 64 ≤ i / 128) ∨ (i / 128 < 80 ∧ 72 ≤ i / 128) ∨ (i / 128 < 88 ∧ 80 ≤ i / 128) ∨ (i / 128 < 96 ∧ 88 ≤ i / 128) ∨ (i / 128 < 104 ∧ 96 ≤ i / 128) ∨ (i / 128 < 112 ∧ 104 ≤ i / 128) ∨ (i / 128 < 120 ∧ 112 ≤ i / 128) ∨ (i / 128 < 128 ∧ 120 ≤ i / 128) := by omega
  rcases d with h | h | h | h | h | h | h | h
  · exact rows8_8 i h
  · exact rows8_9 i h
  · exact rows8_10 i h
  · exact rows8_11 i h
  · exact rows8_12 i h
  · exact rows8_13 i h
  · exact rows8_14 i h
  · exact rows8_15 i h

/-- Stretches 128 to 191. -/
theorem rows64_2 (i : ℕ) (h : i / 128 < 192 ∧ 128 ≤ i / 128) : Good i := by
  have d : (i / 128 < 136 ∧ 128 ≤ i / 128) ∨ (i / 128 < 144 ∧ 136 ≤ i / 128) ∨ (i / 128 < 152 ∧ 144 ≤ i / 128) ∨ (i / 128 < 160 ∧ 152 ≤ i / 128) ∨ (i / 128 < 168 ∧ 160 ≤ i / 128) ∨ (i / 128 < 176 ∧ 168 ≤ i / 128) ∨ (i / 128 < 184 ∧ 176 ≤ i / 128) ∨ (i / 128 < 192 ∧ 184 ≤ i / 128) := by omega
  rcases d with h | h | h | h | h | h | h | h
  · exact rows8_16 i h
  · exact rows8_17 i h
  · exact rows8_18 i h
  · exact rows8_19 i h
  · exact rows8_20 i h
  · exact rows8_21 i h
  · exact rows8_22 i h
  · exact rows8_23 i h

/-- Stretches 192 to 255. -/
theorem rows64_3 (i : ℕ) (h : i / 128 < 256 ∧ 192 ≤ i / 128) : Good i := by
  have d : (i / 128 < 200 ∧ 192 ≤ i / 128) ∨ (i / 128 < 208 ∧ 200 ≤ i / 128) ∨ (i / 128 < 216 ∧ 208 ≤ i / 128) ∨ (i / 128 < 224 ∧ 216 ≤ i / 128) ∨ (i / 128 < 232 ∧ 224 ≤ i / 128) ∨ (i / 128 < 240 ∧ 232 ≤ i / 128) ∨ (i / 128 < 248 ∧ 240 ≤ i / 128) ∨ (i / 128 < 256 ∧ 248 ≤ i / 128) := by omega
  rcases d with h | h | h | h | h | h | h | h
  · exact rows8_24 i h
  · exact rows8_25 i h
  · exact rows8_26 i h
  · exact rows8_27 i h
  · exact rows8_28 i h
  · exact rows8_29 i h
  · exact rows8_30 i h
  · exact rows8_31 i h

end Cert.KernelIdeal.Mask
-- ==== Proof.MaskLower.lean ====
module

public import proofs.«01_k».proof.Proof.MaskPatterns

@[expose] public section

set_option maxRecDepth 16384

noncomputable section

/-! # The masks' last 128 rows -/

namespace Cert.KernelIdeal.Mask

open Cert.KernelIdeal
open Idealize.ShloMosaic Idealize.ShloMosaic.TcCoe

/-- Stretch 256. -/
theorem row_256 (i : ℕ) (h : i / 128 = 256) : Good i :=
  miss ((quarter_2 (by omega)).trans (by unfold lit0t1_2; rw [show i / 128 % 128 = 0 by omega]; rfl)) (by omega)

/-- Stretch 257. -/
theorem row_257 (i : ℕ) (h : i / 128 = 257) : Good i :=
  hit pat_0 ((quarter_2 (by omega)).trans (by unfold lit0t1_2; rw [show i / 128 % 128 = 1 by omega]; rfl)) (by omega)

/-- Stretch 258. -/
theorem row_258 (i : ℕ) (h : i / 128 = 258) : Good i :=
  miss ((quarter_2 (by omega)).trans (by unfold lit0t1_2; rw [show i / 128 % 128 = 2 by omega]; rfl)) (by omega)

/-- Stretch 259. -/
theorem row_259 (i : ℕ) (h : i / 128 = 259) : Good i :=
  hit pat_0 ((quarter_2 (by omega)).trans (by unfold lit0t1_2; rw [show i / 128 % 128 = 3 by omega]; rfl)) (by omega)

/-- Stretch 260. -/
theorem row_260 (i : ℕ) (h : i / 128 = 260) : Good i :=
  miss ((quarter_2 (by omega)).trans (by unfold lit0t1_2; rw [show i / 128 % 128 = 4 by omega]; rfl)) (by omega)

/-- Stretch 261. -/
theorem row_261 (i : ℕ) (h : i / 128 = 261) : Good i :=
  hit pat_0 ((quarter_2 (by omega)).trans (by unfold lit0t1_2; rw [show i / 128 % 128 = 5 by omega]; rfl)) (by omega)

/-- Stretch 262. -/
theorem row_262 (i : ℕ) (h : i / 128 = 262) : Good i :=
  miss ((quarter_2 (by omega)).trans (by unfold lit0t1_2; rw [show i / 128 % 128 = 6 by omega]; rfl)) (by omega)

/-- Stretch 263. -/
theorem row_263 (i : ℕ) (h : i / 128 = 263) : Good i :=
  hit pat_0 ((quarter_2 (by omega)).trans (by unfold lit0t1_2; rw [show i / 128 % 128 = 7 by omega]; rfl)) (by omega)

/-- Stretch 264. -/
theorem row_264 (i : ℕ) (h : i / 128 = 264) : Good i :=
  miss ((quarter_2 (by omega)).trans (by unfold lit0t1_2; rw [show i / 128 % 128 = 8 by omega]; rfl)) (by omega)

/-- Stretch 265. -/
theorem row_265 (i : ℕ) (h : i / 128 = 265) : Good i :=
  hit pat_1 ((quarter_2 (by omega)).trans (by unfold lit0t1_2; rw [show i / 128 % 128 = 9 by omega]; rfl)) (by omega)

/-- Stretch 266. -/
theorem row_266 (i : ℕ) (h : i / 128 = 266) : Good i :=
  miss ((quarter_2 (by omega)).trans (by unfold lit0t1_2; rw [show i / 128 % 128 = 10 by omega]; rfl)) (by omega)

/-- Stretch 267. -/
theorem row_267 (i : ℕ) (h : i / 128 = 267) : Good i :=
  hit pat_1 ((quarter_2 (by omega)).trans (by unfold lit0t1_2; rw [show i / 128 % 128 = 11 by omega]; rfl)) (by omega)

/-- Stretch 268. -/
theorem row_268 (i : ℕ) (h : i / 128 = 268) : Good i :=
  miss ((quarter_2 (by omega)).trans (by unfold lit0t1_2; rw [show i / 128 % 128 = 12 by omega]; rfl)) (by omega)

/-- Stretch 269. -/
theorem row_269 (i : ℕ) (h : i / 128 = 269) : Good i :=
  hit pat_1 ((quarter_2 (by omega)).trans (by unfold lit0t1_2; rw [show i / 128 % 128 = 13 by omega]; rfl)) (by omega)

/-- Stretch 270. -/
theorem row_270 (i : ℕ) (h : i / 128 = 270) : Good i :=
  miss ((quarter_2 (by omega)).trans (by unfold lit0t1_2; rw [show i / 128 % 128 = 14 by omega]; rfl)) (by omega)

/-- Stretch 271. -/
theorem row_271 (i : ℕ) (h : i / 128 = 271) : Good i :=
  hit pat_1 ((quarter_2 (by omega)).trans (by unfold lit0t1_2; rw [show i / 128 % 128 = 15 by omega]; rfl)) (by omega)

/-- Stretch 272. -/
theorem row_272 (i : ℕ) (h : i / 128 = 272) : Good i :=
  miss ((quarter_2 (by omega)).trans (by unfold lit0t1_2; rw [show i / 128 % 128 = 16 by omega]; rfl)) (by omega)

/-- Stretch 273. -/
theorem row_273 (i : ℕ) (h : i / 128 = 273) : Good i :=
  hit pat_2 ((quarter_2 (by omega)).trans (by unfold lit0t1_2; rw [show i / 128 % 128 = 17 by omega]; rfl)) (by omega)

/-- Stretch 274. -/
theorem row_274 (i : ℕ) (h : i / 128 = 274) : Good i :=
  miss ((quarter_2 (by omega)).trans (by unfold lit0t1_2; rw [show i / 128 % 128 = 18 by omega]; rfl)) (by omega)

/-- Stretch 275. -/
theorem row_275 (i : ℕ) (h : i / 128 = 275) : Good i :=
  hit pat_2 ((quarter_2 (by omega)).trans (by unfold lit0t1_2; rw [show i / 128 % 128 = 19 by omega]; rfl)) (by omega)

/-- Stretch 276. -/
theorem row_276 (i : ℕ) (h : i / 128 = 276) : Good i :=
  miss ((quarter_2 (by omega)).trans (by unfold lit0t1_2; rw [show i / 128 % 128 = 20 by omega]; rfl)) (by omega)

/-- Stretch 277. -/
theorem row_277 (i : ℕ) (h : i / 128 = 277) : Good i :=
  hit pat_2 ((quarter_2 (by omega)).trans (by unfold lit0t1_2; rw [show i / 128 % 128 = 21 by omega]; rfl)) (by omega)

/-- Stretch 278. -/
theorem row_278 (i : ℕ) (h : i / 128 = 278) : Good i :=
  miss ((quarter_2 (by omega)).trans (by unfold lit0t1_2; rw [show i / 128 % 128 = 22 by omega]; rfl)) (by omega)

/-- Stretch 279. -/
theorem row_279 (i : ℕ) (h : i / 128 = 279) : Good i :=
  hit pat_2 ((quarter_2 (by omega)).trans (by unfold lit0t1_2; rw [show i / 128 % 128 = 23 by omega]; rfl)) (by omega)

/-- Stretch 280. -/
theorem row_280 (i : ℕ) (h : i / 128 = 280) : Good i :=
  miss ((quarter_2 (by omega)).trans (by unfold lit0t1_2; rw [show i / 128 % 128 = 24 by omega]; rfl)) (by omega)

/-- Stretch 281. -/
theorem row_281 (i : ℕ) (h : i / 128 = 281) : Good i :=
  hit pat_3 ((quarter_2 (by omega)).trans (by unfold lit0t1_2; rw [show i / 128 % 128 = 25 by omega]; rfl)) (by omega)

/-- Stretch 282. -/
theorem row_282 (i : ℕ) (h : i / 128 = 282) : Good i :=
  miss ((quarter_2 (by omega)).trans (by unfold lit0t1_2; rw [show i / 128 % 128 = 26 by omega]; rfl)) (by omega)

/-- Stretch 283. -/
theorem row_283 (i : ℕ) (h : i / 128 = 283) : Good i :=
  hit pat_3 ((quarter_2 (by omega)).trans (by unfold lit0t1_2; rw [show i / 128 % 128 = 27 by omega]; rfl)) (by omega)

/-- Stretch 284. -/
theorem row_284 (i : ℕ) (h : i / 128 = 284) : Good i :=
  miss ((quarter_2 (by omega)).trans (by unfold lit0t1_2; rw [show i / 128 % 128 = 28 by omega]; rfl)) (by omega)

/-- Stretch 285. -/
theorem row_285 (i : ℕ) (h : i / 128 = 285) : Good i :=
  hit pat_3 ((quarter_2 (by omega)).trans (by unfold lit0t1_2; rw [show i / 128 % 128 = 29 by omega]; rfl)) (by omega)

/-- Stretch 286. -/
theorem row_286 (i : ℕ) (h : i / 128 = 286) : Good i :=
  miss ((quarter_2 (by omega)).trans (by unfold lit0t1_2; rw [show i / 128 % 128 = 30 by omega]; rfl)) (by omega)

/-- Stretch 287. -/
theorem row_287 (i : ℕ) (h : i / 128 = 287) : Good i :=
  hit pat_3 ((quarter_2 (by omega)).trans (by unfold lit0t1_2; rw [show i / 128 % 128 = 31 by omega]; rfl)) (by omega)

/-- Stretch 288. -/
theorem row_288 (i : ℕ) (h : i / 128 = 288) : Good i :=
  miss ((quarter_2 (by omega)).trans (by unfold lit0t1_2; rw [show i / 128 % 128 = 32 by omega]; rfl)) (by omega)

/-- Stretch 289. -/
theorem row_289 (i : ℕ) (h : i / 128 = 289) : Good i :=
  hit pat_4 ((quarter_2 (by omega)).trans (by unfold lit0t1_2; rw [show i / 128 % 128 = 33 by omega]; rfl)) (by omega)

/-- Stretch 290. -/
theorem row_290 (i : ℕ) (h : i / 128 = 290) : Good i :=
  miss ((quarter_2 (by omega)).trans (by unfold lit0t1_2; rw [show i / 128 % 128 = 34 by omega]; rfl)) (by omega)

/-- Stretch 291. -/
theorem row_291 (i : ℕ) (h : i / 128 = 291) : Good i :=
  hit pat_4 ((quarter_2 (by omega)).trans (by unfold lit0t1_2; rw [show i / 128 % 128 = 35 by omega]; rfl)) (by omega)

/-- Stretch 292. -/
theorem row_292 (i : ℕ) (h : i / 128 = 292) : Good i :=
  miss ((quarter_2 (by omega)).trans (by unfold lit0t1_2; rw [show i / 128 % 128 = 36 by omega]; rfl)) (by omega)

/-- Stretch 293. -/
theorem row_293 (i : ℕ) (h : i / 128 = 293) : Good i :=
  hit pat_4 ((quarter_2 (by omega)).trans (by unfold lit0t1_2; rw [show i / 128 % 128 = 37 by omega]; rfl)) (by omega)

/-- Stretch 294. -/
theorem row_294 (i : ℕ) (h : i / 128 = 294) : Good i :=
  miss ((quarter_2 (by omega)).trans (by unfold lit0t1_2; rw [show i / 128 % 128 = 38 by omega]; rfl)) (by omega)

/-- Stretch 295. -/
theorem row_295 (i : ℕ) (h : i / 128 = 295) : Good i :=
  hit pat_4 ((quarter_2 (by omega)).trans (by unfold lit0t1_2; rw [show i / 128 % 128 = 39 by omega]; rfl)) (by omega)

/-- Stretch 296. -/
theorem row_296 (i : ℕ) (h : i / 128 = 296) : Good i :=
  miss ((quarter_2 (by omega)).trans (by unfold lit0t1_2; rw [show i / 128 % 128 = 40 by omega]; rfl)) (by omega)

/-- Stretch 297. -/
theorem row_297 (i : ℕ) (h : i / 128 = 297) : Good i :=
  hit pat_5 ((quarter_2 (by omega)).trans (by unfold lit0t1_2; rw [show i / 128 % 128 = 41 by omega]; rfl)) (by omega)

/-- Stretch 298. -/
theorem row_298 (i : ℕ) (h : i / 128 = 298) : Good i :=
  miss ((quarter_2 (by omega)).trans (by unfold lit0t1_2; rw [show i / 128 % 128 = 42 by omega]; rfl)) (by omega)

/-- Stretch 299. -/
theorem row_299 (i : ℕ) (h : i / 128 = 299) : Good i :=
  hit pat_5 ((quarter_2 (by omega)).trans (by unfold lit0t1_2; rw [show i / 128 % 128 = 43 by omega]; rfl)) (by omega)

/-- Stretch 300. -/
theorem row_300 (i : ℕ) (h : i / 128 = 300) : Good i :=
  miss ((quarter_2 (by omega)).trans (by unfold lit0t1_2; rw [show i / 128 % 128 = 44 by omega]; rfl)) (by omega)

/-- Stretch 301. -/
theorem row_301 (i : ℕ) (h : i / 128 = 301) : Good i :=
  hit pat_5 ((quarter_2 (by omega)).trans (by unfold lit0t1_2; rw [show i / 128 % 128 = 45 by omega]; rfl)) (by omega)

/-- Stretch 302. -/
theorem row_302 (i : ℕ) (h : i / 128 = 302) : Good i :=
  miss ((quarter_2 (by omega)).trans (by unfold lit0t1_2; rw [show i / 128 % 128 = 46 by omega]; rfl)) (by omega)

/-- Stretch 303. -/
theorem row_303 (i : ℕ) (h : i / 128 = 303) : Good i :=
  hit pat_5 ((quarter_2 (by omega)).trans (by unfold lit0t1_2; rw [show i / 128 % 128 = 47 by omega]; rfl)) (by omega)

/-- Stretch 304. -/
theorem row_304 (i : ℕ) (h : i / 128 = 304) : Good i :=
  miss ((quarter_2 (by omega)).trans (by unfold lit0t1_2; rw [show i / 128 % 128 = 48 by omega]; rfl)) (by omega)

/-- Stretch 305. -/
theorem row_305 (i : ℕ) (h : i / 128 = 305) : Good i :=
  hit pat_6 ((quarter_2 (by omega)).trans (by unfold lit0t1_2; rw [show i / 128 % 128 = 49 by omega]; rfl)) (by omega)

/-- Stretch 306. -/
theorem row_306 (i : ℕ) (h : i / 128 = 306) : Good i :=
  miss ((quarter_2 (by omega)).trans (by unfold lit0t1_2; rw [show i / 128 % 128 = 50 by omega]; rfl)) (by omega)

/-- Stretch 307. -/
theorem row_307 (i : ℕ) (h : i / 128 = 307) : Good i :=
  hit pat_6 ((quarter_2 (by omega)).trans (by unfold lit0t1_2; rw [show i / 128 % 128 = 51 by omega]; rfl)) (by omega)

/-- Stretch 308. -/
theorem row_308 (i : ℕ) (h : i / 128 = 308) : Good i :=
  miss ((quarter_2 (by omega)).trans (by unfold lit0t1_2; rw [show i / 128 % 128 = 52 by omega]; rfl)) (by omega)

/-- Stretch 309. -/
theorem row_309 (i : ℕ) (h : i / 128 = 309) : Good i :=
  hit pat_6 ((quarter_2 (by omega)).trans (by unfold lit0t1_2; rw [show i / 128 % 128 = 53 by omega]; rfl)) (by omega)

/-- Stretch 310. -/
theorem row_310 (i : ℕ) (h : i / 128 = 310) : Good i :=
  miss ((quarter_2 (by omega)).trans (by unfold lit0t1_2; rw [show i / 128 % 128 = 54 by omega]; rfl)) (by omega)

/-- Stretch 311. -/
theorem row_311 (i : ℕ) (h : i / 128 = 311) : Good i :=
  hit pat_6 ((quarter_2 (by omega)).trans (by unfold lit0t1_2; rw [show i / 128 % 128 = 55 by omega]; rfl)) (by omega)

/-- Stretch 312. -/
theorem row_312 (i : ℕ) (h : i / 128 = 312) : Good i :=
  miss ((quarter_2 (by omega)).trans (by unfold lit0t1_2; rw [show i / 128 % 128 = 56 by omega]; rfl)) (by omega)

/-- Stretch 313. -/
theorem row_313 (i : ℕ) (h : i / 128 = 313) : Good i :=
  hit pat_7 ((quarter_2 (by omega)).trans (by unfold lit0t1_2; rw [show i / 128 % 128 = 57 by omega]; rfl)) (by omega)

/-- Stretch 314. -/
theorem row_314 (i : ℕ) (h : i / 128 = 314) : Good i :=
  miss ((quarter_2 (by omega)).trans (by unfold lit0t1_2; rw [show i / 128 % 128 = 58 by omega]; rfl)) (by omega)

/-- Stretch 315. -/
theorem row_315 (i : ℕ) (h : i / 128 = 315) : Good i :=
  hit pat_7 ((quarter_2 (by omega)).trans (by unfold lit0t1_2; rw [show i / 128 % 128 = 59 by omega]; rfl)) (by omega)

/-- Stretch 316. -/
theorem row_316 (i : ℕ) (h : i / 128 = 316) : Good i :=
  miss ((quarter_2 (by omega)).trans (by unfold lit0t1_2; rw [show i / 128 % 128 = 60 by omega]; rfl)) (by omega)

/-- Stretch 317. -/
theorem row_317 (i : ℕ) (h : i / 128 = 317) : Good i :=
  hit pat_7 ((quarter_2 (by omega)).trans (by unfold lit0t1_2; rw [show i / 128 % 128 = 61 by omega]; rfl)) (by omega)

/-- Stretch 318. -/
theorem row_318 (i : ℕ) (h : i / 128 = 318) : Good i :=
  miss ((quarter_2 (by omega)).trans (by unfold lit0t1_2; rw [show i / 128 % 128 = 62 by omega]; rfl)) (by omega)

/-- Stretch 319. -/
theorem row_319 (i : ℕ) (h : i / 128 = 319) : Good i :=
  hit pat_7 ((quarter_2 (by omega)).trans (by unfold lit0t1_2; rw [show i / 128 % 128 = 63 by omega]; rfl)) (by omega)

/-- Stretch 320. -/
theorem row_320 (i : ℕ) (h : i / 128 = 320) : Good i :=
  miss ((quarter_2 (by omega)).trans (by unfold lit0t1_2; rw [show i / 128 % 128 = 64 by omega]; rfl)) (by omega)

/-- Stretch 321. -/
theorem row_321 (i : ℕ) (h : i / 128 = 321) : Good i :=
  hit pat_8 ((quarter_2 (by omega)).trans (by unfold lit0t1_2; rw [show i / 128 % 128 = 65 by omega]; rfl)) (by omega)

/-- Stretch 322. -/
theorem row_322 (i : ℕ) (h : i / 128 = 322) : Good i :=
  miss ((quarter_2 (by omega)).trans (by unfold lit0t1_2; rw [show i / 128 % 128 = 66 by omega]; rfl)) (by omega)

/-- Stretch 323. -/
theorem row_323 (i : ℕ) (h : i / 128 = 323) : Good i :=
  hit pat_8 ((quarter_2 (by omega)).trans (by unfold lit0t1_2; rw [show i / 128 % 128 = 67 by omega]; rfl)) (by omega)

/-- Stretch 324. -/
theorem row_324 (i : ℕ) (h : i / 128 = 324) : Good i :=
  miss ((quarter_2 (by omega)).trans (by unfold lit0t1_2; rw [show i / 128 % 128 = 68 by omega]; rfl)) (by omega)

/-- Stretch 325. -/
theorem row_325 (i : ℕ) (h : i / 128 = 325) : Good i :=
  hit pat_8 ((quarter_2 (by omega)).trans (by unfold lit0t1_2; rw [show i / 128 % 128 = 69 by omega]; rfl)) (by omega)

/-- Stretch 326. -/
theorem row_326 (i : ℕ) (h : i / 128 = 326) : Good i :=
  miss ((quarter_2 (by omega)).trans (by unfold lit0t1_2; rw [show i / 128 % 128 = 70 by omega]; rfl)) (by omega)

/-- Stretch 327. -/
theorem row_327 (i : ℕ) (h : i / 128 = 327) : Good i :=
  hit pat_8 ((quarter_2 (by omega)).trans (by unfold lit0t1_2; rw [show i / 128 % 128 = 71 by omega]; rfl)) (by omega)

/-- Stretch 328. -/
theorem row_328 (i : ℕ) (h : i / 128 = 328) : Good i :=
  miss ((quarter_2 (by omega)).trans (by unfold lit0t1_2; rw [show i / 128 % 128 = 72 by omega]; rfl)) (by omega)

/-- Stretch 329. -/
theorem row_329 (i : ℕ) (h : i / 128 = 329) : Good i :=
  hit pat_9 ((quarter_2 (by omega)).trans (by unfold lit0t1_2; rw [show i / 128 % 128 = 73 by omega]; rfl)) (by omega)

/-- Stretch 330. -/
theorem row_330 (i : ℕ) (h : i / 128 = 330) : Good i :=
  miss ((quarter_2 (by omega)).trans (by unfold lit0t1_2; rw [show i / 128 % 128 = 74 by omega]; rfl)) (by omega)

/-- Stretch 331. -/
theorem row_331 (i : ℕ) (h : i / 128 = 331) : Good i :=
  hit pat_9 ((quarter_2 (by omega)).trans (by unfold lit0t1_2; rw [show i / 128 % 128 = 75 by omega]; rfl)) (by omega)

/-- Stretch 332. -/
theorem row_332 (i : ℕ) (h : i / 128 = 332) : Good i :=
  miss ((quarter_2 (by omega)).trans (by unfold lit0t1_2; rw [show i / 128 % 128 = 76 by omega]; rfl)) (by omega)

/-- Stretch 333. -/
theorem row_333 (i : ℕ) (h : i / 128 = 333) : Good i :=
  hit pat_9 ((quarter_2 (by omega)).trans (by unfold lit0t1_2; rw [show i / 128 % 128 = 77 by omega]; rfl)) (by omega)

/-- Stretch 334. -/
theorem row_334 (i : ℕ) (h : i / 128 = 334) : Good i :=
  miss ((quarter_2 (by omega)).trans (by unfold lit0t1_2; rw [show i / 128 % 128 = 78 by omega]; rfl)) (by omega)

/-- Stretch 335. -/
theorem row_335 (i : ℕ) (h : i / 128 = 335) : Good i :=
  hit pat_9 ((quarter_2 (by omega)).trans (by unfold lit0t1_2; rw [show i / 128 % 128 = 79 by omega]; rfl)) (by omega)

/-- Stretch 336. -/
theorem row_336 (i : ℕ) (h : i / 128 = 336) : Good i :=
  miss ((quarter_2 (by omega)).trans (by unfold lit0t1_2; rw [show i / 128 % 128 = 80 by omega]; rfl)) (by omega)

/-- Stretch 337. -/
theorem row_337 (i : ℕ) (h : i / 128 = 337) : Good i :=
  hit pat_10 ((quarter_2 (by omega)).trans (by unfold lit0t1_2; rw [show i / 128 % 128 = 81 by omega]; rfl)) (by omega)

/-- Stretch 338. -/
theorem row_338 (i : ℕ) (h : i / 128 = 338) : Good i :=
  miss ((quarter_2 (by omega)).trans (by unfold lit0t1_2; rw [show i / 128 % 128 = 82 by omega]; rfl)) (by omega)

/-- Stretch 339. -/
theorem row_339 (i : ℕ) (h : i / 128 = 339) : Good i :=
  hit pat_10 ((quarter_2 (by omega)).trans (by unfold lit0t1_2; rw [show i / 128 % 128 = 83 by omega]; rfl)) (by omega)

/-- Stretch 340. -/
theorem row_340 (i : ℕ) (h : i / 128 = 340) : Good i :=
  miss ((quarter_2 (by omega)).trans (by unfold lit0t1_2; rw [show i / 128 % 128 = 84 by omega]; rfl)) (by omega)

/-- Stretch 341. -/
theorem row_341 (i : ℕ) (h : i / 128 = 341) : Good i :=
  hit pat_10 ((quarter_2 (by omega)).trans (by unfold lit0t1_2; rw [show i / 128 % 128 = 85 by omega]; rfl)) (by omega)

/-- Stretch 342. -/
theorem row_342 (i : ℕ) (h : i / 128 = 342) : Good i :=
  miss ((quarter_2 (by omega)).trans (by unfold lit0t1_2; rw [show i / 128 % 128 = 86 by omega]; rfl)) (by omega)

/-- Stretch 343. -/
theorem row_343 (i : ℕ) (h : i / 128 = 343) : Good i :=
  hit pat_10 ((quarter_2 (by omega)).trans (by unfold lit0t1_2; rw [show i / 128 % 128 = 87 by omega]; rfl)) (by omega)

/-- Stretch 344. -/
theorem row_344 (i : ℕ) (h : i / 128 = 344) : Good i :=
  miss ((quarter_2 (by omega)).trans (by unfold lit0t1_2; rw [show i / 128 % 128 = 88 by omega]; rfl)) (by omega)

/-- Stretch 345. -/
theorem row_345 (i : ℕ) (h : i / 128 = 345) : Good i :=
  hit pat_11 ((quarter_2 (by omega)).trans (by unfold lit0t1_2; rw [show i / 128 % 128 = 89 by omega]; rfl)) (by omega)

/-- Stretch 346. -/
theorem row_346 (i : ℕ) (h : i / 128 = 346) : Good i :=
  miss ((quarter_2 (by omega)).trans (by unfold lit0t1_2; rw [show i / 128 % 128 = 90 by omega]; rfl)) (by omega)

/-- Stretch 347. -/
theorem row_347 (i : ℕ) (h : i / 128 = 347) : Good i :=
  hit pat_11 ((quarter_2 (by omega)).trans (by unfold lit0t1_2; rw [show i / 128 % 128 = 91 by omega]; rfl)) (by omega)

/-- Stretch 348. -/
theorem row_348 (i : ℕ) (h : i / 128 = 348) : Good i :=
  miss ((quarter_2 (by omega)).trans (by unfold lit0t1_2; rw [show i / 128 % 128 = 92 by omega]; rfl)) (by omega)

/-- Stretch 349. -/
theorem row_349 (i : ℕ) (h : i / 128 = 349) : Good i :=
  hit pat_11 ((quarter_2 (by omega)).trans (by unfold lit0t1_2; rw [show i / 128 % 128 = 93 by omega]; rfl)) (by omega)

/-- Stretch 350. -/
theorem row_350 (i : ℕ) (h : i / 128 = 350) : Good i :=
  miss ((quarter_2 (by omega)).trans (by unfold lit0t1_2; rw [show i / 128 % 128 = 94 by omega]; rfl)) (by omega)

/-- Stretch 351. -/
theorem row_351 (i : ℕ) (h : i / 128 = 351) : Good i :=
  hit pat_11 ((quarter_2 (by omega)).trans (by unfold lit0t1_2; rw [show i / 128 % 128 = 95 by omega]; rfl)) (by omega)

/-- Stretch 352. -/
theorem row_352 (i : ℕ) (h : i / 128 = 352) : Good i :=
  miss ((quarter_2 (by omega)).trans (by unfold lit0t1_2; rw [show i / 128 % 128 = 96 by omega]; rfl)) (by omega)

/-- Stretch 353. -/
theorem row_353 (i : ℕ) (h : i / 128 = 353) : Good i :=
  hit pat_12 ((quarter_2 (by omega)).trans (by unfold lit0t1_2; rw [show i / 128 % 128 = 97 by omega]; rfl)) (by omega)

/-- Stretch 354. -/
theorem row_354 (i : ℕ) (h : i / 128 = 354) : Good i :=
  miss ((quarter_2 (by omega)).trans (by unfold lit0t1_2; rw [show i / 128 % 128 = 98 by omega]; rfl)) (by omega)

/-- Stretch 355. -/
theorem row_355 (i : ℕ) (h : i / 128 = 355) : Good i :=
  hit pat_12 ((quarter_2 (by omega)).trans (by unfold lit0t1_2; rw [show i / 128 % 128 = 99 by omega]; rfl)) (by omega)

/-- Stretch 356. -/
theorem row_356 (i : ℕ) (h : i / 128 = 356) : Good i :=
  miss ((quarter_2 (by omega)).trans (by unfold lit0t1_2; rw [show i / 128 % 128 = 100 by omega]; rfl)) (by omega)

/-- Stretch 357. -/
theorem row_357 (i : ℕ) (h : i / 128 = 357) : Good i :=
  hit pat_12 ((quarter_2 (by omega)).trans (by unfold lit0t1_2; rw [show i / 128 % 128 = 101 by omega]; rfl)) (by omega)

/-- Stretch 358. -/
theorem row_358 (i : ℕ) (h : i / 128 = 358) : Good i :=
  miss ((quarter_2 (by omega)).trans (by unfold lit0t1_2; rw [show i / 128 % 128 = 102 by omega]; rfl)) (by omega)

/-- Stretch 359. -/
theorem row_359 (i : ℕ) (h : i / 128 = 359) : Good i :=
  hit pat_12 ((quarter_2 (by omega)).trans (by unfold lit0t1_2; rw [show i / 128 % 128 = 103 by omega]; rfl)) (by omega)

/-- Stretch 360. -/
theorem row_360 (i : ℕ) (h : i / 128 = 360) : Good i :=
  miss ((quarter_2 (by omega)).trans (by unfold lit0t1_2; rw [show i / 128 % 128 = 104 by omega]; rfl)) (by omega)

/-- Stretch 361. -/
theorem row_361 (i : ℕ) (h : i / 128 = 361) : Good i :=
  hit pat_13 ((quarter_2 (by omega)).trans (by unfold lit0t1_2; rw [show i / 128 % 128 = 105 by omega]; rfl)) (by omega)

/-- Stretch 362. -/
theorem row_362 (i : ℕ) (h : i / 128 = 362) : Good i :=
  miss ((quarter_2 (by omega)).trans (by unfold lit0t1_2; rw [show i / 128 % 128 = 106 by omega]; rfl)) (by omega)

/-- Stretch 363. -/
theorem row_363 (i : ℕ) (h : i / 128 = 363) : Good i :=
  hit pat_13 ((quarter_2 (by omega)).trans (by unfold lit0t1_2; rw [show i / 128 % 128 = 107 by omega]; rfl)) (by omega)

/-- Stretch 364. -/
theorem row_364 (i : ℕ) (h : i / 128 = 364) : Good i :=
  miss ((quarter_2 (by omega)).trans (by unfold lit0t1_2; rw [show i / 128 % 128 = 108 by omega]; rfl)) (by omega)

/-- Stretch 365. -/
theorem row_365 (i : ℕ) (h : i / 128 = 365) : Good i :=
  hit pat_13 ((quarter_2 (by omega)).trans (by unfold lit0t1_2; rw [show i / 128 % 128 = 109 by omega]; rfl)) (by omega)

/-- Stretch 366. -/
theorem row_366 (i : ℕ) (h : i / 128 = 366) : Good i :=
  miss ((quarter_2 (by omega)).trans (by unfold lit0t1_2; rw [show i / 128 % 128 = 110 by omega]; rfl)) (by omega)

/-- Stretch 367. -/
theorem row_367 (i : ℕ) (h : i / 128 = 367) : Good i :=
  hit pat_13 ((quarter_2 (by omega)).trans (by unfold lit0t1_2; rw [show i / 128 % 128 = 111 by omega]; rfl)) (by omega)

/-- Stretch 368. -/
theorem row_368 (i : ℕ) (h : i / 128 = 368) : Good i :=
  miss ((quarter_2 (by omega)).trans (by unfold lit0t1_2; rw [show i / 128 % 128 = 112 by omega]; rfl)) (by omega)

/-- Stretch 369. -/
theorem row_369 (i : ℕ) (h : i / 128 = 369) : Good i :=
  hit pat_14 ((quarter_2 (by omega)).trans (by unfold lit0t1_2; rw [show i / 128 % 128 = 113 by omega]; rfl)) (by omega)

/-- Stretch 370. -/
theorem row_370 (i : ℕ) (h : i / 128 = 370) : Good i :=
  miss ((quarter_2 (by omega)).trans (by unfold lit0t1_2; rw [show i / 128 % 128 = 114 by omega]; rfl)) (by omega)

/-- Stretch 371. -/
theorem row_371 (i : ℕ) (h : i / 128 = 371) : Good i :=
  hit pat_14 ((quarter_2 (by omega)).trans (by unfold lit0t1_2; rw [show i / 128 % 128 = 115 by omega]; rfl)) (by omega)

/-- Stretch 372. -/
theorem row_372 (i : ℕ) (h : i / 128 = 372) : Good i :=
  miss ((quarter_2 (by omega)).trans (by unfold lit0t1_2; rw [show i / 128 % 128 = 116 by omega]; rfl)) (by omega)

/-- Stretch 373. -/
theorem row_373 (i : ℕ) (h : i / 128 = 373) : Good i :=
  hit pat_14 ((quarter_2 (by omega)).trans (by unfold lit0t1_2; rw [show i / 128 % 128 = 117 by omega]; rfl)) (by omega)

/-- Stretch 374. -/
theorem row_374 (i : ℕ) (h : i / 128 = 374) : Good i :=
  miss ((quarter_2 (by omega)).trans (by unfold lit0t1_2; rw [show i / 128 % 128 = 118 by omega]; rfl)) (by omega)

/-- Stretch 375. -/
theorem row_375 (i : ℕ) (h : i / 128 = 375) : Good i :=
  hit pat_14 ((quarter_2 (by omega)).trans (by unfold lit0t1_2; rw [show i / 128 % 128 = 119 by omega]; rfl)) (by omega)

/-- Stretch 376. -/
theorem row_376 (i : ℕ) (h : i / 128 = 376) : Good i :=
  miss ((quarter_2 (by omega)).trans (by unfold lit0t1_2; rw [show i / 128 % 128 = 120 by omega]; rfl)) (by omega)

/-- Stretch 377. -/
theorem row_377 (i : ℕ) (h : i / 128 = 377) : Good i :=
  hit pat_15 ((quarter_2 (by omega)).trans (by unfold lit0t1_2; rw [show i / 128 % 128 = 121 by omega]; rfl)) (by omega)

/-- Stretch 378. -/
theorem row_378 (i : ℕ) (h : i / 128 = 378) : Good i :=
  miss ((quarter_2 (by omega)).trans (by unfold lit0t1_2; rw [show i / 128 % 128 = 122 by omega]; rfl)) (by omega)

/-- Stretch 379. -/
theorem row_379 (i : ℕ) (h : i / 128 = 379) : Good i :=
  hit pat_15 ((quarter_2 (by omega)).trans (by unfold lit0t1_2; rw [show i / 128 % 128 = 123 by omega]; rfl)) (by omega)

/-- Stretch 380. -/
theorem row_380 (i : ℕ) (h : i / 128 = 380) : Good i :=
  miss ((quarter_2 (by omega)).trans (by unfold lit0t1_2; rw [show i / 128 % 128 = 124 by omega]; rfl)) (by omega)

/-- Stretch 381. -/
theorem row_381 (i : ℕ) (h : i / 128 = 381) : Good i :=
  hit pat_15 ((quarter_2 (by omega)).trans (by unfold lit0t1_2; rw [show i / 128 % 128 = 125 by omega]; rfl)) (by omega)

/-- Stretch 382. -/
theorem row_382 (i : ℕ) (h : i / 128 = 382) : Good i :=
  miss ((quarter_2 (by omega)).trans (by unfold lit0t1_2; rw [show i / 128 % 128 = 126 by omega]; rfl)) (by omega)

/-- Stretch 383. -/
theorem row_383 (i : ℕ) (h : i / 128 = 383) : Good i :=
  hit pat_15 ((quarter_2 (by omega)).trans (by unfold lit0t1_2; rw [show i / 128 % 128 = 127 by omega]; rfl)) (by omega)

/-- Stretch 384. -/
theorem row_384 (i : ℕ) (h : i / 128 = 384) : Good i :=
  miss ((quarter_3 (by omega)).trans (by unfold lit0t1_3; rw [show i / 128 % 128 = 0 by omega]; rfl)) (by omega)

/-- Stretch 385. -/
theorem row_385 (i : ℕ) (h : i / 128 = 385) : Good i :=
  hit pat_16 ((quarter_3 (by omega)).trans (by unfold lit0t1_3; rw [show i / 128 % 128 = 1 by omega]; rfl)) (by omega)

/-- Stretch 386. -/
theorem row_386 (i : ℕ) (h : i / 128 = 386) : Good i :=
  miss ((quarter_3 (by omega)).trans (by unfold lit0t1_3; rw [show i / 128 % 128 = 2 by omega]; rfl)) (by omega)

/-- Stretch 387. -/
theorem row_387 (i : ℕ) (h : i / 128 = 387) : Good i :=
  hit pat_16 ((quarter_3 (by omega)).trans (by unfold lit0t1_3; rw [show i / 128 % 128 = 3 by omega]; rfl)) (by omega)

/-- Stretch 388. -/
theorem row_388 (i : ℕ) (h : i / 128 = 388) : Good i :=
  miss ((quarter_3 (by omega)).trans (by unfold lit0t1_3; rw [show i / 128 % 128 = 4 by omega]; rfl)) (by omega)

/-- Stretch 389. -/
theorem row_389 (i : ℕ) (h : i / 128 = 389) : Good i :=
  hit pat_16 ((quarter_3 (by omega)).trans (by unfold lit0t1_3; rw [show i / 128 % 128 = 5 by omega]; rfl)) (by omega)

/-- Stretch 390. -/
theorem row_390 (i : ℕ) (h : i / 128 = 390) : Good i :=
  miss ((quarter_3 (by omega)).trans (by unfold lit0t1_3; rw [show i / 128 % 128 = 6 by omega]; rfl)) (by omega)

/-- Stretch 391. -/
theorem row_391 (i : ℕ) (h : i / 128 = 391) : Good i :=
  hit pat_16 ((quarter_3 (by omega)).trans (by unfold lit0t1_3; rw [show i / 128 % 128 = 7 by omega]; rfl)) (by omega)

/-- Stretch 392. -/
theorem row_392 (i : ℕ) (h : i / 128 = 392) : Good i :=
  miss ((quarter_3 (by omega)).trans (by unfold lit0t1_3; rw [show i / 128 % 128 = 8 by omega]; rfl)) (by omega)

/-- Stretch 393. -/
theorem row_393 (i : ℕ) (h : i / 128 = 393) : Good i :=
  hit pat_17 ((quarter_3 (by omega)).trans (by unfold lit0t1_3; rw [show i / 128 % 128 = 9 by omega]; rfl)) (by omega)

/-- Stretch 394. -/
theorem row_394 (i : ℕ) (h : i / 128 = 394) : Good i :=
  miss ((quarter_3 (by omega)).trans (by unfold lit0t1_3; rw [show i / 128 % 128 = 10 by omega]; rfl)) (by omega)

/-- Stretch 395. -/
theorem row_395 (i : ℕ) (h : i / 128 = 395) : Good i :=
  hit pat_17 ((quarter_3 (by omega)).trans (by unfold lit0t1_3; rw [show i / 128 % 128 = 11 by omega]; rfl)) (by omega)

/-- Stretch 396. -/
theorem row_396 (i : ℕ) (h : i / 128 = 396) : Good i :=
  miss ((quarter_3 (by omega)).trans (by unfold lit0t1_3; rw [show i / 128 % 128 = 12 by omega]; rfl)) (by omega)

/-- Stretch 397. -/
theorem row_397 (i : ℕ) (h : i / 128 = 397) : Good i :=
  hit pat_17 ((quarter_3 (by omega)).trans (by unfold lit0t1_3; rw [show i / 128 % 128 = 13 by omega]; rfl)) (by omega)

/-- Stretch 398. -/
theorem row_398 (i : ℕ) (h : i / 128 = 398) : Good i :=
  miss ((quarter_3 (by omega)).trans (by unfold lit0t1_3; rw [show i / 128 % 128 = 14 by omega]; rfl)) (by omega)

/-- Stretch 399. -/
theorem row_399 (i : ℕ) (h : i / 128 = 399) : Good i :=
  hit pat_17 ((quarter_3 (by omega)).trans (by unfold lit0t1_3; rw [show i / 128 % 128 = 15 by omega]; rfl)) (by omega)

/-- Stretch 400. -/
theorem row_400 (i : ℕ) (h : i / 128 = 400) : Good i :=
  miss ((quarter_3 (by omega)).trans (by unfold lit0t1_3; rw [show i / 128 % 128 = 16 by omega]; rfl)) (by omega)

/-- Stretch 401. -/
theorem row_401 (i : ℕ) (h : i / 128 = 401) : Good i :=
  hit pat_18 ((quarter_3 (by omega)).trans (by unfold lit0t1_3; rw [show i / 128 % 128 = 17 by omega]; rfl)) (by omega)

/-- Stretch 402. -/
theorem row_402 (i : ℕ) (h : i / 128 = 402) : Good i :=
  miss ((quarter_3 (by omega)).trans (by unfold lit0t1_3; rw [show i / 128 % 128 = 18 by omega]; rfl)) (by omega)

/-- Stretch 403. -/
theorem row_403 (i : ℕ) (h : i / 128 = 403) : Good i :=
  hit pat_18 ((quarter_3 (by omega)).trans (by unfold lit0t1_3; rw [show i / 128 % 128 = 19 by omega]; rfl)) (by omega)

/-- Stretch 404. -/
theorem row_404 (i : ℕ) (h : i / 128 = 404) : Good i :=
  miss ((quarter_3 (by omega)).trans (by unfold lit0t1_3; rw [show i / 128 % 128 = 20 by omega]; rfl)) (by omega)

/-- Stretch 405. -/
theorem row_405 (i : ℕ) (h : i / 128 = 405) : Good i :=
  hit pat_18 ((quarter_3 (by omega)).trans (by unfold lit0t1_3; rw [show i / 128 % 128 = 21 by omega]; rfl)) (by omega)

/-- Stretch 406. -/
theorem row_406 (i : ℕ) (h : i / 128 = 406) : Good i :=
  miss ((quarter_3 (by omega)).trans (by unfold lit0t1_3; rw [show i / 128 % 128 = 22 by omega]; rfl)) (by omega)

/-- Stretch 407. -/
theorem row_407 (i : ℕ) (h : i / 128 = 407) : Good i :=
  hit pat_18 ((quarter_3 (by omega)).trans (by unfold lit0t1_3; rw [show i / 128 % 128 = 23 by omega]; rfl)) (by omega)

/-- Stretch 408. -/
theorem row_408 (i : ℕ) (h : i / 128 = 408) : Good i :=
  miss ((quarter_3 (by omega)).trans (by unfold lit0t1_3; rw [show i / 128 % 128 = 24 by omega]; rfl)) (by omega)

/-- Stretch 409. -/
theorem row_409 (i : ℕ) (h : i / 128 = 409) : Good i :=
  hit pat_19 ((quarter_3 (by omega)).trans (by unfold lit0t1_3; rw [show i / 128 % 128 = 25 by omega]; rfl)) (by omega)

/-- Stretch 410. -/
theorem row_410 (i : ℕ) (h : i / 128 = 410) : Good i :=
  miss ((quarter_3 (by omega)).trans (by unfold lit0t1_3; rw [show i / 128 % 128 = 26 by omega]; rfl)) (by omega)

/-- Stretch 411. -/
theorem row_411 (i : ℕ) (h : i / 128 = 411) : Good i :=
  hit pat_19 ((quarter_3 (by omega)).trans (by unfold lit0t1_3; rw [show i / 128 % 128 = 27 by omega]; rfl)) (by omega)

/-- Stretch 412. -/
theorem row_412 (i : ℕ) (h : i / 128 = 412) : Good i :=
  miss ((quarter_3 (by omega)).trans (by unfold lit0t1_3; rw [show i / 128 % 128 = 28 by omega]; rfl)) (by omega)

/-- Stretch 413. -/
theorem row_413 (i : ℕ) (h : i / 128 = 413) : Good i :=
  hit pat_19 ((quarter_3 (by omega)).trans (by unfold lit0t1_3; rw [show i / 128 % 128 = 29 by omega]; rfl)) (by omega)

/-- Stretch 414. -/
theorem row_414 (i : ℕ) (h : i / 128 = 414) : Good i :=
  miss ((quarter_3 (by omega)).trans (by unfold lit0t1_3; rw [show i / 128 % 128 = 30 by omega]; rfl)) (by omega)

/-- Stretch 415. -/
theorem row_415 (i : ℕ) (h : i / 128 = 415) : Good i :=
  hit pat_19 ((quarter_3 (by omega)).trans (by unfold lit0t1_3; rw [show i / 128 % 128 = 31 by omega]; rfl)) (by omega)

/-- Stretch 416. -/
theorem row_416 (i : ℕ) (h : i / 128 = 416) : Good i :=
  miss ((quarter_3 (by omega)).trans (by unfold lit0t1_3; rw [show i / 128 % 128 = 32 by omega]; rfl)) (by omega)

/-- Stretch 417. -/
theorem row_417 (i : ℕ) (h : i / 128 = 417) : Good i :=
  hit pat_20 ((quarter_3 (by omega)).trans (by unfold lit0t1_3; rw [show i / 128 % 128 = 33 by omega]; rfl)) (by omega)

/-- Stretch 418. -/
theorem row_418 (i : ℕ) (h : i / 128 = 418) : Good i :=
  miss ((quarter_3 (by omega)).trans (by unfold lit0t1_3; rw [show i / 128 % 128 = 34 by omega]; rfl)) (by omega)

/-- Stretch 419. -/
theorem row_419 (i : ℕ) (h : i / 128 = 419) : Good i :=
  hit pat_20 ((quarter_3 (by omega)).trans (by unfold lit0t1_3; rw [show i / 128 % 128 = 35 by omega]; rfl)) (by omega)

/-- Stretch 420. -/
theorem row_420 (i : ℕ) (h : i / 128 = 420) : Good i :=
  miss ((quarter_3 (by omega)).trans (by unfold lit0t1_3; rw [show i / 128 % 128 = 36 by omega]; rfl)) (by omega)

/-- Stretch 421. -/
theorem row_421 (i : ℕ) (h : i / 128 = 421) : Good i :=
  hit pat_20 ((quarter_3 (by omega)).trans (by unfold lit0t1_3; rw [show i / 128 % 128 = 37 by omega]; rfl)) (by omega)

/-- Stretch 422. -/
theorem row_422 (i : ℕ) (h : i / 128 = 422) : Good i :=
  miss ((quarter_3 (by omega)).trans (by unfold lit0t1_3; rw [show i / 128 % 128 = 38 by omega]; rfl)) (by omega)

/-- Stretch 423. -/
theorem row_423 (i : ℕ) (h : i / 128 = 423) : Good i :=
  hit pat_20 ((quarter_3 (by omega)).trans (by unfold lit0t1_3; rw [show i / 128 % 128 = 39 by omega]; rfl)) (by omega)

/-- Stretch 424. -/
theorem row_424 (i : ℕ) (h : i / 128 = 424) : Good i :=
  miss ((quarter_3 (by omega)).trans (by unfold lit0t1_3; rw [show i / 128 % 128 = 40 by omega]; rfl)) (by omega)

/-- Stretch 425. -/
theorem row_425 (i : ℕ) (h : i / 128 = 425) : Good i :=
  hit pat_21 ((quarter_3 (by omega)).trans (by unfold lit0t1_3; rw [show i / 128 % 128 = 41 by omega]; rfl)) (by omega)

/-- Stretch 426. -/
theorem row_426 (i : ℕ) (h : i / 128 = 426) : Good i :=
  miss ((quarter_3 (by omega)).trans (by unfold lit0t1_3; rw [show i / 128 % 128 = 42 by omega]; rfl)) (by omega)

/-- Stretch 427. -/
theorem row_427 (i : ℕ) (h : i / 128 = 427) : Good i :=
  hit pat_21 ((quarter_3 (by omega)).trans (by unfold lit0t1_3; rw [show i / 128 % 128 = 43 by omega]; rfl)) (by omega)

/-- Stretch 428. -/
theorem row_428 (i : ℕ) (h : i / 128 = 428) : Good i :=
  miss ((quarter_3 (by omega)).trans (by unfold lit0t1_3; rw [show i / 128 % 128 = 44 by omega]; rfl)) (by omega)

/-- Stretch 429. -/
theorem row_429 (i : ℕ) (h : i / 128 = 429) : Good i :=
  hit pat_21 ((quarter_3 (by omega)).trans (by unfold lit0t1_3; rw [show i / 128 % 128 = 45 by omega]; rfl)) (by omega)

/-- Stretch 430. -/
theorem row_430 (i : ℕ) (h : i / 128 = 430) : Good i :=
  miss ((quarter_3 (by omega)).trans (by unfold lit0t1_3; rw [show i / 128 % 128 = 46 by omega]; rfl)) (by omega)

/-- Stretch 431. -/
theorem row_431 (i : ℕ) (h : i / 128 = 431) : Good i :=
  hit pat_21 ((quarter_3 (by omega)).trans (by unfold lit0t1_3; rw [show i / 128 % 128 = 47 by omega]; rfl)) (by omega)

/-- Stretch 432. -/
theorem row_432 (i : ℕ) (h : i / 128 = 432) : Good i :=
  miss ((quarter_3 (by omega)).trans (by unfold lit0t1_3; rw [show i / 128 % 128 = 48 by omega]; rfl)) (by omega)

/-- Stretch 433. -/
theorem row_433 (i : ℕ) (h : i / 128 = 433) : Good i :=
  hit pat_22 ((quarter_3 (by omega)).trans (by unfold lit0t1_3; rw [show i / 128 % 128 = 49 by omega]; rfl)) (by omega)

/-- Stretch 434. -/
theorem row_434 (i : ℕ) (h : i / 128 = 434) : Good i :=
  miss ((quarter_3 (by omega)).trans (by unfold lit0t1_3; rw [show i / 128 % 128 = 50 by omega]; rfl)) (by omega)

/-- Stretch 435. -/
theorem row_435 (i : ℕ) (h : i / 128 = 435) : Good i :=
  hit pat_22 ((quarter_3 (by omega)).trans (by unfold lit0t1_3; rw [show i / 128 % 128 = 51 by omega]; rfl)) (by omega)

/-- Stretch 436. -/
theorem row_436 (i : ℕ) (h : i / 128 = 436) : Good i :=
  miss ((quarter_3 (by omega)).trans (by unfold lit0t1_3; rw [show i / 128 % 128 = 52 by omega]; rfl)) (by omega)

/-- Stretch 437. -/
theorem row_437 (i : ℕ) (h : i / 128 = 437) : Good i :=
  hit pat_22 ((quarter_3 (by omega)).trans (by unfold lit0t1_3; rw [show i / 128 % 128 = 53 by omega]; rfl)) (by omega)

/-- Stretch 438. -/
theorem row_438 (i : ℕ) (h : i / 128 = 438) : Good i :=
  miss ((quarter_3 (by omega)).trans (by unfold lit0t1_3; rw [show i / 128 % 128 = 54 by omega]; rfl)) (by omega)

/-- Stretch 439. -/
theorem row_439 (i : ℕ) (h : i / 128 = 439) : Good i :=
  hit pat_22 ((quarter_3 (by omega)).trans (by unfold lit0t1_3; rw [show i / 128 % 128 = 55 by omega]; rfl)) (by omega)

/-- Stretch 440. -/
theorem row_440 (i : ℕ) (h : i / 128 = 440) : Good i :=
  miss ((quarter_3 (by omega)).trans (by unfold lit0t1_3; rw [show i / 128 % 128 = 56 by omega]; rfl)) (by omega)

/-- Stretch 441. -/
theorem row_441 (i : ℕ) (h : i / 128 = 441) : Good i :=
  hit pat_23 ((quarter_3 (by omega)).trans (by unfold lit0t1_3; rw [show i / 128 % 128 = 57 by omega]; rfl)) (by omega)

/-- Stretch 442. -/
theorem row_442 (i : ℕ) (h : i / 128 = 442) : Good i :=
  miss ((quarter_3 (by omega)).trans (by unfold lit0t1_3; rw [show i / 128 % 128 = 58 by omega]; rfl)) (by omega)

/-- Stretch 443. -/
theorem row_443 (i : ℕ) (h : i / 128 = 443) : Good i :=
  hit pat_23 ((quarter_3 (by omega)).trans (by unfold lit0t1_3; rw [show i / 128 % 128 = 59 by omega]; rfl)) (by omega)

/-- Stretch 444. -/
theorem row_444 (i : ℕ) (h : i / 128 = 444) : Good i :=
  miss ((quarter_3 (by omega)).trans (by unfold lit0t1_3; rw [show i / 128 % 128 = 60 by omega]; rfl)) (by omega)

/-- Stretch 445. -/
theorem row_445 (i : ℕ) (h : i / 128 = 445) : Good i :=
  hit pat_23 ((quarter_3 (by omega)).trans (by unfold lit0t1_3; rw [show i / 128 % 128 = 61 by omega]; rfl)) (by omega)

/-- Stretch 446. -/
theorem row_446 (i : ℕ) (h : i / 128 = 446) : Good i :=
  miss ((quarter_3 (by omega)).trans (by unfold lit0t1_3; rw [show i / 128 % 128 = 62 by omega]; rfl)) (by omega)

/-- Stretch 447. -/
theorem row_447 (i : ℕ) (h : i / 128 = 447) : Good i :=
  hit pat_23 ((quarter_3 (by omega)).trans (by unfold lit0t1_3; rw [show i / 128 % 128 = 63 by omega]; rfl)) (by omega)

/-- Stretch 448. -/
theorem row_448 (i : ℕ) (h : i / 128 = 448) : Good i :=
  miss ((quarter_3 (by omega)).trans (by unfold lit0t1_3; rw [show i / 128 % 128 = 64 by omega]; rfl)) (by omega)

/-- Stretch 449. -/
theorem row_449 (i : ℕ) (h : i / 128 = 449) : Good i :=
  hit pat_24 ((quarter_3 (by omega)).trans (by unfold lit0t1_3; rw [show i / 128 % 128 = 65 by omega]; rfl)) (by omega)

/-- Stretch 450. -/
theorem row_450 (i : ℕ) (h : i / 128 = 450) : Good i :=
  miss ((quarter_3 (by omega)).trans (by unfold lit0t1_3; rw [show i / 128 % 128 = 66 by omega]; rfl)) (by omega)

/-- Stretch 451. -/
theorem row_451 (i : ℕ) (h : i / 128 = 451) : Good i :=
  hit pat_24 ((quarter_3 (by omega)).trans (by unfold lit0t1_3; rw [show i / 128 % 128 = 67 by omega]; rfl)) (by omega)

/-- Stretch 452. -/
theorem row_452 (i : ℕ) (h : i / 128 = 452) : Good i :=
  miss ((quarter_3 (by omega)).trans (by unfold lit0t1_3; rw [show i / 128 % 128 = 68 by omega]; rfl)) (by omega)

/-- Stretch 453. -/
theorem row_453 (i : ℕ) (h : i / 128 = 453) : Good i :=
  hit pat_24 ((quarter_3 (by omega)).trans (by unfold lit0t1_3; rw [show i / 128 % 128 = 69 by omega]; rfl)) (by omega)

/-- Stretch 454. -/
theorem row_454 (i : ℕ) (h : i / 128 = 454) : Good i :=
  miss ((quarter_3 (by omega)).trans (by unfold lit0t1_3; rw [show i / 128 % 128 = 70 by omega]; rfl)) (by omega)

/-- Stretch 455. -/
theorem row_455 (i : ℕ) (h : i / 128 = 455) : Good i :=
  hit pat_24 ((quarter_3 (by omega)).trans (by unfold lit0t1_3; rw [show i / 128 % 128 = 71 by omega]; rfl)) (by omega)

/-- Stretch 456. -/
theorem row_456 (i : ℕ) (h : i / 128 = 456) : Good i :=
  miss ((quarter_3 (by omega)).trans (by unfold lit0t1_3; rw [show i / 128 % 128 = 72 by omega]; rfl)) (by omega)

/-- Stretch 457. -/
theorem row_457 (i : ℕ) (h : i / 128 = 457) : Good i :=
  hit pat_25 ((quarter_3 (by omega)).trans (by unfold lit0t1_3; rw [show i / 128 % 128 = 73 by omega]; rfl)) (by omega)

/-- Stretch 458. -/
theorem row_458 (i : ℕ) (h : i / 128 = 458) : Good i :=
  miss ((quarter_3 (by omega)).trans (by unfold lit0t1_3; rw [show i / 128 % 128 = 74 by omega]; rfl)) (by omega)

/-- Stretch 459. -/
theorem row_459 (i : ℕ) (h : i / 128 = 459) : Good i :=
  hit pat_25 ((quarter_3 (by omega)).trans (by unfold lit0t1_3; rw [show i / 128 % 128 = 75 by omega]; rfl)) (by omega)

/-- Stretch 460. -/
theorem row_460 (i : ℕ) (h : i / 128 = 460) : Good i :=
  miss ((quarter_3 (by omega)).trans (by unfold lit0t1_3; rw [show i / 128 % 128 = 76 by omega]; rfl)) (by omega)

/-- Stretch 461. -/
theorem row_461 (i : ℕ) (h : i / 128 = 461) : Good i :=
  hit pat_25 ((quarter_3 (by omega)).trans (by unfold lit0t1_3; rw [show i / 128 % 128 = 77 by omega]; rfl)) (by omega)

/-- Stretch 462. -/
theorem row_462 (i : ℕ) (h : i / 128 = 462) : Good i :=
  miss ((quarter_3 (by omega)).trans (by unfold lit0t1_3; rw [show i / 128 % 128 = 78 by omega]; rfl)) (by omega)

/-- Stretch 463. -/
theorem row_463 (i : ℕ) (h : i / 128 = 463) : Good i :=
  hit pat_25 ((quarter_3 (by omega)).trans (by unfold lit0t1_3; rw [show i / 128 % 128 = 79 by omega]; rfl)) (by omega)

/-- Stretch 464. -/
theorem row_464 (i : ℕ) (h : i / 128 = 464) : Good i :=
  miss ((quarter_3 (by omega)).trans (by unfold lit0t1_3; rw [show i / 128 % 128 = 80 by omega]; rfl)) (by omega)

/-- Stretch 465. -/
theorem row_465 (i : ℕ) (h : i / 128 = 465) : Good i :=
  hit pat_26 ((quarter_3 (by omega)).trans (by unfold lit0t1_3; rw [show i / 128 % 128 = 81 by omega]; rfl)) (by omega)

/-- Stretch 466. -/
theorem row_466 (i : ℕ) (h : i / 128 = 466) : Good i :=
  miss ((quarter_3 (by omega)).trans (by unfold lit0t1_3; rw [show i / 128 % 128 = 82 by omega]; rfl)) (by omega)

/-- Stretch 467. -/
theorem row_467 (i : ℕ) (h : i / 128 = 467) : Good i :=
  hit pat_26 ((quarter_3 (by omega)).trans (by unfold lit0t1_3; rw [show i / 128 % 128 = 83 by omega]; rfl)) (by omega)

/-- Stretch 468. -/
theorem row_468 (i : ℕ) (h : i / 128 = 468) : Good i :=
  miss ((quarter_3 (by omega)).trans (by unfold lit0t1_3; rw [show i / 128 % 128 = 84 by omega]; rfl)) (by omega)

/-- Stretch 469. -/
theorem row_469 (i : ℕ) (h : i / 128 = 469) : Good i :=
  hit pat_26 ((quarter_3 (by omega)).trans (by unfold lit0t1_3; rw [show i / 128 % 128 = 85 by omega]; rfl)) (by omega)

/-- Stretch 470. -/
theorem row_470 (i : ℕ) (h : i / 128 = 470) : Good i :=
  miss ((quarter_3 (by omega)).trans (by unfold lit0t1_3; rw [show i / 128 % 128 = 86 by omega]; rfl)) (by omega)

/-- Stretch 471. -/
theorem row_471 (i : ℕ) (h : i / 128 = 471) : Good i :=
  hit pat_26 ((quarter_3 (by omega)).trans (by unfold lit0t1_3; rw [show i / 128 % 128 = 87 by omega]; rfl)) (by omega)

/-- Stretch 472. -/
theorem row_472 (i : ℕ) (h : i / 128 = 472) : Good i :=
  miss ((quarter_3 (by omega)).trans (by unfold lit0t1_3; rw [show i / 128 % 128 = 88 by omega]; rfl)) (by omega)

/-- Stretch 473. -/
theorem row_473 (i : ℕ) (h : i / 128 = 473) : Good i :=
  hit pat_27 ((quarter_3 (by omega)).trans (by unfold lit0t1_3; rw [show i / 128 % 128 = 89 by omega]; rfl)) (by omega)

/-- Stretch 474. -/
theorem row_474 (i : ℕ) (h : i / 128 = 474) : Good i :=
  miss ((quarter_3 (by omega)).trans (by unfold lit0t1_3; rw [show i / 128 % 128 = 90 by omega]; rfl)) (by omega)

/-- Stretch 475. -/
theorem row_475 (i : ℕ) (h : i / 128 = 475) : Good i :=
  hit pat_27 ((quarter_3 (by omega)).trans (by unfold lit0t1_3; rw [show i / 128 % 128 = 91 by omega]; rfl)) (by omega)

/-- Stretch 476. -/
theorem row_476 (i : ℕ) (h : i / 128 = 476) : Good i :=
  miss ((quarter_3 (by omega)).trans (by unfold lit0t1_3; rw [show i / 128 % 128 = 92 by omega]; rfl)) (by omega)

/-- Stretch 477. -/
theorem row_477 (i : ℕ) (h : i / 128 = 477) : Good i :=
  hit pat_27 ((quarter_3 (by omega)).trans (by unfold lit0t1_3; rw [show i / 128 % 128 = 93 by omega]; rfl)) (by omega)

/-- Stretch 478. -/
theorem row_478 (i : ℕ) (h : i / 128 = 478) : Good i :=
  miss ((quarter_3 (by omega)).trans (by unfold lit0t1_3; rw [show i / 128 % 128 = 94 by omega]; rfl)) (by omega)

/-- Stretch 479. -/
theorem row_479 (i : ℕ) (h : i / 128 = 479) : Good i :=
  hit pat_27 ((quarter_3 (by omega)).trans (by unfold lit0t1_3; rw [show i / 128 % 128 = 95 by omega]; rfl)) (by omega)

/-- Stretch 480. -/
theorem row_480 (i : ℕ) (h : i / 128 = 480) : Good i :=
  miss ((quarter_3 (by omega)).trans (by unfold lit0t1_3; rw [show i / 128 % 128 = 96 by omega]; rfl)) (by omega)

/-- Stretch 481. -/
theorem row_481 (i : ℕ) (h : i / 128 = 481) : Good i :=
  hit pat_28 ((quarter_3 (by omega)).trans (by unfold lit0t1_3; rw [show i / 128 % 128 = 97 by omega]; rfl)) (by omega)

/-- Stretch 482. -/
theorem row_482 (i : ℕ) (h : i / 128 = 482) : Good i :=
  miss ((quarter_3 (by omega)).trans (by unfold lit0t1_3; rw [show i / 128 % 128 = 98 by omega]; rfl)) (by omega)

/-- Stretch 483. -/
theorem row_483 (i : ℕ) (h : i / 128 = 483) : Good i :=
  hit pat_28 ((quarter_3 (by omega)).trans (by unfold lit0t1_3; rw [show i / 128 % 128 = 99 by omega]; rfl)) (by omega)

/-- Stretch 484. -/
theorem row_484 (i : ℕ) (h : i / 128 = 484) : Good i :=
  miss ((quarter_3 (by omega)).trans (by unfold lit0t1_3; rw [show i / 128 % 128 = 100 by omega]; rfl)) (by omega)

/-- Stretch 485. -/
theorem row_485 (i : ℕ) (h : i / 128 = 485) : Good i :=
  hit pat_28 ((quarter_3 (by omega)).trans (by unfold lit0t1_3; rw [show i / 128 % 128 = 101 by omega]; rfl)) (by omega)

/-- Stretch 486. -/
theorem row_486 (i : ℕ) (h : i / 128 = 486) : Good i :=
  miss ((quarter_3 (by omega)).trans (by unfold lit0t1_3; rw [show i / 128 % 128 = 102 by omega]; rfl)) (by omega)

/-- Stretch 487. -/
theorem row_487 (i : ℕ) (h : i / 128 = 487) : Good i :=
  hit pat_28 ((quarter_3 (by omega)).trans (by unfold lit0t1_3; rw [show i / 128 % 128 = 103 by omega]; rfl)) (by omega)

/-- Stretch 488. -/
theorem row_488 (i : ℕ) (h : i / 128 = 488) : Good i :=
  miss ((quarter_3 (by omega)).trans (by unfold lit0t1_3; rw [show i / 128 % 128 = 104 by omega]; rfl)) (by omega)

/-- Stretch 489. -/
theorem row_489 (i : ℕ) (h : i / 128 = 489) : Good i :=
  hit pat_29 ((quarter_3 (by omega)).trans (by unfold lit0t1_3; rw [show i / 128 % 128 = 105 by omega]; rfl)) (by omega)

/-- Stretch 490. -/
theorem row_490 (i : ℕ) (h : i / 128 = 490) : Good i :=
  miss ((quarter_3 (by omega)).trans (by unfold lit0t1_3; rw [show i / 128 % 128 = 106 by omega]; rfl)) (by omega)

/-- Stretch 491. -/
theorem row_491 (i : ℕ) (h : i / 128 = 491) : Good i :=
  hit pat_29 ((quarter_3 (by omega)).trans (by unfold lit0t1_3; rw [show i / 128 % 128 = 107 by omega]; rfl)) (by omega)

/-- Stretch 492. -/
theorem row_492 (i : ℕ) (h : i / 128 = 492) : Good i :=
  miss ((quarter_3 (by omega)).trans (by unfold lit0t1_3; rw [show i / 128 % 128 = 108 by omega]; rfl)) (by omega)

/-- Stretch 493. -/
theorem row_493 (i : ℕ) (h : i / 128 = 493) : Good i :=
  hit pat_29 ((quarter_3 (by omega)).trans (by unfold lit0t1_3; rw [show i / 128 % 128 = 109 by omega]; rfl)) (by omega)

/-- Stretch 494. -/
theorem row_494 (i : ℕ) (h : i / 128 = 494) : Good i :=
  miss ((quarter_3 (by omega)).trans (by unfold lit0t1_3; rw [show i / 128 % 128 = 110 by omega]; rfl)) (by omega)

/-- Stretch 495. -/
theorem row_495 (i : ℕ) (h : i / 128 = 495) : Good i :=
  hit pat_29 ((quarter_3 (by omega)).trans (by unfold lit0t1_3; rw [show i / 128 % 128 = 111 by omega]; rfl)) (by omega)

/-- Stretch 496. -/
theorem row_496 (i : ℕ) (h : i / 128 = 496) : Good i :=
  miss ((quarter_3 (by omega)).trans (by unfold lit0t1_3; rw [show i / 128 % 128 = 112 by omega]; rfl)) (by omega)

/-- Stretch 497. -/
theorem row_497 (i : ℕ) (h : i / 128 = 497) : Good i :=
  hit pat_30 ((quarter_3 (by omega)).trans (by unfold lit0t1_3; rw [show i / 128 % 128 = 113 by omega]; rfl)) (by omega)

/-- Stretch 498. -/
theorem row_498 (i : ℕ) (h : i / 128 = 498) : Good i :=
  miss ((quarter_3 (by omega)).trans (by unfold lit0t1_3; rw [show i / 128 % 128 = 114 by omega]; rfl)) (by omega)

/-- Stretch 499. -/
theorem row_499 (i : ℕ) (h : i / 128 = 499) : Good i :=
  hit pat_30 ((quarter_3 (by omega)).trans (by unfold lit0t1_3; rw [show i / 128 % 128 = 115 by omega]; rfl)) (by omega)

/-- Stretch 500. -/
theorem row_500 (i : ℕ) (h : i / 128 = 500) : Good i :=
  miss ((quarter_3 (by omega)).trans (by unfold lit0t1_3; rw [show i / 128 % 128 = 116 by omega]; rfl)) (by omega)

/-- Stretch 501. -/
theorem row_501 (i : ℕ) (h : i / 128 = 501) : Good i :=
  hit pat_30 ((quarter_3 (by omega)).trans (by unfold lit0t1_3; rw [show i / 128 % 128 = 117 by omega]; rfl)) (by omega)

/-- Stretch 502. -/
theorem row_502 (i : ℕ) (h : i / 128 = 502) : Good i :=
  miss ((quarter_3 (by omega)).trans (by unfold lit0t1_3; rw [show i / 128 % 128 = 118 by omega]; rfl)) (by omega)

/-- Stretch 503. -/
theorem row_503 (i : ℕ) (h : i / 128 = 503) : Good i :=
  hit pat_30 ((quarter_3 (by omega)).trans (by unfold lit0t1_3; rw [show i / 128 % 128 = 119 by omega]; rfl)) (by omega)

/-- Stretch 504. -/
theorem row_504 (i : ℕ) (h : i / 128 = 504) : Good i :=
  miss ((quarter_3 (by omega)).trans (by unfold lit0t1_3; rw [show i / 128 % 128 = 120 by omega]; rfl)) (by omega)

/-- Stretch 505. -/
theorem row_505 (i : ℕ) (h : i / 128 = 505) : Good i :=
  hit pat_31 ((quarter_3 (by omega)).trans (by unfold lit0t1_3; rw [show i / 128 % 128 = 121 by omega]; rfl)) (by omega)

/-- Stretch 506. -/
theorem row_506 (i : ℕ) (h : i / 128 = 506) : Good i :=
  miss ((quarter_3 (by omega)).trans (by unfold lit0t1_3; rw [show i / 128 % 128 = 122 by omega]; rfl)) (by omega)

/-- Stretch 507. -/
theorem row_507 (i : ℕ) (h : i / 128 = 507) : Good i :=
  hit pat_31 ((quarter_3 (by omega)).trans (by unfold lit0t1_3; rw [show i / 128 % 128 = 123 by omega]; rfl)) (by omega)

/-- Stretch 508. -/
theorem row_508 (i : ℕ) (h : i / 128 = 508) : Good i :=
  miss ((quarter_3 (by omega)).trans (by unfold lit0t1_3; rw [show i / 128 % 128 = 124 by omega]; rfl)) (by omega)

/-- Stretch 509. -/
theorem row_509 (i : ℕ) (h : i / 128 = 509) : Good i :=
  hit pat_31 ((quarter_3 (by omega)).trans (by unfold lit0t1_3; rw [show i / 128 % 128 = 125 by omega]; rfl)) (by omega)

/-- Stretch 510. -/
theorem row_510 (i : ℕ) (h : i / 128 = 510) : Good i :=
  miss ((quarter_3 (by omega)).trans (by unfold lit0t1_3; rw [show i / 128 % 128 = 126 by omega]; rfl)) (by omega)

/-- Stretch 511. -/
theorem row_511 (i : ℕ) (h : i / 128 = 511) : Good i :=
  hit pat_31 ((quarter_3 (by omega)).trans (by unfold lit0t1_3; rw [show i / 128 % 128 = 127 by omega]; rfl)) (by omega)

/-- Stretches 256 to 263. -/
theorem rows8_32 (i : ℕ) (h : i / 128 < 264 ∧ 256 ≤ i / 128) : Good i := by
  have d : i / 128 = 256 ∨ i / 128 = 257 ∨ i / 128 = 258 ∨ i / 128 = 259 ∨ i / 128 = 260 ∨ i / 128 = 261 ∨ i / 128 = 262 ∨ i / 128 = 263 := by omega
  rcases d with h | h | h | h | h | h | h | h
  · exact row_256 i h
  · exact row_257 i h
  · exact row_258 i h
  · exact row_259 i h
  · exact row_260 i h
  · exact row_261 i h
  · exact row_262 i h
  · exact row_263 i h

/-- Stretches 264 to 271. -/
theorem rows8_33 (i : ℕ) (h : i / 128 < 272 ∧ 264 ≤ i / 128) : Good i := by
  have d : i / 128 = 264 ∨ i / 128 = 265 ∨ i / 128 = 266 ∨ i / 128 = 267 ∨ i / 128 = 268 ∨ i / 128 = 269 ∨ i / 128 = 270 ∨ i / 128 = 271 := by omega
  rcases d with h | h | h | h | h | h | h | h
  · exact row_264 i h
  · exact row_265 i h
  · exact row_266 i h
  · exact row_267 i h
  · exact row_268 i h
  · exact row_269 i h
  · exact row_270 i h
  · exact row_271 i h

/-- Stretches 272 to 279. -/
theorem rows8_34 (i : ℕ) (h : i / 128 < 280 ∧ 272 ≤ i / 128) : Good i := by
  have d : i / 128 = 272 ∨ i / 128 = 273 ∨ i / 128 = 274 ∨ i / 128 = 275 ∨ i / 128 = 276 ∨ i / 128 = 277 ∨ i / 128 = 278 ∨ i / 128 = 279 := by omega
  rcases d with h | h | h | h | h | h | h | h
  · exact row_272 i h
  · exact row_273 i h
  · exact row_274 i h
  · exact row_275 i h
  · exact row_276 i h
  · exact row_277 i h
  · exact row_278 i h
  · exact row_279 i h

/-- Stretches 280 to 287. -/
theorem rows8_35 (i : ℕ) (h : i / 128 < 288 ∧ 280 ≤ i / 128) : Good i := by
  have d : i / 128 = 280 ∨ i / 128 = 281 ∨ i / 128 = 282 ∨ i / 128 = 283 ∨ i / 128 = 284 ∨ i / 128 = 285 ∨ i / 128 = 286 ∨ i / 128 = 287 := by omega
  rcases d with h | h | h | h | h | h | h | h
  · exact row_280 i h
  · exact row_281 i h
  · exact row_282 i h
  · exact row_283 i h
  · exact row_284 i h
  · exact row_285 i h
  · exact row_286 i h
  · exact row_287 i h

/-- Stretches 288 to 295. -/
theorem rows8_36 (i : ℕ) (h : i / 128 < 296 ∧ 288 ≤ i / 128) : Good i := by
  have d : i / 128 = 288 ∨ i / 128 = 289 ∨ i / 128 = 290 ∨ i / 128 = 291 ∨ i / 128 = 292 ∨ i / 128 = 293 ∨ i / 128 = 294 ∨ i / 128 = 295 := by omega
  rcases d with h | h | h | h | h | h | h | h
  · exact row_288 i h
  · exact row_289 i h
  · exact row_290 i h
  · exact row_291 i h
  · exact row_292 i h
  · exact row_293 i h
  · exact row_294 i h
  · exact row_295 i h

/-- Stretches 296 to 303. -/
theorem rows8_37 (i : ℕ) (h : i / 128 < 304 ∧ 296 ≤ i / 128) : Good i := by
  have d : i / 128 = 296 ∨ i / 128 = 297 ∨ i / 128 = 298 ∨ i / 128 = 299 ∨ i / 128 = 300 ∨ i / 128 = 301 ∨ i / 128 = 302 ∨ i / 128 = 303 := by omega
  rcases d with h | h | h | h | h | h | h | h
  · exact row_296 i h
  · exact row_297 i h
  · exact row_298 i h
  · exact row_299 i h
  · exact row_300 i h
  · exact row_301 i h
  · exact row_302 i h
  · exact row_303 i h

/-- Stretches 304 to 311. -/
theorem rows8_38 (i : ℕ) (h : i / 128 < 312 ∧ 304 ≤ i / 128) : Good i := by
  have d : i / 128 = 304 ∨ i / 128 = 305 ∨ i / 128 = 306 ∨ i / 128 = 307 ∨ i / 128 = 308 ∨ i / 128 = 309 ∨ i / 128 = 310 ∨ i / 128 = 311 := by omega
  rcases d with h | h | h | h | h | h | h | h
  · exact row_304 i h
  · exact row_305 i h
  · exact row_306 i h
  · exact row_307 i h
  · exact row_308 i h
  · exact row_309 i h
  · exact row_310 i h
  · exact row_311 i h

/-- Stretches 312 to 319. -/
theorem rows8_39 (i : ℕ) (h : i / 128 < 320 ∧ 312 ≤ i / 128) : Good i := by
  have d : i / 128 = 312 ∨ i / 128 = 313 ∨ i / 128 = 314 ∨ i / 128 = 315 ∨ i / 128 = 316 ∨ i / 128 = 317 ∨ i / 128 = 318 ∨ i / 128 = 319 := by omega
  rcases d with h | h | h | h | h | h | h | h
  · exact row_312 i h
  · exact row_313 i h
  · exact row_314 i h
  · exact row_315 i h
  · exact row_316 i h
  · exact row_317 i h
  · exact row_318 i h
  · exact row_319 i h

/-- Stretches 320 to 327. -/
theorem rows8_40 (i : ℕ) (h : i / 128 < 328 ∧ 320 ≤ i / 128) : Good i := by
  have d : i / 128 = 320 ∨ i / 128 = 321 ∨ i / 128 = 322 ∨ i / 128 = 323 ∨ i / 128 = 324 ∨ i / 128 = 325 ∨ i / 128 = 326 ∨ i / 128 = 327 := by omega
  rcases d with h | h | h | h | h | h | h | h
  · exact row_320 i h
  · exact row_321 i h
  · exact row_322 i h
  · exact row_323 i h
  · exact row_324 i h
  · exact row_325 i h
  · exact row_326 i h
  · exact row_327 i h

/-- Stretches 328 to 335. -/
theorem rows8_41 (i : ℕ) (h : i / 128 < 336 ∧ 328 ≤ i / 128) : Good i := by
  have d : i / 128 = 328 ∨ i / 128 = 329 ∨ i / 128 = 330 ∨ i / 128 = 331 ∨ i / 128 = 332 ∨ i / 128 = 333 ∨ i / 128 = 334 ∨ i / 128 = 335 := by omega
  rcases d with h | h | h | h | h | h | h | h
  · exact row_328 i h
  · exact row_329 i h
  · exact row_330 i h
  · exact row_331 i h
  · exact row_332 i h
  · exact row_333 i h
  · exact row_334 i h
  · exact row_335 i h

/-- Stretches 336 to 343. -/
theorem rows8_42 (i : ℕ) (h : i / 128 < 344 ∧ 336 ≤ i / 128) : Good i := by
  have d : i / 128 = 336 ∨ i / 128 = 337 ∨ i / 128 = 338 ∨ i / 128 = 339 ∨ i / 128 = 340 ∨ i / 128 = 341 ∨ i / 128 = 342 ∨ i / 128 = 343 := by omega
  rcases d with h | h | h | h | h | h | h | h
  · exact row_336 i h
  · exact row_337 i h
  · exact row_338 i h
  · exact row_339 i h
  · exact row_340 i h
  · exact row_341 i h
  · exact row_342 i h
  · exact row_343 i h

/-- Stretches 344 to 351. -/
theorem rows8_43 (i : ℕ) (h : i / 128 < 352 ∧ 344 ≤ i / 128) : Good i := by
  have d : i / 128 = 344 ∨ i / 128 = 345 ∨ i / 128 = 346 ∨ i / 128 = 347 ∨ i / 128 = 348 ∨ i / 128 = 349 ∨ i / 128 = 350 ∨ i / 128 = 351 := by omega
  rcases d with h | h | h | h | h | h | h | h
  · exact row_344 i h
  · exact row_345 i h
  · exact row_346 i h
  · exact row_347 i h
  · exact row_348 i h
  · exact row_349 i h
  · exact row_350 i h
  · exact row_351 i h

/-- Stretches 352 to 359. -/
theorem rows8_44 (i : ℕ) (h : i / 128 < 360 ∧ 352 ≤ i / 128) : Good i := by
  have d : i / 128 = 352 ∨ i / 128 = 353 ∨ i / 128 = 354 ∨ i / 128 = 355 ∨ i / 128 = 356 ∨ i / 128 = 357 ∨ i / 128 = 358 ∨ i / 128 = 359 := by omega
  rcases d with h | h | h | h | h | h | h | h
  · exact row_352 i h
  · exact row_353 i h
  · exact row_354 i h
  · exact row_355 i h
  · exact row_356 i h
  · exact row_357 i h
  · exact row_358 i h
  · exact row_359 i h

/-- Stretches 360 to 367. -/
theorem rows8_45 (i : ℕ) (h : i / 128 < 368 ∧ 360 ≤ i / 128) : Good i := by
  have d : i / 128 = 360 ∨ i / 128 = 361 ∨ i / 128 = 362 ∨ i / 128 = 363 ∨ i / 128 = 364 ∨ i / 128 = 365 ∨ i / 128 = 366 ∨ i / 128 = 367 := by omega
  rcases d with h | h | h | h | h | h | h | h
  · exact row_360 i h
  · exact row_361 i h
  · exact row_362 i h
  · exact row_363 i h
  · exact row_364 i h
  · exact row_365 i h
  · exact row_366 i h
  · exact row_367 i h

/-- Stretches 368 to 375. -/
theorem rows8_46 (i : ℕ) (h : i / 128 < 376 ∧ 368 ≤ i / 128) : Good i := by
  have d : i / 128 = 368 ∨ i / 128 = 369 ∨ i / 128 = 370 ∨ i / 128 = 371 ∨ i / 128 = 372 ∨ i / 128 = 373 ∨ i / 128 = 374 ∨ i / 128 = 375 := by omega
  rcases d with h | h | h | h | h | h | h | h
  · exact row_368 i h
  · exact row_369 i h
  · exact row_370 i h
  · exact row_371 i h
  · exact row_372 i h
  · exact row_373 i h
  · exact row_374 i h
  · exact row_375 i h

/-- Stretches 376 to 383. -/
theorem rows8_47 (i : ℕ) (h : i / 128 < 384 ∧ 376 ≤ i / 128) : Good i := by
  have d : i / 128 = 376 ∨ i / 128 = 377 ∨ i / 128 = 378 ∨ i / 128 = 379 ∨ i / 128 = 380 ∨ i / 128 = 381 ∨ i / 128 = 382 ∨ i / 128 = 383 := by omega
  rcases d with h | h | h | h | h | h | h | h
  · exact row_376 i h
  · exact row_377 i h
  · exact row_378 i h
  · exact row_379 i h
  · exact row_380 i h
  · exact row_381 i h
  · exact row_382 i h
  · exact row_383 i h

/-- Stretches 384 to 391. -/
theorem rows8_48 (i : ℕ) (h : i / 128 < 392 ∧ 384 ≤ i / 128) : Good i := by
  have d : i / 128 = 384 ∨ i / 128 = 385 ∨ i / 128 = 386 ∨ i / 128 = 387 ∨ i / 128 = 388 ∨ i / 128 = 389 ∨ i / 128 = 390 ∨ i / 128 = 391 := by omega
  rcases d with h | h | h | h | h | h | h | h
  · exact row_384 i h
  · exact row_385 i h
  · exact row_386 i h
  · exact row_387 i h
  · exact row_388 i h
  · exact row_389 i h
  · exact row_390 i h
  · exact row_391 i h

/-- Stretches 392 to 399. -/
theorem rows8_49 (i : ℕ) (h : i / 128 < 400 ∧ 392 ≤ i / 128) : Good i := by
  have d : i / 128 = 392 ∨ i / 128 = 393 ∨ i / 128 = 394 ∨ i / 128 = 395 ∨ i / 128 = 396 ∨ i / 128 = 397 ∨ i / 128 = 398 ∨ i / 128 = 399 := by omega
  rcases d with h | h | h | h | h | h | h | h
  · exact row_392 i h
  · exact row_393 i h
  · exact row_394 i h
  · exact row_395 i h
  · exact row_396 i h
  · exact row_397 i h
  · exact row_398 i h
  · exact row_399 i h

/-- Stretches 400 to 407. -/
theorem rows8_50 (i : ℕ) (h : i / 128 < 408 ∧ 400 ≤ i / 128) : Good i := by
  have d : i / 128 = 400 ∨ i / 128 = 401 ∨ i / 128 = 402 ∨ i / 128 = 403 ∨ i / 128 = 404 ∨ i / 128 = 405 ∨ i / 128 = 406 ∨ i / 128 = 407 := by omega
  rcases d with h | h | h | h | h | h | h | h
  · exact row_400 i h
  · exact row_401 i h
  · exact row_402 i h
  · exact row_403 i h
  · exact row_404 i h
  · exact row_405 i h
  · exact row_406 i h
  · exact row_407 i h

/-- Stretches 408 to 415. -/
theorem rows8_51 (i : ℕ) (h : i / 128 < 416 ∧ 408 ≤ i / 128) : Good i := by
  have d : i / 128 = 408 ∨ i / 128 = 409 ∨ i / 128 = 410 ∨ i / 128 = 411 ∨ i / 128 = 412 ∨ i / 128 = 413 ∨ i / 128 = 414 ∨ i / 128 = 415 := by omega
  rcases d with h | h | h | h | h | h | h | h
  · exact row_408 i h
  · exact row_409 i h
  · exact row_410 i h
  · exact row_411 i h
  · exact row_412 i h
  · exact row_413 i h
  · exact row_414 i h
  · exact row_415 i h

/-- Stretches 416 to 423. -/
theorem rows8_52 (i : ℕ) (h : i / 128 < 424 ∧ 416 ≤ i / 128) : Good i := by
  have d : i / 128 = 416 ∨ i / 128 = 417 ∨ i / 128 = 418 ∨ i / 128 = 419 ∨ i / 128 = 420 ∨ i / 128 = 421 ∨ i / 128 = 422 ∨ i / 128 = 423 := by omega
  rcases d with h | h | h | h | h | h | h | h
  · exact row_416 i h
  · exact row_417 i h
  · exact row_418 i h
  · exact row_419 i h
  · exact row_420 i h
  · exact row_421 i h
  · exact row_422 i h
  · exact row_423 i h

/-- Stretches 424 to 431. -/
theorem rows8_53 (i : ℕ) (h : i / 128 < 432 ∧ 424 ≤ i / 128) : Good i := by
  have d : i / 128 = 424 ∨ i / 128 = 425 ∨ i / 128 = 426 ∨ i / 128 = 427 ∨ i / 128 = 428 ∨ i / 128 = 429 ∨ i / 128 = 430 ∨ i / 128 = 431 := by omega
  rcases d with h | h | h | h | h | h | h | h
  · exact row_424 i h
  · exact row_425 i h
  · exact row_426 i h
  · exact row_427 i h
  · exact row_428 i h
  · exact row_429 i h
  · exact row_430 i h
  · exact row_431 i h

/-- Stretches 432 to 439. -/
theorem rows8_54 (i : ℕ) (h : i / 128 < 440 ∧ 432 ≤ i / 128) : Good i := by
  have d : i / 128 = 432 ∨ i / 128 = 433 ∨ i / 128 = 434 ∨ i / 128 = 435 ∨ i / 128 = 436 ∨ i / 128 = 437 ∨ i / 128 = 438 ∨ i / 128 = 439 := by omega
  rcases d with h | h | h | h | h | h | h | h
  · exact row_432 i h
  · exact row_433 i h
  · exact row_434 i h
  · exact row_435 i h
  · exact row_436 i h
  · exact row_437 i h
  · exact row_438 i h
  · exact row_439 i h

/-- Stretches 440 to 447. -/
theorem rows8_55 (i : ℕ) (h : i / 128 < 448 ∧ 440 ≤ i / 128) : Good i := by
  have d : i / 128 = 440 ∨ i / 128 = 441 ∨ i / 128 = 442 ∨ i / 128 = 443 ∨ i / 128 = 444 ∨ i / 128 = 445 ∨ i / 128 = 446 ∨ i / 128 = 447 := by omega
  rcases d with h | h | h | h | h | h | h | h
  · exact row_440 i h
  · exact row_441 i h
  · exact row_442 i h
  · exact row_443 i h
  · exact row_444 i h
  · exact row_445 i h
  · exact row_446 i h
  · exact row_447 i h

/-- Stretches 448 to 455. -/
theorem rows8_56 (i : ℕ) (h : i / 128 < 456 ∧ 448 ≤ i / 128) : Good i := by
  have d : i / 128 = 448 ∨ i / 128 = 449 ∨ i / 128 = 450 ∨ i / 128 = 451 ∨ i / 128 = 452 ∨ i / 128 = 453 ∨ i / 128 = 454 ∨ i / 128 = 455 := by omega
  rcases d with h | h | h | h | h | h | h | h
  · exact row_448 i h
  · exact row_449 i h
  · exact row_450 i h
  · exact row_451 i h
  · exact row_452 i h
  · exact row_453 i h
  · exact row_454 i h
  · exact row_455 i h

/-- Stretches 456 to 463. -/
theorem rows8_57 (i : ℕ) (h : i / 128 < 464 ∧ 456 ≤ i / 128) : Good i := by
  have d : i / 128 = 456 ∨ i / 128 = 457 ∨ i / 128 = 458 ∨ i / 128 = 459 ∨ i / 128 = 460 ∨ i / 128 = 461 ∨ i / 128 = 462 ∨ i / 128 = 463 := by omega
  rcases d with h | h | h | h | h | h | h | h
  · exact row_456 i h
  · exact row_457 i h
  · exact row_458 i h
  · exact row_459 i h
  · exact row_460 i h
  · exact row_461 i h
  · exact row_462 i h
  · exact row_463 i h

/-- Stretches 464 to 471. -/
theorem rows8_58 (i : ℕ) (h : i / 128 < 472 ∧ 464 ≤ i / 128) : Good i := by
  have d : i / 128 = 464 ∨ i / 128 = 465 ∨ i / 128 = 466 ∨ i / 128 = 467 ∨ i / 128 = 468 ∨ i / 128 = 469 ∨ i / 128 = 470 ∨ i / 128 = 471 := by omega
  rcases d with h | h | h | h | h | h | h | h
  · exact row_464 i h
  · exact row_465 i h
  · exact row_466 i h
  · exact row_467 i h
  · exact row_468 i h
  · exact row_469 i h
  · exact row_470 i h
  · exact row_471 i h

/-- Stretches 472 to 479. -/
theorem rows8_59 (i : ℕ) (h : i / 128 < 480 ∧ 472 ≤ i / 128) : Good i := by
  have d : i / 128 = 472 ∨ i / 128 = 473 ∨ i / 128 = 474 ∨ i / 128 = 475 ∨ i / 128 = 476 ∨ i / 128 = 477 ∨ i / 128 = 478 ∨ i / 128 = 479 := by omega
  rcases d with h | h | h | h | h | h | h | h
  · exact row_472 i h
  · exact row_473 i h
  · exact row_474 i h
  · exact row_475 i h
  · exact row_476 i h
  · exact row_477 i h
  · exact row_478 i h
  · exact row_479 i h

/-- Stretches 480 to 487. -/
theorem rows8_60 (i : ℕ) (h : i / 128 < 488 ∧ 480 ≤ i / 128) : Good i := by
  have d : i / 128 = 480 ∨ i / 128 = 481 ∨ i / 128 = 482 ∨ i / 128 = 483 ∨ i / 128 = 484 ∨ i / 128 = 485 ∨ i / 128 = 486 ∨ i / 128 = 487 := by omega
  rcases d with h | h | h | h | h | h | h | h
  · exact row_480 i h
  · exact row_481 i h
  · exact row_482 i h
  · exact row_483 i h
  · exact row_484 i h
  · exact row_485 i h
  · exact row_486 i h
  · exact row_487 i h

/-- Stretches 488 to 495. -/
theorem rows8_61 (i : ℕ) (h : i / 128 < 496 ∧ 488 ≤ i / 128) : Good i := by
  have d : i / 128 = 488 ∨ i / 128 = 489 ∨ i / 128 = 490 ∨ i / 128 = 491 ∨ i / 128 = 492 ∨ i / 128 = 493 ∨ i / 128 = 494 ∨ i / 128 = 495 := by omega
  rcases d with h | h | h | h | h | h | h | h
  · exact row_488 i h
  · exact row_489 i h
  · exact row_490 i h
  · exact row_491 i h
  · exact row_492 i h
  · exact row_493 i h
  · exact row_494 i h
  · exact row_495 i h

/-- Stretches 496 to 503. -/
theorem rows8_62 (i : ℕ) (h : i / 128 < 504 ∧ 496 ≤ i / 128) : Good i := by
  have d : i / 128 = 496 ∨ i / 128 = 497 ∨ i / 128 = 498 ∨ i / 128 = 499 ∨ i / 128 = 500 ∨ i / 128 = 501 ∨ i / 128 = 502 ∨ i / 128 = 503 := by omega
  rcases d with h | h | h | h | h | h | h | h
  · exact row_496 i h
  · exact row_497 i h
  · exact row_498 i h
  · exact row_499 i h
  · exact row_500 i h
  · exact row_501 i h
  · exact row_502 i h
  · exact row_503 i h

/-- Stretches 504 to 511. -/
theorem rows8_63 (i : ℕ) (h : i / 128 < 512 ∧ 504 ≤ i / 128) : Good i := by
  have d : i / 128 = 504 ∨ i / 128 = 505 ∨ i / 128 = 506 ∨ i / 128 = 507 ∨ i / 128 = 508 ∨ i / 128 = 509 ∨ i / 128 = 510 ∨ i / 128 = 511 := by omega
  rcases d with h | h | h | h | h | h | h | h
  · exact row_504 i h
  · exact row_505 i h
  · exact row_506 i h
  · exact row_507 i h
  · exact row_508 i h
  · exact row_509 i h
  · exact row_510 i h
  · exact row_511 i h

/-- Stretches 256 to 319. -/
theorem rows64_4 (i : ℕ) (h : i / 128 < 320 ∧ 256 ≤ i / 128) : Good i := by
  have d : (i / 128 < 264 ∧ 256 ≤ i / 128) ∨ (i / 128 < 272 ∧ 264 ≤ i / 128) ∨ (i / 128 < 280 ∧ 272 ≤ i / 128) ∨ (i / 128 < 288 ∧ 280 ≤ i / 128) ∨ (i / 128 < 296 ∧ 288 ≤ i / 128) ∨ (i / 128 < 304 ∧ 296 ≤ i / 128) ∨ (i / 128 < 312 ∧ 304 ≤ i / 128) ∨ (i / 128 < 320 ∧ 312 ≤ i / 128) := by omega
  rcases d with h | h | h | h | h | h | h | h
  · exact rows8_32 i h
  · exact rows8_33 i h
  · exact rows8_34 i h
  · exact rows8_35 i h
  · exact rows8_36 i h
  · exact rows8_37 i h
  · exact rows8_38 i h
  · exact rows8_39 i h

/-- Stretches 320 to 383. -/
theorem rows64_5 (i : ℕ) (h : i / 128 < 384 ∧ 320 ≤ i / 128) : Good i := by
  have d : (i / 128 < 328 ∧ 320 ≤ i / 128) ∨ (i / 128 < 336 ∧ 328 ≤ i / 128) ∨ (i / 128 < 344 ∧ 336 ≤ i / 128) ∨ (i / 128 < 352 ∧ 344 ≤ i / 128) ∨ (i / 128 < 360 ∧ 352 ≤ i / 128) ∨ (i / 128 < 368 ∧ 360 ≤ i / 128) ∨ (i / 128 < 376 ∧ 368 ≤ i / 128) ∨ (i / 128 < 384 ∧ 376 ≤ i / 128) := by omega
  rcases d with h | h | h | h | h | h | h | h
  · exact rows8_40 i h
  · exact rows8_41 i h
  · exact rows8_42 i h
  · exact rows8_43 i h
  · exact rows8_44 i h
  · exact rows8_45 i h
  · exact rows8_46 i h
  · exact rows8_47 i h

/-- Stretches 384 to 447. -/
theorem rows64_6 (i : ℕ) (h : i / 128 < 448 ∧ 384 ≤ i / 128) : Good i := by
  have d : (i / 128 < 392 ∧ 384 ≤ i / 128) ∨ (i / 128 < 400 ∧ 392 ≤ i / 128) ∨ (i / 128 < 408 ∧ 400 ≤ i / 128) ∨ (i / 128 < 416 ∧ 408 ≤ i / 128) ∨ (i / 128 < 424 ∧ 416 ≤ i / 128) ∨ (i / 128 < 432 ∧ 424 ≤ i / 128) ∨ (i / 128 < 440 ∧ 432 ≤ i / 128) ∨ (i / 128 < 448 ∧ 440 ≤ i / 128) := by omega
  rcases d with h | h | h | h | h | h | h | h
  · exact rows8_48 i h
  · exact rows8_49 i h
  · exact rows8_50 i h
  · exact rows8_51 i h
  · exact rows8_52 i h
  · exact rows8_53 i h
  · exact rows8_54 i h
  · exact rows8_55 i h

/-- Stretches 448 to 511. -/
theorem rows64_7 (i : ℕ) (h : i / 128 < 512 ∧ 448 ≤ i / 128) : Good i := by
  have d : (i / 128 < 456 ∧ 448 ≤ i / 128) ∨ (i / 128 < 464 ∧ 456 ≤ i / 128) ∨ (i / 128 < 472 ∧ 464 ≤ i / 128) ∨ (i / 128 < 480 ∧ 472 ≤ i / 128) ∨ (i / 128 < 488 ∧ 480 ≤ i / 128) ∨ (i / 128 < 496 ∧ 488 ≤ i / 128) ∨ (i / 128 < 504 ∧ 496 ≤ i / 128) ∨ (i / 128 < 512 ∧ 504 ≤ i / 128) := by omega
  rcases d with h | h | h | h | h | h | h | h
  · exact rows8_56 i h
  · exact rows8_57 i h
  · exact rows8_58 i h
  · exact rows8_59 i h
  · exact rows8_60 i h
  · exact rows8_61 i h
  · exact rows8_62 i h
  · exact rows8_63 i h

end Cert.KernelIdeal.Mask
-- ==== Proof.Mask.lean ====
module

public import proofs.«01_k».proof.Proof.MaskUpper
public import proofs.«01_k».proof.Proof.MaskLower
public import Idealize.ShloMosaic.Lib.Pointwise

@[expose] public section

set_option maxRecDepth 16384

noncomputable section

/-! # The masks of the block-diagonal weights, entry by entry -/

namespace Cert.KernelIdeal.Mask

open Cert.KernelIdeal
open Idealize.ShloMosaic Idealize.ShloMosaic.TcCoe

/-- Stretches 0 to 511. -/
theorem rows (i : ℕ) (h : i / 128 < 512 ∧ 0 ≤ i / 128) : Good i := by
  have d : (i / 128 < 64 ∧ 0 ≤ i / 128) ∨ (i / 128 < 128 ∧ 64 ≤ i / 128) ∨ (i / 128 < 192 ∧ 128 ≤ i / 128) ∨ (i / 128 < 256 ∧ 192 ≤ i / 128) ∨ (i / 128 < 320 ∧ 256 ≤ i / 128) ∨ (i / 128 < 384 ∧ 320 ≤ i / 128) ∨ (i / 128 < 448 ∧ 384 ≤ i / 128) ∨ (i / 128 < 512 ∧ 448 ≤ i / 128) := by omega
  rcases d with h | h | h | h | h | h | h | h
  · exact rows64_0 i h
  · exact rows64_1 i h
  · exact rows64_2 i h
  · exact rows64_3 i h
  · exact rows64_4 i h
  · exact rows64_5 i h
  · exact rows64_6 i h
  · exact rows64_7 i h

/-- Every entry of the queries' mask: a row and a lane of one block of four. -/
theorem lit0_at (r l : Fin 256) : lit0 (S256x256.rowMajor (ix2 r l)) = if r.val / 4 = l.val / 4 then 1#1 else 0#1 := by
  have hv : (S256x256.rowMajor.1 (ix2 r l)).val = r.val * 256 + l.val := Shape.rowMajor_val_two _
  refine (rows _ (by rw [hv]; omega)).trans (if_congr (by rw [hv]; omega) rfl rfl)

/-- Every entry of the keys' mask. -/
theorem lit1_at (r l : Fin 256) : lit1 (S256x256.rowMajor (ix2 r l)) = if r.val / 4 = l.val / 4 then 1#1 else 0#1 :=
  (congrFun mask1_eq _).trans (lit0_at r l)

/-- Every entry of the values' mask. -/
theorem lit2_at (r l : Fin 256) : lit2 (S256x256.rowMajor (ix2 r l)) = if r.val / 4 = l.val / 4 then 1#1 else 0#1 :=
  (congrFun mask2_eq _).trans (lit0_at r l)

/-- Every entry of the running-sum matrix: two lower triangles of ones. -/
theorem lit3_at : ∀ r l : Fin 32, lit3 (S32x32.rowMajor (ix2 r l))
    = if r.val / 16 = l.val / 16 ∧ l.val ≤ r.val then 0x3F80#16 else 0x0000#16 := by
  have k : ∀ r l : Fin 32, lit3t (r.val * 32 + l.val) = if r.val / 16 = l.val / 16 ∧ l.val ≤ r.val then 0x3F80#16 else 0x0000#16 := by
    decide +kernel
  intro r l
  have hv : (S32x32.rowMajor (ix2 r l)).val = r.val * 32 + l.val := Shape.rowMajor_val_two _
  exact (congrArg lit3t hv).trans (k r l)

end Cert.KernelIdeal.Mask
-- ==== Proof.Units.lean ====
module

public import proofs.«01_k».proof.Proof.Match
public import proofs.«01_k».proof.Proof.Feed
public import proofs.«01_k».proof.Proof.Mask

@[expose] public section

set_option maxRecDepth 16384

noncomputable section

/-! # The heads of a tile are the reference's heads -/

namespace Cert.KernelIdeal.Units

open Cert.KernelIdeal Cert.KernelIdeal.Gen Cert.KernelIdeal.Cell Cert.KernelIdeal.Front Cert.KernelIdeal.Match Cert.KernelIdeal.Feed Cert.Spec
open Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (c : Dev nD) (t : Fin cfg0.N)

/-- The operands of the front, as the memory holds them. -/
def args : Args where
  x0 := m (c, Proc.tc.devRef main_arg0)
  x4 := m (c, Proc.tc.devRef main_arg4)
  x5 := m (c, Proc.tc.devRef main_arg5)
  x6 := m (c, Proc.tc.devRef main_arg6)
  x7 := m (c, Proc.tc.devRef main_arg7)
  x8 := m (c, Proc.tc.devRef main_arg8)
  x9 := m (c, Proc.tc.devRef main_arg9)
  x10 := m (c, Proc.tc.devRef main_arg10)
  x11 := m (c, Proc.tc.devRef main_arg11)
  x12 := m (c, Proc.tc.devRef main_arg12)
  x13 := m (c, Proc.tc.devRef main_arg13)

/-- The blocks of the front at point `t`. -/
def blocks : Blocks where
  b0 := iblk m c 0 t
  b14 := iblk m c 14 t
  b1 := iblk m c 1 t
  b2 := iblk m c 2 t
  b3 := iblk m c 3 t
  b4 := iblk m c 4 t
  b5 := iblk m c 5 t
  b6 := iblk m c 6 t
  b7 := iblk m c 7 t
  b8 := iblk m c 8 t

/-- The two streams of point `t`. -/
def stream (g : Fin 2) : Fin 32 := ⟨t.val * 2 + g.val, by have := (idx t).2.2.2.2.2.2.2.2.2.2.2.2.2.2.2.2.2.2.2.2; omega⟩

/-- The word of one. -/
theorem one_word : (FloatOps.ofBits (F := Ideal) .bf16 0x3F80#16 : EReal) = 1 := by
  show Ideal.ofBits .bf16 0x3F80#16 = 1
  simp [Ideal.ofBits, Ideal.ieee]
  rw [← EReal.coe_mul]
  norm_num

/-- A masked weight, its mask read as an equation of blocks. -/
theorem masked (b : BitVec 1) (p : Prop) [Decidable p] (h : b = if p then 1#1 else 0#1) (x : EReal) :
    Scalar.select b x (0 : EReal) = if p then x else 0 := by
  rw [h, select_bit]

/-- The queries' weights as the tile reads them: four by four blocks along the diagonal. -/
theorem weight3 (g : Fin 8) (r l : Fin 256) : iblk m c 3 t (ix3 g r l)
    = if r.val / 4 = l.val / 4 then m (c, Proc.tc.devRef main_arg7) (ix4 0 ⟨g.val * 64 + r.val / 4, by omega⟩ ⟨r.val % 4, by omega⟩ ⟨l.val % 4, by omega⟩) else (0 : EReal) :=
  (feed3 m c t g r l).trans (masked _ _ (Mask.lit0_at r l) _)

/-- The keys' weights as the tile reads them: four by four blocks along the diagonal. -/
theorem weight4 (g : Fin 8) (r l : Fin 256) : iblk m c 4 t (ix3 g r l)
    = if r.val / 4 = l.val / 4 then m (c, Proc.tc.devRef main_arg8) (ix4 0 ⟨g.val * 64 + r.val / 4, by omega⟩ ⟨r.val % 4, by omega⟩ ⟨l.val % 4, by omega⟩) else (0 : EReal) :=
  (feed4 m c t g r l).trans (masked _ _ (Mask.lit1_at r l) _)

/-- The values' weights as the tile reads them: four by four blocks along the diagonal. -/
theorem weight5 (g : Fin 8) (r l : Fin 256) : iblk m c 5 t (ix3 g r l)
    = if r.val / 4 = l.val / 4 then m (c, Proc.tc.devRef main_arg9) (ix4 0 ⟨g.val * 64 + r.val / 4, by omega⟩ ⟨r.val % 4, by omega⟩ ⟨l.val % 4, by omega⟩) else (0 : EReal) :=
  (feed5 m c t g r l).trans (masked _ _ (Mask.lit2_at r l) _)

/-- The input gates' weights, four lanes of the tile's 128. -/
theorem gate6_input (r : Fin 6144) (h : Fin 4) : iblk m c 6 t (ix2 r ⟨h.val, by omega⟩) = m (c, Proc.tc.devRef main_arg10) (ix3 0 r h) := by
  refine (feed6 m c t r ⟨h.val, by omega⟩).trans ?_
  refine (dif_pos (by show h.val < 8; omega)).trans ?_
  refine (dif_pos (by show (h.val < 4); omega)).trans ?_
  exact congrArg (fun i => m (c, Proc.tc.devRef main_arg10) (ix3 0 r i)) (Fin.ext (rfl))

/-- The input gates' biases, four lanes of the tile's 128. -/
theorem gate7_input (h : Fin 4) : iblk m c 7 t (ix2 0 ⟨h.val, by omega⟩) = m (c, Proc.tc.devRef main_arg11) (ix2 0 h) := by
  refine (feed7 m c t ⟨h.val, by omega⟩).trans ?_
  refine (dif_pos (by show h.val < 8; omega)).trans ?_
  refine (dif_pos (by show (h.val < 4); omega)).trans ?_
  exact congrArg (fun i => m (c, Proc.tc.devRef main_arg11) (ix2 0 i)) (Fin.ext (rfl))

/-- The forget gates' weights, four lanes of the tile's 128. -/
theorem gate6_forget (r : Fin 6144) (h : Fin 4) : iblk m c 6 t (ix2 r ⟨4 + h.val, by omega⟩) = m (c, Proc.tc.devRef main_arg12) (ix3 0 r h) := by
  refine (feed6 m c t r ⟨4 + h.val, by omega⟩).trans ?_
  refine (dif_pos (by show 4 + h.val < 8; omega)).trans ?_
  refine (dif_neg (by show ¬ (4 + h.val < 4); omega)).trans ?_
  exact congrArg (fun i => m (c, Proc.tc.devRef main_arg12) (ix3 0 r i)) (Fin.ext (by show 4 + h.val - 4 = h.val; omega))

/-- The forget gates' biases, four lanes of the tile's 128. -/
theorem gate7_forget (h : Fin 4) : iblk m c 7 t (ix2 0 ⟨4 + h.val, by omega⟩) = m (c, Proc.tc.devRef main_arg13) (ix2 0 h) := by
  refine (feed7 m c t ⟨4 + h.val, by omega⟩).trans ?_
  refine (dif_pos (by show 4 + h.val < 8; omega)).trans ?_
  refine (dif_neg (by show ¬ (4 + h.val < 4); omega)).trans ?_
  exact congrArg (fun i => m (c, Proc.tc.devRef main_arg13) (ix2 0 i)) (Fin.ext (by show 4 + h.val - 4 = h.val; omega))

/-- The running-sum matrix as the tile reads it: a lower triangle of ones for each stream. -/
theorem triangle (r l : Fin 32) : iblk m c 8 t (ix2 r l) = if r.val / 16 = l.val / 16 ∧ l.val ≤ r.val then (1 : EReal) else 0 := by
  refine (feed8 m c t r l).trans ?_
  rw [Mask.lit3_at]
  split
  · exact one_word
  · exact Ideal.ofBits_zero_bf16

set_option maxHeartbeats 2000000 in
/-- Point `t`'s blocks hold the operands' entries. -/
theorem feeds : Feeds (args m c) (blocks m c t) (stream t) := by
  unfold args blocks
  refine ⟨?_, ?_, ?_, ?_, ?_, ?_, ?_, ?_, ?_, ?_, ?_, ?_⟩
  · intro g r l; dsimp only; exact feed0 m c t g r l
  · intro g r l; dsimp only; exact feed14 m c t g r l
  · intro r l; dsimp only; exact feed1 m c t r l
  · intro l; dsimp only; exact feed2 m c t l
  · intro g r l; dsimp only; exact weight3 m c t g r l
  · intro g r l; dsimp only; exact weight4 m c t g r l
  · intro g r l; dsimp only; exact weight5 m c t g r l
  · intro r h; dsimp only; exact gate6_input m c t r h
  · intro r h; dsimp only; exact gate6_forget m c t r h
  · intro h; dsimp only; exact gate7_input m c t h
  · intro h; dsimp only; exact gate7_forget m c t h
  · intro r l; dsimp only; exact triangle m c t r l

variable (hA : (args m c).Finite)

/-- The head `h` of stream `g` of the tile at point `t`. -/
abbrev tileHead (mp : Vec Ideal S1x1x1 .f32) (cm : Vec Ideal S1x1x512x512 .f32) (nv : Vec Ideal S1x1x512 .f32) (g : Fin 2) (h : Fin 4) : Head :=
  unit (Qw (iblk m c 0 t) (iblk m c 14 t) (iblk m c 1 t) (iblk m c 2 t) (iblk m c 3 t))
    (Kw (iblk m c 0 t) (iblk m c 14 t) (iblk m c 1 t) (iblk m c 2 t) (iblk m c 4 t))
    (Vw (iblk m c 0 t) (iblk m c 5 t))
    (Gw (iblk m c 0 t) (iblk m c 14 t) (iblk m c 1 t) (iblk m c 2 t) (iblk m c 3 t) (iblk m c 4 t) (iblk m c 5 t) (iblk m c 6 t) (iblk m c 7 t))
    (Bw (iblk m c 0 t) (iblk m c 14 t) (iblk m c 1 t) (iblk m c 2 t) (iblk m c 3 t) (iblk m c 4 t) (iblk m c 5 t) (iblk m c 6 t) (iblk m c 7 t) (iblk m c 8 t))
    mp cm nv g h

/-- The reference's head of a stream, over the memory's operands. -/
abbrev refHead (s : Fin 32) (h : Fin 4) : Head :=
  Cert.ReferenceIdeal.Cell.head (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5)) (m (c, Proc.tc.devRef main_arg6))
    (m (c, Proc.tc.devRef main_arg7)) (m (c, Proc.tc.devRef main_arg8)) (m (c, Proc.tc.devRef main_arg9)) (m (c, Proc.tc.devRef main_arg10))
    (m (c, Proc.tc.devRef main_arg11)) (m (c, Proc.tc.devRef main_arg12)) (m (c, Proc.tc.devRef main_arg13)) s h

include hA

/-- A head of the tile is the reference's head of its stream, once its carried state is. -/
theorem head_eq (mp : Vec Ideal S1x1x1 .f32) (cm : Vec Ideal S1x1x512x512 .f32) (nv : Vec Ideal S1x1x512 .f32) (g : Fin 2) (h : Fin 4)
    (hmp : mp (ix3 0 0 0) = iblk m c 13 t (ix3 g 0 h)) (hcm : ∀ v d, cm (ix4 0 0 v d) = iblk m c 11 t (ix4 g h v d))
    (hnv : ∀ d, nv (ix3 0 0 d) = iblk m c 12 t (ix3 g h d)) :
    tileHead m c t mp cm nv g h = refHead m c (stream t g) h := by
  unfold tileHead refHead unit Cert.ReferenceIdeal.Cell.head
  rw [Head.mk.injEq]
  refine ⟨?_, ?_, ?_, ?_, ?_, ?_, ?_, ?_⟩
  · funext j d
    have e := Q_eq (feeds m c t) hA g j ⟨h.val * 512 + d.val, by omega⟩
    dsimp only [args, blocks] at e
    exact e.trans
      (Cert.ReferenceIdeal.Front.q_at (m (c, Proc.tc.devRef main_arg0)) (m (c, Proc.tc.devRef main_arg4)) (m (c, Proc.tc.devRef main_arg5)) (m (c, Proc.tc.devRef main_arg6)) (m (c, Proc.tc.devRef main_arg7)) (stream t g) j h d).symm
  · funext j d
    have e := K_eq (feeds m c t) hA g j ⟨h.val * 512 + d.val, by omega⟩
    dsimp only [args, blocks] at e
    exact e.trans
      (Cert.ReferenceIdeal.Front.k_at (m (c, Proc.tc.devRef main_arg0)) (m (c, Proc.tc.devRef main_arg4)) (m (c, Proc.tc.devRef main_arg5)) (m (c, Proc.tc.devRef main_arg6)) (m (c, Proc.tc.devRef main_arg8)) (stream t g) j h d).symm
  · funext j d
    have e := V_eq (feeds m c t) hA g j ⟨h.val * 512 + d.val, by omega⟩
    dsimp only [args, blocks] at e
    exact e.trans
      (Cert.ReferenceIdeal.Front.v_at (m (c, Proc.tc.devRef main_arg0)) (m (c, Proc.tc.devRef main_arg9)) (stream t g) j h d).symm
  · funext j
    have e := B_eq (feeds m c t) hA g j h
    dsimp only [args, blocks] at e
    exact e
  · funext j
    have e := Gi_eq (feeds m c t) hA g j h
    dsimp only [args, blocks] at e
    exact e.trans
      (Cert.ReferenceIdeal.Front.ig_at (m (c, Proc.tc.devRef main_arg0)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (stream t g) j h).symm
  · exact hmp.trans (feed13 m c t g h)
  · funext v d
    exact (hcm v d).trans (feed11 m c t g h v d)
  · funext d
    exact (hnv d).trans (feed12 m c t g h d)

end Cert.KernelIdeal.Units
-- ==== Proof.RefTail.lean ====
module

public import proofs.«01_k».proof.Proof.RefCell

@[expose] public section

set_option maxRecDepth 16384

noncomputable section

/-! # The reference's results that only move values -/

namespace Cert.ReferenceIdeal.Cell

open Cert.ReferenceIdeal Cert.ReferenceIdeal.Gen Cert.ReferenceIdeal.Read
open Idealize.ShloMosaic Idealize.ShloMosaic.TcCoe Idealize.SL.Sem

variable (x0 : FVec Ideal S32x16x4096 .f32) (x3 : FVec Ideal S1x32x4 .f32) (x4 : FVec Ideal S1x32x3x2048 .f32) (x5 : FVec Ideal S1x4x2048 .f32)
  (x6 : FVec Ideal S1x2048 .f32) (x7 x8 x9 : FVec Ideal S1x512x4x4 .f32) (x10 : FVec Ideal S1x6144x4 .f32)
  (x11 : FVec Ideal S1x4 .f32) (x12 : FVec Ideal S1x6144x4 .f32) (x13 : FVec Ideal S1x4 .f32)

/-- The returned stabilisers are the last token's, with an axis of one. -/
theorem v180_at (b : Fin 32) (h : Fin 4) : val_main_v180 (F := Ideal) x0 x3 x4 x5 x6 x7 x8 x9 x10 x11 x12 x13 (ix3 b 0 h)
    = val_main_v122 (F := Ideal) x0 x3 x4 x5 x6 x7 x8 x9 x10 x11 x12 x13 (ix2 b h) := by
  pointwise [val_main_v180]

/-- The returned tail of the convolution is the last three of the padded tokens. -/
theorem v181_at (b : Fin 32) (r : Fin 3) (c : Fin 2048) : val_main_v181 (F := Ideal) x0 x4 (ix3 b r c)
    = val_main_v6 (F := Ideal) x0 x4 (ix3 b ⟨16 + r.val, by omega⟩ c) := by
  pointwise [val_main_v181]

end Cert.ReferenceIdeal.Cell
-- ==== Proof.Heads.lean ====
module

public import proofs.«01_k».proof.Proof.Units
public import proofs.«01_k».proof.Proof.RefTail

@[expose] public section

set_option maxRecDepth 16384

noncomputable section

/-! # The eight heads of a tile, and where its blocks lie -/

namespace Cert.KernelIdeal.Bridge

open Cert.KernelIdeal Cert.KernelIdeal.Gen Cert.KernelIdeal.Cell Cert.KernelIdeal.Front Cert.KernelIdeal.Match Cert.KernelIdeal.Feed Cert.KernelIdeal.Units Cert.Spec
open Idealize.ShloMosaic Idealize.ShloMosaic.TcCoe Idealize.SL.Sem
open Idealize.ShloMosaic.Pipeline (Dat)
open Cert.ReferenceIdeal.Read

variable (m : (ℓ : Loc nD τ sig) → Buf (Elt Ideal) ℓ) (c : Dev nD) (hA : (args m c).Finite)

/-- A row of the tile. -/
theorem row_lt (g : Fin 2) (j : Fin 16) : g.val * 16 + j.val < 32 := by omega

/-- A lane of the row. -/
theorem lane_lt (h : Fin 4) (d : Fin 512) : h.val * 512 + d.val < 2048 := by omega

/-- Where point `t`'s block of results lies. -/
theorem place15 (t : Fin cfg0.grid.N) (y : ((cfg0.win 15).xblock (cfg0.grid.coords t)).Idx) (g : Fin 2) (h : Fin 4) (j : Fin 16) (d : Fin 512)
    (e0 : (y 0).val = g.val * 16 + j.val) (e1 : (y 1).val = h.val * 512 + d.val) :
    ((View.whole main_v44_0).slice (win0_15.rect t)).emb y = ix2 ⟨(stream t g).val * 16 + j.val, by omega⟩ ⟨h.val * 512 + d.val, by omega⟩ := by
  refine (eq_ix2 _).trans ?_
  refine congrArg₂ ix2 (Fin.ext ?_) (Fin.ext ?_) <;> blk_simp [idx t, stream]
  all_goals first | done | rfl | (simp only; omega) | (simp; omega)

/-- Where point `t`'s block of memories lies. -/
theorem place16 (t : Fin cfg0.grid.N) (y : ((cfg0.win 16).xblock (cfg0.grid.coords t)).Idx) (g : Fin 2) (h : Fin 4) (v d : Fin 512)
    (e0 : (y 0).val = g.val) (e1 : (y 1).val = h.val) (e2 : (y 2).val = v.val) (e3 : (y 3).val = d.val) :
    ((View.whole main_v44_1).slice (win0_16.rect t)).emb y = ix4 (stream t g) h v d := by
  refine (eq_ix4 _).trans ?_
  congr 1 <;> apply Fin.ext <;> blk_simp [idx t, stream]
  all_goals first | done | rfl | (simp only; omega) | (simp; omega)

/-- Where point `t`'s block of normalisers lies. -/
theorem place17 (t : Fin cfg0.grid.N) (y : ((cfg0.win 17).xblock (cfg0.grid.coords t)).Idx) (g : Fin 2) (h : Fin 4) (d : Fin 512)
    (e0 : (y 0).val = g.val) (e1 : (y 1).val = h.val) (e2 : (y 2).val = d.val) :
    ((View.whole main_v44_2).slice (win0_17.rect t)).emb y = ix3 (stream t g) h d := by
  refine (eq_ix3 _).trans ?_
  congr 1 <;> apply Fin.ext <;> blk_simp [idx t, stream]
  all_goals first | done | rfl | (simp only; omega) | (simp; omega)

/-- Where point `t`'s block of stabilisers lies. -/
theorem place18 (t : Fin cfg0.grid.N) (y : ((cfg0.win 18).xblock (cfg0.grid.coords t)).Idx) (g : Fin 2) (h : Fin 4)
    (e0 : (y 0).val = g.val) (e1 : (y 2).val = h.val) :
    ((View.whole main_v44_3).slice (win0_18.rect t)).emb y = ix3 (stream t g) 0 h := by
  refine (eq_ix3 _).trans ?_
  congr 1 <;> apply Fin.ext <;> blk_simp [idx t, stream]
  all_goals first | done | rfl | (simp only; omega) | (simp; omega)

/-- Where point `t`'s block of carried tails lies. -/
theorem place19 (t : Fin cfg0.grid.N) (y : ((cfg0.win 19).xblock (cfg0.grid.coords t)).Idx) (g : Fin 2) (r : Fin 3) (l : Fin 2048)
    (e0 : (y 0).val = g.val) (e1 : (y 1).val = r.val) (e2 : (y 2).val = l.val) :
    ((View.whole main_v44_4).slice (win0_19.rect t)).emb y = ix3 (stream t g) r l := by
  refine (eq_ix3 _).trans ?_
  congr 1 <;> apply Fin.ext <;> blk_simp [idx t, stream]
  all_goals first | done | rfl | (simp only; omega) | (simp; omega)

include hA

/-- Head 0 of stream 0 of a tile is the reference's. -/
theorem head_00 (t : Fin cfg0.N) : unit (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 0] S1x1x1.size inb_S2x1x4_S1x1x1_0_0_0)) (View.ld (iblk m c 11 t) (Rect.unit (s := S2x4x512x512) ![0, 0, 0, 0] S1x1x512x512.size inb_S2x4x512x512_S1x1x512x512_0_0_0_0)) (View.ld (iblk m c 12 t) (Rect.unit (s := S2x4x512) ![0, 0, 0] S1x1x512.size inb_S2x4x512_S1x1x512_0_0_0)) 0 0 = refHead m c (stream t 0) 0 :=
  head_eq m c t hA (View.ld (iblk m c 13 t) (Rect.unit (s := S2x1x4) ![0, 0, 0] S1x1x1.size inb_S2x1x4_S1x1x1_0_0_0)) (View.ld (iblk m c 11 t) (Rect.unit (s := S2x4x512x512) ![0, 0, 0, 0] S1x1x512x512.size inb_S2x4x512x512_S1x1x512x512_0_0_0_0)) (View.ld (iblk m c 12 t) (Rect.unit (s := S2x4x512) ![0, 0, 0] S1x1x512.size inb_S2x4x512_S1x1x512_0_0_0)) 0 0 (by pointwise) (fun v d => by pointwise) (fun d => by pointwise)

/-- Head 1 of stream 0 of a tile is the reference's. -/
theorem head_01 (t : Fin cfg0.N) : unit (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 1] S1x1x1.size inb_S2x1x4_S1x1x1_0_0_1)) (View.ld (iblk m c 11 t) (Rect.unit (s := S2x4x512x512) ![0, 1, 0, 0] S1x1x512x512.size inb_S2x4x512x512_S1x1x512x512_0_1_0_0)) (View.ld (iblk m c 12 t) (Rect.unit (s := S2x4x512) ![0, 1, 0] S1x1x512.size inb_S2x4x512_S1x1x512_0_1_0)) 0 1 = refHead m c (stream t 0) 1 :=
  head_eq m c t hA (View.ld (iblk m c 13 t) (Rect.unit (s := S2x1x4) ![0, 0, 1] S1x1x1.size inb_S2x1x4_S1x1x1_0_0_1)) (View.ld (iblk m c 11 t) (Rect.unit (s := S2x4x512x512) ![0, 1, 0, 0] S1x1x512x512.size inb_S2x4x512x512_S1x1x512x512_0_1_0_0)) (View.ld (iblk m c 12 t) (Rect.unit (s := S2x4x512) ![0, 1, 0] S1x1x512.size inb_S2x4x512_S1x1x512_0_1_0)) 0 1 (by pointwise) (fun v d => by pointwise) (fun d => by pointwise)

/-- Head 2 of stream 0 of a tile is the reference's. -/
theorem head_02 (t : Fin cfg0.N) : unit (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 2] S1x1x1.size inb_S2x1x4_S1x1x1_0_0_2)) (View.ld (iblk m c 11 t) (Rect.unit (s := S2x4x512x512) ![0, 2, 0, 0] S1x1x512x512.size inb_S2x4x512x512_S1x1x512x512_0_2_0_0)) (View.ld (iblk m c 12 t) (Rect.unit (s := S2x4x512) ![0, 2, 0] S1x1x512.size inb_S2x4x512_S1x1x512_0_2_0)) 0 2 = refHead m c (stream t 0) 2 :=
  head_eq m c t hA (View.ld (iblk m c 13 t) (Rect.unit (s := S2x1x4) ![0, 0, 2] S1x1x1.size inb_S2x1x4_S1x1x1_0_0_2)) (View.ld (iblk m c 11 t) (Rect.unit (s := S2x4x512x512) ![0, 2, 0, 0] S1x1x512x512.size inb_S2x4x512x512_S1x1x512x512_0_2_0_0)) (View.ld (iblk m c 12 t) (Rect.unit (s := S2x4x512) ![0, 2, 0] S1x1x512.size inb_S2x4x512_S1x1x512_0_2_0)) 0 2 (by pointwise) (fun v d => by pointwise) (fun d => by pointwise)

/-- Head 3 of stream 0 of a tile is the reference's. -/
theorem head_03 (t : Fin cfg0.N) : unit (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 3] S1x1x1.size inb_S2x1x4_S1x1x1_0_0_3)) (View.ld (iblk m c 11 t) (Rect.unit (s := S2x4x512x512) ![0, 3, 0, 0] S1x1x512x512.size inb_S2x4x512x512_S1x1x512x512_0_3_0_0)) (View.ld (iblk m c 12 t) (Rect.unit (s := S2x4x512) ![0, 3, 0] S1x1x512.size inb_S2x4x512_S1x1x512_0_3_0)) 0 3 = refHead m c (stream t 0) 3 :=
  head_eq m c t hA (View.ld (iblk m c 13 t) (Rect.unit (s := S2x1x4) ![0, 0, 3] S1x1x1.size inb_S2x1x4_S1x1x1_0_0_3)) (View.ld (iblk m c 11 t) (Rect.unit (s := S2x4x512x512) ![0, 3, 0, 0] S1x1x512x512.size inb_S2x4x512x512_S1x1x512x512_0_3_0_0)) (View.ld (iblk m c 12 t) (Rect.unit (s := S2x4x512) ![0, 3, 0] S1x1x512.size inb_S2x4x512_S1x1x512_0_3_0)) 0 3 (by pointwise) (fun v d => by pointwise) (fun d => by pointwise)

/-- Head 0 of stream 1 of a tile is the reference's. -/
theorem head_10 (t : Fin cfg0.N) : unit (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 0] S1x1x1.size inb_S2x1x4_S1x1x1_1_0_0)) (View.ld (iblk m c 11 t) (Rect.unit (s := S2x4x512x512) ![1, 0, 0, 0] S1x1x512x512.size inb_S2x4x512x512_S1x1x512x512_1_0_0_0)) (View.ld (iblk m c 12 t) (Rect.unit (s := S2x4x512) ![1, 0, 0] S1x1x512.size inb_S2x4x512_S1x1x512_1_0_0)) 1 0 = refHead m c (stream t 1) 0 :=
  head_eq m c t hA (View.ld (iblk m c 13 t) (Rect.unit (s := S2x1x4) ![1, 0, 0] S1x1x1.size inb_S2x1x4_S1x1x1_1_0_0)) (View.ld (iblk m c 11 t) (Rect.unit (s := S2x4x512x512) ![1, 0, 0, 0] S1x1x512x512.size inb_S2x4x512x512_S1x1x512x512_1_0_0_0)) (View.ld (iblk m c 12 t) (Rect.unit (s := S2x4x512) ![1, 0, 0] S1x1x512.size inb_S2x4x512_S1x1x512_1_0_0)) 1 0 (by pointwise) (fun v d => by pointwise) (fun d => by pointwise)

/-- Head 1 of stream 1 of a tile is the reference's. -/
theorem head_11 (t : Fin cfg0.N) : unit (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 1] S1x1x1.size inb_S2x1x4_S1x1x1_1_0_1)) (View.ld (iblk m c 11 t) (Rect.unit (s := S2x4x512x512) ![1, 1, 0, 0] S1x1x512x512.size inb_S2x4x512x512_S1x1x512x512_1_1_0_0)) (View.ld (iblk m c 12 t) (Rect.unit (s := S2x4x512) ![1, 1, 0] S1x1x512.size inb_S2x4x512_S1x1x512_1_1_0)) 1 1 = refHead m c (stream t 1) 1 :=
  head_eq m c t hA (View.ld (iblk m c 13 t) (Rect.unit (s := S2x1x4) ![1, 0, 1] S1x1x1.size inb_S2x1x4_S1x1x1_1_0_1)) (View.ld (iblk m c 11 t) (Rect.unit (s := S2x4x512x512) ![1, 1, 0, 0] S1x1x512x512.size inb_S2x4x512x512_S1x1x512x512_1_1_0_0)) (View.ld (iblk m c 12 t) (Rect.unit (s := S2x4x512) ![1, 1, 0] S1x1x512.size inb_S2x4x512_S1x1x512_1_1_0)) 1 1 (by pointwise) (fun v d => by pointwise) (fun d => by pointwise)

/-- Head 2 of stream 1 of a tile is the reference's. -/
theorem head_12 (t : Fin cfg0.N) : unit (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 2] S1x1x1.size inb_S2x1x4_S1x1x1_1_0_2)) (View.ld (iblk m c 11 t) (Rect.unit (s := S2x4x512x512) ![1, 2, 0, 0] S1x1x512x512.size inb_S2x4x512x512_S1x1x512x512_1_2_0_0)) (View.ld (iblk m c 12 t) (Rect.unit (s := S2x4x512) ![1, 2, 0] S1x1x512.size inb_S2x4x512_S1x1x512_1_2_0)) 1 2 = refHead m c (stream t 1) 2 :=
  head_eq m c t hA (View.ld (iblk m c 13 t) (Rect.unit (s := S2x1x4) ![1, 0, 2] S1x1x1.size inb_S2x1x4_S1x1x1_1_0_2)) (View.ld (iblk m c 11 t) (Rect.unit (s := S2x4x512x512) ![1, 2, 0, 0] S1x1x512x512.size inb_S2x4x512x512_S1x1x512x512_1_2_0_0)) (View.ld (iblk m c 12 t) (Rect.unit (s := S2x4x512) ![1, 2, 0] S1x1x512.size inb_S2x4x512_S1x1x512_1_2_0)) 1 2 (by pointwise) (fun v d => by pointwise) (fun d => by pointwise)

/-- Head 3 of stream 1 of a tile is the reference's. -/
theorem head_13 (t : Fin cfg0.N) : unit (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 3] S1x1x1.size inb_S2x1x4_S1x1x1_1_0_3)) (View.ld (iblk m c 11 t) (Rect.unit (s := S2x4x512x512) ![1, 3, 0, 0] S1x1x512x512.size inb_S2x4x512x512_S1x1x512x512_1_3_0_0)) (View.ld (iblk m c 12 t) (Rect.unit (s := S2x4x512) ![1, 3, 0] S1x1x512.size inb_S2x4x512_S1x1x512_1_3_0)) 1 3 = refHead m c (stream t 1) 3 :=
  head_eq m c t hA (View.ld (iblk m c 13 t) (Rect.unit (s := S2x1x4) ![1, 0, 3] S1x1x1.size inb_S2x1x4_S1x1x1_1_0_3)) (View.ld (iblk m c 11 t) (Rect.unit (s := S2x4x512x512) ![1, 3, 0, 0] S1x1x512x512.size inb_S2x4x512x512_S1x1x512x512_1_3_0_0)) (View.ld (iblk m c 12 t) (Rect.unit (s := S2x4x512) ![1, 3, 0] S1x1x512.size inb_S2x4x512_S1x1x512_1_3_0)) 1 3 (by pointwise) (fun v d => by pointwise) (fun d => by pointwise)

/-- A stored result of the tile is the reference's, once its cell is. -/
theorem gated (t : Fin cfg0.N) (g : Fin 2) (h : Fin 4) (X Z : FVec Ideal S32x2048 .f32) (ce : FVec Ideal S16x512 .f32) (gn sk : Vec Ideal S1x512 .f32)
    (j : Fin 16) (d : Fin 512) (r : Fin 32) (l : Fin 2048) (er : r.val = g.val * 16 + j.val) (el : l.val = h.val * 512 + d.val)
    (hc : ∀ v, ce (ix2 j v) = cell (refHead m c (stream t g) h) j v) (hX : X = (Xw (iblk m c 0 t) (iblk m c 14 t) (iblk m c 1 t) (iblk m c 2 t)))
    (hZ : Z = k0_pay5 (View.ld (iblk m c 0 t) (Rect.unit (s := S32x4096) ![0, 2048] S32x2048.size inb_S32x4096_S32x2048_0_2048)))
    (hg : gn = (iblk m c 9 t)) (hs : sk (ix2 0 d) = iblk m c 10 t (ix2 0 ⟨h.val * 512 + d.val, by omega⟩)) :
    (normed (fun v => ce (ix2 j v)) d * gn (ix2 0 d) + sk (ix2 0 d) * X (ix2 r l)) * halfGate (Z (ix2 r l))
      = val_main_v179 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) (m (c, Proc.tc.devRef main_arg15)) (ix2 ⟨(stream t g).val * 16 + j.val, by omega⟩ ⟨h.val * 512 + d.val, by omega⟩) := by
  have er' : r = ⟨g.val * 16 + j.val, row_lt g j⟩ := Fin.ext er
  have el' : l = ⟨h.val * 512 + d.val, lane_lt h d⟩ := Fin.ext el
  subst er' el' hX hZ hg
  refine Eq.trans ?_ (Cert.ReferenceIdeal.Cell.out_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) (m (c, Proc.tc.devRef main_arg15)) (stream t g) j h d _ _ rfl rfl).symm
  have ec : (fun v => ce (ix2 j v)) = cell (refHead m c (stream t g) h) j := funext hc
  have eX := X_eq (feeds m c t) hA g j ⟨h.val * 512 + d.val, by omega⟩
  dsimp only [args, blocks] at eX
  have eZ : k0_pay5 (View.ld (iblk m c 0 t) (Rect.unit (s := S32x4096) ![0, 2048] S32x2048.size inb_S32x4096_S32x2048_0_2048)) (ix2 ⟨g.val * 16 + j.val, by omega⟩ ⟨h.val * 512 + d.val, by omega⟩)
      = (m (c, Proc.tc.devRef main_arg0)) (ix3 (stream t g) j ⟨2048 + (h.val * 512 + d.val), by omega⟩) := by
    pointwise [k0_pay5]
    exact feed0 m c t g j ⟨2048 + (h.val * 512 + d.val), by omega⟩
  have eg := feed9 m c t d
  have es := hs.trans (feed10 m c t ⟨h.val * 512 + d.val, by omega⟩)
  have hz : IsReal ((m (c, Proc.tc.devRef main_arg0)) (ix3 (stream t g) j ⟨2048 + (h.val * 512 + d.val), by omega⟩)) := hA.x0 _
  rw [ec, eX, eZ, eg, es, halfGate_eq hz]

omit hA

/-- The stored tail of stream 0 is the reference's. -/
theorem carried0 (t : Fin cfg0.N) (r : Fin 3) (l : Fin 2048) : k0_pay1 (k0_pay10 (tail0 (iblk m c 0 t) (iblk m c 14 t))) (ix3 0 r l)
    = val_main_v181 (F := Ideal) (m (c, Proc.tc.devRef main_arg0)) (m (c, Proc.tc.devRef main_arg4)) (ix3 (stream t 0) r l) := by
  have e := tape_eq (feeds m c t) 0 ⟨16 + r.val, by omega⟩ l
  dsimp only [args, blocks] at e
  refine Eq.trans ?_ (((tail0_at (iblk m c 0 t) (iblk m c 14 t) r l).trans e).trans (Cert.ReferenceIdeal.Cell.v181_at (m (c, Proc.tc.devRef main_arg0)) (m (c, Proc.tc.devRef main_arg4)) (stream t 0) r l).symm)
  generalize tail0 (iblk m c 0 t) (iblk m c 14 t) = w
  pointwise [k0_pay1, k0_pay10]

/-- The stored tail of stream 1 is the reference's. -/
theorem carried1 (t : Fin cfg0.N) (r : Fin 3) (l : Fin 2048) : k0_pay2 (k0_pay15 (tail1 (iblk m c 0 t) (iblk m c 14 t))) (ix3 0 r l)
    = val_main_v181 (F := Ideal) (m (c, Proc.tc.devRef main_arg0)) (m (c, Proc.tc.devRef main_arg4)) (ix3 (stream t 1) r l) := by
  have e := tape_eq (feeds m c t) 1 ⟨16 + r.val, by omega⟩ l
  dsimp only [args, blocks] at e
  refine Eq.trans ?_ (((tail1_at (iblk m c 0 t) (iblk m c 14 t) r l).trans e).trans (Cert.ReferenceIdeal.Cell.v181_at (m (c, Proc.tc.devRef main_arg0)) (m (c, Proc.tc.devRef main_arg4)) (stream t 1) r l).symm)
  generalize tail1 (iblk m c 0 t) (iblk m c 14 t) = w
  pointwise [k0_pay2, k0_pay15]

end Cert.KernelIdeal.Bridge
-- ==== Proof.Bridge15.lean ====
module

public import proofs.«01_k».proof.Proof.Heads
public import proofs.«01_k».proof.Proof.Gen.KernelIdeal.Value

@[expose] public section

set_option maxRecDepth 16384

noncomputable section

/-! # The stored results -/

namespace Cert.KernelIdeal.Bridge

open Cert.KernelIdeal Cert.KernelIdeal.Gen Cert.KernelIdeal.Cell Cert.KernelIdeal.Front Cert.KernelIdeal.Match Cert.KernelIdeal.Feed Cert.KernelIdeal.Units Cert.Spec
open Idealize.ShloMosaic Idealize.ShloMosaic.TcCoe Idealize.SL.Sem
open Idealize.ShloMosaic.Pipeline (Dat)
open Cert.ReferenceIdeal.Read

set_option maxHeartbeats 4000000

variable (m : (ℓ : Loc nD τ sig) → Buf (Elt Ideal) ℓ) (c : Dev nD) (hA : (args m c).Finite)

include hA

/-- The stored results are the reference's. -/
theorem final15 : (dats m 0 c).arrAt 15 (cfgs 0).N = val_main_v179 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) (m (c, Proc.tc.devRef main_arg15)) := by
  refine (dats m 0 c).arrAt_eq_of_covers 15 _ (by decide +kernel) fun t _ y => ?_
  blk_simp
  rw [after0_15]
  unfold outsAt0
  frame_out
  canon_tiles y h
  case piece0 =>
    rw [eq_ix2 y]
    refine (out_13 _ _ _ _ _ (y 0) (y 1)).trans ?_
    refine (gated m c hA t 1 3 _ _ _ _ _ (y 0) (y 1) _ _ ?_ ?_ ?_ ?_ ?_ ?_ ?_).trans ?_
    · simp
    · simp
    · intro v
      refine (cell_13 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 3] S1x1x1.size inb_S2x1x4_S1x1x1_1_0_3)) (View.ld (iblk m c 11 t) (Rect.unit (s := S2x4x512x512) ![1, 3, 0, 0] S1x1x512x512.size inb_S2x4x512x512_S1x1x512x512_1_3_0_0)) (View.ld (iblk m c 12 t) (Rect.unit (s := S2x4x512) ![1, 3, 0] S1x1x512.size inb_S2x4x512_S1x1x512_1_3_0)) (rows_at (iblk m c 0 t) (iblk m c 14 t) (iblk m c 1 t) (iblk m c 2 t) (iblk m c 3 t) (iblk m c 4 t) (iblk m c 5 t) (iblk m c 6 t) (iblk m c 7 t) (iblk m c 8 t)) (y 0) v).trans ?_
      exact congrArg (fun U => cell U (y 0) v) (head_13 m c hA t)
    · rfl
    · rfl
    · rfl
    · pointwise
    exact congrArg (val_main_v179 (F := Ideal) _ _ _ _ _ _ _ _ _ _ _ _ _ _ _ _) (place15 t _ 1 3 (y 0) (y 1) (by simp; omega) (by simp; omega)).symm
  case piece1 =>
    rw [eq_ix2 y]
    refine (out_12 _ _ _ _ _ (y 0) (y 1)).trans ?_
    refine (gated m c hA t 1 2 _ _ _ _ _ (y 0) (y 1) _ _ ?_ ?_ ?_ ?_ ?_ ?_ ?_).trans ?_
    · simp
    · simp
    · intro v
      refine (cell_12 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 2] S1x1x1.size inb_S2x1x4_S1x1x1_1_0_2)) (View.ld (iblk m c 11 t) (Rect.unit (s := S2x4x512x512) ![1, 2, 0, 0] S1x1x512x512.size inb_S2x4x512x512_S1x1x512x512_1_2_0_0)) (View.ld (iblk m c 12 t) (Rect.unit (s := S2x4x512) ![1, 2, 0] S1x1x512.size inb_S2x4x512_S1x1x512_1_2_0)) (rows_at (iblk m c 0 t) (iblk m c 14 t) (iblk m c 1 t) (iblk m c 2 t) (iblk m c 3 t) (iblk m c 4 t) (iblk m c 5 t) (iblk m c 6 t) (iblk m c 7 t) (iblk m c 8 t)) (y 0) v).trans ?_
      exact congrArg (fun U => cell U (y 0) v) (head_12 m c hA t)
    · rfl
    · rfl
    · rfl
    · pointwise
    exact congrArg (val_main_v179 (F := Ideal) _ _ _ _ _ _ _ _ _ _ _ _ _ _ _ _) (place15 t _ 1 2 (y 0) (y 1) (by simp; omega) (by simp; omega)).symm
  case piece2 =>
    rw [eq_ix2 y]
    refine (out_11 _ _ _ _ _ (y 0) (y 1)).trans ?_
    refine (gated m c hA t 1 1 _ _ _ _ _ (y 0) (y 1) _ _ ?_ ?_ ?_ ?_ ?_ ?_ ?_).trans ?_
    · simp
    · simp
    · intro v
      refine (cell_11 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 1] S1x1x1.size inb_S2x1x4_S1x1x1_1_0_1)) (View.ld (iblk m c 11 t) (Rect.unit (s := S2x4x512x512) ![1, 1, 0, 0] S1x1x512x512.size inb_S2x4x512x512_S1x1x512x512_1_1_0_0)) (View.ld (iblk m c 12 t) (Rect.unit (s := S2x4x512) ![1, 1, 0] S1x1x512.size inb_S2x4x512_S1x1x512_1_1_0)) (rows_at (iblk m c 0 t) (iblk m c 14 t) (iblk m c 1 t) (iblk m c 2 t) (iblk m c 3 t) (iblk m c 4 t) (iblk m c 5 t) (iblk m c 6 t) (iblk m c 7 t) (iblk m c 8 t)) (y 0) v).trans ?_
      exact congrArg (fun U => cell U (y 0) v) (head_11 m c hA t)
    · rfl
    · rfl
    · rfl
    · pointwise
    exact congrArg (val_main_v179 (F := Ideal) _ _ _ _ _ _ _ _ _ _ _ _ _ _ _ _) (place15 t _ 1 1 (y 0) (y 1) (by simp; omega) (by simp; omega)).symm
  case piece3 =>
    rw [eq_ix2 y]
    refine (out_10 _ _ _ _ _ (y 0) (y 1)).trans ?_
    refine (gated m c hA t 1 0 _ _ _ _ _ (y 0) (y 1) _ _ ?_ ?_ ?_ ?_ ?_ ?_ ?_).trans ?_
    · simp
    · simp
    · intro v
      refine (cell_10 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 0] S1x1x1.size inb_S2x1x4_S1x1x1_1_0_0)) (View.ld (iblk m c 11 t) (Rect.unit (s := S2x4x512x512) ![1, 0, 0, 0] S1x1x512x512.size inb_S2x4x512x512_S1x1x512x512_1_0_0_0)) (View.ld (iblk m c 12 t) (Rect.unit (s := S2x4x512) ![1, 0, 0] S1x1x512.size inb_S2x4x512_S1x1x512_1_0_0)) (rows_at (iblk m c 0 t) (iblk m c 14 t) (iblk m c 1 t) (iblk m c 2 t) (iblk m c 3 t) (iblk m c 4 t) (iblk m c 5 t) (iblk m c 6 t) (iblk m c 7 t) (iblk m c 8 t)) (y 0) v).trans ?_
      exact congrArg (fun U => cell U (y 0) v) (head_10 m c hA t)
    · rfl
    · rfl
    · rfl
    · pointwise
    exact congrArg (val_main_v179 (F := Ideal) _ _ _ _ _ _ _ _ _ _ _ _ _ _ _ _) (place15 t _ 1 0 (y 0) (y 1) (by simp; omega) (by simp; omega)).symm
  case piece4 =>
    rw [eq_ix2 y]
    refine (out_03 _ _ _ _ _ (y 0) (y 1)).trans ?_
    refine (gated m c hA t 0 3 _ _ _ _ _ (y 0) (y 1) _ _ ?_ ?_ ?_ ?_ ?_ ?_ ?_).trans ?_
    · simp
    · simp
    · intro v
      refine (cell_03 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 3] S1x1x1.size inb_S2x1x4_S1x1x1_0_0_3)) (View.ld (iblk m c 11 t) (Rect.unit (s := S2x4x512x512) ![0, 3, 0, 0] S1x1x512x512.size inb_S2x4x512x512_S1x1x512x512_0_3_0_0)) (View.ld (iblk m c 12 t) (Rect.unit (s := S2x4x512) ![0, 3, 0] S1x1x512.size inb_S2x4x512_S1x1x512_0_3_0)) (rows_at (iblk m c 0 t) (iblk m c 14 t) (iblk m c 1 t) (iblk m c 2 t) (iblk m c 3 t) (iblk m c 4 t) (iblk m c 5 t) (iblk m c 6 t) (iblk m c 7 t) (iblk m c 8 t)) (y 0) v).trans ?_
      exact congrArg (fun U => cell U (y 0) v) (head_03 m c hA t)
    · rfl
    · rfl
    · rfl
    · pointwise
    exact congrArg (val_main_v179 (F := Ideal) _ _ _ _ _ _ _ _ _ _ _ _ _ _ _ _) (place15 t _ 0 3 (y 0) (y 1) (by simp; omega) (by simp; omega)).symm
  case piece5 =>
    rw [eq_ix2 y]
    refine (out_02 _ _ _ _ _ (y 0) (y 1)).trans ?_
    refine (gated m c hA t 0 2 _ _ _ _ _ (y 0) (y 1) _ _ ?_ ?_ ?_ ?_ ?_ ?_ ?_).trans ?_
    · simp
    · simp
    · intro v
      refine (cell_02 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 2] S1x1x1.size inb_S2x1x4_S1x1x1_0_0_2)) (View.ld (iblk m c 11 t) (Rect.unit (s := S2x4x512x512) ![0, 2, 0, 0] S1x1x512x512.size inb_S2x4x512x512_S1x1x512x512_0_2_0_0)) (View.ld (iblk m c 12 t) (Rect.unit (s := S2x4x512) ![0, 2, 0] S1x1x512.size inb_S2x4x512_S1x1x512_0_2_0)) (rows_at (iblk m c 0 t) (iblk m c 14 t) (iblk m c 1 t) (iblk m c 2 t) (iblk m c 3 t) (iblk m c 4 t) (iblk m c 5 t) (iblk m c 6 t) (iblk m c 7 t) (iblk m c 8 t)) (y 0) v).trans ?_
      exact congrArg (fun U => cell U (y 0) v) (head_02 m c hA t)
    · rfl
    · rfl
    · rfl
    · pointwise
    exact congrArg (val_main_v179 (F := Ideal) _ _ _ _ _ _ _ _ _ _ _ _ _ _ _ _) (place15 t _ 0 2 (y 0) (y 1) (by simp; omega) (by simp; omega)).symm
  case piece6 =>
    rw [eq_ix2 y]
    refine (out_01 _ _ _ _ _ (y 0) (y 1)).trans ?_
    refine (gated m c hA t 0 1 _ _ _ _ _ (y 0) (y 1) _ _ ?_ ?_ ?_ ?_ ?_ ?_ ?_).trans ?_
    · simp
    · simp
    · intro v
      refine (cell_01 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 1] S1x1x1.size inb_S2x1x4_S1x1x1_0_0_1)) (View.ld (iblk m c 11 t) (Rect.unit (s := S2x4x512x512) ![0, 1, 0, 0] S1x1x512x512.size inb_S2x4x512x512_S1x1x512x512_0_1_0_0)) (View.ld (iblk m c 12 t) (Rect.unit (s := S2x4x512) ![0, 1, 0] S1x1x512.size inb_S2x4x512_S1x1x512_0_1_0)) (rows_at (iblk m c 0 t) (iblk m c 14 t) (iblk m c 1 t) (iblk m c 2 t) (iblk m c 3 t) (iblk m c 4 t) (iblk m c 5 t) (iblk m c 6 t) (iblk m c 7 t) (iblk m c 8 t)) (y 0) v).trans ?_
      exact congrArg (fun U => cell U (y 0) v) (head_01 m c hA t)
    · rfl
    · rfl
    · rfl
    · pointwise
    exact congrArg (val_main_v179 (F := Ideal) _ _ _ _ _ _ _ _ _ _ _ _ _ _ _ _) (place15 t _ 0 1 (y 0) (y 1) (by simp; omega) (by simp; omega)).symm
  case piece7 =>
    rw [eq_ix2 y]
    refine (out_00 _ _ _ _ _ (y 0) (y 1)).trans ?_
    refine (gated m c hA t 0 0 _ _ _ _ _ (y 0) (y 1) _ _ ?_ ?_ ?_ ?_ ?_ ?_ ?_).trans ?_
    · simp
    · simp
    · intro v
      refine (cell_00 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 0] S1x1x1.size inb_S2x1x4_S1x1x1_0_0_0)) (View.ld (iblk m c 11 t) (Rect.unit (s := S2x4x512x512) ![0, 0, 0, 0] S1x1x512x512.size inb_S2x4x512x512_S1x1x512x512_0_0_0_0)) (View.ld (iblk m c 12 t) (Rect.unit (s := S2x4x512) ![0, 0, 0] S1x1x512.size inb_S2x4x512_S1x1x512_0_0_0)) (rows_at (iblk m c 0 t) (iblk m c 14 t) (iblk m c 1 t) (iblk m c 2 t) (iblk m c 3 t) (iblk m c 4 t) (iblk m c 5 t) (iblk m c 6 t) (iblk m c 7 t) (iblk m c 8 t)) (y 0) v).trans ?_
      exact congrArg (fun U => cell U (y 0) v) (head_00 m c hA t)
    · rfl
    · rfl
    · rfl
    · pointwise
    exact congrArg (val_main_v179 (F := Ideal) _ _ _ _ _ _ _ _ _ _ _ _ _ _ _ _) (place15 t _ 0 0 (y 0) (y 1) (by simp; omega) (by simp; omega)).symm

end Cert.KernelIdeal.Bridge
-- ==== Proof.Bridge16.lean ====
module

public import proofs.«01_k».proof.Proof.Heads
public import proofs.«01_k».proof.Proof.Gen.KernelIdeal.Value

@[expose] public section

set_option maxRecDepth 16384

noncomputable section

/-! # The stored memories -/

namespace Cert.KernelIdeal.Bridge

open Cert.KernelIdeal Cert.KernelIdeal.Gen Cert.KernelIdeal.Cell Cert.KernelIdeal.Front Cert.KernelIdeal.Match Cert.KernelIdeal.Feed Cert.KernelIdeal.Units Cert.Spec
open Idealize.ShloMosaic Idealize.ShloMosaic.TcCoe Idealize.SL.Sem
open Idealize.ShloMosaic.Pipeline (Dat)
open Cert.ReferenceIdeal.Read

set_option maxHeartbeats 4000000

variable (m : (ℓ : Loc nD τ sig) → Buf (Elt Ideal) ℓ) (c : Dev nD) (hA : (args m c).Finite)

include hA

/-- The stored memories are the reference's. -/
theorem final16 : (dats m 0 c).arrAt 16 (cfgs 0).N = val_main_v143 (F := Ideal) (m (c, Proc.tc.devRef main_arg0)) (m (c, Proc.tc.devRef main_arg1)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) := by
  refine (dats m 0 c).arrAt_eq_of_covers 16 _ (by decide +kernel) fun t _ y => ?_
  blk_simp
  rw [after0_16]
  unfold outsAt0
  frame_out
  canon_tiles y h
  case piece0 =>
    have ey : y = ix4 0 0 (y 2) (y 3) := (eq_ix4 y).trans (by congr 1 <;> apply Fin.ext <;> simp <;> omega)
    rw [ey]
    refine (cNew_13 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 3] S1x1x1.size inb_S2x1x4_S1x1x1_1_0_3)) (View.ld (iblk m c 11 t) (Rect.unit (s := S2x4x512x512) ![1, 3, 0, 0] S1x1x512x512.size inb_S2x4x512x512_S1x1x512x512_1_3_0_0)) (View.ld (iblk m c 12 t) (Rect.unit (s := S2x4x512) ![1, 3, 0] S1x1x512.size inb_S2x4x512_S1x1x512_1_3_0)) (rows_at (iblk m c 0 t) (iblk m c 14 t) (iblk m c 1 t) (iblk m c 2 t) (iblk m c 3 t) (iblk m c 4 t) (iblk m c 5 t) (iblk m c 6 t) (iblk m c 7 t) (iblk m c 8 t)) (y 2) (y 3)).trans ?_
    refine (congrArg (fun U => cNew U (y 2) (y 3)) (head_13 m c hA t)).trans ?_
    refine (Cert.ReferenceIdeal.Cell.cNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 3 (y 2) (y 3)).symm.trans ?_
    exact congrArg (val_main_v143 (F := Ideal) _ _ _ _ _ _ _ _ _ _ _ _ _) (place16 t _ 1 3 (y 2) (y 3) (by simp; omega) (by simp; omega) h2 h3).symm
  case piece1 =>
    have ey : y = ix4 0 0 (y 2) (y 3) := (eq_ix4 y).trans (by congr 1 <;> apply Fin.ext <;> simp <;> omega)
    rw [ey]
    refine (cNew_12 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 2] S1x1x1.size inb_S2x1x4_S1x1x1_1_0_2)) (View.ld (iblk m c 11 t) (Rect.unit (s := S2x4x512x512) ![1, 2, 0, 0] S1x1x512x512.size inb_S2x4x512x512_S1x1x512x512_1_2_0_0)) (View.ld (iblk m c 12 t) (Rect.unit (s := S2x4x512) ![1, 2, 0] S1x1x512.size inb_S2x4x512_S1x1x512_1_2_0)) (rows_at (iblk m c 0 t) (iblk m c 14 t) (iblk m c 1 t) (iblk m c 2 t) (iblk m c 3 t) (iblk m c 4 t) (iblk m c 5 t) (iblk m c 6 t) (iblk m c 7 t) (iblk m c 8 t)) (y 2) (y 3)).trans ?_
    refine (congrArg (fun U => cNew U (y 2) (y 3)) (head_12 m c hA t)).trans ?_
    refine (Cert.ReferenceIdeal.Cell.cNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 2 (y 2) (y 3)).symm.trans ?_
    exact congrArg (val_main_v143 (F := Ideal) _ _ _ _ _ _ _ _ _ _ _ _ _) (place16 t _ 1 2 (y 2) (y 3) (by simp; omega) (by simp; omega) h2 h3).symm
  case piece2 =>
    have ey : y = ix4 0 0 (y 2) (y 3) := (eq_ix4 y).trans (by congr 1 <;> apply Fin.ext <;> simp <;> omega)
    rw [ey]
    refine (cNew_11 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 1] S1x1x1.size inb_S2x1x4_S1x1x1_1_0_1)) (View.ld (iblk m c 11 t) (Rect.unit (s := S2x4x512x512) ![1, 1, 0, 0] S1x1x512x512.size inb_S2x4x512x512_S1x1x512x512_1_1_0_0)) (View.ld (iblk m c 12 t) (Rect.unit (s := S2x4x512) ![1, 1, 0] S1x1x512.size inb_S2x4x512_S1x1x512_1_1_0)) (rows_at (iblk m c 0 t) (iblk m c 14 t) (iblk m c 1 t) (iblk m c 2 t) (iblk m c 3 t) (iblk m c 4 t) (iblk m c 5 t) (iblk m c 6 t) (iblk m c 7 t) (iblk m c 8 t)) (y 2) (y 3)).trans ?_
    refine (congrArg (fun U => cNew U (y 2) (y 3)) (head_11 m c hA t)).trans ?_
    refine (Cert.ReferenceIdeal.Cell.cNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 1 (y 2) (y 3)).symm.trans ?_
    exact congrArg (val_main_v143 (F := Ideal) _ _ _ _ _ _ _ _ _ _ _ _ _) (place16 t _ 1 1 (y 2) (y 3) (by simp; omega) (by simp; omega) h2 h3).symm
  case piece3 =>
    have ey : y = ix4 0 0 (y 2) (y 3) := (eq_ix4 y).trans (by congr 1 <;> apply Fin.ext <;> simp <;> omega)
    rw [ey]
    refine (cNew_10 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 0] S1x1x1.size inb_S2x1x4_S1x1x1_1_0_0)) (View.ld (iblk m c 11 t) (Rect.unit (s := S2x4x512x512) ![1, 0, 0, 0] S1x1x512x512.size inb_S2x4x512x512_S1x1x512x512_1_0_0_0)) (View.ld (iblk m c 12 t) (Rect.unit (s := S2x4x512) ![1, 0, 0] S1x1x512.size inb_S2x4x512_S1x1x512_1_0_0)) (rows_at (iblk m c 0 t) (iblk m c 14 t) (iblk m c 1 t) (iblk m c 2 t) (iblk m c 3 t) (iblk m c 4 t) (iblk m c 5 t) (iblk m c 6 t) (iblk m c 7 t) (iblk m c 8 t)) (y 2) (y 3)).trans ?_
    refine (congrArg (fun U => cNew U (y 2) (y 3)) (head_10 m c hA t)).trans ?_
    refine (Cert.ReferenceIdeal.Cell.cNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 0 (y 2) (y 3)).symm.trans ?_
    exact congrArg (val_main_v143 (F := Ideal) _ _ _ _ _ _ _ _ _ _ _ _ _) (place16 t _ 1 0 (y 2) (y 3) (by simp; omega) (by simp; omega) h2 h3).symm
  case piece4 =>
    have ey : y = ix4 0 0 (y 2) (y 3) := (eq_ix4 y).trans (by congr 1 <;> apply Fin.ext <;> simp <;> omega)
    rw [ey]
    refine (cNew_03 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 3] S1x1x1.size inb_S2x1x4_S1x1x1_0_0_3)) (View.ld (iblk m c 11 t) (Rect.unit (s := S2x4x512x512) ![0, 3, 0, 0] S1x1x512x512.size inb_S2x4x512x512_S1x1x512x512_0_3_0_0)) (View.ld (iblk m c 12 t) (Rect.unit (s := S2x4x512) ![0, 3, 0] S1x1x512.size inb_S2x4x512_S1x1x512_0_3_0)) (rows_at (iblk m c 0 t) (iblk m c 14 t) (iblk m c 1 t) (iblk m c 2 t) (iblk m c 3 t) (iblk m c 4 t) (iblk m c 5 t) (iblk m c 6 t) (iblk m c 7 t) (iblk m c 8 t)) (y 2) (y 3)).trans ?_
    refine (congrArg (fun U => cNew U (y 2) (y 3)) (head_03 m c hA t)).trans ?_
    refine (Cert.ReferenceIdeal.Cell.cNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 3 (y 2) (y 3)).symm.trans ?_
    exact congrArg (val_main_v143 (F := Ideal) _ _ _ _ _ _ _ _ _ _ _ _ _) (place16 t _ 0 3 (y 2) (y 3) (by simp; omega) (by simp; omega) h2 h3).symm
  case piece5 =>
    have ey : y = ix4 0 0 (y 2) (y 3) := (eq_ix4 y).trans (by congr 1 <;> apply Fin.ext <;> simp <;> omega)
    rw [ey]
    refine (cNew_02 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 2] S1x1x1.size inb_S2x1x4_S1x1x1_0_0_2)) (View.ld (iblk m c 11 t) (Rect.unit (s := S2x4x512x512) ![0, 2, 0, 0] S1x1x512x512.size inb_S2x4x512x512_S1x1x512x512_0_2_0_0)) (View.ld (iblk m c 12 t) (Rect.unit (s := S2x4x512) ![0, 2, 0] S1x1x512.size inb_S2x4x512_S1x1x512_0_2_0)) (rows_at (iblk m c 0 t) (iblk m c 14 t) (iblk m c 1 t) (iblk m c 2 t) (iblk m c 3 t) (iblk m c 4 t) (iblk m c 5 t) (iblk m c 6 t) (iblk m c 7 t) (iblk m c 8 t)) (y 2) (y 3)).trans ?_
    refine (congrArg (fun U => cNew U (y 2) (y 3)) (head_02 m c hA t)).trans ?_
    refine (Cert.ReferenceIdeal.Cell.cNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 2 (y 2) (y 3)).symm.trans ?_
    exact congrArg (val_main_v143 (F := Ideal) _ _ _ _ _ _ _ _ _ _ _ _ _) (place16 t _ 0 2 (y 2) (y 3) (by simp; omega) (by simp; omega) h2 h3).symm
  case piece6 =>
    have ey : y = ix4 0 0 (y 2) (y 3) := (eq_ix4 y).trans (by congr 1 <;> apply Fin.ext <;> simp <;> omega)
    rw [ey]
    refine (cNew_01 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 1] S1x1x1.size inb_S2x1x4_S1x1x1_0_0_1)) (View.ld (iblk m c 11 t) (Rect.unit (s := S2x4x512x512) ![0, 1, 0, 0] S1x1x512x512.size inb_S2x4x512x512_S1x1x512x512_0_1_0_0)) (View.ld (iblk m c 12 t) (Rect.unit (s := S2x4x512) ![0, 1, 0] S1x1x512.size inb_S2x4x512_S1x1x512_0_1_0)) (rows_at (iblk m c 0 t) (iblk m c 14 t) (iblk m c 1 t) (iblk m c 2 t) (iblk m c 3 t) (iblk m c 4 t) (iblk m c 5 t) (iblk m c 6 t) (iblk m c 7 t) (iblk m c 8 t)) (y 2) (y 3)).trans ?_
    refine (congrArg (fun U => cNew U (y 2) (y 3)) (head_01 m c hA t)).trans ?_
    refine (Cert.ReferenceIdeal.Cell.cNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 1 (y 2) (y 3)).symm.trans ?_
    exact congrArg (val_main_v143 (F := Ideal) _ _ _ _ _ _ _ _ _ _ _ _ _) (place16 t _ 0 1 (y 2) (y 3) (by simp; omega) (by simp; omega) h2 h3).symm
  case piece7 =>
    have ey : y = ix4 0 0 (y 2) (y 3) := (eq_ix4 y).trans (by congr 1 <;> apply Fin.ext <;> simp <;> omega)
    rw [ey]
    refine (cNew_00 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 0] S1x1x1.size inb_S2x1x4_S1x1x1_0_0_0)) (View.ld (iblk m c 11 t) (Rect.unit (s := S2x4x512x512) ![0, 0, 0, 0] S1x1x512x512.size inb_S2x4x512x512_S1x1x512x512_0_0_0_0)) (View.ld (iblk m c 12 t) (Rect.unit (s := S2x4x512) ![0, 0, 0] S1x1x512.size inb_S2x4x512_S1x1x512_0_0_0)) (rows_at (iblk m c 0 t) (iblk m c 14 t) (iblk m c 1 t) (iblk m c 2 t) (iblk m c 3 t) (iblk m c 4 t) (iblk m c 5 t) (iblk m c 6 t) (iblk m c 7 t) (iblk m c 8 t)) (y 2) (y 3)).trans ?_
    refine (congrArg (fun U => cNew U (y 2) (y 3)) (head_00 m c hA t)).trans ?_
    refine (Cert.ReferenceIdeal.Cell.cNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 0 (y 2) (y 3)).symm.trans ?_
    exact congrArg (val_main_v143 (F := Ideal) _ _ _ _ _ _ _ _ _ _ _ _ _) (place16 t _ 0 0 (y 2) (y 3) (by simp; omega) (by simp; omega) h2 h3).symm

end Cert.KernelIdeal.Bridge
-- ==== Proof.Bridge17.lean ====
module

public import proofs.«01_k».proof.Proof.Heads
public import proofs.«01_k».proof.Proof.Gen.KernelIdeal.Value

@[expose] public section

set_option maxRecDepth 16384

noncomputable section

/-! # The stored normalisers -/

namespace Cert.KernelIdeal.Bridge

open Cert.KernelIdeal Cert.KernelIdeal.Gen Cert.KernelIdeal.Cell Cert.KernelIdeal.Front Cert.KernelIdeal.Match Cert.KernelIdeal.Feed Cert.KernelIdeal.Units Cert.Spec
open Idealize.ShloMosaic Idealize.ShloMosaic.TcCoe Idealize.SL.Sem
open Idealize.ShloMosaic.Pipeline (Dat)
open Cert.ReferenceIdeal.Read

set_option maxHeartbeats 4000000

variable (m : (ℓ : Loc nD τ sig) → Buf (Elt Ideal) ℓ) (c : Dev nD) (hA : (args m c).Finite)

include hA

/-- The stored normalisers are the reference's. -/
theorem final17 : (dats m 0 c).arrAt 17 (cfgs 0).N = val_main_v148 (F := Ideal) (m (c, Proc.tc.devRef main_arg0)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) := by
  refine (dats m 0 c).arrAt_eq_of_covers 17 _ (by decide +kernel) fun t _ y => ?_
  blk_simp
  rw [after0_17]
  unfold outsAt0
  frame_out
  canon_tiles y h
  case piece0 =>
    have ey : y = ix3 0 0 (y 2) := (eq_ix3 y).trans (by congr 1 <;> apply Fin.ext <;> simp <;> omega)
    rw [ey]
    refine (nNew_13 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 3] S1x1x1.size inb_S2x1x4_S1x1x1_1_0_3)) (View.ld (iblk m c 11 t) (Rect.unit (s := S2x4x512x512) ![1, 3, 0, 0] S1x1x512x512.size inb_S2x4x512x512_S1x1x512x512_1_3_0_0)) (View.ld (iblk m c 12 t) (Rect.unit (s := S2x4x512) ![1, 3, 0] S1x1x512.size inb_S2x4x512_S1x1x512_1_3_0)) (rows_at (iblk m c 0 t) (iblk m c 14 t) (iblk m c 1 t) (iblk m c 2 t) (iblk m c 3 t) (iblk m c 4 t) (iblk m c 5 t) (iblk m c 6 t) (iblk m c 7 t) (iblk m c 8 t)) (y 2)).trans ?_
    refine (congrArg (fun U => nNew U (y 2)) (head_13 m c hA t)).trans ?_
    refine (Cert.ReferenceIdeal.Cell.nNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 3 (y 2)).symm.trans ?_
    exact congrArg (val_main_v148 (F := Ideal) _ _ _ _ _ _ _ _ _ _ _ _ _) (place17 t _ 1 3 (y 2) (by simp; omega) (by simp; omega) h2).symm
  case piece1 =>
    have ey : y = ix3 0 0 (y 2) := (eq_ix3 y).trans (by congr 1 <;> apply Fin.ext <;> simp <;> omega)
    rw [ey]
    refine (nNew_12 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 2] S1x1x1.size inb_S2x1x4_S1x1x1_1_0_2)) (View.ld (iblk m c 11 t) (Rect.unit (s := S2x4x512x512) ![1, 2, 0, 0] S1x1x512x512.size inb_S2x4x512x512_S1x1x512x512_1_2_0_0)) (View.ld (iblk m c 12 t) (Rect.unit (s := S2x4x512) ![1, 2, 0] S1x1x512.size inb_S2x4x512_S1x1x512_1_2_0)) (rows_at (iblk m c 0 t) (iblk m c 14 t) (iblk m c 1 t) (iblk m c 2 t) (iblk m c 3 t) (iblk m c 4 t) (iblk m c 5 t) (iblk m c 6 t) (iblk m c 7 t) (iblk m c 8 t)) (y 2)).trans ?_
    refine (congrArg (fun U => nNew U (y 2)) (head_12 m c hA t)).trans ?_
    refine (Cert.ReferenceIdeal.Cell.nNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 2 (y 2)).symm.trans ?_
    exact congrArg (val_main_v148 (F := Ideal) _ _ _ _ _ _ _ _ _ _ _ _ _) (place17 t _ 1 2 (y 2) (by simp; omega) (by simp; omega) h2).symm
  case piece2 =>
    have ey : y = ix3 0 0 (y 2) := (eq_ix3 y).trans (by congr 1 <;> apply Fin.ext <;> simp <;> omega)
    rw [ey]
    refine (nNew_11 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 1] S1x1x1.size inb_S2x1x4_S1x1x1_1_0_1)) (View.ld (iblk m c 11 t) (Rect.unit (s := S2x4x512x512) ![1, 1, 0, 0] S1x1x512x512.size inb_S2x4x512x512_S1x1x512x512_1_1_0_0)) (View.ld (iblk m c 12 t) (Rect.unit (s := S2x4x512) ![1, 1, 0] S1x1x512.size inb_S2x4x512_S1x1x512_1_1_0)) (rows_at (iblk m c 0 t) (iblk m c 14 t) (iblk m c 1 t) (iblk m c 2 t) (iblk m c 3 t) (iblk m c 4 t) (iblk m c 5 t) (iblk m c 6 t) (iblk m c 7 t) (iblk m c 8 t)) (y 2)).trans ?_
    refine (congrArg (fun U => nNew U (y 2)) (head_11 m c hA t)).trans ?_
    refine (Cert.ReferenceIdeal.Cell.nNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 1 (y 2)).symm.trans ?_
    exact congrArg (val_main_v148 (F := Ideal) _ _ _ _ _ _ _ _ _ _ _ _ _) (place17 t _ 1 1 (y 2) (by simp; omega) (by simp; omega) h2).symm
  case piece3 =>
    have ey : y = ix3 0 0 (y 2) := (eq_ix3 y).trans (by congr 1 <;> apply Fin.ext <;> simp <;> omega)
    rw [ey]
    refine (nNew_10 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 0] S1x1x1.size inb_S2x1x4_S1x1x1_1_0_0)) (View.ld (iblk m c 11 t) (Rect.unit (s := S2x4x512x512) ![1, 0, 0, 0] S1x1x512x512.size inb_S2x4x512x512_S1x1x512x512_1_0_0_0)) (View.ld (iblk m c 12 t) (Rect.unit (s := S2x4x512) ![1, 0, 0] S1x1x512.size inb_S2x4x512_S1x1x512_1_0_0)) (rows_at (iblk m c 0 t) (iblk m c 14 t) (iblk m c 1 t) (iblk m c 2 t) (iblk m c 3 t) (iblk m c 4 t) (iblk m c 5 t) (iblk m c 6 t) (iblk m c 7 t) (iblk m c 8 t)) (y 2)).trans ?_
    refine (congrArg (fun U => nNew U (y 2)) (head_10 m c hA t)).trans ?_
    refine (Cert.ReferenceIdeal.Cell.nNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 0 (y 2)).symm.trans ?_
    exact congrArg (val_main_v148 (F := Ideal) _ _ _ _ _ _ _ _ _ _ _ _ _) (place17 t _ 1 0 (y 2) (by simp; omega) (by simp; omega) h2).symm
  case piece4 =>
    have ey : y = ix3 0 0 (y 2) := (eq_ix3 y).trans (by congr 1 <;> apply Fin.ext <;> simp <;> omega)
    rw [ey]
    refine (nNew_03 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 3] S1x1x1.size inb_S2x1x4_S1x1x1_0_0_3)) (View.ld (iblk m c 11 t) (Rect.unit (s := S2x4x512x512) ![0, 3, 0, 0] S1x1x512x512.size inb_S2x4x512x512_S1x1x512x512_0_3_0_0)) (View.ld (iblk m c 12 t) (Rect.unit (s := S2x4x512) ![0, 3, 0] S1x1x512.size inb_S2x4x512_S1x1x512_0_3_0)) (rows_at (iblk m c 0 t) (iblk m c 14 t) (iblk m c 1 t) (iblk m c 2 t) (iblk m c 3 t) (iblk m c 4 t) (iblk m c 5 t) (iblk m c 6 t) (iblk m c 7 t) (iblk m c 8 t)) (y 2)).trans ?_
    refine (congrArg (fun U => nNew U (y 2)) (head_03 m c hA t)).trans ?_
    refine (Cert.ReferenceIdeal.Cell.nNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 3 (y 2)).symm.trans ?_
    exact congrArg (val_main_v148 (F := Ideal) _ _ _ _ _ _ _ _ _ _ _ _ _) (place17 t _ 0 3 (y 2) (by simp; omega) (by simp; omega) h2).symm
  case piece5 =>
    have ey : y = ix3 0 0 (y 2) := (eq_ix3 y).trans (by congr 1 <;> apply Fin.ext <;> simp <;> omega)
    rw [ey]
    refine (nNew_02 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 2] S1x1x1.size inb_S2x1x4_S1x1x1_0_0_2)) (View.ld (iblk m c 11 t) (Rect.unit (s := S2x4x512x512) ![0, 2, 0, 0] S1x1x512x512.size inb_S2x4x512x512_S1x1x512x512_0_2_0_0)) (View.ld (iblk m c 12 t) (Rect.unit (s := S2x4x512) ![0, 2, 0] S1x1x512.size inb_S2x4x512_S1x1x512_0_2_0)) (rows_at (iblk m c 0 t) (iblk m c 14 t) (iblk m c 1 t) (iblk m c 2 t) (iblk m c 3 t) (iblk m c 4 t) (iblk m c 5 t) (iblk m c 6 t) (iblk m c 7 t) (iblk m c 8 t)) (y 2)).trans ?_
    refine (congrArg (fun U => nNew U (y 2)) (head_02 m c hA t)).trans ?_
    refine (Cert.ReferenceIdeal.Cell.nNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 2 (y 2)).symm.trans ?_
    exact congrArg (val_main_v148 (F := Ideal) _ _ _ _ _ _ _ _ _ _ _ _ _) (place17 t _ 0 2 (y 2) (by simp; omega) (by simp; omega) h2).symm
  case piece6 =>
    have ey : y = ix3 0 0 (y 2) := (eq_ix3 y).trans (by congr 1 <;> apply Fin.ext <;> simp <;> omega)
    rw [ey]
    refine (nNew_01 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 1] S1x1x1.size inb_S2x1x4_S1x1x1_0_0_1)) (View.ld (iblk m c 11 t) (Rect.unit (s := S2x4x512x512) ![0, 1, 0, 0] S1x1x512x512.size inb_S2x4x512x512_S1x1x512x512_0_1_0_0)) (View.ld (iblk m c 12 t) (Rect.unit (s := S2x4x512) ![0, 1, 0] S1x1x512.size inb_S2x4x512_S1x1x512_0_1_0)) (rows_at (iblk m c 0 t) (iblk m c 14 t) (iblk m c 1 t) (iblk m c 2 t) (iblk m c 3 t) (iblk m c 4 t) (iblk m c 5 t) (iblk m c 6 t) (iblk m c 7 t) (iblk m c 8 t)) (y 2)).trans ?_
    refine (congrArg (fun U => nNew U (y 2)) (head_01 m c hA t)).trans ?_
    refine (Cert.ReferenceIdeal.Cell.nNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 1 (y 2)).symm.trans ?_
    exact congrArg (val_main_v148 (F := Ideal) _ _ _ _ _ _ _ _ _ _ _ _ _) (place17 t _ 0 1 (y 2) (by simp; omega) (by simp; omega) h2).symm
  case piece7 =>
    have ey : y = ix3 0 0 (y 2) := (eq_ix3 y).trans (by congr 1 <;> apply Fin.ext <;> simp <;> omega)
    rw [ey]
    refine (nNew_00 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 0] S1x1x1.size inb_S2x1x4_S1x1x1_0_0_0)) (View.ld (iblk m c 11 t) (Rect.unit (s := S2x4x512x512) ![0, 0, 0, 0] S1x1x512x512.size inb_S2x4x512x512_S1x1x512x512_0_0_0_0)) (View.ld (iblk m c 12 t) (Rect.unit (s := S2x4x512) ![0, 0, 0] S1x1x512.size inb_S2x4x512_S1x1x512_0_0_0)) (rows_at (iblk m c 0 t) (iblk m c 14 t) (iblk m c 1 t) (iblk m c 2 t) (iblk m c 3 t) (iblk m c 4 t) (iblk m c 5 t) (iblk m c 6 t) (iblk m c 7 t) (iblk m c 8 t)) (y 2)).trans ?_
    refine (congrArg (fun U => nNew U (y 2)) (head_00 m c hA t)).trans ?_
    refine (Cert.ReferenceIdeal.Cell.nNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 0 (y 2)).symm.trans ?_
    exact congrArg (val_main_v148 (F := Ideal) _ _ _ _ _ _ _ _ _ _ _ _ _) (place17 t _ 0 0 (y 2) (by simp; omega) (by simp; omega) h2).symm

end Cert.KernelIdeal.Bridge
-- ==== Proof.Bridge18.lean ====
module

public import proofs.«01_k».proof.Proof.Heads
public import proofs.«01_k».proof.Proof.Gen.KernelIdeal.Value

@[expose] public section

set_option maxRecDepth 16384

noncomputable section

/-! # The stored stabilisers -/

namespace Cert.KernelIdeal.Bridge

open Cert.KernelIdeal Cert.KernelIdeal.Gen Cert.KernelIdeal.Cell Cert.KernelIdeal.Front Cert.KernelIdeal.Match Cert.KernelIdeal.Feed Cert.KernelIdeal.Units Cert.Spec
open Idealize.ShloMosaic Idealize.ShloMosaic.TcCoe Idealize.SL.Sem
open Idealize.ShloMosaic.Pipeline (Dat)
open Cert.ReferenceIdeal.Read

set_option maxHeartbeats 4000000

variable (m : (ℓ : Loc nD τ sig) → Buf (Elt Ideal) ℓ) (c : Dev nD) (hA : (args m c).Finite)

include hA

/-- The stored stabilisers are the reference's. -/
theorem final18 : (dats m 0 c).arrAt 18 (cfgs 0).N = val_main_v180 (F := Ideal) (m (c, Proc.tc.devRef main_arg0)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) := by
  refine (dats m 0 c).arrAt_eq_of_covers 18 _ (by decide +kernel) fun t _ y => ?_
  blk_simp
  rw [after0_18]
  unfold outsAt0
  frame_out
  canon_tiles y h
  case piece0 =>
    have ey : y = ix3 0 0 0 := (eq_ix3 y).trans (by congr 1 <;> apply Fin.ext <;> simp <;> omega)
    rw [ey]
    refine (m_13 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 3] S1x1x1.size inb_S2x1x4_S1x1x1_1_0_3)) (View.ld (iblk m c 11 t) (Rect.unit (s := S2x4x512x512) ![1, 3, 0, 0] S1x1x512x512.size inb_S2x4x512x512_S1x1x512x512_1_3_0_0)) (View.ld (iblk m c 12 t) (Rect.unit (s := S2x4x512) ![1, 3, 0] S1x1x512.size inb_S2x4x512_S1x1x512_1_3_0)) (rows_at (iblk m c 0 t) (iblk m c 14 t) (iblk m c 1 t) (iblk m c 2 t) (iblk m c 3 t) (iblk m c 4 t) (iblk m c 5 t) (iblk m c 6 t) (iblk m c 7 t) (iblk m c 8 t))).trans ?_
    refine (congrArg mNew (head_13 m c hA t)).trans ?_
    refine (Cert.ReferenceIdeal.Cell.mNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 3).symm.trans ?_
    refine (Cert.ReferenceIdeal.Cell.v180_at (m (c, Proc.tc.devRef main_arg0)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 3).symm.trans ?_
    exact congrArg (val_main_v180 (F := Ideal) _ _ _ _ _ _ _ _ _ _ _ _) (place18 t _ 1 3 (by simp; omega) (by simp; omega)).symm
  case piece1 =>
    have ey : y = ix3 0 0 0 := (eq_ix3 y).trans (by congr 1 <;> apply Fin.ext <;> simp <;> omega)
    rw [ey]
    refine (m_12 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 2] S1x1x1.size inb_S2x1x4_S1x1x1_1_0_2)) (View.ld (iblk m c 11 t) (Rect.unit (s := S2x4x512x512) ![1, 2, 0, 0] S1x1x512x512.size inb_S2x4x512x512_S1x1x512x512_1_2_0_0)) (View.ld (iblk m c 12 t) (Rect.unit (s := S2x4x512) ![1, 2, 0] S1x1x512.size inb_S2x4x512_S1x1x512_1_2_0)) (rows_at (iblk m c 0 t) (iblk m c 14 t) (iblk m c 1 t) (iblk m c 2 t) (iblk m c 3 t) (iblk m c 4 t) (iblk m c 5 t) (iblk m c 6 t) (iblk m c 7 t) (iblk m c 8 t))).trans ?_
    refine (congrArg mNew (head_12 m c hA t)).trans ?_
    refine (Cert.ReferenceIdeal.Cell.mNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 2).symm.trans ?_
    refine (Cert.ReferenceIdeal.Cell.v180_at (m (c, Proc.tc.devRef main_arg0)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 2).symm.trans ?_
    exact congrArg (val_main_v180 (F := Ideal) _ _ _ _ _ _ _ _ _ _ _ _) (place18 t _ 1 2 (by simp; omega) (by simp; omega)).symm
  case piece2 =>
    have ey : y = ix3 0 0 0 := (eq_ix3 y).trans (by congr 1 <;> apply Fin.ext <;> simp <;> omega)
    rw [ey]
    refine (m_11 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 1] S1x1x1.size inb_S2x1x4_S1x1x1_1_0_1)) (View.ld (iblk m c 11 t) (Rect.unit (s := S2x4x512x512) ![1, 1, 0, 0] S1x1x512x512.size inb_S2x4x512x512_S1x1x512x512_1_1_0_0)) (View.ld (iblk m c 12 t) (Rect.unit (s := S2x4x512) ![1, 1, 0] S1x1x512.size inb_S2x4x512_S1x1x512_1_1_0)) (rows_at (iblk m c 0 t) (iblk m c 14 t) (iblk m c 1 t) (iblk m c 2 t) (iblk m c 3 t) (iblk m c 4 t) (iblk m c 5 t) (iblk m c 6 t) (iblk m c 7 t) (iblk m c 8 t))).trans ?_
    refine (congrArg mNew (head_11 m c hA t)).trans ?_
    refine (Cert.ReferenceIdeal.Cell.mNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 1).symm.trans ?_
    refine (Cert.ReferenceIdeal.Cell.v180_at (m (c, Proc.tc.devRef main_arg0)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 1).symm.trans ?_
    exact congrArg (val_main_v180 (F := Ideal) _ _ _ _ _ _ _ _ _ _ _ _) (place18 t _ 1 1 (by simp; omega) (by simp; omega)).symm
  case piece3 =>
    have ey : y = ix3 0 0 0 := (eq_ix3 y).trans (by congr 1 <;> apply Fin.ext <;> simp <;> omega)
    rw [ey]
    refine (m_10 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![1, 0, 0] S1x1x1.size inb_S2x1x4_S1x1x1_1_0_0)) (View.ld (iblk m c 11 t) (Rect.unit (s := S2x4x512x512) ![1, 0, 0, 0] S1x1x512x512.size inb_S2x4x512x512_S1x1x512x512_1_0_0_0)) (View.ld (iblk m c 12 t) (Rect.unit (s := S2x4x512) ![1, 0, 0] S1x1x512.size inb_S2x4x512_S1x1x512_1_0_0)) (rows_at (iblk m c 0 t) (iblk m c 14 t) (iblk m c 1 t) (iblk m c 2 t) (iblk m c 3 t) (iblk m c 4 t) (iblk m c 5 t) (iblk m c 6 t) (iblk m c 7 t) (iblk m c 8 t))).trans ?_
    refine (congrArg mNew (head_10 m c hA t)).trans ?_
    refine (Cert.ReferenceIdeal.Cell.mNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 0).symm.trans ?_
    refine (Cert.ReferenceIdeal.Cell.v180_at (m (c, Proc.tc.devRef main_arg0)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 1) 0).symm.trans ?_
    exact congrArg (val_main_v180 (F := Ideal) _ _ _ _ _ _ _ _ _ _ _ _) (place18 t _ 1 0 (by simp; omega) (by simp; omega)).symm
  case piece4 =>
    have ey : y = ix3 0 0 0 := (eq_ix3 y).trans (by congr 1 <;> apply Fin.ext <;> simp <;> omega)
    rw [ey]
    refine (m_03 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 3] S1x1x1.size inb_S2x1x4_S1x1x1_0_0_3)) (View.ld (iblk m c 11 t) (Rect.unit (s := S2x4x512x512) ![0, 3, 0, 0] S1x1x512x512.size inb_S2x4x512x512_S1x1x512x512_0_3_0_0)) (View.ld (iblk m c 12 t) (Rect.unit (s := S2x4x512) ![0, 3, 0] S1x1x512.size inb_S2x4x512_S1x1x512_0_3_0)) (rows_at (iblk m c 0 t) (iblk m c 14 t) (iblk m c 1 t) (iblk m c 2 t) (iblk m c 3 t) (iblk m c 4 t) (iblk m c 5 t) (iblk m c 6 t) (iblk m c 7 t) (iblk m c 8 t))).trans ?_
    refine (congrArg mNew (head_03 m c hA t)).trans ?_
    refine (Cert.ReferenceIdeal.Cell.mNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 3).symm.trans ?_
    refine (Cert.ReferenceIdeal.Cell.v180_at (m (c, Proc.tc.devRef main_arg0)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 3).symm.trans ?_
    exact congrArg (val_main_v180 (F := Ideal) _ _ _ _ _ _ _ _ _ _ _ _) (place18 t _ 0 3 (by simp; omega) (by simp; omega)).symm
  case piece5 =>
    have ey : y = ix3 0 0 0 := (eq_ix3 y).trans (by congr 1 <;> apply Fin.ext <;> simp <;> omega)
    rw [ey]
    refine (m_02 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 2] S1x1x1.size inb_S2x1x4_S1x1x1_0_0_2)) (View.ld (iblk m c 11 t) (Rect.unit (s := S2x4x512x512) ![0, 2, 0, 0] S1x1x512x512.size inb_S2x4x512x512_S1x1x512x512_0_2_0_0)) (View.ld (iblk m c 12 t) (Rect.unit (s := S2x4x512) ![0, 2, 0] S1x1x512.size inb_S2x4x512_S1x1x512_0_2_0)) (rows_at (iblk m c 0 t) (iblk m c 14 t) (iblk m c 1 t) (iblk m c 2 t) (iblk m c 3 t) (iblk m c 4 t) (iblk m c 5 t) (iblk m c 6 t) (iblk m c 7 t) (iblk m c 8 t))).trans ?_
    refine (congrArg mNew (head_02 m c hA t)).trans ?_
    refine (Cert.ReferenceIdeal.Cell.mNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 2).symm.trans ?_
    refine (Cert.ReferenceIdeal.Cell.v180_at (m (c, Proc.tc.devRef main_arg0)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 2).symm.trans ?_
    exact congrArg (val_main_v180 (F := Ideal) _ _ _ _ _ _ _ _ _ _ _ _) (place18 t _ 0 2 (by simp; omega) (by simp; omega)).symm
  case piece6 =>
    have ey : y = ix3 0 0 0 := (eq_ix3 y).trans (by congr 1 <;> apply Fin.ext <;> simp <;> omega)
    rw [ey]
    refine (m_01 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 1] S1x1x1.size inb_S2x1x4_S1x1x1_0_0_1)) (View.ld (iblk m c 11 t) (Rect.unit (s := S2x4x512x512) ![0, 1, 0, 0] S1x1x512x512.size inb_S2x4x512x512_S1x1x512x512_0_1_0_0)) (View.ld (iblk m c 12 t) (Rect.unit (s := S2x4x512) ![0, 1, 0] S1x1x512.size inb_S2x4x512_S1x1x512_0_1_0)) (rows_at (iblk m c 0 t) (iblk m c 14 t) (iblk m c 1 t) (iblk m c 2 t) (iblk m c 3 t) (iblk m c 4 t) (iblk m c 5 t) (iblk m c 6 t) (iblk m c 7 t) (iblk m c 8 t))).trans ?_
    refine (congrArg mNew (head_01 m c hA t)).trans ?_
    refine (Cert.ReferenceIdeal.Cell.mNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 1).symm.trans ?_
    refine (Cert.ReferenceIdeal.Cell.v180_at (m (c, Proc.tc.devRef main_arg0)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 1).symm.trans ?_
    exact congrArg (val_main_v180 (F := Ideal) _ _ _ _ _ _ _ _ _ _ _ _) (place18 t _ 0 1 (by simp; omega) (by simp; omega)).symm
  case piece7 =>
    have ey : y = ix3 0 0 0 := (eq_ix3 y).trans (by congr 1 <;> apply Fin.ext <;> simp <;> omega)
    rw [ey]
    refine (m_00 (Qw (iblk m c 0 t) (iblk m c 14 t) (iblk m c 1 t) (iblk m c 2 t) (iblk m c 3 t)) (Kw (iblk m c 0 t) (iblk m c 14 t) (iblk m c 1 t) (iblk m c 2 t) (iblk m c 4 t)) (Vw (iblk m c 0 t) (iblk m c 5 t)) (Gw (iblk m c 0 t) (iblk m c 14 t) (iblk m c 1 t) (iblk m c 2 t) (iblk m c 3 t) (iblk m c 4 t) (iblk m c 5 t) (iblk m c 6 t) (iblk m c 7 t)) (Bw (iblk m c 0 t) (iblk m c 14 t) (iblk m c 1 t) (iblk m c 2 t) (iblk m c 3 t) (iblk m c 4 t) (iblk m c 5 t) (iblk m c 6 t) (iblk m c 7 t) (iblk m c 8 t)) (Rw (iblk m c 0 t) (iblk m c 14 t) (iblk m c 1 t) (iblk m c 2 t) (iblk m c 3 t) (iblk m c 4 t) (iblk m c 5 t) (iblk m c 6 t) (iblk m c 7 t) (iblk m c 8 t)) (View.ld (iblk m c 13 t) (Rect.unit (s := S2x1x4) ![0, 0, 0] S1x1x1.size inb_S2x1x4_S1x1x1_0_0_0)) (View.ld (iblk m c 11 t) (Rect.unit (s := S2x4x512x512) ![0, 0, 0, 0] S1x1x512x512.size inb_S2x4x512x512_S1x1x512x512_0_0_0_0)) (View.ld (iblk m c 12 t) (Rect.unit (s := S2x4x512) ![0, 0, 0] S1x1x512.size inb_S2x4x512_S1x1x512_0_0_0)) (rows_at (iblk m c 0 t) (iblk m c 14 t) (iblk m c 1 t) (iblk m c 2 t) (iblk m c 3 t) (iblk m c 4 t) (iblk m c 5 t) (iblk m c 6 t) (iblk m c 7 t) (iblk m c 8 t))).trans ?_
    refine (congrArg mNew (head_00 m c hA t)).trans ?_
    refine (Cert.ReferenceIdeal.Cell.mNew_at (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 0).symm.trans ?_
    refine (Cert.ReferenceIdeal.Cell.v180_at (m (c, Proc.tc.devRef main_arg0)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (stream t 0) 0).symm.trans ?_
    exact congrArg (val_main_v180 (F := Ideal) _ _ _ _ _ _ _ _ _ _ _ _) (place18 t _ 0 0 (by simp; omega) (by simp; omega)).symm

end Cert.KernelIdeal.Bridge
-- ==== Proof.Bridge19.lean ====
module

public import proofs.«01_k».proof.Proof.Heads
public import proofs.«01_k».proof.Proof.Gen.KernelIdeal.Value

@[expose] public section

set_option maxRecDepth 16384

noncomputable section

/-! # The stored tails -/

namespace Cert.KernelIdeal.Bridge

open Cert.KernelIdeal Cert.KernelIdeal.Gen Cert.KernelIdeal.Cell Cert.KernelIdeal.Front Cert.KernelIdeal.Match Cert.KernelIdeal.Feed Cert.KernelIdeal.Units Cert.Spec
open Idealize.ShloMosaic Idealize.ShloMosaic.TcCoe Idealize.SL.Sem
open Idealize.ShloMosaic.Pipeline (Dat)
open Cert.ReferenceIdeal.Read

set_option maxHeartbeats 4000000

variable (m : (ℓ : Loc nD τ sig) → Buf (Elt Ideal) ℓ) (c : Dev nD) (hA : (args m c).Finite)

/-- The stored tails are the reference's. -/
theorem final19 : (dats m 0 c).arrAt 19 (cfgs 0).N = val_main_v181 (F := Ideal) (m (c, Proc.tc.devRef main_arg0)) (m (c, Proc.tc.devRef main_arg4)) := by
  refine (dats m 0 c).arrAt_eq_of_covers 19 _ (by decide +kernel) fun t _ y => ?_
  blk_simp
  rw [after0_19]
  unfold outsAt0
  frame_out
  canon_tiles y h
  case piece0 =>
    have ey : y = ix3 0 (y 1) (y 2) := (eq_ix3 y).trans (by congr 1 <;> apply Fin.ext <;> simp <;> omega)
    rw [ey]
    refine (carried1 m c t (y 1) (y 2)).trans ?_
    exact congrArg (val_main_v181 (F := Ideal) (m (c, Proc.tc.devRef main_arg0)) (m (c, Proc.tc.devRef main_arg4))) (place19 t _ 1 (y 1) (y 2) (by simp; omega) h1 h2).symm
  case piece1 =>
    have ey : y = ix3 0 (y 1) (y 2) := (eq_ix3 y).trans (by congr 1 <;> apply Fin.ext <;> simp <;> omega)
    rw [ey]
    refine (carried0 m c t (y 1) (y 2)).trans ?_
    exact congrArg (val_main_v181 (F := Ideal) (m (c, Proc.tc.devRef main_arg0)) (m (c, Proc.tc.devRef main_arg4))) (place19 t _ 0 (y 1) (y 2) (by simp; omega) h1 h2).symm

end Cert.KernelIdeal.Bridge
-- ==== Proof.Finite.lean ====
module

public import proofs.«01_k».proof.Pre_finite
public import proofs.«01_k».proof.Proof.Scalars
public import Idealize.ShloMosaic.Lib.Pointwise

@[expose] public section

set_option maxRecDepth 16384

noncomputable section

/-! # What the precondition says of an operand -/

namespace Cert.Spec

open Idealize.ShloMosaic Idealize.ShloMosaic.TcCoe Idealize.SL.Sem

/-- The shapes the precondition's comparisons take. -/
theorem precondition_facts : Cert.Pre_finite.Facts := by
  constructor <;> decide

/-- The bound of the precondition is positive infinity. -/
theorem bound_word : Ideal.ofBits .f32 0x7F800000#32 = (⊤ : EReal) := by
  simp [Ideal.ofBits, Ideal.ieee]

/-- An operand whose entries all pass the precondition's comparison has only real entries. -/
theorem real_of_pass {s : Shape} (a : FVec Ideal s .f32) (hb : Cert.Pre_finite.S_.BroadcastsInDim s ![])
    (h : cmpf .olt (Host.absf a) (broadcastInDim s ![] hb (constant Cert.Pre_finite.S_ .f32 0x7F800000#32)) = fun _ => 1#1) (i : s.Idx) :
    IsReal (a i) := by
  have e := congrFun h i
  apply isReal_of_abs
  rw [← bound_word]
  simp [cmpf, Host.absf, broadcastInDim, constant] at e
  by_contra hn
  have e' : BitVec.ofBool (decide (max (a i) (-a i) < Ideal.ofBits .f32 0x7F800000#32)) = 1#1 := e
  rw [decide_eq_false hn] at e'
  exact absurd e' (by decide)

end Cert.Spec

end
-- ==== Proof.FfnRun.lean ====
/-
The body of the second kernel, run once in each of its two cases: the block of
prompt rows (the first thirty-two points) and the block of sample rows (the last).
-/
module

public import proofs.«01_k».proof.Proof.Gen.Kernel2Ideal.Frame
public import proofs.«01_k».proof.Proof.Gen.Kernel2Ideal.Skeleton
public import Idealize.ShloMosaic.Lib.VecWindow

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- What the body stores for a block of 512 rows: from the rows of the residual, the
    rows of the mixer, and the weights. -/
abbrev stored (x : Vec F S512x1024 .f32) (mx : Vec F S512x2048 .bf16) (wo : Vec F S2048x1024 .bf16)
    (g : Vec F S1x1024 .f32) (wg wu : Vec F S1x1024x2816 .bf16) (wd : Vec F S1x2816x1024 .bf16)
    (gf : Vec F S1x1024 .f32) : Vec F S512x1024 .f32 :=
  k0_pay1 (k0_pay3 x mx wo) (k0_pay4 x mx wo g wg wu) wd gf

/-- Equal operands store equal blocks. -/
theorem stored_congr {x x' : Vec F S512x1024 .f32} {mx mx' : Vec F S512x2048 .bf16} {wo wo' : Vec F S2048x1024 .bf16}
    {g g' : Vec F S1x1024 .f32} {wg wg' wu wu' : Vec F S1x1024x2816 .bf16} {wd wd' : Vec F S1x2816x1024 .bf16}
    {gf gf' : Vec F S1x1024 .f32} (h1 : x = x') (h2 : mx = mx') (h3 : wo = wo') (h4 : g = g') (h5 : wg = wg')
    (h6 : wu = wu') (h7 : wd = wd') (h8 : gf = gf') :
    stored x mx wo g wg wu wd gf = stored x' mx' wo' g' wg' wu' wd' gf' := by
  subst h1 h2 h3 h4 h5 h6 h7 h8; rfl

/-- The last part of the sample's branch computes what the prompt's does. -/
theorem pay2_eq : @k0_pay2 F _ = k0_pay1 := rfl

/-- The first part of the sample's branch computes the prompt's residual. -/
theorem pay5_eq : @k0_pay5 F _ = k0_pay3 := rfl

/-- The first part of the sample's branch computes the prompt's gated rows. -/
theorem pay6_eq : @k0_pay6 F _ = k0_pay4 := rfl

set_option maxHeartbeats 1000000 in
/-- The body at a point of the prompt: it stores the block's result in the prompt's buffer, and
    the sample's buffer is not touched. -/
theorem run_prompt (c : Dev nD) (i : grid0.Coords)
    (arg1 : Memref sig .tc .vmem S512x1024 .f32) (harg1 : arg1.IsWhole) (arg2 : Memref sig .tc .vmem S512x2048 .bf16) (harg2 : arg2.IsWhole) (arg3 : Memref sig .tc .vmem S512x1024 .f32) (harg3 : arg3.IsWhole) (arg4 : Memref sig .tc .vmem S512x2048 .bf16) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole)
    (h0 : k0_cond1 i = 1#1) (h1 : ¬k0_cond2 i = 1#1)
    (x : Vec F S512x1024 .f32) (mx : Vec F S512x2048 .bf16) (wo : Vec F S2048x1024 .bf16) (g : Vec F S1x1024 .f32) (wg : Vec F S1x1024x2816 .bf16) (wu : Vec F S1x1024x2816 .bf16) (wd : Vec F S1x2816x1024 .bf16) (gf : Vec F S1x1024 .f32)
    (E : Set ℕ) (K : PUnit → sProp 𝕄) :
    iprop(owns (c : Thread nD τ) arg1 fullShare x ∗ owns (c : Thread nD τ) arg2 fullShare mx ∗ owns (c : Thread nD τ) arg5 fullShare wo ∗ owns (c : Thread nD τ) arg6 fullShare g ∗ owns (c : Thread nD τ) arg7 fullShare wg ∗ owns (c : Thread nD τ) arg8 fullShare wu ∗ owns (c : Thread nD τ) arg9 fullShare wd ∗ owns (c : Thread nD τ) arg10 fullShare gf ∗ (∃ d, owns (c : Thread nD τ) arg11 fullShare d)
        ∗ (iprop(owns (c : Thread nD τ) arg1 fullShare x ∗ owns (c : Thread nD τ) arg2 fullShare mx ∗ owns (c : Thread nD τ) arg5 fullShare wo ∗ owns (c : Thread nD τ) arg6 fullShare g ∗ owns (c : Thread nD τ) arg7 fullShare wg ∗ owns (c : Thread nD τ) arg8 fullShare wu ∗ owns (c : Thread nD τ) arg9 fullShare wd ∗ owns (c : Thread nD τ) arg10 fullShare gf ∗ owns (c : Thread nD τ) arg11 fullShare (stored x mx wo g wg wu wd gf)) -∗ K ⟨⟩))
      ⊢ wp frame (wpE (defs₀ (F := F)) Variants.none c none) E (cc0_proj_ffn i arg1 harg1 arg2 harg2 arg3 harg3 arg4 harg4 arg5 harg5 arg6 harg6 arg7 harg7 arg8 harg8 arg9 harg9 arg10 harg10 arg11 harg11 arg12 harg12) K := by
  simp only [cc0_proj_ffn_eq_skeleton]; unfold cc0_proj_ffn_skel
  simp only [k0_part1_eq_skeleton]
  unfold owns
  iintro ⟨⟨%f1, %hf1, H1⟩, ⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%d, %f, -, H⟩, Hk⟩
  obtain rfl := harg1.eq_unread hf1
  obtain rfl := harg2.eq_unread hf2
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec (disch := first | sl_exact h0 | sl_exact h1)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  iexists _; isplitr; swap
  · iexact H
  ipureintro
  unfold run_prompt.sl.r run_prompt.sl.r_1 run_prompt.sl.r_2
  rw [View.read_writes_full]
  exact stored_congr ((View.readAt_full _ _ _).trans hf1) ((View.readAt_full _ _ _).trans hf2) ((View.readAt_full _ _ _).trans hf5) ((View.readAt_full _ _ _).trans hf6) ((View.readAt_full _ _ _).trans hf7) ((View.readAt_full _ _ _).trans hf8) ((View.readAt_full _ _ _).trans hf9) ((View.readAt_full _ _ _).trans hf10)

set_option maxHeartbeats 1000000 in
/-- The body at the point of the sample: it stores the block's result in the sample's buffer, and
    the prompt's buffer is not touched. -/
theorem run_sample (c : Dev nD) (i : grid0.Coords)
    (arg1 : Memref sig .tc .vmem S512x1024 .f32) (harg1 : arg1.IsWhole) (arg2 : Memref sig .tc .vmem S512x2048 .bf16) (harg2 : arg2.IsWhole) (arg3 : Memref sig .tc .vmem S512x1024 .f32) (harg3 : arg3.IsWhole) (arg4 : Memref sig .tc .vmem S512x2048 .bf16) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole)
    (h0 : ¬k0_cond1 i = 1#1) (h1 : k0_cond2 i = 1#1)
    (x : Vec F S512x1024 .f32) (mx : Vec F S512x2048 .bf16) (wo : Vec F S2048x1024 .bf16) (g : Vec F S1x1024 .f32) (wg : Vec F S1x1024x2816 .bf16) (wu : Vec F S1x1024x2816 .bf16) (wd : Vec F S1x2816x1024 .bf16) (gf : Vec F S1x1024 .f32)
    (E : Set ℕ) (K : PUnit → sProp 𝕄) :
    iprop(owns (c : Thread nD τ) arg3 fullShare x ∗ owns (c : Thread nD τ) arg4 fullShare mx ∗ owns (c : Thread nD τ) arg5 fullShare wo ∗ owns (c : Thread nD τ) arg6 fullShare g ∗ owns (c : Thread nD τ) arg7 fullShare wg ∗ owns (c : Thread nD τ) arg8 fullShare wu ∗ owns (c : Thread nD τ) arg9 fullShare wd ∗ owns (c : Thread nD τ) arg10 fullShare gf ∗ (∃ d, owns (c : Thread nD τ) arg12 fullShare d)
        ∗ (iprop(owns (c : Thread nD τ) arg3 fullShare x ∗ owns (c : Thread nD τ) arg4 fullShare mx ∗ owns (c : Thread nD τ) arg5 fullShare wo ∗ owns (c : Thread nD τ) arg6 fullShare g ∗ owns (c : Thread nD τ) arg7 fullShare wg ∗ owns (c : Thread nD τ) arg8 fullShare wu ∗ owns (c : Thread nD τ) arg9 fullShare wd ∗ owns (c : Thread nD τ) arg10 fullShare gf ∗ owns (c : Thread nD τ) arg12 fullShare (stored x mx wo g wg wu wd gf)) -∗ K ⟨⟩))
      ⊢ wp frame (wpE (defs₀ (F := F)) Variants.none c none) E (cc0_proj_ffn i arg1 harg1 arg2 harg2 arg3 harg3 arg4 harg4 arg5 harg5 arg6 harg6 arg7 harg7 arg8 harg8 arg9 harg9 arg10 harg10 arg11 harg11 arg12 harg12) K := by
  simp only [cc0_proj_ffn_eq_skeleton]; unfold cc0_proj_ffn_skel
  simp only [k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d, %f, -, H⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec (disch := first | sl_exact h0 | sl_exact h1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  iexists _; isplitr; swap
  · iexact H
  ipureintro
  unfold run_sample.sl.r run_sample.sl.r_1 run_sample.sl.r_2
  rw [View.read_writes_full]
  rw [pay2_eq, pay5_eq, pay6_eq]
  exact stored_congr ((View.readAt_full _ _ _).trans hf3) ((View.readAt_full _ _ _).trans hf4) ((View.readAt_full _ _ _).trans hf5) ((View.readAt_full _ _ _).trans hf6) ((View.readAt_full _ _ _).trans hf7) ((View.readAt_full _ _ _).trans hf8) ((View.readAt_full _ _ _).trans hf9) ((View.readAt_full _ _ _).trans hf10)

end Cert.Ffn
-- ==== Proof.FfnBody.lean ====
/-
The second kernel's proof data: what each point leaves in each buffer, the body's
obligation at every point, and the run of the whole program.
-/
module

public import proofs.«01_k».proof.Proof.FfnRun
public import Idealize.ShloMosaic.Lib.Claim

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point whose prompt block is in the prompt's buffer after point `t`: `t` itself, but at the
    last point, which computes the sample's block, the point before. -/
def promptPoint (t : Fin cfg0.N) : Fin cfg0.N := ⟨min t.val 31, by have := t.isLt; omega⟩

/-- The block of prompt rows point `t` stores. -/
abbrev promptAt (c : Dev nD) (t : Fin cfg0.N) : Vec F S512x1024 .f32 :=
  stored (iblk m c 0 t) (iblk m c 1 t) (iblk m c 4 t) (iblk m c 5 t) (iblk m c 6 t) (iblk m c 7 t) (iblk m c 8 t) (iblk m c 9 t)

/-- The block of sample rows the last point stores. -/
abbrev sampleAt (c : Dev nD) (t : Fin cfg0.N) : Vec F S512x1024 .f32 :=
  stored (iblk m c 2 t) (iblk m c 3 t) (iblk m c 4 t) (iblk m c 5 t) (iblk m c 6 t) (iblk m c 7 t) (iblk m c 8 t) (iblk m c 9 t)

/-- The proof data: an input's buffer keeps its block, the prompt's buffer holds the last prompt block
    computed, the sample's buffer the sample's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => promptAt m c (promptPoint t)
    | ⟨11, _⟩ => sampleAt m c t
    | ⟨_ + 12, h⟩ => absurd h (Nat.not_lt.2 (Nat.le_add_left _ _))
  Φ _ := Pipeline.ΦA spec0 c
  q _ := fullShare
  owed _ := 0

/-- The arrays start as the kernel's region finds them. -/
theorem dats_A (c : Dev nD) (w : Fin cfg0.W) : (dats m 0 c).A w = V m c (Pipeline.arrRef spec0 w) := by
  dsimp only [dats]

/-- Input 0 keeps its block. -/
theorem after_0 (c : Dev nD) (t : Fin cfg0.N) : (dats m 0 c).after 0 t = iblk m c 0 t := by dsimp only [dats]
/-- Input 1 keeps its block. -/
theorem after_1 (c : Dev nD) (t : Fin cfg0.N) : (dats m 0 c).after 1 t = iblk m c 1 t := by dsimp only [dats]
/-- Input 2 keeps its block. -/
theorem after_2 (c : Dev nD) (t : Fin cfg0.N) : (dats m 0 c).after 2 t = iblk m c 2 t := by dsimp only [dats]
/-- Input 3 keeps its block. -/
theorem after_3 (c : Dev nD) (t : Fin cfg0.N) : (dats m 0 c).after 3 t = iblk m c 3 t := by dsimp only [dats]
/-- Input 4 keeps its block. -/
theorem after_4 (c : Dev nD) (t : Fin cfg0.N) : (dats m 0 c).after 4 t = iblk m c 4 t := by dsimp only [dats]
/-- Input 5 keeps its block. -/
theorem after_5 (c : Dev nD) (t : Fin cfg0.N) : (dats m 0 c).after 5 t = iblk m c 5 t := by dsimp only [dats]
/-- Input 6 keeps its block. -/
theorem after_6 (c : Dev nD) (t : Fin cfg0.N) : (dats m 0 c).after 6 t = iblk m c 6 t := by dsimp only [dats]
/-- Input 7 keeps its block. -/
theorem after_7 (c : Dev nD) (t : Fin cfg0.N) : (dats m 0 c).after 7 t = iblk m c 7 t := by dsimp only [dats]
/-- Input 8 keeps its block. -/
theorem after_8 (c : Dev nD) (t : Fin cfg0.N) : (dats m 0 c).after 8 t = iblk m c 8 t := by dsimp only [dats]
/-- Input 9 keeps its block. -/
theorem after_9 (c : Dev nD) (t : Fin cfg0.N) : (dats m 0 c).after 9 t = iblk m c 9 t := by dsimp only [dats]
/-- The prompt's buffer after a point. -/
theorem after_10 (c : Dev nD) (t : Fin cfg0.N) : (dats m 0 c).after 10 t = promptAt m c (promptPoint t) := by dsimp only [dats]
/-- The sample's buffer after the last point. -/
theorem after_11 (c : Dev nD) (t : Fin cfg0.N) : (dats m 0 c).after 11 t = sampleAt m c t := by dsimp only [dats]

/-- Input 0's buffer holds its block at every point. -/
theorem before_0 (c : Dev nD) (t : Fin cfg0.N) (d) : (dats m 0 c).before 0 t d = iblk m c 0 t :=
  before0_0_of m (dats m 0 c) (dats_A m c 0) (after_0 m c) t d
/-- Input 1's buffer holds its block at every point. -/
theorem before_1 (c : Dev nD) (t : Fin cfg0.N) (d) : (dats m 0 c).before 1 t d = iblk m c 1 t :=
  before0_1_of m (dats m 0 c) (dats_A m c 1) (after_1 m c) t d
/-- Input 2's buffer holds its block at every point. -/
theorem before_2 (c : Dev nD) (t : Fin cfg0.N) (d) : (dats m 0 c).before 2 t d = iblk m c 2 t :=
  before0_2_of m (dats m 0 c) (dats_A m c 2) (after_2 m c) t d
/-- Input 3's buffer holds its block at every point. -/
theorem before_3 (c : Dev nD) (t : Fin cfg0.N) (d) : (dats m 0 c).before 3 t d = iblk m c 3 t :=
  before0_3_of m (dats m 0 c) (dats_A m c 3) (after_3 m c) t d
/-- Input 4's buffer holds its block at every point. -/
theorem before_4 (c : Dev nD) (t : Fin cfg0.N) (d) : (dats m 0 c).before 4 t d = iblk m c 4 t :=
  before0_4_of m (dats m 0 c) (dats_A m c 4) (after_4 m c) t d
/-- Input 5's buffer holds its block at every point. -/
theorem before_5 (c : Dev nD) (t : Fin cfg0.N) (d) : (dats m 0 c).before 5 t d = iblk m c 5 t :=
  before0_5_of m (dats m 0 c) (dats_A m c 5) (after_5 m c) t d
/-- Input 6's buffer holds its block at every point. -/
theorem before_6 (c : Dev nD) (t : Fin cfg0.N) (d) : (dats m 0 c).before 6 t d = iblk m c 6 t :=
  before0_6_of m (dats m 0 c) (dats_A m c 6) (after_6 m c) t d
/-- Input 7's buffer holds its block at every point. -/
theorem before_7 (c : Dev nD) (t : Fin cfg0.N) (d) : (dats m 0 c).before 7 t d = iblk m c 7 t :=
  before0_7_of m (dats m 0 c) (dats_A m c 7) (after_7 m c) t d
/-- Input 8's buffer holds its block at every point. -/
theorem before_8 (c : Dev nD) (t : Fin cfg0.N) (d) : (dats m 0 c).before 8 t d = iblk m c 8 t :=
  before0_8_of m (dats m 0 c) (dats_A m c 8) (after_8 m c) t d
/-- Input 9's buffer holds its block at every point. -/
theorem before_9 (c : Dev nD) (t : Fin cfg0.N) (d) : (dats m 0 c).before 9 t d = iblk m c 9 t :=
  before0_9_of m (dats m 0 c) (dats_A m c 9) (after_9 m c) t d

/-! ## Which points store what -/

/-- The first branch is taken at the prompt's points. -/
theorem cond_prompt : ∀ t : Fin cfg0.N, k0_cond1 (grid0.coords t) = 1#1 ↔ t.val < 32 :=
  (by decide +kernel : ∀ t : Fin grid0.N, k0_cond1 (grid0.coords t) = 1#1 ↔ t.val < 32)

/-- The second branch is taken at the last point. -/
theorem cond_sample : ∀ t : Fin cfg0.N, k0_cond2 (grid0.coords t) = 1#1 ↔ t.val = 32 :=
  (by decide +kernel : ∀ t : Fin grid0.N, k0_cond2 (grid0.coords t) = 1#1 ↔ t.val = 32)

/-- The prompt's buffer is stored into exactly at the prompt's points. -/
theorem idle_10 (t : Fin cfg0.N) : cfg0.idle 10 (grid0.coords t) = !(decide (t.val < 32)) := by
  show (!(k0_cond1 (grid0.coords t) == 1#1)) = _
  have h := cond_prompt t
  by_cases h' : t.val < 32
  · simp [h', h.mpr h']
  · simp [h', mt h.mp h']

/-- The sample's buffer is stored into exactly at the last point. -/
theorem idle_11 (t : Fin cfg0.N) : cfg0.idle 11 (grid0.coords t) = !(decide (t.val = 32)) := by
  show (!(k0_cond2 (grid0.coords t) == 1#1)) = _
  have h := cond_sample t
  by_cases h' : t.val = 32
  · simp [h', h.mpr h']
  · simp [h', mt h.mp h']

/-- The prompt's buffer is written back after every point but the last but one, whose block stays for the last. -/
theorem flush_10 : ∀ t : Fin cfg0.N, (cfg0.win 10).flush t = true ↔ t.val ≠ 31 :=
  (by decide +kernel : ∀ t : Fin grid0.N, (cfg0.win 10).flush t = true ↔ t.val ≠ 31)

/-- The sample's buffer is written back after the last point only. -/
theorem flush_11 (t : Fin cfg0.N) : (cfg0.win 11).flush t = true ↔ t.val = 32 :=
  (flush0_11 t).trans (by have : t.val < 33 := t.isLt; omega)

/-- A point that stores into a window's buffer, or has it written back, leaves the named contents. -/
theorem leaves_live (c : Dev nD) (w : Fin cfg0.W) (t : Fin cfg0.N) (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · cases cfg0.idle w (cfg0.grid.coords t) <;> simp only [h]

/-- At the last point the prompt's buffer holds what the point before stored. -/
theorem before_10 (c : Dev nD) (t : Fin cfg0.N) (ht : t.val = 32) (d) :
    (dats m 0 c).before 10 t d = (dats m 0 c).after 10 t := by
  rw [Dat.before_of_pos _ _ _ (by omega) ((cfg0.win 10).fetch_out rfl t)]
  have hf : (cfg0.win 10).flush ⟨t.val - 1, Nat.lt_of_le_of_lt (Nat.sub_le _ _) t.isLt⟩ = false :=
    Bool.eq_false_iff.mpr fun h => (flush_10 _).mp h (by show t.val - 1 = 31; omega)
  have hi : cfg0.idle 10 (cfg0.grid.coords ⟨t.val - 1, Nat.lt_of_le_of_lt (Nat.sub_le _ _) t.isLt⟩) = false :=
    (idle_10 _).trans (by simp; omega)
  rw [hf, if_neg Bool.false_ne_true]
  unfold Dat.left
  rw [hi]
  refine Eq.trans (b := (dats m 0 c).after 10 ⟨t.val - 1, Nat.lt_of_le_of_lt (Nat.sub_le _ _) t.isLt⟩) rfl ?_
  rw [after_10, after_10]
  exact congrArg (promptAt m c) (Fin.ext (by show min (t.val - 1) 31 = min t.val 31; omega))

/-! ## The body at a point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- What the body hands back, window by window. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2400000 in
/-- The body at a prompt point. -/
theorem body_prompt (c : Dev nD) (t : Fin cfg0.N) (ht : t.val < 32) :
    bodyPre m c t ⊢ wp frame (wpE (defs₀ (F := F)) Variants.none c none) Set.univ (bodyAt0 t) (fun _ => bodyPost m c t) := by
  have h0 := (cond_prompt t).mpr ht
  have h1 : ¬k0_cond2 (grid0.coords t) = 1#1 := fun h => by have := (cond_sample t).mp h; omega
  have hp : promptPoint t = t := Fin.ext (by show min t.val 31 = t.val; omega)
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl]
  rw [leaves_live m c 0 t (.inl rfl), after_0]
  rw [leaves_live m c 1 t (.inl rfl), after_1]
  rw [leaves_live m c 2 t (.inl rfl), after_2]
  rw [leaves_live m c 3 t (.inl rfl), after_3]
  rw [leaves_live m c 4 t (.inl rfl), after_4]
  rw [leaves_live m c 5 t (.inl rfl), after_5]
  rw [leaves_live m c 6 t (.inl rfl), after_6]
  rw [leaves_live m c 7 t (.inl rfl), after_7]
  rw [leaves_live m c 8 t (.inl rfl), after_8]
  rw [leaves_live m c 9 t (.inl rfl), after_9]
  rw [leaves_live m c 10 t (.inl ((idle_10 t).trans (by simp [ht]))), after_10, hp,
    Dat.leavesExact_idle _ 11 t ((idle_11 t).trans (by simp; omega))
      (Bool.eq_false_iff.mpr fun h => by have := (flush_11 t).mp h; omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_prompt c (grid0.coords t) _ _ _ _ _ _ _ _ _ _ _ _ _ _ _ _ _ _ _ _ _ _ _ _ h0 h1 (iblk m c 0 t) (iblk m c 1 t) (iblk m c 4 t) (iblk m c 5 t) (iblk m c 6 t) (iblk m c 7 t) (iblk m c 8 t) (iblk m c 9 t) Set.univ _)
  isplitl [H0]; · iexact H0
  isplitl [H1]; · iexact H1
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists d11; iexact H11

set_option maxHeartbeats 2400000 in
/-- The body at the last point. -/
theorem body_sample (c : Dev nD) (t : Fin cfg0.N) (ht : t.val = 32) :
    bodyPre m c t ⊢ wp frame (wpE (defs₀ (F := F)) Variants.none c none) Set.univ (bodyAt0 t) (fun _ => bodyPost m c t) := by
  have h0 : ¬k0_cond1 (grid0.coords t) = 1#1 := fun h => by have := (cond_prompt t).mp h; omega
  have h1 := (cond_sample t).mpr ht
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl]
  rw [leaves_live m c 0 t (.inl rfl), after_0]
  rw [leaves_live m c 1 t (.inl rfl), after_1]
  rw [leaves_live m c 2 t (.inl rfl), after_2]
  rw [leaves_live m c 3 t (.inl rfl), after_3]
  rw [leaves_live m c 4 t (.inl rfl), after_4]
  rw [leaves_live m c 5 t (.inl rfl), after_5]
  rw [leaves_live m c 6 t (.inl rfl), after_6]
  rw [leaves_live m c 7 t (.inl rfl), after_7]
  rw [leaves_live m c 8 t (.inl rfl), after_8]
  rw [leaves_live m c 9 t (.inl rfl), after_9]
  simp only [before_10 m c t ht]
  rw [leaves_live m c 10 t (.inr ((flush_10 t).mpr (by omega))),
    leaves_live m c 11 t (.inl ((idle_11 t).trans (by simp [ht]))), after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_sample c (grid0.coords t) _ _ _ _ _ _ _ _ _ _ _ _ _ _ _ _ _ _ _ _ _ _ _ _ h0 h1 (iblk m c 2 t) (iblk m c 3 t) (iblk m c 4 t) (iblk m c 5 t) (iblk m c 6 t) (iblk m c 7 t) (iblk m c 8 t) (iblk m c 9 t) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexists _; iexact H11
  iintro ⟨H2, H3, H4, H5, H6, H7, H8, H9, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's row at a point is the body as printed. -/
theorem body_row (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, body_row]
  have ht : t.val < 33 := t.isLt
  by_cases h : t.val < 32
  · exact triple_restated (body_prompt m c t h) rfl .rfl fun _ => .rfl
  · exact triple_restated (body_sample m c t (by omega)) rfl .rfl fun _ => .rfl

/-! ## The whole program -/

set_option backward.isDefEq.respectTransparency.types false in
/-- Every run of the program ends with the windows' arrays at what the points wrote back, the other
    buffers as they were, and every semaphore at zero. -/
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The windows' arrays after every run. -/
theorem run_main : θ_run defs (onTc (τ := τ) (main (F := F))) (s₀ m ρ) (Pipeline.FramePost cfgs (dats m) 0 (V m)) :=
  (θ_run defs _ _).mono (fun _ h => h.1) (run_all m ρ)

/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (dats_A m) (run_main m ρ)

/-- Every run leaves the arguments as they were and every semaphore at zero. -/
theorem ideal_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_all m ρ))

end Cert.Ffn
-- ==== Proof.FfnSpec.lean ====
module

public import proofs.«01_k».proof.Proof.Reals
public import Idealize.ShloMosaic.Lib.Pipeline.ValueKit
public import Idealize.ShloMosaic.Lib.Pointwise

@[expose] public section

set_option maxRecDepth 16384

noncomputable section

/-! # One row of the projection, the feed-forward layer and the last norm -/

namespace Cert.Spec

open Idealize.ShloMosaic

/-- The residual row plus the mixer's row through the down projection. -/
def resid {n : ℕ} (x : Fin 1024 → EReal) (a : Fin n → EReal) (wo : Fin n → Fin 1024 → EReal) (l : Fin 1024) : EReal :=
  x l + ∑ k, a k * wo k l

/-- The reciprocal root of a row's mean square, kept off zero. -/
def rootMean (x : Fin 1024 → EReal) : EReal :=
  Ideal.rsqrt (Ideal.div (∑ k, x k * x k) (Ideal.ofBits .f32 0x44800000#32) + Ideal.ofBits .f32 0x358637BD#32)

/-- The root-mean-square norm of a row. -/
def rmsRow (x g : Fin 1024 → EReal) (l : Fin 1024) : EReal := x l * rootMean x * g l

/-- A row through a matrix of the feed-forward layer. -/
def widen (h : Fin 1024 → EReal) (w : Fin 1024 → Fin 2816 → EReal) (j : Fin 2816) : EReal := ∑ k, h k * w k j

/-- The gated hidden row, the gate `act` left open. -/
def gatedRow (act : EReal → EReal) (h : Fin 1024 → EReal) (wg wu : Fin 1024 → Fin 2816 → EReal) (j : Fin 2816) : EReal :=
  act (widen h wg j) * widen h wu j

/-- A row plus a hidden row through the last matrix. -/
def narrow (x : Fin 1024 → EReal) (t : Fin 2816 → EReal) (wd : Fin 2816 → Fin 1024 → EReal) (l : Fin 1024) : EReal :=
  x l + ∑ j, t j * wd j l

/-- The row without a last norm: projection, norm, feed-forward layer. -/
def plainRow {n : ℕ} (act : EReal → EReal) (x : Fin 1024 → EReal) (a : Fin n → EReal) (wo : Fin n → Fin 1024 → EReal)
    (g : Fin 1024 → EReal) (wg wu : Fin 1024 → Fin 2816 → EReal) (wd : Fin 2816 → Fin 1024 → EReal) : Fin 1024 → EReal :=
  narrow (resid x a wo) (gatedRow act (rmsRow (resid x a wo) g) wg wu) wd

/-- The whole row: projection, norm, feed-forward layer, last norm. -/
def ffnRow {n : ℕ} (act : EReal → EReal) (x : Fin 1024 → EReal) (a : Fin n → EReal) (wo : Fin n → Fin 1024 → EReal)
    (g : Fin 1024 → EReal) (wg wu : Fin 1024 → Fin 2816 → EReal) (wd : Fin 2816 → Fin 1024 → EReal)
    (gf : Fin 1024 → EReal) : Fin 1024 → EReal :=
  rmsRow (plainRow act x a wo g wg wu wd) gf

/-- The gate as the kernel computes it. -/
def tanhGate (z : EReal) : EReal :=
  Ideal.ofBits .f32 0x3F000000#32 * z * Ideal.tanh (Ideal.ofBits .f32 0x3F000000#32 * z) + Ideal.ofBits .f32 0x3F000000#32 * z

/-- The gate as the reference writes it. -/
def siluGate (z : EReal) : EReal := z * Ideal.logistic z

/-- The word of 1024. -/
theorem width_word : Ideal.ofBits .f32 0x44800000#32 = ((1024 : ℝ) : EReal) := by
  simp [Ideal.ofBits, Ideal.ieee]
  rw [← EReal.coe_mul]
  congr 1
  norm_num

/-- The word added to the mean square is a positive real. -/
theorem eps_word : ∃ e : ℝ, 0 < e ∧ Ideal.ofBits .f32 0x358637BD#32 = (e : EReal) := by
  simp [Ideal.ofBits, Ideal.ieee]
  refine ⟨_, ?_, (EReal.coe_mul _ _).symm⟩
  positivity

/-- A sum of squares of finite values is a real that is not negative. -/
theorem sum_squares {ι : Type} (s : Finset ι) (x : ι → EReal) (hx : ∀ k, IsReal (x k)) :
    ∃ r : ℝ, 0 ≤ r ∧ ∑ k ∈ s, x k * x k = (r : EReal) := by
  classical
  induction s using Finset.induction_on with
  | empty => exact ⟨0, le_rfl, by rw [Finset.sum_empty]; rfl⟩
  | insert a s ha ih =>
    obtain ⟨r, hr, h⟩ := ih
    obtain ⟨v, hv⟩ := hx a
    refine ⟨v * v + r, add_nonneg (mul_self_nonneg v) hr, ?_⟩
    rw [Finset.sum_insert ha, h, hv, EReal.coe_add, EReal.coe_mul]

/-- The reciprocal root of a finite row is finite. -/
theorem rootMean_real (x : Fin 1024 → EReal) (hx : ∀ k, IsReal (x k)) : IsReal (rootMean x) := by
  obtain ⟨r, hr, h⟩ := sum_squares Finset.univ x hx
  obtain ⟨e, he, h'⟩ := eps_word
  unfold rootMean
  have hp : 0 < r * 1024⁻¹ + e := by positivity
  have hs : Ideal.div (∑ k, x k * x k) (Ideal.ofBits .f32 0x44800000#32) + Ideal.ofBits .f32 0x358637BD#32 = ((r * 1024⁻¹ + e : ℝ) : EReal) := by
    rw [h, h', width_word]
    unfold Ideal.div
    rw [if_neg (by norm_num), ← EReal.coe_inv, ← EReal.coe_mul, ← EReal.coe_add]
  rw [hs]
  refine ⟨(Real.sqrt (r * 1024⁻¹ + e))⁻¹, ?_⟩
  show (if r * 1024⁻¹ + e < 0 then ⊥ else if r * 1024⁻¹ + e = 0 then ⊤ else (((Real.sqrt (r * 1024⁻¹ + e))⁻¹ : ℝ) : EReal)) = _
  rw [if_neg (not_lt.mpr hp.le), if_neg hp.ne']

/-- The residual row of finite operands is finite. -/
theorem resid_real {n : ℕ} {x : Fin 1024 → EReal} {a : Fin n → EReal} {wo : Fin n → Fin 1024 → EReal}
    (hx : ∀ l, IsReal (x l)) (ha : ∀ k, IsReal (a k)) (hw : ∀ k l, IsReal (wo k l)) (l : Fin 1024) : IsReal (resid x a wo l) :=
  (hx l).add (IsReal.sum _ fun k => (ha k).mul (hw k l))

/-- The norm of a finite row is finite. -/
theorem rmsRow_real {x g : Fin 1024 → EReal} (hx : ∀ l, IsReal (x l)) (hg : ∀ l, IsReal (g l)) (l : Fin 1024) : IsReal (rmsRow x g l) :=
  ((hx l).mul (rootMean_real x hx)).mul (hg l)

/-- A finite row through a finite matrix is finite. -/
theorem widen_real {h : Fin 1024 → EReal} {w : Fin 1024 → Fin 2816 → EReal}
    (hh : ∀ k, IsReal (h k)) (hw : ∀ k j, IsReal (w k j)) (j : Fin 2816) : IsReal (widen h w j) :=
  IsReal.sum _ fun k => (hh k).mul (hw k j)

/-- On finite operands the two gates give one row. -/
theorem plainRow_gate {n : ℕ} {x : Fin 1024 → EReal} {a : Fin n → EReal} {wo : Fin n → Fin 1024 → EReal}
    {g : Fin 1024 → EReal} {wg wu : Fin 1024 → Fin 2816 → EReal} (wd : Fin 2816 → Fin 1024 → EReal)
    (hx : ∀ l, IsReal (x l)) (ha : ∀ k, IsReal (a k)) (hw : ∀ k l, IsReal (wo k l)) (hg : ∀ l, IsReal (g l))
    (hwg : ∀ k j, IsReal (wg k j)) : plainRow tanhGate x a wo g wg wu wd = plainRow siluGate x a wo g wg wu wd := by
  have e : gatedRow tanhGate (rmsRow (resid x a wo) g) wg wu = gatedRow siluGate (rmsRow (resid x a wo) g) wg wu := by
    funext j
    unfold gatedRow tanhGate siluGate
    rw [half_gate (widen_real (rmsRow_real (resid_real hx ha hw) hg) hwg j)]
  unfold plainRow
  rw [e]

/-- On finite operands the two gates give one row, the last norm included. -/
theorem ffnRow_gate {n : ℕ} {x : Fin 1024 → EReal} {a : Fin n → EReal} {wo : Fin n → Fin 1024 → EReal}
    {g : Fin 1024 → EReal} {wg wu : Fin 1024 → Fin 2816 → EReal} (wd : Fin 2816 → Fin 1024 → EReal) (gf : Fin 1024 → EReal)
    (hx : ∀ l, IsReal (x l)) (ha : ∀ k, IsReal (a k)) (hw : ∀ k l, IsReal (wo k l)) (hg : ∀ l, IsReal (g l))
    (hwg : ∀ k j, IsReal (wg k j)) : ffnRow tanhGate x a wo g wg wu wd gf = ffnRow siluGate x a wo g wg wu wd gf :=
  congrArg (fun v => rmsRow v gf) (plainRow_gate wd hx ha hw hg hwg)

/-- Equal operands give equal rows. -/
theorem plainRow_congr {n : ℕ} {act : EReal → EReal} {x x' : Fin 1024 → EReal} {a a' : Fin n → EReal} {wo wo' : Fin n → Fin 1024 → EReal}
    {g g' : Fin 1024 → EReal} {wg wg' wu wu' : Fin 1024 → Fin 2816 → EReal} {wd wd' : Fin 2816 → Fin 1024 → EReal}
    (h1 : x = x') (h2 : a = a') (h3 : wo = wo') (h4 : g = g') (h5 : wg = wg')
    (h6 : wu = wu') (h7 : wd = wd') : plainRow act x a wo g wg wu wd = plainRow act x' a' wo' g' wg' wu' wd' := by
  subst h1 h2 h3 h4 h5 h6 h7; rfl

/-- Equal operands give equal rows, the last norm included. -/
theorem ffnRow_congr {n : ℕ} {act : EReal → EReal} {x x' : Fin 1024 → EReal} {a a' : Fin n → EReal} {wo wo' : Fin n → Fin 1024 → EReal}
    {g g' : Fin 1024 → EReal} {wg wg' wu wu' : Fin 1024 → Fin 2816 → EReal} {wd wd' : Fin 2816 → Fin 1024 → EReal}
    {gf gf' : Fin 1024 → EReal} (h1 : x = x') (h2 : a = a') (h3 : wo = wo') (h4 : g = g') (h5 : wg = wg')
    (h6 : wu = wu') (h7 : wd = wd') (h8 : gf = gf') : ffnRow act x a wo g wg wu wd gf = ffnRow act x' a' wo' g' wg' wu' wd' gf' := by
  subst h8
  exact congrArg (fun v => rmsRow v gf) (plainRow_congr h1 h2 h3 h4 h5 h6 h7)

/-- Indices with equal coordinates are equal. -/
theorem ix3_ext {a b d : ℕ} {i i' : Fin a} {j j' : Fin b} {k k' : Fin d} (hi : i.val = i'.val) (hj : j.val = j'.val)
    (hk : k.val = k'.val) : ix3 i j k = ix3 i' j' k' := by
  rw [Fin.ext hi, Fin.ext hj, Fin.ext hk]

/-- Indices with equal coordinates are equal. -/
theorem ix2_ext {a b : ℕ} {i i' : Fin a} {j j' : Fin b} (hi : i.val = i'.val) (hj : j.val = j'.val) : ix2 i j = ix2 i' j' := by
  rw [Fin.ext hi, Fin.ext hj]

end Cert.Spec

end
-- ==== Proof.FfnFeed.lean ====
module

public import proofs.«01_k».proof.Proof.Gen.Kernel2Ideal.Frame
public import proofs.«01_k».proof.Proof.FfnSpec
public import Idealize.ShloMosaic.Lib.Pipeline.ValueKit
public import Idealize.ShloMosaic.Lib.Pointwise

@[expose] public section

set_option maxRecDepth 16384

noncomputable section

/-! # What the second kernel's windows feed the body, from the launch memory -/

namespace Cert.Ffn

open Cert.Kernel2Ideal Cert.Kernel2Ideal.Gen Cert.Spec
open Idealize.ShloMosaic Idealize.ShloMosaic.TcCoe Idealize.SL.Sem
open Idealize.ShloMosaic.Pipeline (Dat)

variable (m : (ℓ : Loc nD τ sig) → Buf (Elt Ideal) ℓ)

/-- Where every window sits at point `t`. -/
theorem spot : ∀ t : Fin cfg0.N, win0_0.index t = ![min t.val 31, 0] ∧ win0_1.index t = ![min t.val 31, 0] ∧ win0_2.index t = ![0, 0]
    ∧ win0_3.index t = ![0, 0] ∧ win0_4.index t = ![0, 0] ∧ win0_5.index t = ![0, 0]
    ∧ win0_6.index t = ![1, 0, 0] ∧ win0_7.index t = ![1, 0, 0] ∧ win0_8.index t = ![1, 0, 0] ∧ win0_9.index t = ![0, 0]
    ∧ win0_10.index t = ![min t.val 31, 0] ∧ win0_11.index t = ![0, 0] ∧ t.val < 33 :=
  (by decide +kernel : ∀ t : Fin grid0.N, _)

variable (c : Dev nD) (t : Fin cfg0.N)

/-- The prompt's rows, at the block `n` the point reads. -/
theorem feed0 (n : Fin 32) (hn : n.val = min t.val 31) (r : Fin 512) (l : Fin 1024) : iblk m c 0 t (ix2 r l)
    = m (c, Proc.tc.devRef main_arg0) (ix3 ⟨n.val / 8, by omega⟩ ⟨n.val % 8 * 512 + r.val, by omega⟩ l) := by
  have h0 : win0_0.index t = ![n.val, 0] := by rw [hn]; exact (spot t).1
  blk_simp [iblk, h0]
  simp only [V, List.flatten_cons, List.flatten_nil, List.append_nil, List.cons_append, List.nil_append, hostOps0]
  after_results
  try simp only [StableHlo.TRef.toBuf, StableHlo.TRef.ofBuf, cast_cast, cast_eq]
  have e0 : (((View.whole main_v0).slice (win0_0.rect t)).emb (ix2 r l) 0).val = n.val * 512 + r.val := by blk_simp [h0]
  have e1 : (((View.whole main_v0).slice (win0_0.rect t)).emb (ix2 r l) 1).val = l.val := by blk_simp [h0]
  pointwise
  refine congrArg (m (c, Proc.tc.devRef main_arg0)) (ix3_ext ?_ ?_ ?_)
  · dsimp only
    rw [e0]
    omega
  · dsimp only
    rw [e0]
    omega
  · exact e1

/-- The mixer's rows of the prompt, at the block `n` the point reads. -/
theorem feed1 (n : Fin 32) (hn : n.val = min t.val 31) (r : Fin 512) (k : Fin 2048) : iblk m c 1 t (ix2 r k)
    = m (c, Proc.tc.devRef main_arg1) (ix2 ⟨n.val * 512 + r.val, by omega⟩ k) := by
  have h0 : win0_1.index t = ![n.val, 0] := by rw [hn]; exact (spot t).2.1
  have e0 : ((win0_1.blk t).view.emb (ix2 r k) 0).val = n.val * 512 + r.val := by blk_simp [h0]
  have e1 : ((win0_1.blk t).view.emb (ix2 r k) 1).val = k.val := by blk_simp [h0]
  have e : (win0_1.blk t).view.emb (ix2 r k) = ix2 ⟨n.val * 512 + r.val, by omega⟩ k := by
    rw [eq_ix2 ((win0_1.blk t).view.emb (ix2 r k))]
    exact ix2_ext e0 e1
  blk_simp [iblk, h0]
  simp only [V, List.flatten_cons, List.flatten_nil, List.append_nil, List.cons_append, List.nil_append, hostOps0]
  after_results
  exact congrArg (m (c, Proc.tc.devRef main_arg1)) e

/-- The sample's rows. -/
theorem feed2 (r : Fin 512) (l : Fin 1024) : iblk m c 2 t (ix2 r l)
    = m (c, Proc.tc.devRef main_arg2) (ix3 ⟨r.val / 16, by omega⟩ ⟨r.val % 16, by omega⟩ l) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

/-- The mixer's rows of the sample. -/
theorem feed3 (r : Fin 512) (k : Fin 2048) : iblk m c 3 t (ix2 r k)
    = m (c, Proc.tc.devRef main_arg3) (ix2 r k) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  rw [eq_ix2 ((win0_3.blk t).view.emb (ix2 r k))]
  congr 1; congr 1 <;> apply Fin.ext <;> blk_simp [spot t]

/-- The down projection. -/
theorem feed4 (k : Fin 2048) (l : Fin 1024) : iblk m c 4 t (ix2 k l)
    = m (c, Proc.tc.devRef main_arg4) (ix3 0 k l) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

/-- The norm's weights. -/
theorem feed5 (l : Fin 1024) : iblk m c 5 t (ix2 0 l)
    = m (c, Proc.tc.devRef main_arg5) (ix2 1 l) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

/-- The gate's matrix. -/
theorem feed6 (k : Fin 1024) (j : Fin 2816) : iblk m c 6 t (ix3 0 k j)
    = m (c, Proc.tc.devRef main_arg6) (ix3 1 k j) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  rw [eq_ix3 ((win0_6.blk t).view.emb (ix3 0 k j))]
  congr 1; congr 1 <;> apply Fin.ext <;> blk_simp [spot t]

/-- The other matrix. -/
theorem feed7 (k : Fin 1024) (j : Fin 2816) : iblk m c 7 t (ix3 0 k j)
    = m (c, Proc.tc.devRef main_arg7) (ix3 1 k j) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  rw [eq_ix3 ((win0_7.blk t).view.emb (ix3 0 k j))]
  congr 1; congr 1 <;> apply Fin.ext <;> blk_simp [spot t]

/-- The last matrix. -/
theorem feed8 (j : Fin 2816) (l : Fin 1024) : iblk m c 8 t (ix3 0 j l)
    = m (c, Proc.tc.devRef main_arg8) (ix3 1 j l) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  rw [eq_ix3 ((win0_8.blk t).view.emb (ix3 0 j l))]
  congr 1; congr 1 <;> apply Fin.ext <;> blk_simp [spot t]

/-- The last norm's weights. -/
theorem feed9 (l : Fin 1024) : iblk m c 9 t (ix2 0 l)
    = m (c, Proc.tc.devRef main_arg9) (ix1 l) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

end Cert.Ffn

end
-- ==== Proof.FfnKernel.lean ====
module

public import proofs.«01_k».proof.Proof.FfnRun
public import proofs.«01_k».proof.Proof.FfnSpec
public import Idealize.ShloMosaic.Lib.Pipeline.ValueKit
public import Idealize.ShloMosaic.Lib.Pointwise

@[expose] public section

set_option maxRecDepth 16384

noncomputable section

/-! # What the second kernel's body stores, row by row -/

namespace Cert.Ffn

open Cert.Kernel2Ideal Cert.Kernel2Ideal.Gen Cert.Spec
open Idealize.ShloMosaic Idealize.ShloMosaic.TcCoe Idealize.SL.Sem

variable (x : Vec Ideal S512x1024 .f32) (mx : Vec Ideal S512x2048 .bf16) (wo : Vec Ideal S2048x1024 .bf16)
    (g : Vec Ideal S1x1024 .f32) (wg wu : Vec Ideal S1x1024x2816 .bf16) (wd : Vec Ideal S1x2816x1024 .bf16)
    (gf : Vec Ideal S1x1024 .f32)

/-- The residual of row `r`. -/
theorem pay3_at (r : Fin 512) (l : Fin 1024) : k0_pay3 x mx wo (ix2 r l)
    = resid (fun l => x (ix2 r l)) (fun k => mx (ix2 r k)) (fun k l => wo (ix2 k l)) l := by
  unfold resid
  pointwise [k0_pay3]

/-- The gated row `r`. -/
theorem pay4_at (r : Fin 512) (j : Fin 2816) : k0_pay4 x mx wo g wg wu (ix2 r j)
    = gatedRow tanhGate (rmsRow (fun l => k0_pay3 x mx wo (ix2 r l)) (fun l => g (ix2 0 l)))
        (fun k j => wg (ix3 0 k j)) (fun k j => wu (ix3 0 k j)) j := by
  unfold gatedRow tanhGate widen rmsRow rootMean
  pointwise [k0_pay4]

/-- The stored row `r`, from its residual and its gated row. -/
theorem pay1_at (v : FVec Ideal S512x1024 .f32) (t : FVec Ideal S512x2816 .bf16) (r : Fin 512) (l : Fin 1024) :
    k0_pay1 v t wd gf (ix2 r l)
    = rmsRow (narrow (fun l => v (ix2 r l)) (fun j => t (ix2 r j)) (fun j l => wd (ix3 0 j l))) (fun l => gf (ix2 0 l)) l := by
  unfold rmsRow rootMean narrow
  pointwise [k0_pay1]

/-- The stored row `r` is the whole row, with the kernel's gate. -/
theorem stored_at (r : Fin 512) (l : Fin 1024) : stored x mx wo g wg wu wd gf (ix2 r l)
    = ffnRow tanhGate (fun l => x (ix2 r l)) (fun k => mx (ix2 r k)) (fun k l => wo (ix2 k l)) (fun l => g (ix2 0 l))
        (fun k j => wg (ix3 0 k j)) (fun k j => wu (ix3 0 k j)) (fun j l => wd (ix3 0 j l)) (fun l => gf (ix2 0 l)) l := by
  have e3 : (fun l => k0_pay3 x mx wo (ix2 r l)) = resid (fun l => x (ix2 r l)) (fun k => mx (ix2 r k)) (fun k l => wo (ix2 k l)) :=
    funext fun l => pay3_at x mx wo r l
  have e4 : (fun j => k0_pay4 x mx wo g wg wu (ix2 r j)) = _ := funext fun j => pay4_at x mx wo g wg wu r j
  refine (pay1_at wd gf _ _ r l).trans ?_
  rw [e4, e3]
  rfl

end Cert.Ffn

end
-- ==== Proof.FfnRef.lean ====
module

public import proofs.«01_k».proof.Proof.Gen.Reference2Ideal.Read
public import proofs.«01_k».proof.Proof.FfnSpec
public import Idealize.ShloMosaic.Lib.Pointwise

@[expose] public section

set_option maxRecDepth 16384

noncomputable section

/-! # The second reference, row by row -/

namespace Cert.Ffn.Ref

open Cert.Reference2Ideal Cert.Reference2Ideal.Gen Cert.Reference2Ideal.Read Cert.Spec
open Idealize.ShloMosaic Idealize.ShloMosaic.TcCoe Idealize.SL.Sem

variable (x0 : FVec Ideal S4x4096x1024 .f32) (x1 : FVec Ideal S16384x2048 .bf16) (x2 : FVec Ideal S32x16x1024 .f32)
  (x3 : FVec Ideal S512x2048 .bf16) (x4 : FVec Ideal S1x2048x1024 .f32) (x5 : FVec Ideal S2x1024 .f32)
  (x6 x7 : FVec Ideal S2x1024x2816 .f32) (x8 : FVec Ideal S2x2816x1024 .f32) (x9 : FVec Ideal S1024 .f32)

/-- The residual of a row of the prompt. -/
theorem prompt_resid (b : Fin 4) (s : Fin 4096) (l : Fin 1024) : val_main_v4 (F := Ideal) x0 x1 x4 (ix3 b s l)
    = resid (fun l => x0 (ix3 b s l)) (fun k => x1 (ix2 ⟨b.val * 4096 + s.val, by omega⟩ k)) (fun k l => x4 (ix3 0 k l)) l := by
  unfold resid
  pointwise [val_main_v4, val_main_v3, val_main_v2, val_main_v1, val_main_v0]

/-- The norm of a row of the prompt. -/
theorem prompt_norm (b : Fin 4) (s : Fin 4096) (l : Fin 1024) : val_main_v19 (F := Ideal) x0 x1 x4 x5 (ix3 b s l)
    = rmsRow (fun l => val_main_v4 (F := Ideal) x0 x1 x4 (ix3 b s l)) (fun l => x5 (ix2 1 l)) l := by
  unfold rmsRow rootMean
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]

/-- The gate's operand of a row of the prompt. -/
theorem prompt_widen (b : Fin 4) (s : Fin 4096) (j : Fin 2816) : val_main_v22 (F := Ideal) x0 x1 x4 x5 x6 (ix3 b s j)
    = widen (fun l => val_main_v19 (F := Ideal) x0 x1 x4 x5 (ix3 b s l)) (fun k j => x6 (ix3 1 k j)) j := by
  unfold widen
  pointwise [val_main_v22, val_main_v21, val_main_v20]

/-- The other operand of a row of the prompt. -/
theorem prompt_up (b : Fin 4) (s : Fin 4096) (j : Fin 2816) : val_main_v26 (F := Ideal) x0 x1 x4 x5 x7 (ix3 b s j)
    = widen (fun l => val_main_v19 (F := Ideal) x0 x1 x4 x5 (ix3 b s l)) (fun k j => x7 (ix3 1 k j)) j := by
  unfold widen
  pointwise [val_main_v26, val_main_v25, val_main_v24]

/-- The gated row of the prompt. -/
theorem prompt_gated (b : Fin 4) (s : Fin 4096) (j : Fin 2816) : val_main_v27 (F := Ideal) x0 x1 x4 x5 x6 x7 (ix3 b s j)
    = siluGate (val_main_v22 (F := Ideal) x0 x1 x4 x5 x6 (ix3 b s j)) * val_main_v26 (F := Ideal) x0 x1 x4 x5 x7 (ix3 b s j) := by
  unfold siluGate Ideal.logistic
  pointwise [val_main_v27, val_main_v23, val_main_call0_v5, val_main_call0_v4, val_main_call0_v3, val_main_call0_v2, val_main_call0_v1, val_main_call0_v0, val_main_call0_cst, val_main_call0_cst_0]

/-- The second residual of a row of the prompt. -/
theorem prompt_narrow (b : Fin 4) (s : Fin 4096) (l : Fin 1024) : val_main_v31 (F := Ideal) x0 x1 x4 x5 x6 x7 x8 (ix3 b s l)
    = narrow (fun l => val_main_v4 (F := Ideal) x0 x1 x4 (ix3 b s l)) (fun j => val_main_v27 (F := Ideal) x0 x1 x4 x5 x6 x7 (ix3 b s j))
        (fun j l => x8 (ix3 1 j l)) l := by
  unfold narrow
  pointwise [val_main_v31, val_main_v30, val_main_v29, val_main_v28]

/-- The last norm of a row of the prompt. -/
theorem prompt_last (b : Fin 4) (s : Fin 4096) (l : Fin 1024) : val_main_v44 (F := Ideal) x0 x1 x4 x5 x6 x7 x8 x9 (ix3 b s l)
    = rmsRow (fun l => val_main_v31 (F := Ideal) x0 x1 x4 x5 x6 x7 x8 (ix3 b s l)) (fun l => x9 (ix1 l)) l := by
  unfold rmsRow rootMean
  pointwise [val_main_v44, val_main_v43, val_main_v42, val_main_v41, val_main_v40, val_main_v39, val_main_v38, val_main_v37, val_main_v36, val_main_v35, val_main_v34, val_main_v33, val_main_v32, val_main_cst_2, val_main_cst_3, val_main_cst_4]

/-- A result row of the prompt is the whole row, with the reference's gate. -/
theorem prompt_row (b : Fin 4) (s : Fin 4096) (l : Fin 1024) : val_main_v44 (F := Ideal) x0 x1 x4 x5 x6 x7 x8 x9 (ix3 b s l)
    = ffnRow siluGate (fun l => x0 (ix3 b s l)) (fun k => x1 (ix2 ⟨b.val * 4096 + s.val, by omega⟩ k)) (fun k l => x4 (ix3 0 k l)) (fun l => x5 (ix2 1 l))
        (fun k j => x6 (ix3 1 k j)) (fun k j => x7 (ix3 1 k j)) (fun j l => x8 (ix3 1 j l)) (fun l => x9 (ix1 l)) l := by
  have e4 := funext fun l => prompt_resid x0 x1 x4 b s l
  have e19 := funext fun l => prompt_norm x0 x1 x4 x5 b s l
  have e27 : (fun j => val_main_v27 (F := Ideal) x0 x1 x4 x5 x6 x7 (ix3 b s j))
      = gatedRow siluGate (fun l => val_main_v19 (F := Ideal) x0 x1 x4 x5 (ix3 b s l)) (fun k j => x6 (ix3 1 k j)) (fun k j => x7 (ix3 1 k j)) := by
    funext j
    rw [prompt_gated, prompt_widen, prompt_up]
    rfl
  have e31 := funext fun l => prompt_narrow x0 x1 x4 x5 x6 x7 x8 b s l
  rw [prompt_last, e31, e27, e19, e4]
  rfl

/-- The prompt's result, a row at a time. -/
theorem prompt_result (b : Fin 4) (s : Fin 4096) (l : Fin 1024) :
    val_main_v45 (F := Ideal) x0 x1 x4 x5 x6 x7 x8 x9 (ix2 ⟨b.val * 4096 + s.val, by omega⟩ l)
    = val_main_v44 (F := Ideal) x0 x1 x4 x5 x6 x7 x8 x9 (ix3 b s l) := by
  pointwise [val_main_v45]

/-- The residual of a row of the sample. -/
theorem sample_resid (b : Fin 32) (s : Fin 16) (l : Fin 1024) : val_main_v50 (F := Ideal) x2 x3 x4 (ix3 b s l)
    = resid (fun l => x2 (ix3 b s l)) (fun k => x3 (ix2 ⟨b.val * 16 + s.val, by omega⟩ k)) (fun k l => x4 (ix3 0 k l)) l := by
  unfold resid
  pointwise [val_main_v50, val_main_v49, val_main_v48, val_main_v47, val_main_v46]

/-- The norm of a row of the sample. -/
theorem sample_norm (b : Fin 32) (s : Fin 16) (l : Fin 1024) : val_main_v65 (F := Ideal) x2 x3 x4 x5 (ix3 b s l)
    = rmsRow (fun l => val_main_v50 (F := Ideal) x2 x3 x4 (ix3 b s l)) (fun l => x5 (ix2 1 l)) l := by
  unfold rmsRow rootMean
  pointwise [val_main_v65, val_main_v64, val_main_v63, val_main_v62, val_main_v61, val_main_v60, val_main_v59, val_main_v58, val_main_v57, val_main_v56, val_main_v55, val_main_v54, val_main_v53, val_main_v52, val_main_v51, val_main_cst_5, val_main_cst_6, val_main_cst_7]

/-- The gate's operand of a row of the sample. -/
theorem sample_widen (b : Fin 32) (s : Fin 16) (j : Fin 2816) : val_main_v68 (F := Ideal) x2 x3 x4 x5 x6 (ix3 b s j)
    = widen (fun l => val_main_v65 (F := Ideal) x2 x3 x4 x5 (ix3 b s l)) (fun k j => x6 (ix3 1 k j)) j := by
  unfold widen
  pointwise [val_main_v68, val_main_v67, val_main_v66]

/-- The other operand of a row of the sample. -/
theorem sample_up (b : Fin 32) (s : Fin 16) (j : Fin 2816) : val_main_v72 (F := Ideal) x2 x3 x4 x5 x7 (ix3 b s j)
    = widen (fun l => val_main_v65 (F := Ideal) x2 x3 x4 x5 (ix3 b s l)) (fun k j => x7 (ix3 1 k j)) j := by
  unfold widen
  pointwise [val_main_v72, val_main_v71, val_main_v70]

/-- The gated row of the sample. -/
theorem sample_gated (b : Fin 32) (s : Fin 16) (j : Fin 2816) : val_main_v73 (F := Ideal) x2 x3 x4 x5 x6 x7 (ix3 b s j)
    = siluGate (val_main_v68 (F := Ideal) x2 x3 x4 x5 x6 (ix3 b s j)) * val_main_v72 (F := Ideal) x2 x3 x4 x5 x7 (ix3 b s j) := by
  unfold siluGate Ideal.logistic
  pointwise [val_main_v73, val_main_v69, val_main_call1_v5, val_main_call1_v4, val_main_call1_v3, val_main_call1_v2, val_main_call1_v1, val_main_call1_v0, val_main_call1_cst, val_main_call1_cst_0]

/-- The second residual of a row of the sample. -/
theorem sample_narrow (b : Fin 32) (s : Fin 16) (l : Fin 1024) : val_main_v77 (F := Ideal) x2 x3 x4 x5 x6 x7 x8 (ix3 b s l)
    = narrow (fun l => val_main_v50 (F := Ideal) x2 x3 x4 (ix3 b s l)) (fun j => val_main_v73 (F := Ideal) x2 x3 x4 x5 x6 x7 (ix3 b s j))
        (fun j l => x8 (ix3 1 j l)) l := by
  unfold narrow
  pointwise [val_main_v77, val_main_v76, val_main_v75, val_main_v74]

/-- The last norm of a row of the sample. -/
theorem sample_last (b : Fin 32) (s : Fin 16) (l : Fin 1024) : val_main_v90 (F := Ideal) x2 x3 x4 x5 x6 x7 x8 x9 (ix3 b s l)
    = rmsRow (fun l => val_main_v77 (F := Ideal) x2 x3 x4 x5 x6 x7 x8 (ix3 b s l)) (fun l => x9 (ix1 l)) l := by
  unfold rmsRow rootMean
  pointwise [val_main_v90, val_main_v89, val_main_v88, val_main_v87, val_main_v86, val_main_v85, val_main_v84, val_main_v83, val_main_v82, val_main_v81, val_main_v80, val_main_v79, val_main_v78, val_main_cst_8, val_main_cst_9, val_main_cst_10]

/-- A result row of the sample is the whole row, with the reference's gate. -/
theorem sample_row (b : Fin 32) (s : Fin 16) (l : Fin 1024) : val_main_v90 (F := Ideal) x2 x3 x4 x5 x6 x7 x8 x9 (ix3 b s l)
    = ffnRow siluGate (fun l => x2 (ix3 b s l)) (fun k => x3 (ix2 ⟨b.val * 16 + s.val, by omega⟩ k)) (fun k l => x4 (ix3 0 k l)) (fun l => x5 (ix2 1 l))
        (fun k j => x6 (ix3 1 k j)) (fun k j => x7 (ix3 1 k j)) (fun j l => x8 (ix3 1 j l)) (fun l => x9 (ix1 l)) l := by
  have e4 := funext fun l => sample_resid x2 x3 x4 b s l
  have e19 := funext fun l => sample_norm x2 x3 x4 x5 b s l
  have e27 : (fun j => val_main_v73 (F := Ideal) x2 x3 x4 x5 x6 x7 (ix3 b s j))
      = gatedRow siluGate (fun l => val_main_v65 (F := Ideal) x2 x3 x4 x5 (ix3 b s l)) (fun k j => x6 (ix3 1 k j)) (fun k j => x7 (ix3 1 k j)) := by
    funext j
    rw [sample_gated, sample_widen, sample_up]
    rfl
  have e31 := funext fun l => sample_narrow x2 x3 x4 x5 x6 x7 x8 b s l
  rw [sample_last, e31, e27, e19, e4]
  rfl

/-- The sample's result, a row at a time. -/
theorem sample_result (b : Fin 32) (s : Fin 16) (l : Fin 1024) :
    val_main_v91 (F := Ideal) x2 x3 x4 x5 x6 x7 x8 x9 (ix2 ⟨b.val * 16 + s.val, by omega⟩ l)
    = val_main_v90 (F := Ideal) x2 x3 x4 x5 x6 x7 x8 x9 (ix3 b s l) := by
  pointwise [val_main_v91]

end Cert.Ffn.Ref

end
-- ==== Proof.FfnBridge.lean ====
module

public import proofs.«01_k».proof.Proof.FfnBody
public import proofs.«01_k».proof.Proof.FfnFeed
public import proofs.«01_k».proof.Proof.FfnKernel
public import proofs.«01_k».proof.Proof.FfnRef

@[expose] public section

set_option maxRecDepth 16384

noncomputable section

/-! # The second kernel's stored results are the second reference's -/

namespace Cert.Ffn

open Cert.Kernel2Ideal Cert.Kernel2Ideal.Gen Cert.Spec
open Idealize.ShloMosaic Idealize.ShloMosaic.TcCoe Idealize.SL.Sem
open Idealize.ShloMosaic.Pipeline (Dat)
open Cert.Reference2Ideal.Read

variable (m : (ℓ : Loc nD τ sig) → Buf (Elt Ideal) ℓ) (c : Dev nD)

/-- The operands the gate's argument is computed from hold real entries only. -/
structure Finite : Prop where
  /-- Operand 0. -/
  h0 : ∀ i : S4x4096x1024.Idx, IsReal (m (c, Proc.tc.devRef main_arg0) i)
  /-- Operand 1. -/
  h1 : ∀ i : S16384x2048.Idx, IsReal (m (c, Proc.tc.devRef main_arg1) i)
  /-- Operand 2. -/
  h2 : ∀ i : S32x16x1024.Idx, IsReal (m (c, Proc.tc.devRef main_arg2) i)
  /-- Operand 3. -/
  h3 : ∀ i : S512x2048.Idx, IsReal (m (c, Proc.tc.devRef main_arg3) i)
  /-- Operand 4. -/
  h4 : ∀ i : S1x2048x1024.Idx, IsReal (m (c, Proc.tc.devRef main_arg4) i)
  /-- Operand 5. -/
  h5 : ∀ i : S2x1024.Idx, IsReal (m (c, Proc.tc.devRef main_arg5) i)
  /-- Operand 6. -/
  h6 : ∀ i : S2x1024x2816.Idx, IsReal (m (c, Proc.tc.devRef main_arg6) i)

/-- What the kernel stores in a row of the prompt's block `n`. -/
theorem prompt_stored (t : Fin cfg0.N) (n : Fin 32) (hn : n.val = min t.val 31) (r : Fin 512) (l : Fin 1024) :
    promptAt m c t (ix2 r l) = ffnRow tanhGate (fun l => m (c, Proc.tc.devRef main_arg0) (ix3 ⟨n.val / 8, by omega⟩ ⟨n.val % 8 * 512 + r.val, by omega⟩ l)) (fun k => m (c, Proc.tc.devRef main_arg1) (ix2 ⟨n.val * 512 + r.val, by omega⟩ k))
        (fun k l => m (c, Proc.tc.devRef main_arg4) (ix3 0 k l)) (fun l => m (c, Proc.tc.devRef main_arg5) (ix2 1 l))
        (fun k j => m (c, Proc.tc.devRef main_arg6) (ix3 1 k j)) (fun k j => m (c, Proc.tc.devRef main_arg7) (ix3 1 k j))
        (fun j l => m (c, Proc.tc.devRef main_arg8) (ix3 1 j l)) (fun l => m (c, Proc.tc.devRef main_arg9) (ix1 l)) l := by
  refine (stored_at (iblk m c 0 t) (iblk m c 1 t) (iblk m c 4 t) (iblk m c 5 t) (iblk m c 6 t) (iblk m c 7 t) (iblk m c 8 t) (iblk m c 9 t) r l).trans ?_
  exact congrFun (ffnRow_congr (funext fun l => feed0 m c t n hn r l) (funext fun k => feed1 m c t n hn r k)
    (funext fun k => funext fun l => feed4 m c t k l) (funext fun l => feed5 m c t l) (funext fun k => funext fun j => feed6 m c t k j) (funext fun k => funext fun j => feed7 m c t k j) (funext fun j => funext fun l => feed8 m c t j l) (funext fun l => feed9 m c t l)) l

/-- What the kernel stores in a row of the sample. -/
theorem sample_stored (t : Fin cfg0.N) (r : Fin 512) (l : Fin 1024) :
    sampleAt m c t (ix2 r l) = ffnRow tanhGate (fun l => m (c, Proc.tc.devRef main_arg2) (ix3 ⟨r.val / 16, by omega⟩ ⟨r.val % 16, by omega⟩ l)) (fun k => m (c, Proc.tc.devRef main_arg3) (ix2 r k))
        (fun k l => m (c, Proc.tc.devRef main_arg4) (ix3 0 k l)) (fun l => m (c, Proc.tc.devRef main_arg5) (ix2 1 l))
        (fun k j => m (c, Proc.tc.devRef main_arg6) (ix3 1 k j)) (fun k j => m (c, Proc.tc.devRef main_arg7) (ix3 1 k j))
        (fun j l => m (c, Proc.tc.devRef main_arg8) (ix3 1 j l)) (fun l => m (c, Proc.tc.devRef main_arg9) (ix1 l)) l := by
  refine (stored_at (iblk m c 2 t) (iblk m c 3 t) (iblk m c 4 t) (iblk m c 5 t) (iblk m c 6 t) (iblk m c 7 t) (iblk m c 8 t) (iblk m c 9 t) r l).trans ?_
  exact congrFun (ffnRow_congr (funext fun l => feed2 m c t r l) (funext fun k => feed3 m c t r k)
    (funext fun k => funext fun l => feed4 m c t k l) (funext fun l => feed5 m c t l) (funext fun k => funext fun j => feed6 m c t k j) (funext fun k => funext fun j => feed7 m c t k j) (funext fun j => funext fun l => feed8 m c t j l) (funext fun l => feed9 m c t l)) l

/-- The reference's prompt result, on finite operands, with the kernel's gate: row `r` of block `n`. -/
theorem prompt_target (hA : Finite m c) (n : Fin 32) (r : Fin 512) (l : Fin 1024) :
    val_main_v45 (F := Ideal) (m (c, Proc.tc.devRef main_arg0)) (m (c, Proc.tc.devRef main_arg1)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (ix2 ⟨n.val * 512 + r.val, by omega⟩ l)
    = ffnRow tanhGate (fun l => m (c, Proc.tc.devRef main_arg0) (ix3 ⟨n.val / 8, by omega⟩ ⟨n.val % 8 * 512 + r.val, by omega⟩ l)) (fun k => m (c, Proc.tc.devRef main_arg1) (ix2 ⟨n.val * 512 + r.val, by omega⟩ k))
        (fun k l => m (c, Proc.tc.devRef main_arg4) (ix3 0 k l)) (fun l => m (c, Proc.tc.devRef main_arg5) (ix2 1 l))
        (fun k j => m (c, Proc.tc.devRef main_arg6) (ix3 1 k j)) (fun k j => m (c, Proc.tc.devRef main_arg7) (ix3 1 k j))
        (fun j l => m (c, Proc.tc.devRef main_arg8) (ix3 1 j l)) (fun l => m (c, Proc.tc.devRef main_arg9) (ix1 l)) l := by
  have hi : (ix2 ⟨n.val * 512 + r.val, by omega⟩ l : Cert.Reference2Ideal.S16384x1024.Idx)
      = ix2 ⟨(⟨n.val / 8, by omega⟩ : Fin 4).val * 4096 + (⟨n.val % 8 * 512 + r.val, by omega⟩ : Fin 4096).val, by dsimp only; omega⟩ l :=
    ix2_ext (by dsimp only; omega) rfl
  have hk : ∀ k : Fin 2048, (ix2 ⟨(⟨n.val / 8, by omega⟩ : Fin 4).val * 4096 + (⟨n.val % 8 * 512 + r.val, by omega⟩ : Fin 4096).val, by dsimp only; omega⟩ k : Cert.Reference2Ideal.S16384x2048.Idx)
      = ix2 ⟨n.val * 512 + r.val, by omega⟩ k := fun k => ix2_ext (by dsimp only; omega) rfl
  rw [hi, Ref.prompt_result, Ref.prompt_row]
  refine congrFun ((ffnRow_congr rfl (funext fun k => congrArg _ (hk k)) rfl rfl rfl rfl rfl rfl).trans (ffnRow_gate _ _ ?_ ?_ ?_ ?_ ?_).symm) l
  · exact fun _ => hA.h0 _
  · exact fun _ => hA.h1 _
  · exact fun _ _ => hA.h4 _
  · exact fun _ => hA.h5 _
  · exact fun _ _ => hA.h6 _

/-- The reference's sample result, on finite operands, with the kernel's gate. -/
theorem sample_target (hA : Finite m c) (r : Fin 512) (l : Fin 1024) :
    val_main_v91 (F := Ideal) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (ix2 r l)
    = ffnRow tanhGate (fun l => m (c, Proc.tc.devRef main_arg2) (ix3 ⟨r.val / 16, by omega⟩ ⟨r.val % 16, by omega⟩ l)) (fun k => m (c, Proc.tc.devRef main_arg3) (ix2 r k))
        (fun k l => m (c, Proc.tc.devRef main_arg4) (ix3 0 k l)) (fun l => m (c, Proc.tc.devRef main_arg5) (ix2 1 l))
        (fun k j => m (c, Proc.tc.devRef main_arg6) (ix3 1 k j)) (fun k j => m (c, Proc.tc.devRef main_arg7) (ix3 1 k j))
        (fun j l => m (c, Proc.tc.devRef main_arg8) (ix3 1 j l)) (fun l => m (c, Proc.tc.devRef main_arg9) (ix1 l)) l := by
  have hi : (ix2 r l : Cert.Reference2Ideal.S512x1024.Idx)
      = ix2 ⟨(⟨r.val / 16, by omega⟩ : Fin 32).val * 16 + (⟨r.val % 16, by omega⟩ : Fin 16).val, by dsimp only; omega⟩ l :=
    ix2_ext (by dsimp only; omega) rfl
  have hk : ∀ k : Fin 2048, (ix2 ⟨(⟨r.val / 16, by omega⟩ : Fin 32).val * 16 + (⟨r.val % 16, by omega⟩ : Fin 16).val, by dsimp only; omega⟩ k : Cert.Reference2Ideal.S512x2048.Idx)
      = ix2 r k := fun k => ix2_ext (by dsimp only; omega) rfl
  rw [hi, Ref.sample_result, Ref.sample_row]
  refine congrFun ((ffnRow_congr rfl (funext fun k => congrArg _ (hk k)) rfl rfl rfl rfl rfl rfl).trans (ffnRow_gate _ _ ?_ ?_ ?_ ?_ ?_).symm) l
  · exact fun _ => hA.h2 _
  · exact fun _ => hA.h3 _
  · exact fun _ _ => hA.h4 _
  · exact fun _ => hA.h5 _
  · exact fun _ _ => hA.h6 _

/-- The prompt's array ends at the reference's result. -/
theorem final10 (hA : Finite m c) : (dats m 0 c).arrAt 10 (cfgs 0).N = val_main_v45 (F := Ideal) (m (c, Proc.tc.devRef main_arg0)) (m (c, Proc.tc.devRef main_arg1)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) := by
  refine (dats m 0 c).arrAt_eq_of_covers 10 _ (by decide +kernel) fun t _ y => ?_
  obtain ⟨n, hn⟩ : ∃ n : Fin 32, n.val = min t.val 31 := ⟨⟨min t.val 31, by omega⟩, rfl⟩
  have h0 : win0_10.index t = ![n.val, 0] := by rw [hn]; exact (spot t).2.2.2.2.2.2.2.2.2.2.1
  have e0 : ((win0_10.blk t).view.emb y 0).val = n.val * 512 + (y 0).val := by blk_simp [h0]
  have e1 : ((win0_10.blk t).view.emb y 1).val = (y 1).val := by blk_simp [h0]
  have e : (win0_10.blk t).view.emb y = ix2 ⟨n.val * 512 + (y 0).val, by have : (y 0).val < 512 := (y 0).isLt; omega⟩ (y 1) := by
    rw [eq_ix2 ((win0_10.blk t).view.emb y)]
    exact ix2_ext e0 e1
  blk_simp
  rw [after_10]
  refine (congrArg (promptAt m c (promptPoint t)) (eq_ix2 y)).trans ?_
  refine (prompt_stored m c (promptPoint t) n (by simp [promptPoint, hn]) (y 0) (y 1)).trans ?_
  exact ((congrArg _ e).trans (prompt_target m c hA n (y 0) (y 1))).symm

/-- The sample's array ends at the reference's result. -/
theorem final11 (hA : Finite m c) : (dats m 0 c).arrAt 11 (cfgs 0).N = val_main_v91 (F := Ideal) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) := by
  refine (dats m 0 c).arrAt_eq_of_covers 11 _ (by decide +kernel) fun t _ y => ?_
  have h0 : win0_11.index t = ![0, 0] := (spot t).2.2.2.2.2.2.2.2.2.2.2.1
  have e0 : ((win0_11.blk t).view.emb y 0).val = (y 0).val := by blk_simp [h0]
  have e1 : ((win0_11.blk t).view.emb y 1).val = (y 1).val := by blk_simp [h0]
  have e : (win0_11.blk t).view.emb y = ix2 (y 0) (y 1) := by
    rw [eq_ix2 ((win0_11.blk t).view.emb y)]
    exact ix2_ext e0 e1
  blk_simp
  rw [after_11]
  refine (congrArg (sampleAt m c t) (eq_ix2 y)).trans ?_
  refine (sample_stored m c t (y 0) (y 1)).trans ?_
  exact ((congrArg _ e).trans (sample_target m c hA (y 0) (y 1))).symm

end Cert.Ffn

end
-- ==== Proof.FfnValue.lean ====
module

public import proofs.«01_k».proof.Defs
public import proofs.«01_k».proof.Proof.FfnBridge
public import proofs.«01_k».proof.Proof.Gen.Reference2Ideal.Run
public import proofs.«01_k».proof.Proof.Gen.Pre_finite2
public import Idealize.ShloMosaic.Lib.Claim

@[expose] public section

set_option maxRecDepth 16384

noncomputable section

/-! # The claims about the second pair of programs -/

namespace Cert.Ffn

open Cert.Spec
open Idealize.ShloMosaic Idealize.ShloMosaic.TcCoe Idealize.SL.Sem

/-- The bound of the precondition, in the wide format, is positive infinity. -/
theorem bound_wide : Ideal.ofBits .f32 0x7F800000#32 = (⊤ : EReal) := by
  simp [Ideal.ofBits, Ideal.ieee]

/-- The bound of the precondition, in the narrow format, is positive infinity. -/
theorem bound_narrow : Ideal.ofBits .bf16 0x7F80#16 = (⊤ : EReal) := by
  simp [Ideal.ofBits, Ideal.ieee]

/-- An operand whose entries all pass a comparison with a bound that is infinite has only real entries. -/
theorem real_of_bound {s : Shape} {f : FTy} (w : BitVec f.bits) (hw : Ideal.ofBits f w = (⊤ : EReal)) (a : FVec Ideal s f)
    (hb : Cert.Pre_finite2.S_.BroadcastsInDim s ![])
    (h : cmpf .olt (Host.absf a) (broadcastInDim s ![] hb (constant Cert.Pre_finite2.S_ f w)) = fun _ => 1#1) (i : s.Idx) :
    IsReal (a i) := by
  have e := congrFun h i
  apply isReal_of_abs
  rw [← hw]
  simp [cmpf, Host.absf, broadcastInDim, constant] at e
  by_contra hn
  have e' : BitVec.ofBool (decide (max (a i) (-a i) < Ideal.ofBits f w)) = 1#1 := e
  rw [decide_eq_false hn] at e'
  exact absurd e' (by decide)

/-- The precondition makes the operands of the gate real. -/
theorem args_finite (m : (ℓ : Loc Cert.Kernel2Ideal.nD Cert.Kernel2Ideal.τ Cert.Kernel2Ideal.sig) → Buf (Elt Ideal) ℓ)
    (h : Cert.Pre_Kernel2Ideal_finite2 (hPre_finite2 := Cert.Pre_finite2.Gen.facts) m) (c : Dev Cert.Kernel2Ideal.nD) : Finite m c := by
  obtain ⟨h0, h1, h2, h3, h4, h5, h6⟩ := h c
  exact ⟨real_of_bound _ bound_wide _ _ h0, real_of_bound _ bound_narrow _ _ h1, real_of_bound _ bound_wide _ _ h2,
    real_of_bound _ bound_narrow _ _ h3, real_of_bound _ bound_wide _ _ h4, real_of_bound _ bound_wide _ _ h5, real_of_bound _ bound_wide _ _ h6⟩

/-- The reference leaves its arguments as it finds them and its counters at zero. -/
theorem reference_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0) :=
  θ_run_mono (Cert.Reference2Ideal.Value.run (F := Ideal) m g) fun r hr => ⟨fun c => (hr c).2.2, sem_eq_zero_of_no_sems rfl r.2⟩

/-- The prompt's array ends at the reference's composed term over a memory with the same arguments. -/
theorem result10 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) (hA : Finite m c)
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (e6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (e7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (e8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (e9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) :
    Cert.Reference2Ideal.Read.val_main_v45 (F := Ideal) (StableHlo.launchContents m' c (Proc.devRef .tc Cert.Reference2Ideal.main_arg0)) (StableHlo.launchContents m' c (Proc.devRef .tc Cert.Reference2Ideal.main_arg1)) (StableHlo.launchContents m' c (Proc.devRef .tc Cert.Reference2Ideal.main_arg4)) (StableHlo.launchContents m' c (Proc.devRef .tc Cert.Reference2Ideal.main_arg5)) (StableHlo.launchContents m' c (Proc.devRef .tc Cert.Reference2Ideal.main_arg6)) (StableHlo.launchContents m' c (Proc.devRef .tc Cert.Reference2Ideal.main_arg7)) (StableHlo.launchContents m' c (Proc.devRef .tc Cert.Reference2Ideal.main_arg8)) (StableHlo.launchContents m' c (Proc.devRef .tc Cert.Reference2Ideal.main_arg9)) = (dats m 0 c).arrAt 10 (Cert.Kernel2Ideal.cfgs 0).N :=
  (congr (congr (congr (congr (congr (congr (congr (congrArg (Cert.Reference2Ideal.Read.val_main_v45 (F := Ideal)) e0) e1) e4) e5) e6) e7) e8) e9).trans (final10 m c hA).symm

/-- The sample's array ends at the reference's composed term over a memory with the same arguments. -/
theorem result11 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) (hA : Finite m c)
    (e2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (e4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (e6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (e7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (e8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (e9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) :
    Cert.Reference2Ideal.Read.val_main_v91 (F := Ideal) (StableHlo.launchContents m' c (Proc.devRef .tc Cert.Reference2Ideal.main_arg2)) (StableHlo.launchContents m' c (Proc.devRef .tc Cert.Reference2Ideal.main_arg3)) (StableHlo.launchContents m' c (Proc.devRef .tc Cert.Reference2Ideal.main_arg4)) (StableHlo.launchContents m' c (Proc.devRef .tc Cert.Reference2Ideal.main_arg5)) (StableHlo.launchContents m' c (Proc.devRef .tc Cert.Reference2Ideal.main_arg6)) (StableHlo.launchContents m' c (Proc.devRef .tc Cert.Reference2Ideal.main_arg7)) (StableHlo.launchContents m' c (Proc.devRef .tc Cert.Reference2Ideal.main_arg8)) (StableHlo.launchContents m' c (Proc.devRef .tc Cert.Reference2Ideal.main_arg9)) = (dats m 0 c).arrAt 11 (Cert.Kernel2Ideal.cfgs 0).N :=
  (congr (congr (congr (congr (congr (congr (congr (congrArg (Cert.Reference2Ideal.Read.val_main_v91 (F := Ideal)) e2) e3) e4) e5) e6) e7) e8) e9).trans (final11 m c hA).symm

/-- The kernel's two results are the reference's, exactly, on finite operands. -/
theorem value : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hagree
  refine ⟨fun c => (dats m 0 c).arrAt 10 (Cert.Kernel2Ideal.cfgs 0).N, fun c => (dats m 0 c).arrAt 11 (Cert.Kernel2Ideal.cfgs 0).N, ?_, ?_⟩
  · exact θ_run_mono (θ_run_and (run_main m g) (unchanged m g)) fun r hr c => ⟨(hr.1 c).1 10, (hr.1 c).1 11, hr.2 c⟩
  · refine θ_run_mono (Cert.Reference2Ideal.Value.run (F := Ideal) m' g') fun r hr c => ?_
    obtain ⟨h0, h1, hargs⟩ := hr c
    obtain ⟨e0, e1, e2, e3, e4, e5, e6, e7, e8, e9⟩ := hagree c
    have hA := args_finite m hpre c
    exact ⟨h0.trans ((Cert.Reference2Ideal.Read.val_main_v45_eq m' c).trans (result10 m m' c hA e0 e1 e4 e5 e6 e7 e8 e9)),
      h1.trans ((Cert.Reference2Ideal.Read.val_main_v91_eq m' c).trans (result11 m m' c hA e2 e3 e4 e5 e6 e7 e8 e9)), hargs⟩

end Cert.Ffn

end
-- ==== Proof.FfnPrinted.lean ====
/- The frame of the feed-forward kernel as printed. Its idealisation is the same text, and the run of that text is proved for
   any float values, so the run at bit-exact floats gives the printed program's frame. -/
module

public import proofs.«01_k».proof.Defs
public import proofs.«01_k».proof.Proof.Gen.Kernel2
public import proofs.«01_k».proof.Proof.FfnBody

@[expose] public section

set_option maxRecDepth 65536

noncomputable section

namespace Cert.Ffn

open Idealize.ShloMosaic Idealize.ShloMosaic.TcCoe Idealize.SL.Sem

/-- The two programs have the same body table. -/
theorem same_bodies : Cert.Kernel2Ideal.defs₀ (F := Bits) = Cert.Kernel2.defs₀ (F := Bits) := by
  unfold Cert.Kernel2Ideal.defs₀ Cert.Kernel2.defs₀
  refine congrArg Defs.onTc (funext fun l => funext fun a => ?_)
  match l, a with
  | 0, (t, s) => rfl

/-- The two programs have the same table of bodies and pipelines. -/
theorem same_defs : Cert.Kernel2Ideal.defs (F := Bits) = Cert.Kernel2.defs (F := Bits) :=
  congrArg (Pipeline.defs Cert.Kernel2.pcfgs) same_bodies

/-- Every run of the printed kernel leaves the arguments as they were and every semaphore at zero. -/
theorem printed_frame : Cert.quiescent_Kernel2 (hKernel2 := Cert.Kernel2.Gen.facts) := by
  intro m ρ _
  rw [← same_defs]
  exact Cert.Ffn.ideal_frame (F := Bits) m ρ

end Cert.Ffn
-- ==== Proof.Ffn0Run.lean ====
/-
The body of the third kernel, run once in each of its two cases: the block of
prompt rows (the first thirty-two points) and the block of sample rows (the last).
-/
module

public import proofs.«01_k».proof.Proof.Gen.Kernel3Ideal.Frame
public import proofs.«01_k».proof.Proof.Gen.Kernel3Ideal.Skeleton
public import Idealize.ShloMosaic.Lib.VecWindow

@[expose] public section

set_option maxRecDepth 16384

noncomputable section

namespace Cert.Ffn0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- What the body stores for a block of 512 rows: from the rows of the residual, the
    rows of the mixer, and the weights. -/
abbrev stored (x : Vec F S512x1024 .f32) (mx : Vec F S512x1024 .bf16) (wo : Vec F S1024x1024 .bf16)
    (g : Vec F S1x1024 .f32) (wg wu : Vec F S1x1024x2816 .bf16) (wd : Vec F S1x2816x1024 .bf16) : Vec F S512x1024 .f32 :=
  k0_pay1 (k0_pay3 x mx wo) (k0_pay4 x mx wo g wg wu) wd

/-- Equal operands store equal blocks. -/
theorem stored_congr {x x' : Vec F S512x1024 .f32} {mx mx' : Vec F S512x1024 .bf16} {wo wo' : Vec F S1024x1024 .bf16}
    {g g' : Vec F S1x1024 .f32} {wg wg' wu wu' : Vec F S1x1024x2816 .bf16} {wd wd' : Vec F S1x2816x1024 .bf16}
    (h1 : x = x') (h2 : mx = mx') (h3 : wo = wo') (h4 : g = g') (h5 : wg = wg')
    (h6 : wu = wu') (h7 : wd = wd') :
    stored x mx wo g wg wu wd = stored x' mx' wo' g' wg' wu' wd' := by
  subst h1 h2 h3 h4 h5 h6 h7; rfl

/-- The last part of the sample's branch computes what the prompt's does. -/
theorem pay2_eq : @k0_pay2 F _ = k0_pay1 := rfl

/-- The first part of the sample's branch computes the prompt's residual. -/
theorem pay5_eq : @k0_pay5 F _ = k0_pay3 := rfl

/-- The first part of the sample's branch computes the prompt's gated rows. -/
theorem pay6_eq : @k0_pay6 F _ = k0_pay4 := rfl

set_option maxHeartbeats 1000000 in
/-- The body at a point of the prompt: it stores the block's result in the prompt's buffer, and
    the sample's buffer is not touched. -/
theorem run_prompt (c : Dev nD) (i : grid0.Coords)
    (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole)
    (h0 : k0_cond1 i = 1#1) (h1 : ¬k0_cond2 i = 1#1)
    (x : Vec F S512x1024 .f32) (mx : Vec F S512x1024 .bf16) (wo : Vec F S1024x1024 .bf16) (g : Vec F S1x1024 .f32) (wg : Vec F S1x1024x2816 .bf16) (wu : Vec F S1x1024x2816 .bf16) (wd : Vec F S1x2816x1024 .bf16)
    (E : Set ℕ) (K : PUnit → sProp 𝕄) :
    iprop(owns (c : Thread nD τ) arg1 fullShare x ∗ owns (c : Thread nD τ) arg2 fullShare mx ∗ owns (c : Thread nD τ) arg5 fullShare wo ∗ owns (c : Thread nD τ) arg6 fullShare g ∗ owns (c : Thread nD τ) arg7 fullShare wg ∗ owns (c : Thread nD τ) arg8 fullShare wu ∗ owns (c : Thread nD τ) arg9 fullShare wd ∗ (∃ d, owns (c : Thread nD τ) arg11 fullShare d)
        ∗ (iprop(owns (c : Thread nD τ) arg1 fullShare x ∗ owns (c : Thread nD τ) arg2 fullShare mx ∗ owns (c : Thread nD τ) arg5 fullShare wo ∗ owns (c : Thread nD τ) arg6 fullShare g ∗ owns (c : Thread nD τ) arg7 fullShare wg ∗ owns (c : Thread nD τ) arg8 fullShare wu ∗ owns (c : Thread nD τ) arg9 fullShare wd ∗ owns (c : Thread nD τ) arg11 fullShare (stored x mx wo g wg wu wd)) -∗ K ⟨⟩))
      ⊢ wp frame (wpE (defs₀ (F := F)) Variants.none c none) E (cc0_proj_ffn i arg1 harg1 arg2 harg2 arg3 harg3 arg4 harg4 arg5 harg5 arg6 harg6 arg7 harg7 arg8 harg8 arg9 harg9 arg10 harg10 arg11 harg11 arg12 harg12) K := by
  simp only [cc0_proj_ffn_eq_skeleton]; unfold cc0_proj_ffn_skel
  simp only [k0_part1_eq_skeleton]
  unfold owns
  iintro ⟨⟨%f1, %hf1, H1⟩, ⟨%f2, %hf2, H2⟩, ⟨%f5, %hf5, H5⟩, ⟨%f6, %hf6, H6⟩, ⟨%f7, %hf7, H7⟩, ⟨%f8, %hf8, H8⟩, ⟨%f9, %hf9, H9⟩, ⟨%d, %f, -, H⟩, Hk⟩
  obtain rfl := harg1.eq_unread hf1
  obtain rfl := harg2.eq_unread hf2
  obtain rfl := harg5.eq_unread hf5
  obtain rfl := harg6.eq_unread hf6
  obtain rfl := harg7.eq_unread hf7
  obtain rfl := harg8.eq_unread hf8
  obtain rfl := harg9.eq_unread hf9
  sl_exec (disch := first | sl_exact h0 | sl_exact h1)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap
  · iexact H
  ipureintro
  unfold run_prompt.sl.r run_prompt.sl.r_1 run_prompt.sl.r_2
  rw [View.read_writes_full]
  exact stored_congr ((View.readAt_full _ _ _).trans hf1) ((View.readAt_full _ _ _).trans hf2) ((View.readAt_full _ _ _).trans hf5) ((View.readAt_full _ _ _).trans hf6) ((View.readAt_full _ _ _).trans hf7) ((View.readAt_full _ _ _).trans hf8) ((View.readAt_full _ _ _).trans hf9)

set_option maxHeartbeats 1000000 in
/-- The body at the point of the sample: it stores the block's result in the sample's buffer, and
    the prompt's buffer is not touched. -/
theorem run_sample (c : Dev nD) (i : grid0.Coords)
    (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x2816 .bf16) (harg7 : arg7.IsWhole) (arg8 : Memref sig .tc .vmem S1x1024x2816 .bf16) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole)
    (h0 : ¬k0_cond1 i = 1#1) (h1 : k0_cond2 i = 1#1)
    (x : Vec F S512x1024 .f32) (mx : Vec F S512x1024 .bf16) (wo : Vec F S1024x1024 .bf16) (g : Vec F S1x1024 .f32) (wg : Vec F S1x1024x2816 .bf16) (wu : Vec F S1x1024x2816 .bf16) (wd : Vec F S1x2816x1024 .bf16)
    (E : Set ℕ) (K : PUnit → sProp 𝕄) :
    iprop(owns (c : Thread nD τ) arg3 fullShare x ∗ owns (c : Thread nD τ) arg4 fullShare mx ∗ owns (c : Thread nD τ) arg5 fullShare wo ∗ owns (c : Thread nD τ) arg6 fullShare g ∗ owns (c : Thread nD τ) arg7 fullShare wg ∗ owns (c : Thread nD τ) arg8 fullShare wu ∗ owns (c : Thread nD τ) arg9 fullShare wd ∗ (∃ d, owns (c : Thread nD τ) arg12 fullShare d)
        ∗ (iprop(owns (c : Thread nD τ) arg3 fullShare x ∗ owns (c : Thread nD τ) arg4 fullShare mx ∗ owns (c : Thread nD τ) arg5 fullShare wo ∗ owns (c : Thread nD τ) arg6 fullShare g ∗ owns (c : Thread nD τ) arg7 fullShare wg ∗ owns (c : Thread nD τ) arg8 fullShare wu ∗ owns (c : Thread nD τ) arg9 fullShare wd ∗ owns (c : Thread nD τ) arg12 fullShare (stored x mx wo g wg wu wd)) -∗ K ⟨⟩))
      ⊢ wp frame (wpE (defs₀ (F := F)) Variants.none c none) E (cc0_proj_ffn i arg1 harg1 arg2 harg2 arg3 harg3 arg4 harg4 arg5 harg5 arg6 harg6 arg7 harg7 arg8 harg8 arg9 harg9 arg10 harg10 arg11 harg11 arg12 harg12) K := by
  simp only [cc0_proj_ffn_eq_skeleton]; unfold cc0_proj_ffn_skel
  simp only [k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d, %f, -, H⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | sl_exact h0 | sl_exact h1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap
  · iexact H
  ipureintro
  unfold run_sample.sl.r run_sample.sl.r_1 run_sample.sl.r_2
  rw [View.read_writes_full]
  rw [pay2_eq, pay5_eq, pay6_eq]
  exact stored_congr ((View.readAt_full _ _ _).trans hf3) ((View.readAt_full _ _ _).trans hf4) ((View.readAt_full _ _ _).trans hf5) ((View.readAt_full _ _ _).trans hf6) ((View.readAt_full _ _ _).trans hf7) ((View.readAt_full _ _ _).trans hf8) ((View.readAt_full _ _ _).trans hf9)

end Cert.Ffn0
-- ==== Proof.Ffn0Body.lean ====
/-
The third kernel's proof data: what each point leaves in each buffer, the body's
obligation at every point, and the run of the whole program.
-/
module

public import proofs.«01_k».proof.Proof.Ffn0Run
public import Idealize.ShloMosaic.Lib.Claim

@[expose] public section

set_option maxRecDepth 16384

noncomputable section

namespace Cert.Ffn0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point whose prompt block is in the prompt's buffer after point `t`: `t` itself, but at the
    last point, which computes the sample's block, the point before. -/
def promptPoint (t : Fin cfg0.N) : Fin cfg0.N := ⟨min t.val 31, by have := t.isLt; omega⟩

/-- The block of prompt rows point `t` stores. -/
abbrev promptAt (c : Dev nD) (t : Fin cfg0.N) : Vec F S512x1024 .f32 :=
  stored (iblk m c 0 t) (iblk m c 1 t) (iblk m c 4 t) (iblk m c 5 t) (iblk m c 6 t) (iblk m c 7 t) (iblk m c 8 t)

/-- The block of sample rows the last point stores. -/
abbrev sampleAt (c : Dev nD) (t : Fin cfg0.N) : Vec F S512x1024 .f32 :=
  stored (iblk m c 2 t) (iblk m c 3 t) (iblk m c 4 t) (iblk m c 5 t) (iblk m c 6 t) (iblk m c 7 t) (iblk m c 8 t)

/-- The proof data: an input's buffer keeps its block, the prompt's buffer holds the last prompt block
    computed, the sample's buffer the sample's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => promptAt m c (promptPoint t)
    | ⟨11, _⟩ => sampleAt m c t
    | ⟨_ + 12, h⟩ => absurd h (Nat.not_lt.2 (Nat.le_add_left _ _))
  Φ _ := Pipeline.ΦA spec0 c
  q _ := fullShare
  owed _ := 0

/-- The arrays start as the kernel's region finds them. -/
theorem dats_A (c : Dev nD) (w : Fin cfg0.W) : (dats m 0 c).A w = V m c (Pipeline.arrRef spec0 w) := by
  dsimp only [dats]

/-- Input 0 keeps its block. -/
theorem after_0 (c : Dev nD) (t : Fin cfg0.N) : (dats m 0 c).after 0 t = iblk m c 0 t := by dsimp only [dats]
/-- Input 1 keeps its block. -/
theorem after_1 (c : Dev nD) (t : Fin cfg0.N) : (dats m 0 c).after 1 t = iblk m c 1 t := by dsimp only [dats]
/-- Input 2 keeps its block. -/
theorem after_2 (c : Dev nD) (t : Fin cfg0.N) : (dats m 0 c).after 2 t = iblk m c 2 t := by dsimp only [dats]
/-- Input 3 keeps its block. -/
theorem after_3 (c : Dev nD) (t : Fin cfg0.N) : (dats m 0 c).after 3 t = iblk m c 3 t := by dsimp only [dats]
/-- Input 4 keeps its block. -/
theorem after_4 (c : Dev nD) (t : Fin cfg0.N) : (dats m 0 c).after 4 t = iblk m c 4 t := by dsimp only [dats]
/-- Input 5 keeps its block. -/
theorem after_5 (c : Dev nD) (t : Fin cfg0.N) : (dats m 0 c).after 5 t = iblk m c 5 t := by dsimp only [dats]
/-- Input 6 keeps its block. -/
theorem after_6 (c : Dev nD) (t : Fin cfg0.N) : (dats m 0 c).after 6 t = iblk m c 6 t := by dsimp only [dats]
/-- Input 7 keeps its block. -/
theorem after_7 (c : Dev nD) (t : Fin cfg0.N) : (dats m 0 c).after 7 t = iblk m c 7 t := by dsimp only [dats]
/-- Input 8 keeps its block. -/
theorem after_8 (c : Dev nD) (t : Fin cfg0.N) : (dats m 0 c).after 8 t = iblk m c 8 t := by dsimp only [dats]
/-- Input 9 keeps its block. -/
theorem after_9 (c : Dev nD) (t : Fin cfg0.N) : (dats m 0 c).after 9 t = iblk m c 9 t := by dsimp only [dats]
/-- The prompt's buffer after a point. -/
theorem after_10 (c : Dev nD) (t : Fin cfg0.N) : (dats m 0 c).after 10 t = promptAt m c (promptPoint t) := by dsimp only [dats]
/-- The sample's buffer after the last point. -/
theorem after_11 (c : Dev nD) (t : Fin cfg0.N) : (dats m 0 c).after 11 t = sampleAt m c t := by dsimp only [dats]

/-- Input 0's buffer holds its block at every point. -/
theorem before_0 (c : Dev nD) (t : Fin cfg0.N) (d) : (dats m 0 c).before 0 t d = iblk m c 0 t :=
  before0_0_of m (dats m 0 c) (dats_A m c 0) (after_0 m c) t d
/-- Input 1's buffer holds its block at every point. -/
theorem before_1 (c : Dev nD) (t : Fin cfg0.N) (d) : (dats m 0 c).before 1 t d = iblk m c 1 t :=
  before0_1_of m (dats m 0 c) (dats_A m c 1) (after_1 m c) t d
/-- Input 2's buffer holds its block at every point. -/
theorem before_2 (c : Dev nD) (t : Fin cfg0.N) (d) : (dats m 0 c).before 2 t d = iblk m c 2 t :=
  before0_2_of m (dats m 0 c) (dats_A m c 2) (after_2 m c) t d
/-- Input 3's buffer holds its block at every point. -/
theorem before_3 (c : Dev nD) (t : Fin cfg0.N) (d) : (dats m 0 c).before 3 t d = iblk m c 3 t :=
  before0_3_of m (dats m 0 c) (dats_A m c 3) (after_3 m c) t d
/-- Input 4's buffer holds its block at every point. -/
theorem before_4 (c : Dev nD) (t : Fin cfg0.N) (d) : (dats m 0 c).before 4 t d = iblk m c 4 t :=
  before0_4_of m (dats m 0 c) (dats_A m c 4) (after_4 m c) t d
/-- Input 5's buffer holds its block at every point. -/
theorem before_5 (c : Dev nD) (t : Fin cfg0.N) (d) : (dats m 0 c).before 5 t d = iblk m c 5 t :=
  before0_5_of m (dats m 0 c) (dats_A m c 5) (after_5 m c) t d
/-- Input 6's buffer holds its block at every point. -/
theorem before_6 (c : Dev nD) (t : Fin cfg0.N) (d) : (dats m 0 c).before 6 t d = iblk m c 6 t :=
  before0_6_of m (dats m 0 c) (dats_A m c 6) (after_6 m c) t d
/-- Input 7's buffer holds its block at every point. -/
theorem before_7 (c : Dev nD) (t : Fin cfg0.N) (d) : (dats m 0 c).before 7 t d = iblk m c 7 t :=
  before0_7_of m (dats m 0 c) (dats_A m c 7) (after_7 m c) t d
/-- Input 8's buffer holds its block at every point. -/
theorem before_8 (c : Dev nD) (t : Fin cfg0.N) (d) : (dats m 0 c).before 8 t d = iblk m c 8 t :=
  before0_8_of m (dats m 0 c) (dats_A m c 8) (after_8 m c) t d
/-- Input 9's buffer holds its block at every point. -/
theorem before_9 (c : Dev nD) (t : Fin cfg0.N) (d) : (dats m 0 c).before 9 t d = iblk m c 9 t :=
  before0_9_of m (dats m 0 c) (dats_A m c 9) (after_9 m c) t d

/-! ## Which points store what -/

/-- The first branch is taken at the prompt's points. -/
theorem cond_prompt : ∀ t : Fin cfg0.N, k0_cond1 (grid0.coords t) = 1#1 ↔ t.val < 32 :=
  (by decide +kernel : ∀ t : Fin grid0.N, k0_cond1 (grid0.coords t) = 1#1 ↔ t.val < 32)

/-- The second branch is taken at the last point. -/
theorem cond_sample : ∀ t : Fin cfg0.N, k0_cond2 (grid0.coords t) = 1#1 ↔ t.val = 32 :=
  (by decide +kernel : ∀ t : Fin grid0.N, k0_cond2 (grid0.coords t) = 1#1 ↔ t.val = 32)

/-- The prompt's buffer is stored into exactly at the prompt's points. -/
theorem idle_10 (t : Fin cfg0.N) : cfg0.idle 10 (grid0.coords t) = !(decide (t.val < 32)) := by
  show (!(k0_cond1 (grid0.coords t) == 1#1)) = _
  have h := cond_prompt t
  by_cases h' : t.val < 32
  · simp [h', h.mpr h']
  · simp [h', mt h.mp h']

/-- The sample's buffer is stored into exactly at the last point. -/
theorem idle_11 (t : Fin cfg0.N) : cfg0.idle 11 (grid0.coords t) = !(decide (t.val = 32)) := by
  show (!(k0_cond2 (grid0.coords t) == 1#1)) = _
  have h := cond_sample t
  by_cases h' : t.val = 32
  · simp [h', h.mpr h']
  · simp [h', mt h.mp h']

/-- The prompt's buffer is written back after every point but the last but one, whose block stays for the last. -/
theorem flush_10 : ∀ t : Fin cfg0.N, (cfg0.win 10).flush t = true ↔ t.val ≠ 31 :=
  (by decide +kernel : ∀ t : Fin grid0.N, (cfg0.win 10).flush t = true ↔ t.val ≠ 31)

/-- The sample's buffer is written back after the last point only. -/
theorem flush_11 (t : Fin cfg0.N) : (cfg0.win 11).flush t = true ↔ t.val = 32 :=
  (flush0_11 t).trans (by have : t.val < 33 := t.isLt; omega)

/-- A point that stores into a window's buffer, or has it written back, leaves the named contents. -/
theorem leaves_live (c : Dev nD) (w : Fin cfg0.W) (t : Fin cfg0.N) (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · cases cfg0.idle w (cfg0.grid.coords t) <;> simp only [h]

/-- At the last point the prompt's buffer holds what the point before stored. -/
theorem before_10 (c : Dev nD) (t : Fin cfg0.N) (ht : t.val = 32) (d) :
    (dats m 0 c).before 10 t d = (dats m 0 c).after 10 t := by
  rw [Dat.before_of_pos _ _ _ (by omega) ((cfg0.win 10).fetch_out rfl t)]
  have hf : (cfg0.win 10).flush ⟨t.val - 1, Nat.lt_of_le_of_lt (Nat.sub_le _ _) t.isLt⟩ = false :=
    Bool.eq_false_iff.mpr fun h => (flush_10 _).mp h (by show t.val - 1 = 31; omega)
  have hi : cfg0.idle 10 (cfg0.grid.coords ⟨t.val - 1, Nat.lt_of_le_of_lt (Nat.sub_le _ _) t.isLt⟩) = false :=
    (idle_10 _).trans (by simp; omega)
  rw [hf, if_neg Bool.false_ne_true]
  unfold Dat.left
  rw [hi]
  refine Eq.trans (b := (dats m 0 c).after 10 ⟨t.val - 1, Nat.lt_of_le_of_lt (Nat.sub_le _ _) t.isLt⟩) rfl ?_
  rw [after_10, after_10]
  exact congrArg (promptAt m c) (Fin.ext (by show min (t.val - 1) 31 = min t.val 31; omega))

/-! ## The body at a point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- What the body hands back, window by window. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2400000 in
/-- The body at a prompt point. -/
theorem body_prompt (c : Dev nD) (t : Fin cfg0.N) (ht : t.val < 32) :
    bodyPre m c t ⊢ wp frame (wpE (defs₀ (F := F)) Variants.none c none) Set.univ (bodyAt0 t) (fun _ => bodyPost m c t) := by
  have h0 := (cond_prompt t).mpr ht
  have h1 : ¬k0_cond2 (grid0.coords t) = 1#1 := fun h => by have := (cond_sample t).mp h; omega
  have hp : promptPoint t = t := Fin.ext (by show min t.val 31 = t.val; omega)
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl]
  rw [leaves_live m c 0 t (.inl rfl), after_0]
  rw [leaves_live m c 1 t (.inl rfl), after_1]
  rw [leaves_live m c 2 t (.inl rfl), after_2]
  rw [leaves_live m c 3 t (.inl rfl), after_3]
  rw [leaves_live m c 4 t (.inl rfl), after_4]
  rw [leaves_live m c 5 t (.inl rfl), after_5]
  rw [leaves_live m c 6 t (.inl rfl), after_6]
  rw [leaves_live m c 7 t (.inl rfl), after_7]
  rw [leaves_live m c 8 t (.inl rfl), after_8]
  rw [leaves_live m c 9 t (.inl rfl), after_9]
  rw [leaves_live m c 10 t (.inl ((idle_10 t).trans (by simp [ht]))), after_10, hp,
    Dat.leavesExact_idle _ 11 t ((idle_11 t).trans (by simp; omega))
      (Bool.eq_false_iff.mpr fun h => by have := (flush_11 t).mp h; omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_prompt c (grid0.coords t) _ _ _ _ _ _ _ _ _ _ _ _ _ _ _ _ _ _ _ _ _ _ _ _ h0 h1 (iblk m c 0 t) (iblk m c 1 t) (iblk m c 4 t) (iblk m c 5 t) (iblk m c 6 t) (iblk m c 7 t) (iblk m c 8 t) Set.univ _)
  isplitl [H0]; · iexact H0
  isplitl [H1]; · iexact H1
  isplitl [H4]; · iexact H4
  isplitl [H5]; · iexact H5
  isplitl [H6]; · iexact H6
  isplitl [H7]; · iexact H7
  isplitl [H8]; · iexact H8
  isplitl [H10]; · iexists _; iexact H10
  iintro ⟨H0, H1, H4, H5, H6, H7, H8, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists d11; iexact H11

set_option maxHeartbeats 2400000 in
/-- The body at the last point. -/
theorem body_sample (c : Dev nD) (t : Fin cfg0.N) (ht : t.val = 32) :
    bodyPre m c t ⊢ wp frame (wpE (defs₀ (F := F)) Variants.none c none) Set.univ (bodyAt0 t) (fun _ => bodyPost m c t) := by
  have h0 : ¬k0_cond1 (grid0.coords t) = 1#1 := fun h => by have := (cond_prompt t).mp h; omega
  have h1 := (cond_sample t).mpr ht
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl]
  rw [leaves_live m c 0 t (.inl rfl), after_0]
  rw [leaves_live m c 1 t (.inl rfl), after_1]
  rw [leaves_live m c 2 t (.inl rfl), after_2]
  rw [leaves_live m c 3 t (.inl rfl), after_3]
  rw [leaves_live m c 4 t (.inl rfl), after_4]
  rw [leaves_live m c 5 t (.inl rfl), after_5]
  rw [leaves_live m c 6 t (.inl rfl), after_6]
  rw [leaves_live m c 7 t (.inl rfl), after_7]
  rw [leaves_live m c 8 t (.inl rfl), after_8]
  rw [leaves_live m c 9 t (.inl rfl), after_9]
  simp only [before_10 m c t ht]
  rw [leaves_live m c 10 t (.inr ((flush_10 t).mpr (by omega))),
    leaves_live m c 11 t (.inl ((idle_11 t).trans (by simp [ht]))), after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_sample c (grid0.coords t) _ _ _ _ _ _ _ _ _ _ _ _ _ _ _ _ _ _ _ _ _ _ _ _ h0 h1 (iblk m c 2 t) (iblk m c 3 t) (iblk m c 4 t) (iblk m c 5 t) (iblk m c 6 t) (iblk m c 7 t) (iblk m c 8 t) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexists _; iexact H11
  iintro ⟨H2, H3, H4, H5, H6, H7, H8, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's row at a point is the body as printed. -/
theorem body_row (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, body_row]
  have ht : t.val < 33 := t.isLt
  by_cases h : t.val < 32
  · exact triple_restated (body_prompt m c t h) rfl .rfl fun _ => .rfl
  · exact triple_restated (body_sample m c t (by omega)) rfl .rfl fun _ => .rfl

/-! ## The whole program -/

set_option backward.isDefEq.respectTransparency.types false in
/-- Every run of the program ends with the windows' arrays at what the points wrote back, the other
    buffers as they were, and every semaphore at zero. -/
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The windows' arrays after every run. -/
theorem run_main : θ_run defs (onTc (τ := τ) (main (F := F))) (s₀ m ρ) (Pipeline.FramePost cfgs (dats m) 0 (V m)) :=
  (θ_run defs _ _).mono (fun _ h => h.1) (run_all m ρ)

/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (dats_A m) (run_main m ρ)

/-- Every run leaves the arguments as they were and every semaphore at zero. -/
theorem ideal_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_all m ρ))

end Cert.Ffn0
-- ==== Proof.Ffn0Feed.lean ====
module

public import proofs.«01_k».proof.Proof.Gen.Kernel3Ideal.Frame
public import proofs.«01_k».proof.Proof.FfnSpec
public import Idealize.ShloMosaic.Lib.Pipeline.ValueKit
public import Idealize.ShloMosaic.Lib.Pointwise

@[expose] public section

set_option maxRecDepth 16384

noncomputable section

/-! # What the third kernel's windows feed the body, from the launch memory -/

namespace Cert.Ffn0

open Cert.Kernel3Ideal Cert.Kernel3Ideal.Gen Cert.Spec
open Idealize.ShloMosaic Idealize.ShloMosaic.TcCoe Idealize.SL.Sem
open Idealize.ShloMosaic.Pipeline (Dat)

variable (m : (ℓ : Loc nD τ sig) → Buf (Elt Ideal) ℓ)

/-- Where every window sits at point `t`. -/
theorem spot : ∀ t : Fin cfg0.N, win0_0.index t = ![min t.val 31, 0] ∧ win0_1.index t = ![min t.val 31, 0] ∧ win0_2.index t = ![0, 0]
    ∧ win0_3.index t = ![0, 0] ∧ win0_4.index t = ![0, 0] ∧ win0_5.index t = ![0, 0]
    ∧ win0_6.index t = ![0, 0, 0] ∧ win0_7.index t = ![0, 0, 0] ∧ win0_8.index t = ![0, 0, 0] ∧ win0_9.index t = ![0, 0]
    ∧ win0_10.index t = ![min t.val 31, 0] ∧ win0_11.index t = ![0, 0] ∧ t.val < 33 :=
  (by decide +kernel : ∀ t : Fin grid0.N, _)

variable (c : Dev nD) (t : Fin cfg0.N)

/-- The prompt's rows, at the block `n` the point reads. -/
theorem feed0 (n : Fin 32) (hn : n.val = min t.val 31) (r : Fin 512) (l : Fin 1024) : iblk m c 0 t (ix2 r l)
    = m (c, Proc.tc.devRef main_arg0) (ix3 ⟨n.val / 8, by omega⟩ ⟨n.val % 8 * 512 + r.val, by omega⟩ l) := by
  have h0 : win0_0.index t = ![n.val, 0] := by rw [hn]; exact (spot t).1
  blk_simp [iblk, h0]
  simp only [V, List.flatten_cons, List.flatten_nil, List.append_nil, List.cons_append, List.nil_append, hostOps0]
  after_results
  try simp only [StableHlo.TRef.toBuf, StableHlo.TRef.ofBuf, cast_cast, cast_eq]
  have e0 : (((View.whole main_v0).slice (win0_0.rect t)).emb (ix2 r l) 0).val = n.val * 512 + r.val := by blk_simp [h0]
  have e1 : (((View.whole main_v0).slice (win0_0.rect t)).emb (ix2 r l) 1).val = l.val := by blk_simp [h0]
  pointwise
  refine congrArg (m (c, Proc.tc.devRef main_arg0)) (ix3_ext ?_ ?_ ?_)
  · dsimp only
    rw [e0]
    omega
  · dsimp only
    rw [e0]
    omega
  · exact e1

/-- The mixer's rows of the prompt, at the block `n` the point reads. -/
theorem feed1 (n : Fin 32) (hn : n.val = min t.val 31) (r : Fin 512) (k : Fin 1024) : iblk m c 1 t (ix2 r k)
    = m (c, Proc.tc.devRef main_arg1) (ix2 ⟨n.val * 512 + r.val, by omega⟩ k) := by
  have h0 : win0_1.index t = ![n.val, 0] := by rw [hn]; exact (spot t).2.1
  have e0 : ((win0_1.blk t).view.emb (ix2 r k) 0).val = n.val * 512 + r.val := by blk_simp [h0]
  have e1 : ((win0_1.blk t).view.emb (ix2 r k) 1).val = k.val := by blk_simp [h0]
  have e : (win0_1.blk t).view.emb (ix2 r k) = ix2 ⟨n.val * 512 + r.val, by omega⟩ k := by
    rw [eq_ix2 ((win0_1.blk t).view.emb (ix2 r k))]
    exact ix2_ext e0 e1
  blk_simp [iblk, h0]
  simp only [V, List.flatten_cons, List.flatten_nil, List.append_nil, List.cons_append, List.nil_append, hostOps0]
  after_results
  exact congrArg (m (c, Proc.tc.devRef main_arg1)) e

/-- The sample's rows. -/
theorem feed2 (r : Fin 512) (l : Fin 1024) : iblk m c 2 t (ix2 r l)
    = m (c, Proc.tc.devRef main_arg2) (ix3 ⟨r.val / 16, by omega⟩ ⟨r.val % 16, by omega⟩ l) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

/-- The mixer's rows of the sample. -/
theorem feed3 (r : Fin 512) (k : Fin 1024) : iblk m c 3 t (ix2 r k)
    = m (c, Proc.tc.devRef main_arg3) (ix2 r k) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  rw [eq_ix2 ((win0_3.blk t).view.emb (ix2 r k))]
  congr 1; congr 1 <;> apply Fin.ext <;> blk_simp [spot t]

/-- The down projection. -/
theorem feed4 (k : Fin 1024) (l : Fin 1024) : iblk m c 4 t (ix2 k l)
    = m (c, Proc.tc.devRef main_arg4) (ix3 0 k l) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

/-- The norm's weights. -/
theorem feed5 (l : Fin 1024) : iblk m c 5 t (ix2 0 l)
    = m (c, Proc.tc.devRef main_arg5) (ix2 0 l) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

/-- The gate's matrix. -/
theorem feed6 (k : Fin 1024) (j : Fin 2816) : iblk m c 6 t (ix3 0 k j)
    = m (c, Proc.tc.devRef main_arg6) (ix3 0 k j) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  rw [eq_ix3 ((win0_6.blk t).view.emb (ix3 0 k j))]
  congr 1; congr 1 <;> apply Fin.ext <;> blk_simp [spot t]

/-- The other matrix. -/
theorem feed7 (k : Fin 1024) (j : Fin 2816) : iblk m c 7 t (ix3 0 k j)
    = m (c, Proc.tc.devRef main_arg7) (ix3 0 k j) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  rw [eq_ix3 ((win0_7.blk t).view.emb (ix3 0 k j))]
  congr 1; congr 1 <;> apply Fin.ext <;> blk_simp [spot t]

/-- The last matrix. -/
theorem feed8 (j : Fin 2816) (l : Fin 1024) : iblk m c 8 t (ix3 0 j l)
    = m (c, Proc.tc.devRef main_arg8) (ix3 0 j l) := by
  have ht := (spot t).2.2.2.2.2.2.2.2.2.2.2.2
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  rw [eq_ix3 ((win0_8.blk t).view.emb (ix3 0 j l))]
  congr 1; congr 1 <;> apply Fin.ext <;> blk_simp [spot t]

end Cert.Ffn0

end
-- ==== Proof.Ffn0Kernel.lean ====
module

public import proofs.«01_k».proof.Proof.Ffn0Run
public import proofs.«01_k».proof.Proof.FfnSpec
public import Idealize.ShloMosaic.Lib.Pipeline.ValueKit
public import Idealize.ShloMosaic.Lib.Pointwise

@[expose] public section

set_option maxRecDepth 16384

noncomputable section

/-! # What the third kernel's body stores, row by row -/

namespace Cert.Ffn0

open Cert.Kernel3Ideal Cert.Kernel3Ideal.Gen Cert.Spec
open Idealize.ShloMosaic Idealize.ShloMosaic.TcCoe Idealize.SL.Sem

variable (x : Vec Ideal S512x1024 .f32) (mx : Vec Ideal S512x1024 .bf16) (wo : Vec Ideal S1024x1024 .bf16)
    (g : Vec Ideal S1x1024 .f32) (wg wu : Vec Ideal S1x1024x2816 .bf16) (wd : Vec Ideal S1x2816x1024 .bf16)

/-- The residual of row `r`. -/
theorem pay3_at (r : Fin 512) (l : Fin 1024) : k0_pay3 x mx wo (ix2 r l)
    = resid (fun l => x (ix2 r l)) (fun k => mx (ix2 r k)) (fun k l => wo (ix2 k l)) l := by
  unfold resid
  pointwise [k0_pay3]

/-- The gated row `r`. -/
theorem pay4_at (r : Fin 512) (j : Fin 2816) : k0_pay4 x mx wo g wg wu (ix2 r j)
    = gatedRow tanhGate (rmsRow (fun l => k0_pay3 x mx wo (ix2 r l)) (fun l => g (ix2 0 l)))
        (fun k j => wg (ix3 0 k j)) (fun k j => wu (ix3 0 k j)) j := by
  unfold gatedRow tanhGate widen rmsRow rootMean
  pointwise [k0_pay4]

/-- The stored row `r`, from its residual and its gated row. -/
theorem pay1_at (v : FVec Ideal S512x1024 .f32) (t : FVec Ideal S512x2816 .bf16) (r : Fin 512) (l : Fin 1024) :
    k0_pay1 v t wd (ix2 r l)
    = narrow (fun l => v (ix2 r l)) (fun j => t (ix2 r j)) (fun j l => wd (ix3 0 j l)) l := by
  unfold narrow
  pointwise [k0_pay1]

/-- The stored row `r` is the whole row, with the kernel's gate. -/
theorem stored_at (r : Fin 512) (l : Fin 1024) : stored x mx wo g wg wu wd (ix2 r l)
    = plainRow tanhGate (fun l => x (ix2 r l)) (fun k => mx (ix2 r k)) (fun k l => wo (ix2 k l)) (fun l => g (ix2 0 l))
        (fun k j => wg (ix3 0 k j)) (fun k j => wu (ix3 0 k j)) (fun j l => wd (ix3 0 j l)) l := by
  have e3 : (fun l => k0_pay3 x mx wo (ix2 r l)) = resid (fun l => x (ix2 r l)) (fun k => mx (ix2 r k)) (fun k l => wo (ix2 k l)) :=
    funext fun l => pay3_at x mx wo r l
  have e4 : (fun j => k0_pay4 x mx wo g wg wu (ix2 r j)) = _ := funext fun j => pay4_at x mx wo g wg wu r j
  refine (pay1_at wd _ _ r l).trans ?_
  rw [e4, e3]
  rfl

end Cert.Ffn0

end
-- ==== Proof.Ffn0Ref.lean ====
module

public import proofs.«01_k».proof.Proof.Gen.Reference3Ideal.Read
public import proofs.«01_k».proof.Proof.FfnSpec
public import Idealize.ShloMosaic.Lib.Pointwise

@[expose] public section

set_option maxRecDepth 16384

noncomputable section

/-! # The third reference, row by row -/

namespace Cert.Ffn0.Ref

open Cert.Reference3Ideal Cert.Reference3Ideal.Gen Cert.Reference3Ideal.Read Cert.Spec
open Idealize.ShloMosaic Idealize.ShloMosaic.TcCoe Idealize.SL.Sem

variable (x0 : FVec Ideal S4x4096x1024 .f32) (x1 : FVec Ideal S16384x1024 .bf16) (x2 : FVec Ideal S32x16x1024 .f32)
  (x3 : FVec Ideal S512x1024 .bf16) (x4 : FVec Ideal S1x1024x1024 .f32) (x5 : FVec Ideal S2x1024 .f32)
  (x6 x7 : FVec Ideal S2x1024x2816 .f32) (x8 : FVec Ideal S2x2816x1024 .f32)

/-- The residual of a row of the prompt. -/
theorem prompt_resid (b : Fin 4) (s : Fin 4096) (l : Fin 1024) : val_main_v4 (F := Ideal) x0 x1 x4 (ix3 b s l)
    = resid (fun l => x0 (ix3 b s l)) (fun k => x1 (ix2 ⟨b.val * 4096 + s.val, by omega⟩ k)) (fun k l => x4 (ix3 0 k l)) l := by
  unfold resid
  pointwise [val_main_v4, val_main_v3, val_main_v2, val_main_v1, val_main_v0]

/-- The norm of a row of the prompt. -/
theorem prompt_norm (b : Fin 4) (s : Fin 4096) (l : Fin 1024) : val_main_v19 (F := Ideal) x0 x1 x4 x5 (ix3 b s l)
    = rmsRow (fun l => val_main_v4 (F := Ideal) x0 x1 x4 (ix3 b s l)) (fun l => x5 (ix2 0 l)) l := by
  unfold rmsRow rootMean
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]

/-- The gate's operand of a row of the prompt. -/
theorem prompt_widen (b : Fin 4) (s : Fin 4096) (j : Fin 2816) : val_main_v22 (F := Ideal) x0 x1 x4 x5 x6 (ix3 b s j)
    = widen (fun l => val_main_v19 (F := Ideal) x0 x1 x4 x5 (ix3 b s l)) (fun k j => x6 (ix3 0 k j)) j := by
  unfold widen
  pointwise [val_main_v22, val_main_v21, val_main_v20]

/-- The other operand of a row of the prompt. -/
theorem prompt_up (b : Fin 4) (s : Fin 4096) (j : Fin 2816) : val_main_v26 (F := Ideal) x0 x1 x4 x5 x7 (ix3 b s j)
    = widen (fun l => val_main_v19 (F := Ideal) x0 x1 x4 x5 (ix3 b s l)) (fun k j => x7 (ix3 0 k j)) j := by
  unfold widen
  pointwise [val_main_v26, val_main_v25, val_main_v24]

/-- The gated row of the prompt. -/
theorem prompt_gated (b : Fin 4) (s : Fin 4096) (j : Fin 2816) : val_main_v27 (F := Ideal) x0 x1 x4 x5 x6 x7 (ix3 b s j)
    = siluGate (val_main_v22 (F := Ideal) x0 x1 x4 x5 x6 (ix3 b s j)) * val_main_v26 (F := Ideal) x0 x1 x4 x5 x7 (ix3 b s j) := by
  unfold siluGate Ideal.logistic
  pointwise [val_main_v27, val_main_v23, val_main_call0_v5, val_main_call0_v4, val_main_call0_v3, val_main_call0_v2, val_main_call0_v1, val_main_call0_v0, val_main_call0_cst, val_main_call0_cst_0]

/-- The second residual of a row of the prompt. -/
theorem prompt_narrow (b : Fin 4) (s : Fin 4096) (l : Fin 1024) : val_main_v31 (F := Ideal) x0 x1 x4 x5 x6 x7 x8 (ix3 b s l)
    = narrow (fun l => val_main_v4 (F := Ideal) x0 x1 x4 (ix3 b s l)) (fun j => val_main_v27 (F := Ideal) x0 x1 x4 x5 x6 x7 (ix3 b s j))
        (fun j l => x8 (ix3 0 j l)) l := by
  unfold narrow
  pointwise [val_main_v31, val_main_v30, val_main_v29, val_main_v28]

/-- A result row of the prompt is the whole row, with the reference's gate. -/
theorem prompt_row (b : Fin 4) (s : Fin 4096) (l : Fin 1024) : val_main_v31 (F := Ideal) x0 x1 x4 x5 x6 x7 x8 (ix3 b s l)
    = plainRow siluGate (fun l => x0 (ix3 b s l)) (fun k => x1 (ix2 ⟨b.val * 4096 + s.val, by omega⟩ k)) (fun k l => x4 (ix3 0 k l)) (fun l => x5 (ix2 0 l))
        (fun k j => x6 (ix3 0 k j)) (fun k j => x7 (ix3 0 k j)) (fun j l => x8 (ix3 0 j l)) l := by
  have e4 := funext fun l => prompt_resid x0 x1 x4 b s l
  have e19 := funext fun l => prompt_norm x0 x1 x4 x5 b s l
  have e27 : (fun j => val_main_v27 (F := Ideal) x0 x1 x4 x5 x6 x7 (ix3 b s j))
      = gatedRow siluGate (fun l => val_main_v19 (F := Ideal) x0 x1 x4 x5 (ix3 b s l)) (fun k j => x6 (ix3 0 k j)) (fun k j => x7 (ix3 0 k j)) := by
    funext j
    rw [prompt_gated, prompt_widen, prompt_up]
    rfl
  rw [prompt_narrow, e27, e19, e4]
  rfl

/-- The prompt's result, a row at a time. -/
theorem prompt_result (b : Fin 4) (s : Fin 4096) (l : Fin 1024) :
    val_main_v32 (F := Ideal) x0 x1 x4 x5 x6 x7 x8 (ix2 ⟨b.val * 4096 + s.val, by omega⟩ l)
    = val_main_v31 (F := Ideal) x0 x1 x4 x5 x6 x7 x8 (ix3 b s l) := by
  pointwise [val_main_v32]

/-- The residual of a row of the sample. -/
theorem sample_resid (b : Fin 32) (s : Fin 16) (l : Fin 1024) : val_main_v37 (F := Ideal) x2 x3 x4 (ix3 b s l)
    = resid (fun l => x2 (ix3 b s l)) (fun k => x3 (ix2 ⟨b.val * 16 + s.val, by omega⟩ k)) (fun k l => x4 (ix3 0 k l)) l := by
  unfold resid
  pointwise [val_main_v37, val_main_v36, val_main_v35, val_main_v34, val_main_v33]

/-- The norm of a row of the sample. -/
theorem sample_norm (b : Fin 32) (s : Fin 16) (l : Fin 1024) : val_main_v52 (F := Ideal) x2 x3 x4 x5 (ix3 b s l)
    = rmsRow (fun l => val_main_v37 (F := Ideal) x2 x3 x4 (ix3 b s l)) (fun l => x5 (ix2 0 l)) l := by
  unfold rmsRow rootMean
  pointwise [val_main_v52, val_main_v51, val_main_v50, val_main_v49, val_main_v48, val_main_v47, val_main_v46, val_main_v45, val_main_v44, val_main_v43, val_main_v42, val_main_v41, val_main_v40, val_main_v39, val_main_v38, val_main_cst_2, val_main_cst_3, val_main_cst_4]

/-- The gate's operand of a row of the sample. -/
theorem sample_widen (b : Fin 32) (s : Fin 16) (j : Fin 2816) : val_main_v55 (F := Ideal) x2 x3 x4 x5 x6 (ix3 b s j)
    = widen (fun l => val_main_v52 (F := Ideal) x2 x3 x4 x5 (ix3 b s l)) (fun k j => x6 (ix3 0 k j)) j := by
  unfold widen
  pointwise [val_main_v55, val_main_v54, val_main_v53]

/-- The other operand of a row of the sample. -/
theorem sample_up (b : Fin 32) (s : Fin 16) (j : Fin 2816) : val_main_v59 (F := Ideal) x2 x3 x4 x5 x7 (ix3 b s j)
    = widen (fun l => val_main_v52 (F := Ideal) x2 x3 x4 x5 (ix3 b s l)) (fun k j => x7 (ix3 0 k j)) j := by
  unfold widen
  pointwise [val_main_v59, val_main_v58, val_main_v57]

/-- The gated row of the sample. -/
theorem sample_gated (b : Fin 32) (s : Fin 16) (j : Fin 2816) : val_main_v60 (F := Ideal) x2 x3 x4 x5 x6 x7 (ix3 b s j)
    = siluGate (val_main_v55 (F := Ideal) x2 x3 x4 x5 x6 (ix3 b s j)) * val_main_v59 (F := Ideal) x2 x3 x4 x5 x7 (ix3 b s j) := by
  unfold siluGate Ideal.logistic
  pointwise [val_main_v60, val_main_v56, val_main_call1_v5, val_main_call1_v4, val_main_call1_v3, val_main_call1_v2, val_main_call1_v1, val_main_call1_v0, val_main_call1_cst, val_main_call1_cst_0]

/-- The second residual of a row of the sample. -/
theorem sample_narrow (b : Fin 32) (s : Fin 16) (l : Fin 1024) : val_main_v64 (F := Ideal) x2 x3 x4 x5 x6 x7 x8 (ix3 b s l)
    = narrow (fun l => val_main_v37 (F := Ideal) x2 x3 x4 (ix3 b s l)) (fun j => val_main_v60 (F := Ideal) x2 x3 x4 x5 x6 x7 (ix3 b s j))
        (fun j l => x8 (ix3 0 j l)) l := by
  unfold narrow
  pointwise [val_main_v64, val_main_v63, val_main_v62, val_main_v61]

/-- A result row of the sample is the whole row, with the reference's gate. -/
theorem sample_row (b : Fin 32) (s : Fin 16) (l : Fin 1024) : val_main_v64 (F := Ideal) x2 x3 x4 x5 x6 x7 x8 (ix3 b s l)
    = plainRow siluGate (fun l => x2 (ix3 b s l)) (fun k => x3 (ix2 ⟨b.val * 16 + s.val, by omega⟩ k)) (fun k l => x4 (ix3 0 k l)) (fun l => x5 (ix2 0 l))
        (fun k j => x6 (ix3 0 k j)) (fun k j => x7 (ix3 0 k j)) (fun j l => x8 (ix3 0 j l)) l := by
  have e4 := funext fun l => sample_resid x2 x3 x4 b s l
  have e19 := funext fun l => sample_norm x2 x3 x4 x5 b s l
  have e27 : (fun j => val_main_v60 (F := Ideal) x2 x3 x4 x5 x6 x7 (ix3 b s j))
      = gatedRow siluGate (fun l => val_main_v52 (F := Ideal) x2 x3 x4 x5 (ix3 b s l)) (fun k j => x6 (ix3 0 k j)) (fun k j => x7 (ix3 0 k j)) := by
    funext j
    rw [sample_gated, sample_widen, sample_up]
    rfl
  rw [sample_narrow, e27, e19, e4]
  rfl

/-- The sample's result, a row at a time. -/
theorem sample_result (b : Fin 32) (s : Fin 16) (l : Fin 1024) :
    val_main_v65 (F := Ideal) x2 x3 x4 x5 x6 x7 x8 (ix2 ⟨b.val * 16 + s.val, by omega⟩ l)
    = val_main_v64 (F := Ideal) x2 x3 x4 x5 x6 x7 x8 (ix3 b s l) := by
  pointwise [val_main_v65]

end Cert.Ffn0.Ref

end
-- ==== Proof.Ffn0Bridge.lean ====
module

public import proofs.«01_k».proof.Proof.Ffn0Body
public import proofs.«01_k».proof.Proof.Ffn0Feed
public import proofs.«01_k».proof.Proof.Ffn0Kernel
public import proofs.«01_k».proof.Proof.Ffn0Ref

@[expose] public section

set_option maxRecDepth 16384

noncomputable section

/-! # The third kernel's stored results are the third reference's -/

namespace Cert.Ffn0

open Cert.Kernel3Ideal Cert.Kernel3Ideal.Gen Cert.Spec
open Idealize.ShloMosaic Idealize.ShloMosaic.TcCoe Idealize.SL.Sem
open Idealize.ShloMosaic.Pipeline (Dat)
open Cert.Reference3Ideal.Read

variable (m : (ℓ : Loc nD τ sig) → Buf (Elt Ideal) ℓ) (c : Dev nD)

/-- The operands the gate's argument is computed from hold real entries only. -/
structure Finite : Prop where
  /-- Operand 0. -/
  h0 : ∀ i : S4x4096x1024.Idx, IsReal (m (c, Proc.tc.devRef main_arg0) i)
  /-- Operand 1. -/
  h1 : ∀ i : S16384x1024.Idx, IsReal (m (c, Proc.tc.devRef main_arg1) i)
  /-- Operand 2. -/
  h2 : ∀ i : S32x16x1024.Idx, IsReal (m (c, Proc.tc.devRef main_arg2) i)
  /-- Operand 3. -/
  h3 : ∀ i : S512x1024.Idx, IsReal (m (c, Proc.tc.devRef main_arg3) i)
  /-- Operand 4. -/
  h4 : ∀ i : S1x1024x1024.Idx, IsReal (m (c, Proc.tc.devRef main_arg4) i)
  /-- Operand 5. -/
  h5 : ∀ i : S2x1024.Idx, IsReal (m (c, Proc.tc.devRef main_arg5) i)
  /-- Operand 6. -/
  h6 : ∀ i : S2x1024x2816.Idx, IsReal (m (c, Proc.tc.devRef main_arg6) i)

/-- What the kernel stores in a row of the prompt's block `n`. -/
theorem prompt_stored (t : Fin cfg0.N) (n : Fin 32) (hn : n.val = min t.val 31) (r : Fin 512) (l : Fin 1024) :
    promptAt m c t (ix2 r l) = plainRow tanhGate (fun l => m (c, Proc.tc.devRef main_arg0) (ix3 ⟨n.val / 8, by omega⟩ ⟨n.val % 8 * 512 + r.val, by omega⟩ l)) (fun k => m (c, Proc.tc.devRef main_arg1) (ix2 ⟨n.val * 512 + r.val, by omega⟩ k))
        (fun k l => m (c, Proc.tc.devRef main_arg4) (ix3 0 k l)) (fun l => m (c, Proc.tc.devRef main_arg5) (ix2 0 l))
        (fun k j => m (c, Proc.tc.devRef main_arg6) (ix3 0 k j)) (fun k j => m (c, Proc.tc.devRef main_arg7) (ix3 0 k j))
        (fun j l => m (c, Proc.tc.devRef main_arg8) (ix3 0 j l)) l := by
  refine (stored_at (iblk m c 0 t) (iblk m c 1 t) (iblk m c 4 t) (iblk m c 5 t) (iblk m c 6 t) (iblk m c 7 t) (iblk m c 8 t) r l).trans ?_
  exact congrFun (plainRow_congr (funext fun l => feed0 m c t n hn r l) (funext fun k => feed1 m c t n hn r k)
    (funext fun k => funext fun l => feed4 m c t k l) (funext fun l => feed5 m c t l) (funext fun k => funext fun j => feed6 m c t k j) (funext fun k => funext fun j => feed7 m c t k j) (funext fun j => funext fun l => feed8 m c t j l)) l

/-- What the kernel stores in a row of the sample. -/
theorem sample_stored (t : Fin cfg0.N) (r : Fin 512) (l : Fin 1024) :
    sampleAt m c t (ix2 r l) = plainRow tanhGate (fun l => m (c, Proc.tc.devRef main_arg2) (ix3 ⟨r.val / 16, by omega⟩ ⟨r.val % 16, by omega⟩ l)) (fun k => m (c, Proc.tc.devRef main_arg3) (ix2 r k))
        (fun k l => m (c, Proc.tc.devRef main_arg4) (ix3 0 k l)) (fun l => m (c, Proc.tc.devRef main_arg5) (ix2 0 l))
        (fun k j => m (c, Proc.tc.devRef main_arg6) (ix3 0 k j)) (fun k j => m (c, Proc.tc.devRef main_arg7) (ix3 0 k j))
        (fun j l => m (c, Proc.tc.devRef main_arg8) (ix3 0 j l)) l := by
  refine (stored_at (iblk m c 2 t) (iblk m c 3 t) (iblk m c 4 t) (iblk m c 5 t) (iblk m c 6 t) (iblk m c 7 t) (iblk m c 8 t) r l).trans ?_
  exact congrFun (plainRow_congr (funext fun l => feed2 m c t r l) (funext fun k => feed3 m c t r k)
    (funext fun k => funext fun l => feed4 m c t k l) (funext fun l => feed5 m c t l) (funext fun k => funext fun j => feed6 m c t k j) (funext fun k => funext fun j => feed7 m c t k j) (funext fun j => funext fun l => feed8 m c t j l)) l

/-- The reference's prompt result, on finite operands, with the kernel's gate: row `r` of block `n`. -/
theorem prompt_target (hA : Finite m c) (n : Fin 32) (r : Fin 512) (l : Fin 1024) :
    val_main_v32 (F := Ideal) (m (c, Proc.tc.devRef main_arg0)) (m (c, Proc.tc.devRef main_arg1)) (m (c, Proc.tc.devRef main_arg4)) (m (c, Proc.tc.devRef main_arg5)) (m (c, Proc.tc.devRef main_arg6)) (m (c, Proc.tc.devRef main_arg7)) (m (c, Proc.tc.devRef main_arg8)) (ix2 ⟨n.val * 512 + r.val, by omega⟩ l)
    = plainRow tanhGate (fun l => m (c, Proc.tc.devRef main_arg0) (ix3 ⟨n.val / 8, by omega⟩ ⟨n.val % 8 * 512 + r.val, by omega⟩ l)) (fun k => m (c, Proc.tc.devRef main_arg1) (ix2 ⟨n.val * 512 + r.val, by omega⟩ k))
        (fun k l => m (c, Proc.tc.devRef main_arg4) (ix3 0 k l)) (fun l => m (c, Proc.tc.devRef main_arg5) (ix2 0 l))
        (fun k j => m (c, Proc.tc.devRef main_arg6) (ix3 0 k j)) (fun k j => m (c, Proc.tc.devRef main_arg7) (ix3 0 k j))
        (fun j l => m (c, Proc.tc.devRef main_arg8) (ix3 0 j l)) l := by
  have hi : (ix2 ⟨n.val * 512 + r.val, by omega⟩ l : Cert.Reference3Ideal.S16384x1024.Idx)
      = ix2 ⟨(⟨n.val / 8, by omega⟩ : Fin 4).val * 4096 + (⟨n.val % 8 * 512 + r.val, by omega⟩ : Fin 4096).val, by dsimp only; omega⟩ l :=
    ix2_ext (by dsimp only; omega) rfl
  have hk : ∀ k : Fin 1024, (ix2 ⟨(⟨n.val / 8, by omega⟩ : Fin 4).val * 4096 + (⟨n.val % 8 * 512 + r.val, by omega⟩ : Fin 4096).val, by dsimp only; omega⟩ k : Cert.Reference3Ideal.S16384x1024.Idx)
      = ix2 ⟨n.val * 512 + r.val, by omega⟩ k := fun k => ix2_ext (by dsimp only; omega) rfl
  rw [hi, Ref.prompt_result, Ref.prompt_row]
  refine congrFun ((plainRow_congr rfl (funext fun k => congrArg _ (hk k)) rfl rfl rfl rfl rfl).trans (plainRow_gate _ ?_ ?_ ?_ ?_ ?_).symm) l
  · exact fun _ => hA.h0 _
  · exact fun _ => hA.h1 _
  · exact fun _ _ => hA.h4 _
  · exact fun _ => hA.h5 _
  · exact fun _ _ => hA.h6 _

/-- The reference's sample result, on finite operands, with the kernel's gate. -/
theorem sample_target (hA : Finite m c) (r : Fin 512) (l : Fin 1024) :
    val_main_v65 (F := Ideal) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (ix2 r l)
    = plainRow tanhGate (fun l => m (c, Proc.tc.devRef main_arg2) (ix3 ⟨r.val / 16, by omega⟩ ⟨r.val % 16, by omega⟩ l)) (fun k => m (c, Proc.tc.devRef main_arg3) (ix2 r k))
        (fun k l => m (c, Proc.tc.devRef main_arg4) (ix3 0 k l)) (fun l => m (c, Proc.tc.devRef main_arg5) (ix2 0 l))
        (fun k j => m (c, Proc.tc.devRef main_arg6) (ix3 0 k j)) (fun k j => m (c, Proc.tc.devRef main_arg7) (ix3 0 k j))
        (fun j l => m (c, Proc.tc.devRef main_arg8) (ix3 0 j l)) l := by
  have hi : (ix2 r l : Cert.Reference3Ideal.S512x1024.Idx)
      = ix2 ⟨(⟨r.val / 16, by omega⟩ : Fin 32).val * 16 + (⟨r.val % 16, by omega⟩ : Fin 16).val, by dsimp only; omega⟩ l :=
    ix2_ext (by dsimp only; omega) rfl
  have hk : ∀ k : Fin 1024, (ix2 ⟨(⟨r.val / 16, by omega⟩ : Fin 32).val * 16 + (⟨r.val % 16, by omega⟩ : Fin 16).val, by dsimp only; omega⟩ k : Cert.Reference3Ideal.S512x1024.Idx)
      = ix2 r k := fun k => ix2_ext (by dsimp only; omega) rfl
  rw [hi, Ref.sample_result, Ref.sample_row]
  refine congrFun ((plainRow_congr rfl (funext fun k => congrArg _ (hk k)) rfl rfl rfl rfl rfl).trans (plainRow_gate _ ?_ ?_ ?_ ?_ ?_).symm) l
  · exact fun _ => hA.h2 _
  · exact fun _ => hA.h3 _
  · exact fun _ _ => hA.h4 _
  · exact fun _ => hA.h5 _
  · exact fun _ _ => hA.h6 _

/-- The prompt's array ends at the reference's result. -/
theorem final10 (hA : Finite m c) : (dats m 0 c).arrAt 10 (cfgs 0).N = val_main_v32 (F := Ideal) (m (c, Proc.tc.devRef main_arg0)) (m (c, Proc.tc.devRef main_arg1)) (m (c, Proc.tc.devRef main_arg4)) (m (c, Proc.tc.devRef main_arg5)) (m (c, Proc.tc.devRef main_arg6)) (m (c, Proc.tc.devRef main_arg7)) (m (c, Proc.tc.devRef main_arg8)) := by
  refine (dats m 0 c).arrAt_eq_of_covers 10 _ (by decide +kernel) fun t _ y => ?_
  obtain ⟨n, hn⟩ : ∃ n : Fin 32, n.val = min t.val 31 := ⟨⟨min t.val 31, by omega⟩, rfl⟩
  have h0 : win0_10.index t = ![n.val, 0] := by rw [hn]; exact (spot t).2.2.2.2.2.2.2.2.2.2.1
  have e0 : ((win0_10.blk t).view.emb y 0).val = n.val * 512 + (y 0).val := by blk_simp [h0]
  have e1 : ((win0_10.blk t).view.emb y 1).val = (y 1).val := by blk_simp [h0]
  have e : (win0_10.blk t).view.emb y = ix2 ⟨n.val * 512 + (y 0).val, by have : (y 0).val < 512 := (y 0).isLt; omega⟩ (y 1) := by
    rw [eq_ix2 ((win0_10.blk t).view.emb y)]
    exact ix2_ext e0 e1
  blk_simp
  rw [after_10]
  refine (congrArg (promptAt m c (promptPoint t)) (eq_ix2 y)).trans ?_
  refine (prompt_stored m c (promptPoint t) n (by simp [promptPoint, hn]) (y 0) (y 1)).trans ?_
  exact ((congrArg _ e).trans (prompt_target m c hA n (y 0) (y 1))).symm

/-- The sample's array ends at the reference's result. -/
theorem final11 (hA : Finite m c) : (dats m 0 c).arrAt 11 (cfgs 0).N = val_main_v65 (F := Ideal) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) := by
  refine (dats m 0 c).arrAt_eq_of_covers 11 _ (by decide +kernel) fun t _ y => ?_
  have h0 : win0_11.index t = ![0, 0] := (spot t).2.2.2.2.2.2.2.2.2.2.2.1
  have e0 : ((win0_11.blk t).view.emb y 0).val = (y 0).val := by blk_simp [h0]
  have e1 : ((win0_11.blk t).view.emb y 1).val = (y 1).val := by blk_simp [h0]
  have e : (win0_11.blk t).view.emb y = ix2 (y 0) (y 1) := by
    rw [eq_ix2 ((win0_11.blk t).view.emb y)]
    exact ix2_ext e0 e1
  blk_simp
  rw [after_11]
  refine (congrArg (sampleAt m c t) (eq_ix2 y)).trans ?_
  refine (sample_stored m c t (y 0) (y 1)).trans ?_
  exact ((congrArg _ e).trans (sample_target m c hA (y 0) (y 1))).symm

end Cert.Ffn0

end
-- ==== Proof.Ffn0Value.lean ====
module

public import proofs.«01_k».proof.Defs
public import proofs.«01_k».proof.Proof.FfnValue
public import proofs.«01_k».proof.Proof.Ffn0Bridge
public import proofs.«01_k».proof.Proof.Gen.Reference3Ideal.Run
public import proofs.«01_k».proof.Proof.Gen.Pre_finite3
public import Idealize.ShloMosaic.Lib.Claim

@[expose] public section

set_option maxRecDepth 16384

noncomputable section

/-! # The claims about the third pair of programs -/

namespace Cert.Ffn0

open Cert.Spec
open Cert.Ffn (real_of_bound bound_wide bound_narrow)
open Idealize.ShloMosaic Idealize.ShloMosaic.TcCoe Idealize.SL.Sem

/-- The precondition makes the operands of the gate real. -/
theorem args_finite (m : (ℓ : Loc Cert.Kernel3Ideal.nD Cert.Kernel3Ideal.τ Cert.Kernel3Ideal.sig) → Buf (Elt Ideal) ℓ)
    (h : Cert.Pre_Kernel3Ideal_finite3 (hPre_finite3 := Cert.Pre_finite3.Gen.facts) m) (c : Dev Cert.Kernel3Ideal.nD) : Finite m c := by
  obtain ⟨h0, h1, h2, h3, h4, h5, h6⟩ := h c
  exact ⟨real_of_bound _ bound_wide _ _ h0, real_of_bound _ bound_narrow _ _ h1, real_of_bound _ bound_wide _ _ h2,
    real_of_bound _ bound_narrow _ _ h3, real_of_bound _ bound_wide _ _ h4, real_of_bound _ bound_wide _ _ h5, real_of_bound _ bound_wide _ _ h6⟩

/-- The reference leaves its arguments as it finds them and its counters at zero. -/
theorem reference_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0) :=
  θ_run_mono (Cert.Reference3Ideal.Value.run (F := Ideal) m g) fun r hr => ⟨fun c => (hr c).2.2, sem_eq_zero_of_no_sems rfl r.2⟩

/-- The prompt's array ends at the reference's composed term over a memory with the same arguments. -/
theorem result10 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD) (hA : Finite m c)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (e4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (e5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (e6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (e7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (e8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) :
    Cert.Reference3Ideal.Read.val_main_v32 (F := Ideal) (StableHlo.launchContents m' c (Proc.devRef .tc Cert.Reference3Ideal.main_arg0)) (StableHlo.launchContents m' c (Proc.devRef .tc Cert.Reference3Ideal.main_arg1)) (StableHlo.launchContents m' c (Proc.devRef .tc Cert.Reference3Ideal.main_arg4)) (StableHlo.launchContents m' c (Proc.devRef .tc Cert.Reference3Ideal.main_arg5)) (StableHlo.launchContents m' c (Proc.devRef .tc Cert.Reference3Ideal.main_arg6)) (StableHlo.launchContents m' c (Proc.devRef .tc Cert.Reference3Ideal.main_arg7)) (StableHlo.launchContents m' c (Proc.devRef .tc Cert.Reference3Ideal.main_arg8)) = (dats m 0 c).arrAt 10 (Cert.Kernel3Ideal.cfgs 0).N :=
  (congr (congr (congr (congr (congr (congr (congrArg (Cert.Reference3Ideal.Read.val_main_v32 (F := Ideal)) e0) e1) e4) e5) e6) e7) e8).trans (final10 m c hA).symm

/-- The sample's array ends at the reference's composed term over a memory with the same arguments. -/
theorem result11 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD) (hA : Finite m c)
    (e2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (e3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (e4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (e5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (e6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (e7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (e8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) :
    Cert.Reference3Ideal.Read.val_main_v65 (F := Ideal) (StableHlo.launchContents m' c (Proc.devRef .tc Cert.Reference3Ideal.main_arg2)) (StableHlo.launchContents m' c (Proc.devRef .tc Cert.Reference3Ideal.main_arg3)) (StableHlo.launchContents m' c (Proc.devRef .tc Cert.Reference3Ideal.main_arg4)) (StableHlo.launchContents m' c (Proc.devRef .tc Cert.Reference3Ideal.main_arg5)) (StableHlo.launchContents m' c (Proc.devRef .tc Cert.Reference3Ideal.main_arg6)) (StableHlo.launchContents m' c (Proc.devRef .tc Cert.Reference3Ideal.main_arg7)) (StableHlo.launchContents m' c (Proc.devRef .tc Cert.Reference3Ideal.main_arg8)) = (dats m 0 c).arrAt 11 (Cert.Kernel3Ideal.cfgs 0).N :=
  (congr (congr (congr (congr (congr (congr (congrArg (Cert.Reference3Ideal.Read.val_main_v65 (F := Ideal)) e2) e3) e4) e5) e6) e7) e8).trans (final11 m c hA).symm

/-- The kernel's two results are the reference's, exactly, on finite operands. -/
theorem value : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hagree
  refine ⟨fun c => (dats m 0 c).arrAt 10 (Cert.Kernel3Ideal.cfgs 0).N, fun c => (dats m 0 c).arrAt 11 (Cert.Kernel3Ideal.cfgs 0).N, ?_, ?_⟩
  · exact θ_run_mono (θ_run_and (run_main m g) (unchanged m g)) fun r hr c => ⟨(hr.1 c).1 10, (hr.1 c).1 11, hr.2 c⟩
  · refine θ_run_mono (Cert.Reference3Ideal.Value.run (F := Ideal) m' g') fun r hr c => ?_
    obtain ⟨h0, h1, hargs⟩ := hr c
    obtain ⟨e0, e1, e2, e3, e4, e5, e6, e7, e8, e9⟩ := hagree c
    have hA := args_finite m hpre c
    exact ⟨h0.trans ((Cert.Reference3Ideal.Read.val_main_v32_eq m' c).trans (result10 m m' c hA e0 e1 e4 e5 e6 e7 e8)),
      h1.trans ((Cert.Reference3Ideal.Read.val_main_v65_eq m' c).trans (result11 m m' c hA e2 e3 e4 e5 e6 e7 e8)), hargs⟩

end Cert.Ffn0

end
-- ==== Proof.Ffn0Printed.lean ====
/- The frame of layer 0's feed-forward kernel as printed. Its idealisation is the same text, and the run of that text is proved for
   any float values, so the run at bit-exact floats gives the printed program's frame. -/
module

public import proofs.«01_k».proof.Defs
public import proofs.«01_k».proof.Proof.Gen.Kernel3
public import proofs.«01_k».proof.Proof.Ffn0Body

@[expose] public section

set_option maxRecDepth 65536

noncomputable section

namespace Cert.Ffn0

open Idealize.ShloMosaic Idealize.ShloMosaic.TcCoe Idealize.SL.Sem

/-- The two programs have the same body table. -/
theorem same_bodies : Cert.Kernel3Ideal.defs₀ (F := Bits) = Cert.Kernel3.defs₀ (F := Bits) := by
  unfold Cert.Kernel3Ideal.defs₀ Cert.Kernel3.defs₀
  refine congrArg Defs.onTc (funext fun l => funext fun a => ?_)
  match l, a with
  | 0, (t, s) => rfl

/-- The two programs have the same table of bodies and pipelines. -/
theorem same_defs : Cert.Kernel3Ideal.defs (F := Bits) = Cert.Kernel3.defs (F := Bits) :=
  congrArg (Pipeline.defs Cert.Kernel3.pcfgs) same_bodies

/-- Every run of the printed kernel leaves the arguments as they were and every semaphore at zero. -/
theorem printed_frame : Cert.quiescent_Kernel3 (hKernel3 := Cert.Kernel3.Gen.facts) := by
  intro m ρ _
  rw [← same_defs]
  exact Cert.Ffn0.ideal_frame (F := Bits) m ρ

end Cert.Ffn0
-- ==== Proof.NormProj.lean ====
/-
The fourth pair of programs: a row's norm followed by the up projection, for the sample's rows. What the kernel
stores and what the reference returns are the same sums, so no precondition is needed.
-/
module

public import proofs.«01_k».proof.Defs
public import proofs.«01_k».proof.Proof.FfnSpec
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim
public import Idealize.ShloMosaic.Lib.Pipeline.ValueKit
public import Idealize.ShloMosaic.Lib.Pointwise

@[expose] public section

set_option maxRecDepth 16384

noncomputable section

/-! # The norm and the up projection of the sample -/

namespace Cert.NormProj

open Cert.Kernel4Ideal Cert.Kernel4Ideal.Gen Cert.Spec
open Idealize.ShloMosaic Idealize.ShloMosaic.TcCoe Idealize.SL.Sem
open Idealize.ShloMosaic.Pipeline (Dat)
open Cert.Reference4Ideal.Read

/-- A row's norm through the up projection. -/
def projRow (x g : Fin 1024 → EReal) (w : Fin 1024 → Fin 4096 → EReal) (j : Fin 4096) : EReal := ∑ k, rmsRow x g k * w k j

/-- The row the kernel's body computes from its three blocks. -/
theorem pay_at (x : Vec Ideal S512x1024 .f32) (g : Vec Ideal S1x1024 .f32) (w : Vec Ideal S1024x4096 .bf16) (r : Fin 512) (j : Fin 4096) :
    k0_pay1 x g w (ix2 r j) = projRow (fun l => x (ix2 r l)) (fun l => g (ix2 0 l)) (fun k j => w (ix2 k j)) j := by
  unfold projRow rmsRow rootMean
  pointwise [k0_pay1]

/-- The reference's norm of a row. -/
theorem ref_norm (x0 : FVec Ideal S32x16x1024 .f32) (x1 : FVec Ideal S2x1024 .f32) (b : Fin 32) (s : Fin 16) (l : Fin 1024) :
    val_main_v14 (F := Ideal) x0 x1 (ix3 b s l) = rmsRow (fun l => x0 (ix3 b s l)) (fun l => x1 (ix2 1 l)) l := by
  unfold rmsRow rootMean
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference's row before the rows of the two axes are numbered as one. -/
theorem ref_row (x0 : FVec Ideal S32x16x1024 .f32) (x1 : FVec Ideal S2x1024 .f32) (x2 : FVec Ideal S1x1024x4096 .f32) (b : Fin 32) (s : Fin 16) (j : Fin 4096) :
    val_main_v16 (F := Ideal) x0 x1 x2 (ix3 b s j)
    = projRow (fun l => x0 (ix3 b s l)) (fun l => x1 (ix2 1 l)) (fun k j => x2 (ix3 0 k j)) j := by
  have e : ∑ k, val_main_v14 (F := Ideal) x0 x1 (ix3 b s k) * x2 (ix3 0 k j) = projRow (fun l => x0 (ix3 b s l)) (fun l => x1 (ix2 1 l)) (fun k j => x2 (ix3 0 k j)) j :=
    Finset.sum_congr rfl fun k _ => by rw [ref_norm]
  rw [← e]
  pointwise [val_main_v16, val_main_v15]

/-- The reference's result at row `r`. -/
theorem ref_result (x0 : FVec Ideal S32x16x1024 .f32) (x1 : FVec Ideal S2x1024 .f32) (x2 : FVec Ideal S1x1024x4096 .f32) (r : Fin 512) (j : Fin 4096) :
    val_main_v17 (F := Ideal) x0 x1 x2 (ix2 r j)
    = projRow (fun l => x0 (ix3 ⟨r.val / 16, by omega⟩ ⟨r.val % 16, by omega⟩ l)) (fun l => x1 (ix2 1 l)) (fun k j => x2 (ix3 0 k j)) j := by
  rw [val_main_v17_apply, ← ref_row]
  refine congrArg _ ?_
  rw [eq_ix3 (idx_main_v17 (ix2 r j))]
  refine ix3_ext ?_ ?_ ?_
  · show (r.val * 4096 + j.val) / 65536 = r.val / 16
    omega
  · show (r.val * 4096 + j.val) / 4096 % 16 = r.val % 16
    omega
  · show (r.val * 4096 + j.val) % 4096 = j.val
    omega

variable (m : (ℓ : Loc nD τ sig) → Buf (Elt Ideal) ℓ)

/-- Every window sits at its array's start. -/
theorem spot : ∀ t : Fin cfg0.N, win0_0.index t = ![0, 0] ∧ win0_1.index t = ![0, 0] ∧ win0_2.index t = ![0, 0] ∧ win0_3.index t = ![0, 0] :=
  (by decide +kernel : ∀ t : Fin grid0.N, _)

variable (c : Dev nD) (t : Fin cfg0.N)

/-- The sample's rows. -/
theorem feed0 (r : Fin 512) (l : Fin 1024) : iblk m c 0 t (ix2 r l)
    = m (c, Proc.tc.devRef main_arg0) (ix3 ⟨r.val / 16, by omega⟩ ⟨r.val % 16, by omega⟩ l) := by
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

/-- The norm's weights. -/
theorem feed1 (l : Fin 1024) : iblk m c 1 t (ix2 0 l) = m (c, Proc.tc.devRef main_arg1) (ix2 1 l) := by
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

/-- The up projection's weights. -/
theorem feed2 (k : Fin 1024) (j : Fin 4096) : iblk m c 2 t (ix2 k j) = m (c, Proc.tc.devRef main_arg2) (ix3 0 k j) := by
  blk_simp [iblk, spot t]
  simp only [V, List.flatten_cons, List.flatten_nil, List.append_nil, List.cons_append, List.nil_append, hostOps0]
  after_results
  try simp only [StableHlo.TRef.toBuf, StableHlo.TRef.ofBuf, cast_cast, cast_eq]
  pointwise
  try blk_simp [spot t]
  all_goals (try (congr 1; congr 1 <;> (try apply Fin.ext) <;> (first | (blk_simp [spot t]; done) | (blk_simp [spot t]; omega) | (simp; omega))))

/-- A load of a whole block reads the block. -/
theorem load_whole (x : Vec Ideal S512x1024 .f32) (g : Vec Ideal S1x1024 .f32) (w : Vec Ideal S1024x4096 .bf16) (r : Fin 512) (k : Fin 1024) (j : Fin 4096) :
    View.ld x r0_0 (ix2 r k) = x (ix2 r k) ∧ View.ld g r0_1 (ix2 0 k) = g (ix2 0 k) ∧ View.ld w r0_2 (ix2 k j) = w (ix2 k j) := by
  refine ⟨?_, ?_, ?_⟩ <;> pointwise

/-- What the kernel's only point stores in row `r`. -/
theorem stored (r : Fin 512) (j : Fin 4096) :
    k0_pay1 (View.ld (iblk m c 0 t) r0_0) (View.ld (iblk m c 1 t) r0_1) (View.ld (iblk m c 2 t) r0_2) (ix2 r j)
    = val_main_v17 (F := Ideal) (m (c, Proc.tc.devRef main_arg0)) (m (c, Proc.tc.devRef main_arg1)) (m (c, Proc.tc.devRef main_arg2)) (ix2 r j) := by
  refine (pay_at _ _ _ r j).trans ?_
  rw [ref_result]
  have e0 : (fun l => View.ld (iblk m c 0 t) r0_0 (ix2 r l)) = fun l => m (c, Proc.tc.devRef main_arg0) (ix3 ⟨r.val / 16, by omega⟩ ⟨r.val % 16, by omega⟩ l) :=
    funext fun l => (load_whole (iblk m c 0 t) (iblk m c 1 t) (iblk m c 2 t) r l j).1.trans (feed0 m c t r l)
  have e1 : (fun l => View.ld (iblk m c 1 t) r0_1 (ix2 0 l)) = fun l => m (c, Proc.tc.devRef main_arg1) (ix2 1 l) :=
    funext fun l => (load_whole (iblk m c 0 t) (iblk m c 1 t) (iblk m c 2 t) r l j).2.1.trans (feed1 m c t l)
  have e2 : (fun k j => View.ld (iblk m c 2 t) r0_2 (ix2 k j)) = fun k j => m (c, Proc.tc.devRef main_arg2) (ix3 0 k j) :=
    funext fun k => funext fun j => (load_whole (iblk m c 0 t) (iblk m c 1 t) (iblk m c 2 t) r k j).2.2.trans (feed2 m c t k j)
  exact congrFun (congr (congr (congrArg projRow e0) e1) e2) j

/-- The output array ends at the reference's result. -/
theorem final3 : (dats m 0 c).arrAt 3 cfg0.N
    = val_main_v17 (F := Ideal) (m (c, Proc.tc.devRef main_arg0)) (m (c, Proc.tc.devRef main_arg1)) (m (c, Proc.tc.devRef main_arg2)) := by
  refine (dats m 0 c).arrAt_eq_of_covers 3 _ (by decide +kernel) fun t _ y => ?_
  have hw : win0_3.index t = ![0, 0] := (spot t).2.2.2
  have e0 : ((win0_3.blk t).view.emb y 0).val = (y 0).val := by blk_simp [hw]
  have e1 : ((win0_3.blk t).view.emb y 1).val = (y 1).val := by blk_simp [hw]
  have e : (win0_3.blk t).view.emb y = ix2 (y 0) (y 1) := by
    rw [eq_ix2 ((win0_3.blk t).view.emb y)]
    exact ix2_ext e0 e1
  blk_simp
  rw [after0_3]
  unfold out0_3
  canon_tiles y h
  case piece0 =>
    rw [eq_ix2 y]
    exact (stored m c t (y 0) (y 1)).trans (congrArg _ (e.trans (ix2_ext h0 h1)).symm)

/-- The reference leaves its arguments as it finds them and its counters at zero. -/
theorem reference_frame : Cert.quiescent_Reference4Ideal (hReference4Ideal := Cert.Reference4Ideal.Gen.facts) := fun m g _ =>
  θ_run_mono (Cert.Reference4Ideal.Value.run (F := Ideal) m g) fun r hr => ⟨fun c => (hr c).2, sem_eq_zero_of_no_sems rfl r.2⟩

/-- The kernel's result is the reference's, exactly, on every input. -/
theorem value : Cert.algebraic_Kernel4Ideal_Reference4Ideal (hKernel4Ideal := Cert.Kernel4Ideal.Gen.facts)
    (hReference4Ideal := Cert.Reference4Ideal.Gen.facts) := by
  intro m g m' g' _ hagree
  refine ⟨fun c => (dats m 0 c).arrAt 3 cfg0.N, Cert.Kernel4Ideal.Value.run_blocks m g, ?_⟩
  refine θ_run_mono (Cert.Reference4Ideal.Value.run (F := Ideal) m' g') fun r hr c => ?_
  obtain ⟨h0, hargs⟩ := hr c
  obtain ⟨e0, e1, e2⟩ := hagree c
  refine ⟨h0.trans ((val_main_v17_eq _ _ _).trans ?_), hargs⟩
  exact (congr (congr (congrArg (val_main_v17 (F := Ideal)) e0) e1) e2).trans (final3 m c).symm

end Cert.NormProj

end
-- ==== Proof.InProj.lean ====
/-
The fifth pair of programs: the cast of the first layer's weights with its reordering of the columns, followed by the
sample's norm and its input projection through the cast weights. Both sides are the same sums: no precondition.
-/
module

public import proofs.«01_k».proof.Proof.NormProj
public import proofs.«01_k».proof.Proof.Gen.Kernel5Ideal.Frame
public import proofs.«01_k».proof.Proof.Gen.Reference5Ideal.Run
public import proofs.«01_k».proof.Proof.Gen.Reference5Ideal.Read

@[expose] public section

set_option maxRecDepth 16384

noncomputable section

/-! # The reordered weights and the sample's input projection -/

namespace Cert.InProj

open Cert.Kernel5Ideal Cert.Kernel5Ideal.Gen Cert.Spec
open Cert.NormProj (projRow)
open Idealize.ShloMosaic Idealize.ShloMosaic.TcCoe
open Idealize.SL Idealize.SL.RA Idealize.SL.BI Idealize.SL.Sem Idealize.SL.ProofMode
open Idealize.SL.BI.BIBase Idealize.SL.BI.Laws
open Idealize.ShloMosaic.Rounds
open Cert.Reference5Ideal.Read

/-- The source's column for column `j` of the reordered weights: there the 8 parts of a head stand side by side, in the source the 4 heads of a part. -/
def src (j : Fin 4096) : Fin 4096 := ⟨j.val / 128 % 8 * 512 + j.val / 1024 * 128 + j.val % 128, by omega⟩

/-- The reference's norm of a row. -/
theorem ref_norm (x0 : FVec Ideal S32x16x1024 .f32) (x1 : FVec Ideal S2x1024 .f32) (b : Fin 32) (s : Fin 16) (l : Fin 1024) :
    val_main_v14 (F := Ideal) x0 x1 (ix3 b s l) = rmsRow (fun l => x0 (ix3 b s l)) (fun l => x1 (ix2 0 l)) l := by
  unfold rmsRow rootMean
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference's result at row `r` and column `j`. -/
theorem ref_result (x0 : FVec Ideal S32x16x1024 .f32) (x1 : FVec Ideal S2x1024 .f32) (x2 : FVec Ideal S1x1024x4096 .f32) (r : Fin 512) (j : Fin 4096) :
    val_main_v19 (F := Ideal) x0 x1 x2 (ix2 r j)
    = projRow (fun l => x0 (ix3 ⟨r.val / 16, by omega⟩ ⟨r.val % 16, by omega⟩ l)) (fun l => x1 (ix2 0 l)) (fun k j => x2 (ix3 0 k (src j))) j := by
  have e : idx_main_v17 (idx_main_v18 (idx_main_v19 (ix2 r j))) = ix3 ⟨r.val / 16, by omega⟩ ⟨r.val % 16, by omega⟩ (src j) := by
    rw [eq_ix3 (idx_main_v17 _)]
    have hr := r.isLt
    have hj := j.isLt
    have q : ((((r.val * 4096 + j.val) / 4096 * 8 + (r.val * 4096 + j.val) / 128 % 8) * 4 + (r.val * 4096 + j.val) / 1024 % 4) * 128 + (r.val * 4096 + j.val) % 128) = r.val * 4096 + (src j).val := by
      show _ = r.val * 4096 + (j.val / 128 % 8 * 512 + j.val / 1024 * 128 + j.val % 128)
      omega
    have hs := (src j).isLt
    refine ix3_ext ?_ ?_ ?_
    · show ((((r.val * 4096 + j.val) / 4096 * 8 + (r.val * 4096 + j.val) / 128 % 8) * 4 + (r.val * 4096 + j.val) / 1024 % 4) * 128 + (r.val * 4096 + j.val) % 128) / 65536 = r.val / 16
      rw [q]; omega
    · show ((((r.val * 4096 + j.val) / 4096 * 8 + (r.val * 4096 + j.val) / 128 % 8) * 4 + (r.val * 4096 + j.val) / 1024 % 4) * 128 + (r.val * 4096 + j.val) % 128) / 4096 % 16 = r.val % 16
      rw [q]; omega
    · show ((((r.val * 4096 + j.val) / 4096 * 8 + (r.val * 4096 + j.val) / 128 % 8) * 4 + (r.val * 4096 + j.val) / 1024 % 4) * 128 + (r.val * 4096 + j.val) % 128) % 4096 = (src j).val
      rw [q]; omega
  rw [val_main_v19_apply, val_main_v18_apply, val_main_v17_apply, e]
  have e' : ∑ k, val_main_v14 (F := Ideal) x0 x1 (ix3 ⟨r.val / 16, by omega⟩ ⟨r.val % 16, by omega⟩ k) * x2 (ix3 0 k (src j)) = projRow (fun l => x0 (ix3 ⟨r.val / 16, by omega⟩ ⟨r.val % 16, by omega⟩ l)) (fun l => x1 (ix2 0 l)) (fun k j => x2 (ix3 0 k (src j))) j :=
    Finset.sum_congr rfl fun k _ => by rw [ref_norm]
  rw [← e']
  pointwise [val_main_v16, val_main_v15]

variable (m : (ℓ : Loc nD τ sig) → Buf (Elt Ideal) ℓ) (ρ : Dev nD → PrngReg) (c : Dev nD)

/-- Where the cast's windows sit: block `t` of the rows. -/
theorem spot0 : ∀ t : Fin cfg0.N, win0_0.index t = ![t.val, 0] ∧ win0_1.index t = ![t.val, 0] :=
  (by decide +kernel : ∀ t : Fin grid0.N, _)

/-- The projection's windows sit at their arrays' starts. -/
theorem spot1 : ∀ t : Fin cfg1.N, win1_0.index t = ![0, 0] ∧ win1_1.index t = ![0, 0] ∧ win1_2.index t = ![0, 0] ∧ win1_3.index t = ![0, 0] :=
  (by decide +kernel : ∀ t : Fin grid1.N, _)

/-- The weights the cast is given. -/
theorem given (k : Fin 1024) (j : Fin 4096) : V1 m ρ c main_v0 (ix2 k j) = m (c, Proc.tc.devRef main_arg2) (ix3 0 k j) := by
  show StableHlo.after hostOps0 (W0 m ρ c) (Proc.devRef .tc main_v0) _ = _
  after_results
  pointwise

/-- A block of the cast's input. -/
theorem feed (t : Fin cfg0.N) (r : Fin 256) (j : Fin 4096) (k : Fin 1024) (hk : t.val * 256 + r.val = k.val) :
    iblk0 (V1 m ρ) c 0 t (ix2 r j) = m (c, Proc.tc.devRef main_arg2) (ix3 0 k j) := by
  have e : (win0_0.blk t).view.emb (ix2 r j) = ix2 k j := by
    rw [eq_ix2 ((win0_0.blk t).view.emb (ix2 r j))]
    refine ix2_ext ?_ ?_
    · rw [← hk]; blk_simp [spot0 t]
    · blk_simp [spot0 t]
  exact (congrArg (V1 m ρ c main_v0) e).trans (given m ρ c k j)

/-- The weights as the cast leaves them. -/
def cast (k : Fin 1024) (j : Fin 4096) : EReal := m (c, Proc.tc.devRef main_arg2) (ix3 0 k (src j))

/-- A stored block is the loaded block. -/
theorem cast_at (v : Vec Ideal S256x128 .f32) (y : S256x128.Idx) : k0_pay1 v y = v y := by pointwise [k0_pay1]

/-- A load of a block of columns reads the source from column `o` on. -/
theorem ld_at (x : Vec Ideal S256x4096 .f32) (o : ℕ) (inb) (y : S256x128.Idx) (b : Fin 4096) (hb : b.val = o + (y 1).val) :
    View.ld x (Rect.unit (s := S256x4096) ![0, o] S256x128.size inb) y = x (ix2 (y 0) b) := by
  rw [eq_ix2 y]
  pointwise
  exact congrArg x (ix2_ext rfl hb.symm)

/-- The cast's output array. -/
theorem final0 : (dat0 (V1 m ρ) c).arrAt 1 cfg0.N = fun i => cast m c (i 0) (i 1) := by
  refine (dat0 (V1 m ρ) c).arrAt_eq_of_covers 1 _ (by decide +kernel) fun t _ y => ?_
  have hw : win0_1.index t = ![t.val, 0] := (spot0 t).2
  have e0 : ((win0_1.blk t).view.emb y 0).val = t.val * 256 + (y 0).val := by blk_simp [hw]
  have e1 : ((win0_1.blk t).view.emb y 1).val = (y 1).val := by blk_simp [hw]
  blk_simp
  generalize (win0_1.blk t).view.emb y 0 = p at e0 ⊢
  generalize (win0_1.blk t).view.emb y 1 = q at e1 ⊢
  rw [after0_1]
  unfold out0_1
  canon_tiles y h
  all_goals
    refine (cast_at _ y).trans (Eq.trans (b := iblk0 (V1 m ρ) c 0 t (ix2 (y 0) (src q))) ?_ (feed m ρ c t (y 0) (src q) p ?_))
    · refine ld_at _ _ _ y _ ?_
      show q.val / 128 % 8 * 512 + q.val / 1024 * 128 + q.val % 128 = _
      omega
    · show t.val * 256 + (y 0).val = p.val
      omega

variable (t : Fin cfg1.N)

/-- The sample's rows. -/
theorem feed0 (r : Fin 512) (l : Fin 1024) : iblk1 (V3 m ρ) c 0 t (ix2 r l)
    = m (c, Proc.tc.devRef main_arg0) (ix3 ⟨r.val / 16, by omega⟩ ⟨r.val % 16, by omega⟩ l) := by
  blk_simp [iblk1, spot1 t]
  show StableHlo.after hostOps1 (W2 m ρ c) (Proc.devRef .tc main_v2) _ = _
  after_results
  rw [W2_args m ρ c main_arg0 (by decide)]
  pointwise
  congr 1
  refine ix3_ext ?_ ?_ ?_ <;> blk_simp [spot1 t] <;> omega

/-- The norm's weights. -/
theorem feed1 (l : Fin 1024) : iblk1 (V3 m ρ) c 1 t (ix2 0 l) = m (c, Proc.tc.devRef main_arg1) (ix2 0 l) := by
  blk_simp [iblk1, spot1 t]
  show StableHlo.after hostOps1 (W2 m ρ c) (Proc.devRef .tc main_v5) _ = _
  after_results
  rw [W2_args m ρ c main_arg1 (by decide)]
  pointwise
  congr 1
  refine ix2_ext ?_ ?_ <;> blk_simp [spot1 t] <;> omega

/-- The cast weights. -/
theorem feed2 (k : Fin 1024) (j : Fin 4096) : iblk1 (V3 m ρ) c 2 t (ix2 k j) = cast m c k j := by
  have h : V3 m ρ c main_v1 = fun i => cast m c (i 0) (i 1) :=
    (W3_of m ρ c main_v1 (by decide)).trans ((W2_arr m ρ c 1).trans (final0 m ρ c))
  have e : (win1_2.blk t).view.emb (ix2 k j) = ix2 k j := by
    rw [eq_ix2 ((win1_2.blk t).view.emb (ix2 k j))]
    refine ix2_ext ?_ ?_ <;> blk_simp [spot1 t]
  exact (congrFun h _).trans (by rw [e]; rfl)

/-- What the only point stores in row `r`. -/
theorem stored (r : Fin 512) (j : Fin 4096) :
    k1_pay1 (View.ld (iblk1 (V3 m ρ) c 0 t) r1_0) (View.ld (iblk1 (V3 m ρ) c 1 t) r1_1) (View.ld (iblk1 (V3 m ρ) c 2 t) r1_2) (ix2 r j)
    = val_main_v19 (F := Ideal) (m (c, Proc.tc.devRef main_arg0)) (m (c, Proc.tc.devRef main_arg1)) (m (c, Proc.tc.devRef main_arg2)) (ix2 r j) := by
  refine (Cert.NormProj.pay_at _ _ _ r j).trans ?_
  rw [ref_result]
  have q := Cert.NormProj.load_whole (iblk1 (V3 m ρ) c 0 t) (iblk1 (V3 m ρ) c 1 t) (iblk1 (V3 m ρ) c 2 t)
  exact congrFun (congr (congr (congrArg projRow (funext fun l => (q r l j).1.trans (feed0 m ρ c t r l)))
    (funext fun l => (q r l j).2.1.trans (feed1 m ρ c t l)))
    (funext fun k => funext fun j => (q r k j).2.2.trans (feed2 m ρ c t k j))) j

/-- The output array ends at the reference's result. -/
theorem final3 : (dat1 (V3 m ρ) c).arrAt 3 cfg1.N
    = val_main_v19 (F := Ideal) (m (c, Proc.tc.devRef main_arg0)) (m (c, Proc.tc.devRef main_arg1)) (m (c, Proc.tc.devRef main_arg2)) := by
  refine (dat1 (V3 m ρ) c).arrAt_eq_of_covers 3 _ (by decide +kernel) fun t _ y => ?_
  have hw : win1_3.index t = ![0, 0] := (spot1 t).2.2.2
  have e : (win1_3.blk t).view.emb y = ix2 (y 0) (y 1) := by
    rw [eq_ix2 ((win1_3.blk t).view.emb y)]
    refine ix2_ext ?_ ?_ <;> blk_simp [hw]
  blk_simp
  rw [after1_3]
  unfold out1_3
  canon_tiles y h
  case piece0 =>
    rw [eq_ix2 y]
    exact (stored m ρ c t (y 0) (y 1)).trans (congrArg _ (e.trans (ix2_ext h0 h1)).symm)

/-- The reference leaves its arguments as it finds them and its counters at zero. -/
theorem reference_frame : Cert.quiescent_Reference5Ideal (hReference5Ideal := Cert.Reference5Ideal.Gen.facts) := fun m g _ =>
  θ_run_mono (Cert.Reference5Ideal.Value.run (F := Ideal) m g) fun r hr => ⟨fun c => (hr c).2, sem_eq_zero_of_no_sems rfl r.2⟩

local notation "𝕄" => MT nD τ sig Unit (Elt Ideal) ℕ (UR sig nD τ) ℕ

/-- What the two calls' pipelines are launched with. -/
abbrev tokens := initOf (Pipeline.cells cfgs cellOf_inj) (Pipeline.launchToks cfgs cellOf_inj)

-- the launch's implicit arguments are found by unfolding plain definitions in the types of what is still open
set_option backward.isDefEq.respectTransparency.types false in
/-- The run of both calls: every unscoped buffer ends at its contents after the last call. -/
theorem run : θ_run defs (onTc (τ := τ) (main (F := Ideal))) ⟨m, fun _ => 0, ρ⟩ fun r =>
    ∀ c : Dev nD, ∀ b ∈ Pipeline.ucRefs τ sig, r.2.mem (((c : Thread nD τ)).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := tokens)
    (hu₀ := by
      iintro Hu
      imodintro
      isplitl [Hu]
      · iapply (show (ownU tokens : sProp 𝕄) ⊢ BI.own (emb₁ tokens) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, Ho, -, Hp, -⟩, -⟩
      imodintro
      isplitl [Hh]
      · iexact Hh
      isplitl [Hp] <;> iexists _ <;> iassumption)
    (QY := fun c s => ∀ b ∈ Pipeline.ucRefs τ sig, s.mem (((c : Thread nD τ)).1, b) = W4 m ρ c b)
    (hfin := fun c s' => by
      iintro ⟨⟨Hh, -⟩, Hs⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The kernel's result is the reference's, exactly, on every input. -/
theorem value : Cert.algebraic_Kernel5Ideal_Reference5Ideal (hKernel5Ideal := Cert.Kernel5Ideal.Gen.facts)
    (hReference5Ideal := Cert.Reference5Ideal.Gen.facts) := by
  intro m g m' g' _ hagree
  refine ⟨fun c => (dat1 (V3 m g) c).arrAt 3 cfg1.N, θ_run_mono (run m g) fun r h c => ?_, ?_⟩
  · exact ⟨(h c _ (mem_uc main_v6 (by decide))).trans (W4_arr m g c 3),
      (h c _ (mem_uc main_arg0 (by decide))).trans (W4_main_arg0 m g c),
      (h c _ (mem_uc main_arg1 (by decide))).trans (W4_main_arg1 m g c),
      (h c _ (mem_uc main_arg2 (by decide))).trans (W4_main_arg2 m g c)⟩
  refine θ_run_mono (Cert.Reference5Ideal.Value.run (F := Ideal) m' g') fun r hr c => ?_
  obtain ⟨h0, hargs⟩ := hr c
  obtain ⟨e0, e1, e2⟩ := hagree c
  refine ⟨h0.trans ((val_main_v19_eq _ _ _).trans ?_), hargs⟩
  exact (congr (congr (congrArg (val_main_v19 (F := Ideal)) e0) e1) e2).trans (final3 m g c).symm

end Cert.InProj

end
-- ==== Proof.Tail.lean ====
/-
The sixth pair of programs: the mixer of the prompt, with its own norm and up projection, of which the tail of the
convolution is claimed: the last three rows of each stream after the norm and the first half of the up projection. The
tail is stored at a stream's last chunk, from that chunk's own rows, so no history and no precondition is needed.
-/
module

public import proofs.«01_k».proof.Defs
public import proofs.«01_k».proof.Proof.FfnSpec
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

/-! # The tail of the prompt's convolution -/

namespace Cert.Tail

open Cert.Kernel6Ideal Cert.Kernel6Ideal.Gen Cert.Spec
open Idealize.ShloMosaic Idealize.ShloMosaic.TcCoe Idealize.SL.Sem
open Idealize.ShloMosaic.Pipeline (Dat)
open Cert.Reference6Ideal.Read

/-- A row's norm through the first half of the up projection. -/
def tailRow (x g : Fin 1024 → EReal) (w : Fin 1024 → Fin 4096 → EReal) (j : Fin 2048) : EReal :=
  ∑ k, rmsRow x g k * w k ⟨j.val, by omega⟩

/-- The row the kernel's body computes from its blocks. -/
theorem pay_at (x : Vec Ideal S256x1024 .f32) (g : Vec Ideal S1x1024 .f32) (w : Vec Ideal S1024x2048 .bf16) (r : Fin 256) (j : Fin 2048) :
    k0_pay15 x g w (ix3 0 r j) = ∑ k, rmsRow (fun l => x (ix2 r l)) (fun l => g (ix2 0 l)) k * w (ix2 k j) := by
  unfold rmsRow rootMean
  pointwise [k0_pay15, k0_pay13, k0_pay12]

/-- The reference's norm of a row. -/
theorem ref_norm (x0 : FVec Ideal S4x4096x1024 .f32) (x1 : FVec Ideal S2x1024 .f32) (b : Fin 4) (s : Fin 4096) (l : Fin 1024) :
    val_main_v14 (F := Ideal) x0 x1 (ix3 b s l) = rmsRow (fun l => x0 (ix3 b s l)) (fun l => x1 (ix2 1 l)) l := by
  unfold rmsRow rootMean
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The first half of the reference's projection. -/
theorem ref_row (x0 : FVec Ideal S4x4096x1024 .f32) (x1 : FVec Ideal S2x1024 .f32) (x2 : FVec Ideal S1x1024x4096 .f32) (b : Fin 4) (s : Fin 4096) (j : Fin 2048) :
    val_main_v17 (F := Ideal) x0 x1 x2 (ix3 b s j)
    = tailRow (fun l => x0 (ix3 b s l)) (fun l => x1 (ix2 1 l)) (fun k j => x2 (ix3 0 k j)) j := by
  have e : ∑ k, val_main_v14 (F := Ideal) x0 x1 (ix3 b s k) * x2 (ix3 0 k ⟨j.val, by omega⟩) = tailRow (fun l => x0 (ix3 b s l)) (fun l => x1 (ix2 1 l)) (fun k j => x2 (ix3 0 k j)) j :=
    Finset.sum_congr rfl fun k _ => by rw [ref_norm]
  rw [← e]
  pointwise [val_main_v17, val_main_v16, val_main_v15]

/-- The reference's result: the last three rows of each stream. -/
theorem ref_result (x0 : FVec Ideal S4x4096x1024 .f32) (x1 : FVec Ideal S2x1024 .f32) (x2 : FVec Ideal S1x1024x4096 .f32) (b : Fin 4) (i : Fin 3) (j : Fin 2048) :
    val_main_v21 (F := Ideal) x0 x1 x2 (ix3 b i j)
    = tailRow (fun l => x0 (ix3 b ⟨4093 + i.val, by omega⟩ l)) (fun l => x1 (ix2 1 l)) (fun k j => x2 (ix3 0 k j)) j := by
  rw [← ref_row]
  pointwise [val_main_v21, val_main_v20]
  rw [dif_neg (by omega)]
  exact congrArg _ (ix3_ext rfl (by show 4096 + i.val - 3 = 4093 + i.val; omega) rfl)

variable (m : (ℓ : Loc nD τ sig) → Buf (Elt Ideal) ℓ)

/-- Where the windows sit. -/
theorem spot : ∀ t : Fin cfg0.N, win0_0.index t = ![t.val, 0] ∧ win0_1.index t = ![0, 0] ∧ win0_2.index t = ![0, 0] ∧ win0_17.index t = ![t.val / 16, 0, 0] :=
  (by decide +kernel : ∀ t : Fin grid0.N, _)

variable (c : Dev nD)

/-- The rows the call is given. -/
theorem given0 (k : Fin 16384) (l : Fin 1024) : V m c main_v0 (ix2 k l) = m (c, Proc.tc.devRef main_arg0) (ix3 ⟨k.val / 4096, by omega⟩ ⟨k.val % 4096, by omega⟩ l) := by
  simp only [V, List.flatten_cons, List.flatten_nil, List.append_nil, List.cons_append, List.nil_append]
  after_results
  pointwise

/-- The norm's weights the call is given. -/
theorem given1 (l : Fin 1024) : V m c main_v74 (ix2 0 l) = m (c, Proc.tc.devRef main_arg1) (ix2 1 l) := by
  simp only [V, List.flatten_cons, List.flatten_nil, List.append_nil, List.cons_append, List.nil_append]
  after_results
  pointwise

/-- The up projection's weights the call is given. -/
theorem given2 (k : Fin 1024) (j : Fin 4096) : V m c main_v2 (ix2 k j) = m (c, Proc.tc.devRef main_arg2) (ix3 0 k j) := by
  simp only [V, List.flatten_cons, List.flatten_nil, List.append_nil, List.cons_append, List.nil_append]
  after_results
  pointwise

variable (t : Fin cfg0.N)

/-- A block of the prompt's rows. -/
theorem feed0 (r : Fin 256) (l : Fin 1024) (b : Fin 4) (s : Fin 4096) (h : t.val * 256 + r.val = b.val * 4096 + s.val) :
    iblk m c 0 t (ix2 r l) = m (c, Proc.tc.devRef main_arg0) (ix3 b s l) := by
  have e : (win0_0.blk t).view.emb (ix2 r l) = ix2 (⟨b.val * 4096 + s.val, by omega⟩ : Fin 16384) l := by
    rw [eq_ix2 ((win0_0.blk t).view.emb (ix2 r l))]
    refine ix2_ext ?_ ?_ <;> blk_simp [spot t]
    exact h
  refine (congrArg (V m c main_v0) e).trans ((given0 m c _ l).trans (congrArg _ (ix3_ext ?_ ?_ rfl)))
  · show (b.val * 4096 + s.val) / 4096 = b.val
    omega
  · show (b.val * 4096 + s.val) % 4096 = s.val
    omega

/-- The norm's weights. -/
theorem feed1 (l : Fin 1024) : iblk m c 1 t (ix2 0 l) = m (c, Proc.tc.devRef main_arg1) (ix2 1 l) := by
  have e : (win0_1.blk t).view.emb (ix2 0 l) = ix2 0 l := by
    rw [eq_ix2 ((win0_1.blk t).view.emb (ix2 0 l))]
    refine ix2_ext ?_ ?_ <;> blk_simp [spot t]
  exact (congrArg (V m c main_v74) e).trans (given1 m c l)

/-- The up projection's weights. -/
theorem feed2 (k : Fin 1024) (j : Fin 4096) : iblk m c 2 t (ix2 k j) = m (c, Proc.tc.devRef main_arg2) (ix3 0 k j) := by
  have e : (win0_2.blk t).view.emb (ix2 k j) = ix2 k j := by
    rw [eq_ix2 ((win0_2.blk t).view.emb (ix2 k j))]
    refine ix2_ext ?_ ?_ <;> blk_simp [spot t]
  exact (congrArg (V m c main_v2) e).trans (given2 m c k j)

/-- The last three rows of the stored block, read back. -/
theorem last_rows (P : Vec Ideal S1x256x2048 .f32) (i : Fin 3) (j : Fin 2048) :
    k0_pay3 (k0_pay18 ((View.whole cc0_scratch0).readCov (Val := Elt Ideal) [⟨Rect.unit (s := S1x264x2048) ![0, 8, 0] ![1, 256, 2048] inb_S1x264x2048_S1x256x2048_0_8_0, P⟩]
      (Rect.unit (s := S1x264x2048) ![0, 261, 0] ![1, 3, 2048] inb_S1x264x2048_S1x3x2048_0_261_0).toLoadRect)) (ix3 0 i j)
    = P (ix3 0 ⟨253 + i.val, by omega⟩ j) := by
  rw [View.readCov_eq_canon']
  have e : ∀ w : Vec Ideal S1x3x2048 .f32, k0_pay3 (k0_pay18 w) (ix3 0 i j) = w (ix3 0 i j) := fun w => by pointwise [k0_pay3, k0_pay18]
  rw [e]
  have q : ((Rect.unit (s := S1x264x2048) ![0, 261, 0] ![1, 3, 2048] inb_S1x264x2048_S1x3x2048_0_261_0).toLoadRect.idx (ix3 0 i j))
      = (Rect.unit (s := S1x264x2048) ![0, 8, 0] ![1, 256, 2048] inb_S1x264x2048_S1x256x2048_0_8_0).emb (ix3 0 ⟨253 + i.val, by omega⟩ j) := by
    funext a
    apply Fin.ext
    fin_cases a <;> simp <;> omega
  rw [q, View.canon_cons_emb]

/-- What a stream's last chunk leaves in the output: the last three rows of its projection. -/
theorem left (h0 : ¬t.val % 16 = 0) (h1 : t.val % 16 = 15) (i : Fin 3) (j : Fin 2048) :
    (outsAt0 m c t.val t.isLt).2.2.2.2.1 (ix3 0 i j)
    = ∑ k, rmsRow (fun l => iblk m c 0 t (ix2 ⟨253 + i.val, by omega⟩ l)) (fun l => iblk m c 1 t (ix2 0 l)) k * iblk m c 2 t (ix2 k ⟨j.val, by omega⟩) := by
  rw [outsAt0_C m c t h0 h1]
  dsimp only
  frame_open
  simp (disch := decide) only [↓ View.readCov_skip, ↓ View.readCov_cons_toLoadRect, ↓ View.readCov_fill]
  frame_out
  refine (last_rows _ i j).trans ((pay_at _ _ _ _ j).trans (Finset.sum_congr rfl fun k _ => congrArg _ ?_))
  pointwise

/-- So a stream's last chunk leaves the reference's tail of that stream. -/
theorem stored (h1 : t.val % 16 = 15) (i : Fin 3) (j : Fin 2048) (b : Fin 4) (hb : t.val / 16 = b.val) :
    (outsAt0 m c t.val t.isLt).2.2.2.2.1 (ix3 0 i j)
    = val_main_v21 (F := Ideal) (m (c, Proc.tc.devRef main_arg0)) (m (c, Proc.tc.devRef main_arg1)) (m (c, Proc.tc.devRef main_arg2)) (ix3 b i j) := by
  rw [left m c t (by omega) h1, ref_result]
  have e0 : (fun l => iblk m c 0 t (ix2 (⟨253 + i.val, by omega⟩ : Fin 256) l)) = fun l => m (c, Proc.tc.devRef main_arg0) (ix3 b ⟨4093 + i.val, by omega⟩ l) :=
    funext fun l => feed0 m c t _ l b _ (by show t.val * 256 + (253 + i.val) = b.val * 4096 + (4093 + i.val); omega)
  have e1 : (fun l => iblk m c 1 t (ix2 0 l)) = fun l => m (c, Proc.tc.devRef main_arg1) (ix2 1 l) := funext fun l => feed1 m c t l
  refine Finset.sum_congr rfl fun k _ => ?_
  exact congr (congrArg _ (congrFun (congr (congrArg rmsRow e0) e1) k)) (feed2 m c t k _)

/-- The output array ends at the reference's result. -/
theorem final17 : (dats m 0 c).arrAt 17 cfg0.N
    = val_main_v21 (F := Ideal) (m (c, Proc.tc.devRef main_arg0)) (m (c, Proc.tc.devRef main_arg1)) (m (c, Proc.tc.devRef main_arg2)) := by
  refine (dats m 0 c).arrAt_eq_of_covers 17 _ (by decide +kernel) fun t hf y => ?_
  have h1 : t.val % 16 = 15 := (flush0_17 t).mp hf
  have hN : t.val < 64 := lt_of_lt_of_eq t.isLt (show cfg0.N = 64 from N_0)
  have hy : (y 0).val < 1 := (y 0).isLt
  have e0 : ((win0_17.blk t).view.emb y 0).val = t.val / 16 := by blk_simp [spot t]
  have e1 : ((win0_17.blk t).view.emb y 1).val = (y 1).val := by blk_simp [spot t]
  have e2 : ((win0_17.blk t).view.emb y 2).val = (y 2).val := by blk_simp [spot t]
  have e : (win0_17.blk t).view.emb y = ix3 (⟨t.val / 16, by omega⟩ : Fin 4) (y 1) (y 2) := by
    rw [eq_ix3 ((win0_17.blk t).view.emb y)]
    exact ix3_ext e0 e1 e2
  have ey : y = ix3 0 (y 1) (y 2) := (eq_ix3 y).trans (ix3_ext (by show (y 0).val = 0; omega) rfl rfl)
  blk_simp
  rw [after0_17]
  refine Eq.trans (b := (outsAt0 m c t.val t.isLt).2.2.2.2.1 (ix3 0 (y 1) (y 2))) (congrArg _ ey) ?_
  refine Eq.trans ?_ (congrArg _ e.symm)
  exact stored m c t h1 (y 1) (y 2) ⟨t.val / 16, by omega⟩ rfl

/-- The reference leaves its arguments as it finds them and its counters at zero. -/
theorem reference_frame : Cert.quiescent_Reference6Ideal (hReference6Ideal := Cert.Reference6Ideal.Gen.facts) := fun m g _ =>
  θ_run_mono (Cert.Reference6Ideal.Value.run (F := Ideal) m g) fun r hr => ⟨fun c => (hr c).2, sem_eq_zero_of_no_sems rfl r.2⟩

/-- The kernel's result is the reference's, exactly, on every input. -/
theorem value : Cert.algebraic_Kernel6Ideal_Reference6Ideal (hKernel6Ideal := Cert.Kernel6Ideal.Gen.facts)
    (hReference6Ideal := Cert.Reference6Ideal.Gen.facts) := by
  intro m g m' g' _ hagree
  refine ⟨fun c => (dats m 0 c).arrAt 17 cfg0.N, θ_run_mono (θ_run_and (run_main m g) (unchanged m g)) fun r hr c => ⟨(hr.1 c).1 17, hr.2 c⟩, ?_⟩
  refine θ_run_mono (Cert.Reference6Ideal.Value.run (F := Ideal) m' g') fun r hr c => ?_
  obtain ⟨h0, hargs⟩ := hr c
  obtain ⟨e0, e1, e2, -⟩ := hagree c
  refine ⟨h0.trans ((val_main_v21_eq _ _ _).trans ?_), hargs⟩
  exact (congr (congr (congrArg (val_main_v21 (F := Ideal)) e0) e1) e2).trans (final17 m c).symm

end Cert.Tail

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Bridge15
public import proofs.«01_k».proof.Proof.Bridge16
public import proofs.«01_k».proof.Proof.Bridge17
public import proofs.«01_k».proof.Proof.Bridge18
public import proofs.«01_k».proof.Proof.Bridge19
public import proofs.«01_k».proof.Proof.Finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.FfnValue
public import proofs.«01_k».proof.Proof.FfnPrinted
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Ffn0Value
public import proofs.«01_k».proof.Proof.Ffn0Printed
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.NormProj
public import proofs.«01_k».proof.Proof.InProj
public import proofs.«01_k».proof.Proof.Gen.Kernel5.Frame
public import proofs.«01_k».proof.Proof.Tail
public import proofs.«01_k».proof.Proof.Gen.Kernel6.Frame
public import Idealize.ShloMosaic.Lib.Claim

@[expose] public section

set_option maxRecDepth 16384

noncomputable section

namespace Cert.Proof

open Idealize.ShloMosaic Idealize.ShloMosaic.TcCoe Idealize.SL.Sem

/-- The precondition makes the operands the kernel's front reads real. -/
theorem args_finite (m : (ℓ : Loc Cert.KernelIdeal.nD Cert.KernelIdeal.τ Cert.KernelIdeal.sig) → Buf (Elt Ideal) ℓ)
    (h : Cert.Pre_KernelIdeal_finite (hPre_finite := Cert.Spec.precondition_facts) m) (c : Dev Cert.KernelIdeal.nD) :
    (Cert.KernelIdeal.Units.args m c).Finite := by
  obtain ⟨h0, h1, h2, h3, h4, h5, h6, h7, h8, h9, h10, h11, h12, h13, -, -⟩ := h c
  unfold Cert.KernelIdeal.Units.args
  exact ⟨Cert.Spec.real_of_pass _ _ h0, Cert.Spec.real_of_pass _ _ h4, Cert.Spec.real_of_pass _ _ h5, Cert.Spec.real_of_pass _ _ h6,
    Cert.Spec.real_of_pass _ _ h7, Cert.Spec.real_of_pass _ _ h8, Cert.Spec.real_of_pass _ _ h9, Cert.Spec.real_of_pass _ _ h10,
    Cert.Spec.real_of_pass _ _ h11, Cert.Spec.real_of_pass _ _ h12, Cert.Spec.real_of_pass _ _ h13⟩

/-- The reference leaves its arguments as it finds them and its counters at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0) :=
  θ_run_mono (Cert.ReferenceIdeal.Value.run (F := Ideal) m g) fun r hr => ⟨fun c => (hr c).2.2.2.2.2, sem_eq_zero_of_no_sems rfl r.2⟩

section Results

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hA : (Cert.KernelIdeal.Units.args m c).Finite)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))

include hA e0 e1 e2 e3 e4 e5 e6 e7 e8 e9 e10 e11 e12 e13 e14 e15 in
/-- Window 15 of the kernel, the hidden state, ends at the reference's composed term over a memory with the same arguments. -/
theorem result15 :
    Cert.ReferenceIdeal.Read.val_main_v179 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) (StableHlo.launchContents m' c (Proc.devRef .tc Cert.ReferenceIdeal.main_arg12)) (StableHlo.launchContents m' c (Proc.devRef .tc Cert.ReferenceIdeal.main_arg13)) (StableHlo.launchContents m' c (Proc.devRef .tc Cert.ReferenceIdeal.main_arg14)) (StableHlo.launchContents m' c (Proc.devRef .tc Cert.ReferenceIdeal.main_arg15)) = (Cert.KernelIdeal.Gen.dats m 0 c).arrAt 15 (Cert.KernelIdeal.cfgs 0).N :=
  (congr (congr (congr (congr (congr (congr (congr (congr (congr (congr (congr (congr (congr (congr (congr (congrArg (Cert.ReferenceIdeal.Read.val_main_v179 (F := Ideal)) e0) e1) e2) e3) e4) e5) e6) e7) e8) e9) e10) e11) e12) e13) e14) e15).trans
    (Cert.KernelIdeal.Bridge.final15 m c hA).symm

include hA e0 e1 e3 e4 e5 e6 e7 e8 e9 e10 e11 e12 e13 in
/-- Window 16 of the kernel, the cell state, ends at the reference's composed term over a memory with the same arguments. -/
theorem result16 :
    Cert.ReferenceIdeal.Read.val_main_v143 (F := Ideal) (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) (StableHlo.launchContents m' c (Proc.devRef .tc Cert.ReferenceIdeal.main_arg12)) (StableHlo.launchContents m' c (Proc.devRef .tc Cert.ReferenceIdeal.main_arg13)) = (Cert.KernelIdeal.Gen.dats m 0 c).arrAt 16 (Cert.KernelIdeal.cfgs 0).N :=
  (congr (congr (congr (congr (congr (congr (congr (congr (congr (congr (congr (congr (congrArg (Cert.ReferenceIdeal.Read.val_main_v143 (F := Ideal)) e0) e1) e3) e4) e5) e6) e7) e8) e9) e10) e11) e12) e13).trans
    (Cert.KernelIdeal.Bridge.final16 m c hA).symm

include hA e0 e2 e3 e4 e5 e6 e7 e8 e9 e10 e11 e12 e13 in
/-- Window 17 of the kernel, the normaliser, ends at the reference's composed term over a memory with the same arguments. -/
theorem result17 :
    Cert.ReferenceIdeal.Read.val_main_v148 (F := Ideal) (StableHlo.launchContents m' c (Proc.devRef .tc Cert.ReferenceIdeal.main_arg0)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) (StableHlo.launchContents m' c (Proc.devRef .tc Cert.ReferenceIdeal.main_arg12)) (StableHlo.launchContents m' c (Proc.devRef .tc Cert.ReferenceIdeal.main_arg13)) = (Cert.KernelIdeal.Gen.dats m 0 c).arrAt 17 (Cert.KernelIdeal.cfgs 0).N :=
  (congr (congr (congr (congr (congr (congr (congr (congr (congr (congr (congr (congr (congrArg (Cert.ReferenceIdeal.Read.val_main_v148 (F := Ideal)) e0) e2) e3) e4) e5) e6) e7) e8) e9) e10) e11) e12) e13).trans
    (Cert.KernelIdeal.Bridge.final17 m c hA).symm

include hA e0 e3 e4 e5 e6 e7 e8 e9 e10 e11 e12 e13 in
/-- Window 18 of the kernel, the stabiliser, ends at the reference's composed term over a memory with the same arguments. -/
theorem result18 :
    Cert.ReferenceIdeal.Read.val_main_v180 (F := Ideal) (StableHlo.launchContents m' c (Proc.devRef .tc Cert.ReferenceIdeal.main_arg0)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) (StableHlo.launchContents m' c (Proc.devRef .tc Cert.ReferenceIdeal.main_arg12)) (StableHlo.launchContents m' c (Proc.devRef .tc Cert.ReferenceIdeal.main_arg13)) = (Cert.KernelIdeal.Gen.dats m 0 c).arrAt 18 (Cert.KernelIdeal.cfgs 0).N :=
  (congr (congr (congr (congr (congr (congr (congr (congr (congr (congr (congr (congrArg (Cert.ReferenceIdeal.Read.val_main_v180 (F := Ideal)) e0) e3) e4) e5) e6) e7) e8) e9) e10) e11) e12) e13).trans
    (Cert.KernelIdeal.Bridge.final18 m c hA).symm

include e0 e4 in
/-- Window 19 of the kernel, the convolution tail, ends at the reference's composed term over a memory with the same arguments. -/
theorem result19 :
    Cert.ReferenceIdeal.Read.val_main_v181 (F := Ideal) (StableHlo.launchContents m' c (Proc.devRef .tc Cert.ReferenceIdeal.main_arg0)) (StableHlo.launchContents m' c (Proc.devRef .tc Cert.ReferenceIdeal.main_arg4)) = (Cert.KernelIdeal.Gen.dats m 0 c).arrAt 19 (Cert.KernelIdeal.cfgs 0).N :=
  (congr (congrArg (Cert.ReferenceIdeal.Read.val_main_v181 (F := Ideal)) e0) e4).trans
    (Cert.KernelIdeal.Bridge.final19 m c).symm

end Results

/-- The kernel's five results are the reference's, exactly, on finite operands. -/
theorem value : Cert.algebraic_KernelIdeal_ReferenceIdeal_pre_finite (hKernelIdeal := Cert.KernelIdeal.Gen.facts)
    (hReferenceIdeal := Cert.ReferenceIdeal.Gen.facts) (hPre_finite := Cert.Spec.precondition_facts) := by
  intro m g m' g' hpre hagree
  refine ⟨fun c => (Cert.KernelIdeal.Gen.dats m 0 c).arrAt 15 (Cert.KernelIdeal.cfgs 0).N, fun c => (Cert.KernelIdeal.Gen.dats m 0 c).arrAt 16 (Cert.KernelIdeal.cfgs 0).N,
    fun c => (Cert.KernelIdeal.Gen.dats m 0 c).arrAt 17 (Cert.KernelIdeal.cfgs 0).N, fun c => (Cert.KernelIdeal.Gen.dats m 0 c).arrAt 18 (Cert.KernelIdeal.cfgs 0).N,
    fun c => (Cert.KernelIdeal.Gen.dats m 0 c).arrAt 19 (Cert.KernelIdeal.cfgs 0).N, ?_, ?_⟩
  · exact θ_run_mono (θ_run_and (Cert.KernelIdeal.Gen.run_main m g) (Cert.KernelIdeal.Gen.unchanged m g))
      fun r hr c => ⟨(hr.1 c).1 15, (hr.1 c).1 16, (hr.1 c).1 17, (hr.1 c).1 18, (hr.1 c).1 19, hr.2 c⟩
  · refine θ_run_mono (Cert.ReferenceIdeal.Value.run (F := Ideal) m' g') fun r hr c => ?_
    obtain ⟨h0, h1, h2, h3, h4, hargs⟩ := hr c
    obtain ⟨e0, e1, e2, e3, e4, e5, e6, e7, e8, e9, e10, e11, e12, e13, e14, e15⟩ := hagree c
    have hA := args_finite m hpre c
    exact ⟨h0.trans ((Cert.ReferenceIdeal.Read.val_main_v179_eq (StableHlo.launchContents m' c)).trans (result15 m m' c hA e0 e1 e2 e3 e4 e5 e6 e7 e8 e9 e10 e11 e12 e13 e14 e15)),
      h1.trans ((Cert.ReferenceIdeal.Read.val_main_v143_eq (StableHlo.launchContents m' c)).trans (result16 m m' c hA e0 e1 e3 e4 e5 e6 e7 e8 e9 e10 e11 e12 e13)),
      h2.trans ((Cert.ReferenceIdeal.Read.val_main_v148_eq (StableHlo.launchContents m' c)).trans (result17 m m' c hA e0 e2 e3 e4 e5 e6 e7 e8 e9 e10 e11 e12 e13)),
      h3.trans ((Cert.ReferenceIdeal.Read.val_main_v180_eq (StableHlo.launchContents m' c)).trans (result18 m m' c hA e0 e3 e4 e5 e6 e7 e8 e9 e10 e11 e12 e13)),
      h4.trans ((Cert.ReferenceIdeal.Read.val_main_v181_eq (StableHlo.launchContents m' c)).trans (result19 m m' c e0 e4)), hargs⟩

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Spec.precondition_facts, Cert.Pre_finite2.Gen.facts, Cert.Pre_finite3.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    Cert.Ffn.printed_frame, fun m ρ _ => Cert.Ffn.ideal_frame m ρ, fun m ρ _ => Cert.Ffn.ideal_frame m ρ,
    fun m ρ _ => Cert.Ffn.reference_frame m ρ, fun m ρ _ => Cert.Ffn.reference_frame m ρ,
    Cert.Ffn0.printed_frame, fun m ρ _ => Cert.Ffn0.ideal_frame m ρ, fun m ρ _ => Cert.Ffn0.ideal_frame m ρ,
    fun m ρ _ => Cert.Ffn0.reference_frame m ρ, fun m ρ _ => Cert.Ffn0.reference_frame m ρ,
    fun m ρ _ => Cert.Kernel4.Gen.frame m ρ, fun m ρ _ => Cert.Kernel4Ideal.Gen.frame m ρ, Cert.NormProj.reference_frame,
    fun m ρ _ => Cert.Kernel5.Gen.frame m ρ, fun m ρ _ => Cert.Kernel5Ideal.Gen.frame m ρ, Cert.InProj.reference_frame,
    fun m ρ _ => Cert.Kernel6.Gen.frame m ρ, fun m ρ _ => Cert.Kernel6Ideal.Gen.frame m ρ, Cert.Tail.reference_frame,
    trivial, value, trivial, Cert.Ffn.value, trivial, Cert.Ffn0.value, trivial, Cert.NormProj.value, trivial, Cert.InProj.value,
    trivial, Cert.Tail.value⟩

end Cert.Proof

end
